-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v7_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1024x7168 : Shape := ⟨3, ![6, 1024, 7168]⟩
abbrev S6x1024x224 : Shape := ⟨3, ![6, 1024, 224]⟩
abbrev S32000x7168 : Shape := ⟨2, ![32000, 7168]⟩
abbrev S32000x224 : Shape := ⟨2, ![32000, 224]⟩
abbrev S6x1024 : Shape := ⟨2, ![6, 1024]⟩
abbrev S24 : Shape := ⟨1, ![24]⟩
abbrev S12 : Shape := ⟨1, ![12]⟩
abbrev S6144x7168 : Shape := ⟨2, ![6144, 7168]⟩
abbrev S6144x224 : Shape := ⟨2, ![6144, 224]⟩
abbrev S256x7168 : Shape := ⟨2, ![256, 7168]⟩
abbrev S256x224 : Shape := ⟨2, ![256, 224]⟩
abbrev S256x128 : Shape := ⟨2, ![256, 128]⟩
abbrev S256x128x1 : Shape := ⟨3, ![256, 128, 1]⟩
abbrev S6144x1 : Shape := ⟨2, ![6144, 1]⟩
abbrev S1x24 : Shape := ⟨2, ![1, 24]⟩
abbrev S1x12 : Shape := ⟨2, ![1, 12]⟩
abbrev S1536x7168 : Shape := ⟨2, ![1536, 7168]⟩
abbrev S1536x1 : Shape := ⟨2, ![1536, 1]⟩
abbrev S1536x128 : Shape := ⟨2, ![1536, 128]⟩
abbrev S512x7168 : Shape := ⟨2, ![512, 7168]⟩
abbrev S512x256 : Shape := ⟨2, ![512, 256]⟩
abbrev S512x1 : Shape := ⟨2, ![512, 1]⟩
abbrev S512x128 : Shape := ⟨2, ![512, 128]⟩
abbrev S6x128 : Shape := ⟨2, ![6, 128]⟩
abbrev S128x128 : Shape := ⟨2, ![128, 128]⟩
abbrev S128 : Shape := ⟨1, ![128]⟩
abbrev S1x128 : Shape := ⟨2, ![1, 128]⟩
abbrev S1x6x1024 : Shape := ⟨3, ![1, 6, 1024]⟩
abbrev S1 : Shape := ⟨1, ![1]⟩
abbrev S1x1x1 : Shape := ⟨3, ![1, 1, 1]⟩
abbrev S1x1 : Shape := ⟨2, ![1, 1]⟩

abbrev nBuf : Space → Nat
  | .hbm => 24
  | .vmem => 27
  | .smem => 0
  | _ => 0

abbrev bufTy : (tb : Table) → Fin (tcTables nBuf tb) → BufTy
  | .hbm, ⟨0, _⟩ => ⟨S6x1024x7168, .fp8e4m3⟩
  | .hbm, ⟨1, _⟩ => ⟨S6x1024x224, .f32⟩
  | .hbm, ⟨2, _⟩ => ⟨S32000x7168, .fp8e4m3⟩
  | .hbm, ⟨3, _⟩ => ⟨S32000x224, .f32⟩
  | .hbm, ⟨4, _⟩ => ⟨S6x1024, .i32⟩
  | .hbm, ⟨5, _⟩ => ⟨S6x1024, .i32⟩
  | .hbm, ⟨6, _⟩ => ⟨S6x1024, .i32⟩
  | .hbm, ⟨7, _⟩ => ⟨S24, .f32⟩
  | .hbm, ⟨8, _⟩ => ⟨S12, .i32⟩
  | .hbm, ⟨9, _⟩ => ⟨S12, .i32⟩
  | .hbm, ⟨10, _⟩ => ⟨S6144x7168, .fp8e4m3⟩
  | .hbm, ⟨11, _⟩ => ⟨S6144x224, .f32⟩
  | .hbm, ⟨12, _⟩ => ⟨S6144x7168, .bf16⟩
  | .hbm, ⟨13, _⟩ => ⟨S6144x1, .i32⟩
  | .hbm, ⟨14, _⟩ => ⟨S1x24, .f32⟩
  | .hbm, ⟨15, _⟩ => ⟨S1x12, .i32⟩
  | .hbm, ⟨16, _⟩ => ⟨S1x12, .i32⟩
  | .hbm, ⟨17, _⟩ => ⟨S6x1024, .f32⟩
  | .hbm, ⟨18, _⟩ => ⟨S1x24, .f32⟩
  | .hbm, ⟨19, _⟩ => ⟨S1x12, .f32⟩
  | .hbm, ⟨20, _⟩ => ⟨S1x12, .f32⟩
  | .hbm, ⟨21, _⟩ => ⟨S24, .f32⟩
  | .hbm, ⟨22, _⟩ => ⟨S12, .f32⟩
  | .hbm, ⟨23, _⟩ => ⟨S12, .f32⟩
  | .local _ .vmem, ⟨0, _⟩ => ⟨S256x7168, .fp8e4m3⟩
  | .local _ .vmem, ⟨1, _⟩ => ⟨S256x7168, .fp8e4m3⟩
  | .local _ .vmem, ⟨2, _⟩ => ⟨S256x224, .f32⟩
  | .local _ .vmem, ⟨3, _⟩ => ⟨S256x224, .f32⟩
  | .local _ .vmem, ⟨4, _⟩ => ⟨S256x7168, .bf16⟩
  | .local _ .vmem, ⟨5, _⟩ => ⟨S256x7168, .bf16⟩
  | .local _ .vmem, ⟨6, _⟩ => ⟨S1536x7168, .bf16⟩
  | .local _ .vmem, ⟨7, _⟩ => ⟨S1536x7168, .bf16⟩
  | .local _ .vmem, ⟨8, _⟩ => ⟨S256x7168, .fp8e4m3⟩
  | .local _ .vmem, ⟨9, _⟩ => ⟨S256x7168, .fp8e4m3⟩
  | .local _ .vmem, ⟨10, _⟩ => ⟨S256x224, .f32⟩
  | .local _ .vmem, ⟨11, _⟩ => ⟨S256x224, .f32⟩
  | .local _ .vmem, ⟨12, _⟩ => ⟨S1536x1, .i32⟩
  | .local _ .vmem, ⟨13, _⟩ => ⟨S1536x1, .i32⟩
  | .local _ .vmem, ⟨14, _⟩ => ⟨S6x1024, .i32⟩
  | .local _ .vmem, ⟨15, _⟩ => ⟨S6x1024, .i32⟩
  | .local _ .vmem, ⟨16, _⟩ => ⟨S1x24, .f32⟩
  | .local _ .vmem, ⟨17, _⟩ => ⟨S1x12, .i32⟩
  | .local _ .vmem, ⟨18, _⟩ => ⟨S1x12, .i32⟩
  | .local _ .vmem, ⟨19, _⟩ => ⟨S6x1024, .f32⟩
  | .local _ .vmem, ⟨20, _⟩ => ⟨S1x24, .f32⟩
  | .local _ .vmem, ⟨21, _⟩ => ⟨S1x12, .f32⟩
  | .local _ .vmem, ⟨22, _⟩ => ⟨S1x12, .f32⟩
  | .local _ .vmem, ⟨23, _⟩ => ⟨S256x7168, .bf16⟩
  | .local _ .vmem, ⟨24, _⟩ => ⟨S1536x128, .f32⟩
  | .local _ .vmem, ⟨25, _⟩ => ⟨S1536x128, .f32⟩
  | .local _ .vmem, ⟨26, _⟩ => ⟨S1536x128, .f32⟩
  | _, _ => ⟨S6x1024x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc1_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 125], ![false, false]⟩

def k1_cond3 (i : grid1.Coords) : BitVec 1 :=
  let arg1 : BitVec 32 := BitVec.ofNat 32 (i 1).val
  let c124_i32_381 : BitVec 32 := 124#32
  let v1126 : BitVec 1 := Scalar.cmpi .eq arg1 c124_i32_381
  let v1127 : BitVec 32 := Scalar.extui v1126
  let c0_i32_382 : BitVec 32 := 0#32
  let v1128 : BitVec 1 := Scalar.cmpi .ne v1127 c0_i32_382
  v1128

def k1_mult1 (i : grid1.Coords) : BitVec 32 :=
  let arg0 : BitVec 32 := BitVec.ofNat 32 (i 0).val
  let c1536_i32 : BitVec 32 := 1536#32
  let v1135 : BitVec 32 := Scalar.muli arg0 c1536_i32
  let c0_i32_385 : BitVec 32 := 0#32
  let v1136 : BitVec 32 := Scalar.addi v1135 c0_i32_385
  let c1024_i32 : BitVec 32 := 1024#32
  let c0_i32_395 : BitVec 32 := 0#32
  let v1156 : BitVec 1 := Scalar.cmpi .eq c1024_i32 c0_i32_395
  let c1_i32_396 : BitVec 32 := 1#32
  let v1157 : BitVec 32 := Scalar.select v1156 c1_i32_396 c1024_i32
  let v1158 : BitVec 32 := Scalar.remsi v1136 v1157
  let c0_i32_398 : BitVec 32 := 0#32
  let v1160 : BitVec 1 := Scalar.cmpi .slt v1158 c0_i32_398
  let c0_i32_399 : BitVec 32 := 0#32
  let v1161 : BitVec 1 := Scalar.cmpi .slt v1157 c0_i32_399
  let v1162 : BitVec 1 := Scalar.xori v1160 v1161
  let c0_i32_397 : BitVec 32 := 0#32
  let v1159 : BitVec 1 := Scalar.cmpi .ne v1158 c0_i32_397
  let v1163 : BitVec 1 := Scalar.andi v1162 v1159
  let v1164 : BitVec 32 := Scalar.addi v1158 v1157
  let v1165 : BitVec 32 := Scalar.select v1163 v1164 v1158
  v1165
def k1_off1 (i : grid1.Coords) (c0_i32_385 : BitVec 32) : Fin 2 → Nat :=
  let c0_407 : Index := 0#32
  let arg0 : BitVec 32 := BitVec.ofNat 32 (i 0).val
  let c1536_i32 : BitVec 32 := 1536#32
  let v1135 : BitVec 32 := Scalar.muli arg0 c1536_i32
  let v1136 : BitVec 32 := Scalar.addi v1135 c0_i32_385
  let c1024_i32 : BitVec 32 := 1024#32
  let c0_i32_395 : BitVec 32 := 0#32
  let v1156 : BitVec 1 := Scalar.cmpi .eq c1024_i32 c0_i32_395
  let c1_i32_396 : BitVec 32 := 1#32
  let v1157 : BitVec 32 := Scalar.select v1156 c1_i32_396 c1024_i32
  let v1158 : BitVec 32 := Scalar.remsi v1136 v1157
  let c0_i32_398 : BitVec 32 := 0#32
  let v1160 : BitVec 1 := Scalar.cmpi .slt v1158 c0_i32_398
  let c0_i32_399 : BitVec 32 := 0#32
  let v1161 : BitVec 1 := Scalar.cmpi .slt v1157 c0_i32_399
  let v1162 : BitVec 1 := Scalar.xori v1160 v1161
  let c0_i32_397 : BitVec 32 := 0#32
  let v1159 : BitVec 1 := Scalar.cmpi .ne v1158 c0_i32_397
  let v1163 : BitVec 1 := Scalar.andi v1162 v1159
  let v1164 : BitVec 32 := Scalar.addi v1158 v1157
  let v1165 : BitVec 32 := Scalar.select v1163 v1164 v1158
  let v1166 : BitVec 32 := v1165
  let v1186 : Index := Scalar.indexCast v1166
  ![0, v1186.toNat]
def k1_mult2 (i : grid1.Coords) : BitVec 32 :=
  let arg0 : BitVec 32 := BitVec.ofNat 32 (i 0).val
  let c1536_i32_409 : BitVec 32 := 1536#32
  let v1194 : BitVec 32 := Scalar.muli arg0 c1536_i32_409
  let c128_i32_410 : BitVec 32 := 128#32
  let v1195 : BitVec 32 := Scalar.addi v1194 c128_i32_410
  let c1024_i32_420 : BitVec 32 := 1024#32
  let c0_i32_421 : BitVec 32 := 0#32
  let v1215 : BitVec 1 := Scalar.cmpi .eq c1024_i32_420 c0_i32_421
  let c1_i32_422 : BitVec 32 := 1#32
  let v1216 : BitVec 32 := Scalar.select v1215 c1_i32_422 c1024_i32_420
  let v1217 : BitVec 32 := Scalar.remsi v1195 v1216
  let c0_i32_424 : BitVec 32 := 0#32
  let v1219 : BitVec 1 := Scalar.cmpi .slt v1217 c0_i32_424
  let c0_i32_425 : BitVec 32 := 0#32
  let v1220 : BitVec 1 := Scalar.cmpi .slt v1216 c0_i32_425
  let v1221 : BitVec 1 := Scalar.xori v1219 v1220
  let c0_i32_423 : BitVec 32 := 0#32
  let v1218 : BitVec 1 := Scalar.cmpi .ne v1217 c0_i32_423
  let v1222 : BitVec 1 := Scalar.andi v1221 v1218
  let v1223 : BitVec 32 := Scalar.addi v1217 v1216
  let v1224 : BitVec 32 := Scalar.select v1222 v1223 v1217
  v1224
def k1_mult3 (i : grid1.Coords) : BitVec 32 :=
  let arg0 : BitVec 32 := BitVec.ofNat 32 (i 0).val
  let c1536_i32_435 : BitVec 32 := 1536#32
  let v1253 : BitVec 32 := Scalar.muli arg0 c1536_i32_435
  let c256_i32_436 : BitVec 32 := 256#32
  let v1254 : BitVec 32 := Scalar.addi v1253 c256_i32_436
  let c1024_i32_446 : BitVec 32 := 1024#32
  let c0_i32_447 : BitVec 32 := 0#32
  let v1274 : BitVec 1 := Scalar.cmpi .eq c1024_i32_446 c0_i32_447
  let c1_i32_448 : BitVec 32 := 1#32
  let v1275 : BitVec 32 := Scalar.select v1274 c1_i32_448 c1024_i32_446
  let v1276 : BitVec 32 := Scalar.remsi v1254 v1275
  let c0_i32_450 : BitVec 32 := 0#32
  let v1278 : BitVec 1 := Scalar.cmpi .slt v1276 c0_i32_450
  let c0_i32_451 : BitVec 32 := 0#32
  let v1279 : BitVec 1 := Scalar.cmpi .slt v1275 c0_i32_451
  let v1280 : BitVec 1 := Scalar.xori v1278 v1279
  let c0_i32_449 : BitVec 32 := 0#32
  let v1277 : BitVec 1 := Scalar.cmpi .ne v1276 c0_i32_449
  let v1281 : BitVec 1 := Scalar.andi v1280 v1277
  let v1282 : BitVec 32 := Scalar.addi v1276 v1275
  let v1283 : BitVec 32 := Scalar.select v1281 v1282 v1276
  v1283
def k1_mult4 (i : grid1.Coords) : BitVec 32 :=
  let arg0 : BitVec 32 := BitVec.ofNat 32 (i 0).val
  let c1536_i32_461 : BitVec 32 := 1536#32
  let v1312 : BitVec 32 := Scalar.muli arg0 c1536_i32_461
  let c384_i32 : BitVec 32 := 384#32
  let v1313 : BitVec 32 := Scalar.addi v1312 c384_i32
  let c1024_i32_471 : BitVec 32 := 1024#32
  let c0_i32_472 : BitVec 32 := 0#32
  let v1333 : BitVec 1 := Scalar.cmpi .eq c1024_i32_471 c0_i32_472
  let c1_i32_473 : BitVec 32 := 1#32
  let v1334 : BitVec 32 := Scalar.select v1333 c1_i32_473 c1024_i32_471
  let v1335 : BitVec 32 := Scalar.remsi v1313 v1334
  let c0_i32_475 : BitVec 32 := 0#32
  let v1337 : BitVec 1 := Scalar.cmpi .slt v1335 c0_i32_475
  let c0_i32_476 : BitVec 32 := 0#32
  let v1338 : BitVec 1 := Scalar.cmpi .slt v1334 c0_i32_476
  let v1339 : BitVec 1 := Scalar.xori v1337 v1338
  let c0_i32_474 : BitVec 32 := 0#32
  let v1336 : BitVec 1 := Scalar.cmpi .ne v1335 c0_i32_474
  let v1340 : BitVec 1 := Scalar.andi v1339 v1336
  let v1341 : BitVec 32 := Scalar.addi v1335 v1334
  let v1342 : BitVec 32 := Scalar.select v1340 v1341 v1335
  v1342
def k1_mult5 (i : grid1.Coords) : BitVec 32 :=
  let arg0 : BitVec 32 := BitVec.ofNat 32 (i 0).val
  let c1536_i32_486 : BitVec 32 := 1536#32
  let v1371 : BitVec 32 := Scalar.muli arg0 c1536_i32_486
  let c512_i32 : BitVec 32 := 512#32
  let v1372 : BitVec 32 := Scalar.addi v1371 c512_i32
  let c1024_i32_496 : BitVec 32 := 1024#32
  let c0_i32_497 : BitVec 32 := 0#32
  let v1392 : BitVec 1 := Scalar.cmpi .eq c1024_i32_496 c0_i32_497
  let c1_i32_498 : BitVec 32 := 1#32
  let v1393 : BitVec 32 := Scalar.select v1392 c1_i32_498 c1024_i32_496
  let v1394 : BitVec 32 := Scalar.remsi v1372 v1393
  let c0_i32_500 : BitVec 32 := 0#32
  let v1396 : BitVec 1 := Scalar.cmpi .slt v1394 c0_i32_500
  let c0_i32_501 : BitVec 32 := 0#32
  let v1397 : BitVec 1 := Scalar.cmpi .slt v1393 c0_i32_501
  let v1398 : BitVec 1 := Scalar.xori v1396 v1397
  let c0_i32_499 : BitVec 32 := 0#32
  let v1395 : BitVec 1 := Scalar.cmpi .ne v1394 c0_i32_499
  let v1399 : BitVec 1 := Scalar.andi v1398 v1395
  let v1400 : BitVec 32 := Scalar.addi v1394 v1393
  let v1401 : BitVec 32 := Scalar.select v1399 v1400 v1394
  v1401
def k1_mult6 (i : grid1.Coords) : BitVec 32 :=
  let arg0 : BitVec 32 := BitVec.ofNat 32 (i 0).val
  let c1536_i32_511 : BitVec 32 := 1536#32
  let v1430 : BitVec 32 := Scalar.muli arg0 c1536_i32_511
  let c640_i32 : BitVec 32 := 640#32
  let v1431 : BitVec 32 := Scalar.addi v1430 c640_i32
  let c1024_i32_521 : BitVec 32 := 1024#32
  let c0_i32_522 : BitVec 32 := 0#32
  let v1451 : BitVec 1 := Scalar.cmpi .eq c1024_i32_521 c0_i32_522
  let c1_i32_523 : BitVec 32 := 1#32
  let v1452 : BitVec 32 := Scalar.select v1451 c1_i32_523 c1024_i32_521
  let v1453 : BitVec 32 := Scalar.remsi v1431 v1452
  let c0_i32_525 : BitVec 32 := 0#32
  let v1455 : BitVec 1 := Scalar.cmpi .slt v1453 c0_i32_525
  let c0_i32_526 : BitVec 32 := 0#32
  let v1456 : BitVec 1 := Scalar.cmpi .slt v1452 c0_i32_526
  let v1457 : BitVec 1 := Scalar.xori v1455 v1456
  let c0_i32_524 : BitVec 32 := 0#32
  let v1454 : BitVec 1 := Scalar.cmpi .ne v1453 c0_i32_524
  let v1458 : BitVec 1 := Scalar.andi v1457 v1454
  let v1459 : BitVec 32 := Scalar.addi v1453 v1452
  let v1460 : BitVec 32 := Scalar.select v1458 v1459 v1453
  v1460
def k1_mult7 (i : grid1.Coords) : BitVec 32 :=
  let arg0 : BitVec 32 := BitVec.ofNat 32 (i 0).val
  let c1536_i32_536 : BitVec 32 := 1536#32
  let v1489 : BitVec 32 := Scalar.muli arg0 c1536_i32_536
  let c768_i32 : BitVec 32 := 768#32
  let v1490 : BitVec 32 := Scalar.addi v1489 c768_i32
  let c1024_i32_546 : BitVec 32 := 1024#32
  let c0_i32_547 : BitVec 32 := 0#32
  let v1510 : BitVec 1 := Scalar.cmpi .eq c1024_i32_546 c0_i32_547
  let c1_i32_548 : BitVec 32 := 1#32
  let v1511 : BitVec 32 := Scalar.select v1510 c1_i32_548 c1024_i32_546
  let v1512 : BitVec 32 := Scalar.remsi v1490 v1511
  let c0_i32_550 : BitVec 32 := 0#32
  let v1514 : BitVec 1 := Scalar.cmpi .slt v1512 c0_i32_550
  let c0_i32_551 : BitVec 32 := 0#32
  let v1515 : BitVec 1 := Scalar.cmpi .slt v1511 c0_i32_551
  let v1516 : BitVec 1 := Scalar.xori v1514 v1515
  let c0_i32_549 : BitVec 32 := 0#32
  let v1513 : BitVec 1 := Scalar.cmpi .ne v1512 c0_i32_549
  let v1517 : BitVec 1 := Scalar.andi v1516 v1513
  let v1518 : BitVec 32 := Scalar.addi v1512 v1511
  let v1519 : BitVec 32 := Scalar.select v1517 v1518 v1512
  v1519
def k1_mult8 (i : grid1.Coords) : BitVec 32 :=
  let arg0 : BitVec 32 := BitVec.ofNat 32 (i 0).val
  let c1536_i32_561 : BitVec 32 := 1536#32
  let v1548 : BitVec 32 := Scalar.muli arg0 c1536_i32_561
  let c896_i32 : BitVec 32 := 896#32
  let v1549 : BitVec 32 := Scalar.addi v1548 c896_i32
  let c1024_i32_571 : BitVec 32 := 1024#32
  let c0_i32_572 : BitVec 32 := 0#32
  let v1569 : BitVec 1 := Scalar.cmpi .eq c1024_i32_571 c0_i32_572
  let c1_i32_573 : BitVec 32 := 1#32
  let v1570 : BitVec 32 := Scalar.select v1569 c1_i32_573 c1024_i32_571
  let v1571 : BitVec 32 := Scalar.remsi v1549 v1570
  let c0_i32_575 : BitVec 32 := 0#32
  let v1573 : BitVec 1 := Scalar.cmpi .slt v1571 c0_i32_575
  let c0_i32_576 : BitVec 32 := 0#32
  let v1574 : BitVec 1 := Scalar.cmpi .slt v1570 c0_i32_576
  let v1575 : BitVec 1 := Scalar.xori v1573 v1574
  let c0_i32_574 : BitVec 32 := 0#32
  let v1572 : BitVec 1 := Scalar.cmpi .ne v1571 c0_i32_574
  let v1576 : BitVec 1 := Scalar.andi v1575 v1572
  let v1577 : BitVec 32 := Scalar.addi v1571 v1570
  let v1578 : BitVec 32 := Scalar.select v1576 v1577 v1571
  v1578
def k1_mult9 (i : grid1.Coords) : BitVec 32 :=
  let arg0 : BitVec 32 := BitVec.ofNat 32 (i 0).val
  let c1536_i32_586 : BitVec 32 := 1536#32
  let v1607 : BitVec 32 := Scalar.muli arg0 c1536_i32_586
  let c1024_i32_587 : BitVec 32 := 1024#32
  let v1608 : BitVec 32 := Scalar.addi v1607 c1024_i32_587
  let c1024_i32_597 : BitVec 32 := 1024#32
  let c0_i32_598 : BitVec 32 := 0#32
  let v1628 : BitVec 1 := Scalar.cmpi .eq c1024_i32_597 c0_i32_598
  let c1_i32_599 : BitVec 32 := 1#32
  let v1629 : BitVec 32 := Scalar.select v1628 c1_i32_599 c1024_i32_597
  let v1630 : BitVec 32 := Scalar.remsi v1608 v1629
  let c0_i32_601 : BitVec 32 := 0#32
  let v1632 : BitVec 1 := Scalar.cmpi .slt v1630 c0_i32_601
  let c0_i32_602 : BitVec 32 := 0#32
  let v1633 : BitVec 1 := Scalar.cmpi .slt v1629 c0_i32_602
  let v1634 : BitVec 1 := Scalar.xori v1632 v1633
  let c0_i32_600 : BitVec 32 := 0#32
  let v1631 : BitVec 1 := Scalar.cmpi .ne v1630 c0_i32_600
  let v1635 : BitVec 1 := Scalar.andi v1634 v1631
  let v1636 : BitVec 32 := Scalar.addi v1630 v1629
  let v1637 : BitVec 32 := Scalar.select v1635 v1636 v1630
  v1637
def k1_mult10 (i : grid1.Coords) : BitVec 32 :=
  let arg0 : BitVec 32 := BitVec.ofNat 32 (i 0).val
  let c1536_i32_612 : BitVec 32 := 1536#32
  let v1666 : BitVec 32 := Scalar.muli arg0 c1536_i32_612
  let c1152_i32 : BitVec 32 := 1152#32
  let v1667 : BitVec 32 := Scalar.addi v1666 c1152_i32
  let c1024_i32_622 : BitVec 32 := 1024#32
  let c0_i32_623 : BitVec 32 := 0#32
  let v1687 : BitVec 1 := Scalar.cmpi .eq c1024_i32_622 c0_i32_623
  let c1_i32_624 : BitVec 32 := 1#32
  let v1688 : BitVec 32 := Scalar.select v1687 c1_i32_624 c1024_i32_622
  let v1689 : BitVec 32 := Scalar.remsi v1667 v1688
  let c0_i32_626 : BitVec 32 := 0#32
  let v1691 : BitVec 1 := Scalar.cmpi .slt v1689 c0_i32_626
  let c0_i32_627 : BitVec 32 := 0#32
  let v1692 : BitVec 1 := Scalar.cmpi .slt v1688 c0_i32_627
  let v1693 : BitVec 1 := Scalar.xori v1691 v1692
  let c0_i32_625 : BitVec 32 := 0#32
  let v1690 : BitVec 1 := Scalar.cmpi .ne v1689 c0_i32_625
  let v1694 : BitVec 1 := Scalar.andi v1693 v1690
  let v1695 : BitVec 32 := Scalar.addi v1689 v1688
  let v1696 : BitVec 32 := Scalar.select v1694 v1695 v1689
  v1696
def k1_mult11 (i : grid1.Coords) : BitVec 32 :=
  let arg0 : BitVec 32 := BitVec.ofNat 32 (i 0).val
  let c1536_i32_637 : BitVec 32 := 1536#32
  let v1725 : BitVec 32 := Scalar.muli arg0 c1536_i32_637
  let c1280_i32 : BitVec 32 := 1280#32
  let v1726 : BitVec 32 := Scalar.addi v1725 c1280_i32
  let c1024_i32_647 : BitVec 32 := 1024#32
  let c0_i32_648 : BitVec 32 := 0#32
  let v1746 : BitVec 1 := Scalar.cmpi .eq c1024_i32_647 c0_i32_648
  let c1_i32_649 : BitVec 32 := 1#32
  let v1747 : BitVec 32 := Scalar.select v1746 c1_i32_649 c1024_i32_647
  let v1748 : BitVec 32 := Scalar.remsi v1726 v1747
  let c0_i32_651 : BitVec 32 := 0#32
  let v1750 : BitVec 1 := Scalar.cmpi .slt v1748 c0_i32_651
  let c0_i32_652 : BitVec 32 := 0#32
  let v1751 : BitVec 1 := Scalar.cmpi .slt v1747 c0_i32_652
  let v1752 : BitVec 1 := Scalar.xori v1750 v1751
  let c0_i32_650 : BitVec 32 := 0#32
  let v1749 : BitVec 1 := Scalar.cmpi .ne v1748 c0_i32_650
  let v1753 : BitVec 1 := Scalar.andi v1752 v1749
  let v1754 : BitVec 32 := Scalar.addi v1748 v1747
  let v1755 : BitVec 32 := Scalar.select v1753 v1754 v1748
  v1755
def k1_mult12 (i : grid1.Coords) : BitVec 32 :=
  let arg0 : BitVec 32 := BitVec.ofNat 32 (i 0).val
  let c1536_i32_662 : BitVec 32 := 1536#32
  let v1784 : BitVec 32 := Scalar.muli arg0 c1536_i32_662
  let c1408_i32 : BitVec 32 := 1408#32
  let v1785 : BitVec 32 := Scalar.addi v1784 c1408_i32
  let c1024_i32_672 : BitVec 32 := 1024#32
  let c0_i32_673 : BitVec 32 := 0#32
  let v1805 : BitVec 1 := Scalar.cmpi .eq c1024_i32_672 c0_i32_673
  let c1_i32_674 : BitVec 32 := 1#32
  let v1806 : BitVec 32 := Scalar.select v1805 c1_i32_674 c1024_i32_672
  let v1807 : BitVec 32 := Scalar.remsi v1785 v1806
  let c0_i32_676 : BitVec 32 := 0#32
  let v1809 : BitVec 1 := Scalar.cmpi .slt v1807 c0_i32_676
  let c0_i32_677 : BitVec 32 := 0#32
  let v1810 : BitVec 1 := Scalar.cmpi .slt v1806 c0_i32_677
  let v1811 : BitVec 1 := Scalar.xori v1809 v1810
  let c0_i32_675 : BitVec 32 := 0#32
  let v1808 : BitVec 1 := Scalar.cmpi .ne v1807 c0_i32_675
  let v1812 : BitVec 1 := Scalar.andi v1811 v1808
  let v1813 : BitVec 32 := Scalar.addi v1807 v1806
  let v1814 : BitVec 32 := Scalar.select v1812 v1813 v1807
  v1814
def k1_cond2 (i : grid1.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k1_cond4 (i : grid1.Coords) : BitVec 1 :=
  let arg1 : BitVec 32 := BitVec.ofNat 32 (i 1).val
  let c124_i32_383 : BitVec 32 := 124#32
  let v1129 : BitVec 1 := Scalar.cmpi .eq arg1 c124_i32_383
  let arg0 : BitVec 32 := BitVec.ofNat 32 (i 0).val
  let c3_i32 : BitVec 32 := 3#32
  let v1130 : BitVec 1 := Scalar.cmpi .eq arg0 c3_i32
  let v1131 : BitVec 1 := Scalar.andi v1129 v1130
  let v1132 : BitVec 32 := Scalar.extui v1131
  let c0_i32_384 : BitVec 32 := 0#32
  let v1133 : BitVec 1 := Scalar.cmpi .ne v1132 c0_i32_384
  v1133

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1536x7168 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x7168 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x224 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1536x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S6x1024 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S6x1024 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x24 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x12 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x12 .i32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S6x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x24 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x12 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x12 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]
-- ==== ReferenceIdeal.lean ====
abbrev S6x1024x7168 : Shape := ⟨3, ![6, 1024, 7168]⟩
abbrev S6x1024x224 : Shape := ⟨3, ![6, 1024, 224]⟩
abbrev S32000x7168 : Shape := ⟨2, ![32000, 7168]⟩
abbrev S32000x224 : Shape := ⟨2, ![32000, 224]⟩
abbrev S6x1024 : Shape := ⟨2, ![6, 1024]⟩
abbrev S24 : Shape := ⟨1, ![24]⟩
abbrev S12 : Shape := ⟨1, ![12]⟩
abbrev S6144x7168 : Shape := ⟨2, ![6144, 7168]⟩
abbrev S6144x224 : Shape := ⟨2, ![6144, 224]⟩
abbrev S6144x224x32 : Shape := ⟨3, ![6144, 224, 32]⟩
abbrev S6144x224x1 : Shape := ⟨3, ![6144, 224, 1]⟩
abbrev S32000x224x32 : Shape := ⟨3, ![32000, 224, 32]⟩
abbrev S32000x224x1 : Shape := ⟨3, ![32000, 224, 1]⟩
abbrev S6144x32000 : Shape := ⟨2, ![6144, 32000]⟩
abbrev S_ : Shape := ⟨0, ![]⟩
abbrev S6144 : Shape := ⟨1, ![6144]⟩
abbrev S6144x1 : Shape := ⟨2, ![6144, 1]⟩
abbrev S1x24 : Shape := ⟨2, ![1, 24]⟩
abbrev S6144x24 : Shape := ⟨2, ![6144, 24]⟩
abbrev S12x1 : Shape := ⟨2, ![12, 1]⟩
abbrev S12x24 : Shape := ⟨2, ![12, 24]⟩

abbrev nBuf : Space → Nat
  | .hbm => 139
  | .vmem => 4
  | .smem => 0
  | _ => 0

abbrev hbmTy0_0 (i : Nat) : BufTy := match i % 128 with
  | 0 => ⟨S6x1024x7168, .fp8e4m3⟩
  | 1 => ⟨S6x1024x224, .f32⟩
  | 2 => ⟨S32000x7168, .fp8e4m3⟩
  | 3 => ⟨S32000x224, .f32⟩
  | 4 => ⟨S6x1024, .i32⟩
  | 5 => ⟨S6x1024, .i32⟩
  | 6 => ⟨S6x1024, .i32⟩
  | 7 => ⟨S24, .f32⟩
  | 8 => ⟨S12, .i32⟩
  | 9 => ⟨S12, .i32⟩
  | 10 => ⟨S6144x7168, .fp8e4m3⟩
  | 11 => ⟨S6144x7168, .bf16⟩
  | 12 => ⟨S32000x7168, .bf16⟩
  | 13 => ⟨S6144x224, .f32⟩
  | 14 => ⟨S6144x224x32, .bf16⟩
  | 15 => ⟨S6144x224, .bf16⟩
  | 16 => ⟨S6144x224x1, .bf16⟩
  | 17 => ⟨S6144x224x32, .bf16⟩
  | 18 => ⟨S6144x224x32, .bf16⟩
  | 19 => ⟨S6144x7168, .bf16⟩
  | 20 => ⟨S32000x224x32, .bf16⟩
  | 21 => ⟨S32000x224, .bf16⟩
  | 22 => ⟨S32000x224x1, .bf16⟩
  | 23 => ⟨S32000x224x32, .bf16⟩
  | 24 => ⟨S32000x224x32, .bf16⟩
  | 25 => ⟨S32000x7168, .bf16⟩
  | 26 => ⟨S6144x32000, .f32⟩
  | 27 => ⟨S_, .f32⟩
  | 28 => ⟨S6144, .f32⟩
  | 29 => ⟨S6144x1, .f32⟩
  | 30 => ⟨S6144x32000, .f32⟩
  | 31 => ⟨S6144x32000, .f32⟩
  | 32 => ⟨S6144x32000, .f32⟩
  | 33 => ⟨S_, .f32⟩
  | 34 => ⟨S6144, .f32⟩
  | 35 => ⟨S6144, .f32⟩
  | 36 => ⟨S6144, .f32⟩
  | 37 => ⟨S6144x32000, .i32⟩
  | 38 => ⟨S6144, .i32⟩
  | 39 => ⟨S6144x1, .i32⟩
  | 40 => ⟨S6144x32000, .i32⟩
  | 41 => ⟨S6144x32000, .i1⟩
  | 42 => ⟨S_, .f32⟩
  | 43 => ⟨S_, .f32⟩
  | 44 => ⟨S6144x32000, .f32⟩
  | 45 => ⟨S6144x32000, .f32⟩
  | 46 => ⟨S_, .f32⟩
  | 47 => ⟨S6144, .f32⟩
  | 48 => ⟨S6144, .f32⟩
  | 49 => ⟨S6x1024, .f32⟩
  | 50 => ⟨S6x1024, .f32⟩
  | 51 => ⟨S6x1024, .f32⟩
  | 52 => ⟨S6144, .f32⟩
  | 53 => ⟨S6144, .i32⟩
  | 54 => ⟨S6144x1, .i32⟩
  | 55 => ⟨S24, .i32⟩
  | 56 => ⟨S1x24, .i32⟩
  | 57 => ⟨S6144x24, .i32⟩
  | 58 => ⟨S6144x24, .i32⟩
  | 59 => ⟨S6144x24, .i1⟩
  | 60 => ⟨S6144x1, .f32⟩
  | 61 => ⟨S_, .f32⟩
  | 62 => ⟨S_, .f32⟩
  | 63 => ⟨S6144x24, .f32⟩
  | 64 => ⟨S6144x24, .f32⟩
  | 65 => ⟨S6144x24, .f32⟩
  | 66 => ⟨S_, .f32⟩
  | 67 => ⟨S24, .f32⟩
  | 68 => ⟨S24, .i32⟩
  | 69 => ⟨S1x24, .i32⟩
  | 70 => ⟨S12x1, .i32⟩
  | 71 => ⟨S12x24, .i32⟩
  | 72 => ⟨S12x24, .i32⟩
  | 73 => ⟨S12x24, .i1⟩
  | 74 => ⟨S1x24, .f32⟩
  | 75 => ⟨S_, .f32⟩
  | 76 => ⟨S_, .f32⟩
  | 77 => ⟨S12x24, .f32⟩
  | 78 => ⟨S12x24, .f32⟩
  | 79 => ⟨S12x24, .f32⟩
  | 80 => ⟨S_, .f32⟩
  | 81 => ⟨S12, .f32⟩
  | 82 => ⟨S12x1, .i32⟩
  | 83 => ⟨S12x24, .i32⟩
  | 84 => ⟨S12x24, .i32⟩
  | 85 => ⟨S12x24, .i1⟩
  | 86 => ⟨S1x24, .f32⟩
  | 87 => ⟨S_, .f32⟩
  | 88 => ⟨S_, .f32⟩
  | 89 => ⟨S12x24, .f32⟩
  | 90 => ⟨S12x24, .f32⟩
  | 91 => ⟨S12x24, .f32⟩
  | 92 => ⟨S_, .f32⟩
  | 93 => ⟨S12, .f32⟩
  | 94 => ⟨S12x1, .i32⟩
  | 95 => ⟨S12x24, .i32⟩
  | 96 => ⟨S12x24, .i32⟩
  | 97 => ⟨S12x24, .i1⟩
  | 98 => ⟨S1x24, .f32⟩
  | 99 => ⟨S_, .f32⟩
  | 100 => ⟨S_, .f32⟩
  | 101 => ⟨S12x24, .f32⟩
  | 102 => ⟨S12x24, .f32⟩
  | 103 => ⟨S12x24, .f32⟩
  | 104 => ⟨S_, .f32⟩
  | 105 => ⟨S12, .f32⟩
  | 106 => ⟨S12x1, .i32⟩
  | 107 => ⟨S12x24, .i32⟩
  | 108 => ⟨S12x24, .i32⟩
  | 109 => ⟨S12x24, .i1⟩
  | 110 => ⟨S1x24, .f32⟩
  | 111 => ⟨S_, .f32⟩
  | 112 => ⟨S_, .f32⟩
  | 113 => ⟨S12x24, .f32⟩
  | 114 => ⟨S12x24, .f32⟩
  | 115 => ⟨S12x24, .f32⟩
  | 116 => ⟨S_, .f32⟩
  | 117 => ⟨S12, .f32⟩
  | 118 => ⟨S12, .f32⟩
  | 119 => ⟨S12, .f32⟩
  | 120 => ⟨S12, .f32⟩
  | 121 => ⟨S_, .f32⟩
  | 122 => ⟨S12, .f32⟩
  | 123 => ⟨S12, .f32⟩
  | 124 => ⟨S12, .f32⟩
  | 125 => ⟨S_, .f32⟩
  | 126 => ⟨S12, .f32⟩
  | 127 => ⟨S12, .f32⟩
  | _ => ⟨S6x1024x7168, .fp8e4m3⟩

abbrev hbmTy0_1 (i : Nat) : BufTy := match i % 128 with
  | 0 => ⟨S12, .f32⟩
  | 1 => ⟨S12, .f32⟩
  | 2 => ⟨S12, .i1⟩
  | 3 => ⟨S12, .f32⟩
  | 4 => ⟨S12, .f32⟩
  | 5 => ⟨S12, .f32⟩
  | 6 => ⟨S12, .f32⟩
  | 7 => ⟨S12, .f32⟩
  | 8 => ⟨S12, .f32⟩
  | 9 => ⟨S12, .f32⟩
  | 10 => ⟨S12, .f32⟩
  | _ => ⟨S6x1024x7168, .fp8e4m3⟩

abbrev hbmTy (i : Nat) : BufTy := match i / 128 with
  | 0 => hbmTy0_0 i
  | 1 => hbmTy0_1 i
  | _ => ⟨S6x1024x7168, .fp8e4m3⟩

abbrev bufTy : (tb : Table) → Fin (tcTables nBuf tb) → BufTy
  | .hbm, ⟨i, _⟩ => hbmTy i
  | .local _ .vmem, ⟨0, _⟩ => ⟨S6144x7168, .fp8e4m3⟩
  | .local _ .vmem, ⟨1, _⟩ => ⟨S32000x7168, .fp8e4m3⟩
  | .local _ .vmem, ⟨2, _⟩ => ⟨S6144x7168, .bf16⟩
  | .local _ .vmem, ⟨3, _⟩ => ⟨S32000x7168, .bf16⟩
  | _, _ => ⟨S6x1024x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_call0_v0 : Ref sig .tc := ⟨.hbm, 43, rfl⟩
abbrev main_call0_v1 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_3 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v44 : Ref sig .tc := ⟨.hbm, 65, rfl⟩
abbrev main_cst_4 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_5 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v53 : Ref sig .tc := ⟨.hbm, 79, rfl⟩
abbrev main_cst_6 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_7 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v60 : Ref sig .tc := ⟨.hbm, 91, rfl⟩
abbrev main_cst_8 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_9 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_v67 : Ref sig .tc := ⟨.hbm, 103, rfl⟩
abbrev main_cst_10 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_11 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_v74 : Ref sig .tc := ⟨.hbm, 115, rfl⟩
abbrev main_cst_12 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_13 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_14 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6144x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32000x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32000x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Segs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The body of the main call, cut at its conditionals

The body is five programs one after another: two conditional initialisations, the unconditional update of the running maximum, sum and
target, the conditional row of results, and the conditional loss. -/

section Programs
variable (i : grid1.Coords) (arg2 : Memref sig .tc .vmem S1536x7168 .bf16) (harg2 : arg2.IsWhole) (arg3 : Memref sig .tc .vmem S256x7168 .fp8e4m3) (harg3 : arg3.IsWhole) (arg4 : Memref sig .tc .vmem S256x224 .f32) (harg4 : arg4.IsWhole) (arg5 : Memref sig .tc .vmem S1536x1 .i32) (harg5 : arg5.IsWhole) (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole) (arg12 : Memref sig .tc .vmem S1x24 .f32) (harg12 : arg12.IsWhole) (arg13 : Memref sig .tc .vmem S1x12 .f32) (harg13 : arg13.IsWhole) (arg14 : Memref sig .tc .vmem S1x12 .f32) (harg14 : arg14.IsWhole) (arg15 : Memref sig .tc .vmem S256x7168 .bf16) (harg15 : arg15.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole)

/-- First vocabulary tile of a token tile: the running values start over. -/
def pInit : Prog (TpuEff nD τ sig (Elt F) Λ₀ .tc) PUnit := do
  let arg0 : BitVec 32 := BitVec.ofNat 32 (i 0).val
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k1_h1 : v2 = 1#1 then do
    let v1135 : Vec F S1536x128 .f32 ← Prog.lift (.load arg16 (Rect.unit (s := S1536x128) ![0, 0] S1536x128.size inb_S1536x128_S1536x128_0_0).toLoadRect (View.loadsAt_vmem h_S1536x128))
    Prog.lift (.store arg16 (Rect.unit (s := S1536x128) ![0, 0] S1536x128.size inb_S1536x128_S1536x128_0_0) (k1_pay79 (F := F)) Finset.univ (View.stores_vmem_bits_univ h_S1536x128 rfl) (.inl rfl))
    let v1139 : Vec F S1536x128 .f32 ← Prog.lift (.load arg17 (Rect.unit (s := S1536x128) ![0, 0] S1536x128.size inb_S1536x128_S1536x128_0_0).toLoadRect (View.loadsAt_vmem h_S1536x128))
    Prog.lift (.store arg17 (Rect.unit (s := S1536x128) ![0, 0] S1536x128.size inb_S1536x128_S1536x128_0_0) (k1_pay80 (F := F)) Finset.univ (View.stores_vmem_bits_univ h_S1536x128 rfl) (.inl rfl))
    let v1143 : Vec F S1536x128 .f32 ← Prog.lift (.load arg18 (Rect.unit (s := S1536x128) ![0, 0] S1536x128.size inb_S1536x128_S1536x128_0_0).toLoadRect (View.loadsAt_vmem h_S1536x128))
    Prog.lift (.store arg18 (Rect.unit (s := S1536x128) ![0, 0] S1536x128.size inb_S1536x128_S1536x128_0_0) (k1_pay81 (F := F)) Finset.univ (View.stores_vmem_bits_univ h_S1536x128 rfl) (.inl rfl))
    pure ⟨⟩
  else do
    pure ⟨⟩

/-- First point of the grid: the per-token result starts at zero. -/
def pZero : Prog (TpuEff nD τ sig (Elt F) Λ₀ .tc) PUnit := do
  if k1_h2 : k1_cond2 i = 1#1 then do
    let v1135 : Vec F S6x1024 .f32 ← Prog.lift (.load arg11 (Rect.unit (s := S6x1024) ![0, 0] S6x1024.size inb_S6x1024_S6x1024_0_0).toLoadRect (View.loadsAt_vmem h_S6x1024))
    Prog.lift (.store arg11 (Rect.unit (s := S6x1024) ![0, 0] S6x1024.size inb_S6x1024_S6x1024_0_0) (k1_pay82 (F := F)) Finset.univ (View.stores_vmem_bits_univ h_S6x1024 rfl) (.inl rfl))
    pure ⟨⟩
  else do
    pure ⟨⟩

/-- Every point: widen the weights tile and fold its logits into the running values. -/
def pMid : Prog (TpuEff nD τ sig (Elt F) Λ₀ .tc) PUnit := do
  let arg0 : BitVec 32 := BitVec.ofNat 32 (i 0).val
  let arg1 : BitVec 32 := BitVec.ofNat 32 (i 1).val
  let v8 : Vec F S256x128 .f32 ← Prog.lift (.load arg4 (Rect.unit (s := S256x224) ![0, 0] S256x128.size inb_S256x224_S256x128_0_0).toLoadRect (View.loadsAt_vmem h_S256x128))
  let v11 : Vec F S256x128 .f32 ← Prog.lift (.load arg4 (Rect.unit (s := S256x224) ![0, 96] S256x128.size inb_S256x224_S256x128_0_96).toLoadRect (View.loadsAt_vmem h_S256x128))
  let v10 : FVec F S256x128 .f32 := k1_pay83 v8
  let v13 : FVec F S256x128 .f32 := k1_pay84 v11
  have v38 : IVec S256x128 32 := k1_pay85
  let c0_i32_11 : BitVec 32 := 0#32
  let v80 : IVec S256x128x1 32 ← k1_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 c0_i32_11
  let v120 : FVec F S256x128 .bf16 ← k1_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 v80
  let ⟨v159, v161⟩ : Σ' (v159 : IVec S256x128 32), IVec S256x128 1 ← k1_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 v120
  let v202 : FVec F S256x128 .bf16 ← k1_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 v159 v161
  let c48_i32 : BitVec 32 ← k1_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 v202
  let v284 : IVec S256x128x1 32 ← k1_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 c48_i32
  let v324 : FVec F S256x128 .bf16 ← k1_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 v284
  let ⟨v363, v365⟩ : Σ' (v363 : IVec S256x128 32), IVec S256x128 1 ← k1_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 v324
  let v406 : FVec F S256x128 .bf16 ← k1_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 v363 v365
  let c96_i32 : BitVec 32 ← k1_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 v406
  let v488 : IVec S256x128x1 32 ← k1_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 c96_i32
  let v528 : FVec F S256x128 .bf16 ← k1_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 v488
  let ⟨v567, v569⟩ : Σ' (v567 : IVec S256x128 32), IVec S256x128 1 ← k1_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 v528
  let v610 : FVec F S256x128 .bf16 ← k1_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v13 v38 v567 v569
  let c48_i32_197 : BitVec 32 ← k1_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v38 v610
  let v692 : IVec S256x128x1 32 ← k1_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v38 c48_i32_197
  let v732 : FVec F S256x128 .bf16 ← k1_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v38 v692
  let ⟨v771, v773⟩ : Σ' (v771 : IVec S256x128 32), IVec S256x128 1 ← k1_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v38 v732
  let v814 : FVec F S256x128 .bf16 ← k1_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v38 v771 v773
  let c96_i32_269 : BitVec 32 ← k1_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v38 v814
  let v896 : IVec S256x128x1 32 ← k1_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v38 c96_i32_269
  let v936 : FVec F S256x128 .bf16 ← k1_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v38 v896
  let ⟨v975, v977⟩ : Σ' (v975 : IVec S256x128 32), IVec S256x128 1 ← k1_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v38 v936
  let ⟨v998, v999, v1000, v1003, v1008, v1010, v1013, v1016⟩ : Σ' (v998 : IVec S512x128 32) (v999 : FVec F S512x128 .f32) (v1000 : FVec F S512x128 .f32) (v1003 : FVec F S512x128 .f32) (v1008 : Vec F S512x128 .f32) (v1010 : IVec S512x1 32) (v1013 : FVec F S512x128 .f32), IVec S512x128 32 ← k1_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v13 v975 v977
  let ⟨v1041, v1042, v1043, v1044, v1045, v1048, v1052⟩ : Σ' (v1041 : IVec S512x1 32) (v1042 : BitVec 32) (v1043 : IVec S512x128 32) (v1044 : FVec F S512x128 .f32) (v1045 : FVec F S512x128 .f32) (v1048 : FVec F S512x128 .f32), FVec F S512x128 .f32 ← k1_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v998 v999 v1000 v1003 v1008 v1010 v1013 v1016
  let ⟨v1086, v1087, v1088, v1089, v1090, v1091⟩ : Σ' (v1086 : IVec S512x1 32) (v1087 : BitVec 32) (v1088 : IVec S512x128 32) (v1089 : FVec F S512x128 .f32) (v1090 : FVec F S512x128 .f32), Vec F S512x128 .f32 ← k1_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v1041 v1042 v1043 v1044 v1045 v1048 v1052
  let v1094 : Vec F S512x128 .f32 ← Prog.lift (.load arg17 (Rect.unit (s := S1536x128) ![1024, 0] S512x128.size inb_S1536x128_S512x128_1024_0).toLoadRect (View.loadsAt_vmem h_S512x128))
  let v1098 : Vec F S512x128 .f32 ← Prog.lift (.load arg18 (Rect.unit (s := S1536x128) ![1024, 0] S512x128.size inb_S1536x128_S512x128_1024_0).toLoadRect (View.loadsAt_vmem h_S512x128))
  let v1117 : Vec F S512x128 .f32 ← Prog.lift (.load arg16 (Rect.unit (s := S1536x128) ![1024, 0] S512x128.size inb_S1536x128_S512x128_1024_0).toLoadRect (View.loadsAt_vmem h_S512x128))
  Prog.lift (.store arg16 (Rect.unit (s := S1536x128) ![1024, 0] S512x128.size inb_S1536x128_S512x128_1024_0) (k1_pay190 v1089 v1090 v1091) Finset.univ (View.stores_vmem_bits_univ h_S512x128 rfl) (.inl rfl))
  let v1120 : Vec F S512x128 .f32 ← Prog.lift (.load arg17 (Rect.unit (s := S1536x128) ![1024, 0] S512x128.size inb_S1536x128_S512x128_1024_0).toLoadRect (View.loadsAt_vmem h_S512x128))
  Prog.lift (.store arg17 (Rect.unit (s := S1536x128) ![1024, 0] S512x128.size inb_S1536x128_S512x128_1024_0) (k1_pay191 v1089 v1090 v1091 v1094) Finset.univ (View.stores_vmem_bits_univ h_S512x128 rfl) (.inl rfl))
  let v1123 : Vec F S512x128 .f32 ← Prog.lift (.load arg18 (Rect.unit (s := S1536x128) ![1024, 0] S512x128.size inb_S1536x128_S512x128_1024_0).toLoadRect (View.loadsAt_vmem h_S512x128))
  Prog.lift (.store arg18 (Rect.unit (s := S1536x128) ![1024, 0] S512x128.size inb_S1536x128_S512x128_1024_0) (k1_pay192 v1086 v1087 v1088 v1089 v1090 v1098) Finset.univ (View.stores_vmem_bits_univ h_S512x128 rfl) (.inl rfl))
  pure ⟨⟩

/-- Last vocabulary tile of a token tile: the tile's row of results. -/
def pFin : Prog (TpuEff nD τ sig (Elt F) Λ₀ .tc) PUnit := do
  let arg0 : BitVec 32 := BitVec.ofNat 32 (i 0).val
  if k1_h3 : k1_cond3 i = 1#1 then do
    let ⟨v1134, v1136, v1155, v1166, c1024_i32_400, v1167, v1172, c0_i32_403⟩ : Σ' (v1134 : IVec S6x128 32) (v1136 : BitVec 32) (v1155 : FVec F S1x128 .f32) (v1166 : BitVec 32) (c1024_i32_400 : BitVec 32) (v1167 : BitVec 32) (v1172 : BitVec 32), BitVec 32 ← k1_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0
    let ⟨v1195, v1214, c1024_i32_420⟩ : Σ' (v1195 : BitVec 32) (v1214 : FVec F S1x128 .f32), BitVec 32 ← k1_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1134 v1136 v1155 v1166 c1024_i32_400 v1167 v1172 c0_i32_403
    let ⟨v1254, v1255⟩ : Σ' (v1254 : BitVec 32), Vec F S128x128 .f32 ← k1_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1134 v1195 v1214 c1024_i32_420
    let ⟨v1273, v1284, v1285, v1296, v1297⟩ : Σ' (v1273 : FVec F S1x128 .f32) (v1284 : BitVec 32) (v1285 : BitVec 32) (v1296 : BitVec 1), BitVec 32 ← k1_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1254 v1255
    let ⟨v1313, v1332, v1334, v1335, v1336, c0_i32_475⟩ : Σ' (v1313 : BitVec 32) (v1332 : FVec F S1x128 .f32) (v1334 : BitVec 32) (v1335 : BitVec 32) (v1336 : BitVec 1), BitVec 32 ← k1_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1134 v1273 v1284 v1285 v1296 v1297
    let ⟨v1372, v1374, v1376, v1377⟩ : Σ' (v1372 : BitVec 32) (v1374 : FVec F S128x128 .f32) (v1376 : FVec F S128x128 .f32), Vec F S128x128 .f32 ← k1_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1134 v1313 v1332 v1334 v1335 v1336 c0_i32_475
    let ⟨v1391, v1402, v1421⟩ : Σ' (v1391 : FVec F S1x128 .f32) (v1402 : BitVec 32), IVec S6x128 1 ← k1_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1134 v1372 v1374 v1376 v1377
    let ⟨v1431, v1450, v1461⟩ : Σ' (v1431 : BitVec 32) (v1450 : FVec F S1x128 .f32), BitVec 32 ← k1_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1391 v1402 v1421
    let ⟨v1490, v1496, v1498, v1502⟩ : Σ' (v1490 : BitVec 32) (v1496 : FVec F S128x128 .f32) (v1498 : FVec F S1x128 .f32), FVec F S128x128 .f32 ← k1_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1134 v1431 v1450 v1461
    let ⟨v1520, v1545⟩ : Σ' (v1520 : BitVec 32), FVec F S6x128 .f32 ← k1_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k1_h3 v1134 v1490 v1496 v1498 v1502
    let ⟨v1549, v1568, v1579, c1024_i32_577, v1580, v1582, v1584⟩ : Σ' (v1549 : BitVec 32) (v1568 : FVec F S1x128 .f32) (v1579 : BitVec 32) (c1024_i32_577 : BitVec 32) (v1580 : BitVec 32) (v1582 : BitVec 32), BitVec 32 ← k1_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1520 v1545
    let ⟨v1608, v1624, v1626⟩ : Σ' (v1608 : BitVec 32) (v1624 : FVec F S1x128 .f32), FVec F S1x128 .f32 ← k1_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1134 v1549 v1568 v1579 c1024_i32_577 v1580 v1582 v1584
    let v1667 : BitVec 32 ← k1_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1134 v1608 v1624 v1626
    let ⟨v1686, v1697, c1024_i32_628, v1698, v1703, v1708⟩ : Σ' (v1686 : FVec F S1x128 .f32) (v1697 : BitVec 32) (c1024_i32_628 : BitVec 32) (v1698 : BitVec 32) (v1703 : BitVec 32), BitVec 32 ← k1_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1667
    let ⟨v1726, v1745, v1747, v1748, c0_i32_650⟩ : Σ' (v1726 : BitVec 32) (v1745 : FVec F S1x128 .f32) (v1747 : BitVec 32) (v1748 : BitVec 32), BitVec 32 ← k1_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1134 v1667 v1686 v1697 c1024_i32_628 v1698 v1703 v1708
    let ⟨v1785, v1787, v1789⟩ : Σ' (v1785 : BitVec 32) (v1787 : FVec F S128x128 .f32), FVec F S128x128 .f32 ← k1_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1134 v1726 v1745 v1747 v1748 c0_i32_650
    let ⟨v1804, v1815, v1832⟩ : Σ' (v1804 : FVec F S1x128 .f32) (v1815 : BitVec 32), BitVec 32 ← k1_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1785 v1787 v1789
    let v1836 : Vec F S6x128 .f32 ← Prog.lift (.load arg11 (Rect.unit (s := S6x1024) (k1_off1 i 1408#32) S6x128.size (k1_off1_inb i k1_h3 11)).toLoadRect (View.loadsAt_vmem h_S6x128))
    let v1842 : Vec F S6x128 .f32 ← Prog.lift (.load arg11 (Rect.unit (s := S6x1024) (k1_off1 i 1408#32) S6x128.size (k1_off1_inb i k1_h3 11)).toLoadRect (View.loadsAt_vmem h_S6x128))
    Prog.lift (.store arg11 (Rect.unit (s := S6x1024) (k1_off1 i 1408#32) S6x128.size (k1_off1_inb i k1_h3 11)) (k1_pay193 v1134 v1804 v1832 v1836) Finset.univ (View.stores_vmem_bits_univ h_S6x128 rfl) (.inl rfl))
    pure ⟨⟩
  else do
    pure ⟨⟩

/-- Last point of the grid: the loss. -/
def pDpo : Prog (TpuEff nD τ sig (Elt F) Λ₀ .tc) PUnit := do
  if k1_h4 : k1_cond4 i = 1#1 then do
    let v1847 : FVec F S1x12 .f32 ← k1_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    Prog.lift (.store arg14 (Rect.unit (s := S1x12) ![0, 0] S1x12.size inb_S1x12_S1x12_0_0) v1847 Finset.univ (View.stores_vmem_bits_univ h_S1x12 rfl) (.inl rfl))
    pure ⟨⟩
  else do
    pure ⟨⟩
  pure ⟨⟩

end Programs

theorem dite_bind' {E : Type → Type _} {α β : Type} {p : Prop} [Decidable p] (t : p → Prog E α) (e : ¬p → Prog E α)
    (k : α → Prog E β) : (dite p t e >>= k) = dite p (fun h => t h >>= k) (fun h => e h >>= k) := by
  split <;> rfl

set_option maxHeartbeats 4000000 in
set_option pp.maxSteps 400 in
/-- The body is those five programs in order. -/
theorem body_eq (i : grid1.Coords) (arg2 : Memref sig .tc .vmem S1536x7168 .bf16) (harg2 : arg2.IsWhole) (arg3 : Memref sig .tc .vmem S256x7168 .fp8e4m3) (harg3 : arg3.IsWhole) (arg4 : Memref sig .tc .vmem S256x224 .f32) (harg4 : arg4.IsWhole) (arg5 : Memref sig .tc .vmem S1536x1 .i32) (harg5 : arg5.IsWhole) (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole) (arg12 : Memref sig .tc .vmem S1x24 .f32) (harg12 : arg12.IsWhole) (arg13 : Memref sig .tc .vmem S1x12 .f32) (harg13 : arg13.IsWhole) (arg14 : Memref sig .tc .vmem S1x12 .f32) (harg14 : arg14.IsWhole) (arg15 : Memref sig .tc .vmem S256x7168 .bf16) (harg15 : arg15.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) :
    cc1_lm_head_dpo (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = (do
      pInit i arg16 arg17 arg18
      pZero i arg11
      pMid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      pFin i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      pDpo i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) := by
  rw [cc1_lm_head_dpo_eq_skeleton]
  unfold cc1_lm_head_dpo_skel pInit pZero pMid pFin pDpo
  rw [k1_part34_eq_skeleton, k1_part61_eq_skeleton]
  unfold k1_part34_skel k1_part61_skel
  simp only [dite_bind', bind_assoc, pure_bind]

end Cert.KernelIdeal.Hand

end
-- ==== Proof.RunMid.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.VecWindow
public import Idealize.ShloMosaic.Lib.Tactic
public import Idealize.ShloMosaic.Lib.WordCmp
public import proofs.«01_k».proof.Proof.Segs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2264000 in
/-- What the update leaves in the running maximum, sum and target, as the pieces that its stores write. -/
noncomputable def midRun (c : Dev nD) (i : grid1.Coords) (arg2 : Memref sig .tc .vmem S1536x7168 .bf16) (harg2 : arg2.IsWhole) (arg3 : Memref sig .tc .vmem S256x7168 .fp8e4m3) (harg3 : arg3.IsWhole) (arg4 : Memref sig .tc .vmem S256x224 .f32) (harg4 : arg4.IsWhole) (arg5 : Memref sig .tc .vmem S1536x1 .i32) (harg5 : arg5.IsWhole) (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole) (arg12 : Memref sig .tc .vmem S1x24 .f32) (harg12 : arg12.IsWhole) (arg13 : Memref sig .tc .vmem S1x12 .f32) (harg13 : arg13.IsWhole) (arg14 : Memref sig .tc .vmem S1x12 .f32) (harg14 : arg14.IsWhole) (arg15 : Memref sig .tc .vmem S256x7168 .bf16) (harg15 : arg15.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole)
    (x0 : Vec F S1536x7168 .bf16) (x1 : Vec F S256x7168 .fp8e4m3) (x2 : Vec F S256x224 .f32) (x3 : Vec F S1536x1 .i32) (xm : Vec F S1536x128 .f32) (xl : Vec F S1536x128 .f32) (xt : Vec F S1536x128 .f32) :
    Σ' (L16 : List (View.Piece (Elt F) S1536x128 .f32)), Σ' (L17 : List (View.Piece (Elt F) S1536x128 .f32)), { L18 : List (View.Piece (Elt F) S1536x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg15 fullShare d) ∗ owns (c : Thread nD τ) arg16 fullShare xm ∗ owns (c : Thread nD τ) arg17 fullShare xl ∗ owns (c : Thread nD τ) arg18 fullShare xt
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg15.view.loc (c : Thread nD τ) ↦[arg15.view.set]{fullShare} f) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18)) -∗ K ⟨⟩))
          ⊢ wp frame (wpE (defs₀ (F := F)) Variants.none c none) E (pMid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    unfold pMid
    simp only [k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton]
    unfold owns
    iintro ⟨⟨%f2, %hf2, H2⟩, ⟨%f3, %hf3, H3⟩, ⟨%f4, %hf4, H4⟩, ⟨%f5, %hf5, H5⟩, ⟨%d15, %f15, -, H15⟩, ⟨%f16, %hf16, H16⟩, ⟨%f17, %hf17, H17⟩, ⟨%f18, %hf18, H18⟩, Hk⟩
    obtain rfl := harg2.eq_unread hf2; obtain rfl := harg3.eq_unread hf3; obtain rfl := harg4.eq_unread hf4; obtain rfl := harg5.eq_unread hf5; obtain rfl := harg16.eq_unread hf16; obtain rfl := harg17.eq_unread hf17; obtain rfl := harg18.eq_unread hf18
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H15]; · iexists _; iexact H15
    isplitl [H16]; · iexists _; iexact H16
    isplitl [H17]; · iexists _; iexact H17
    iexists _; iexact H18

end Cert.KernelIdeal.Hand

end
-- ==== Proof.RunFin.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.VecWindow
public import Idealize.ShloMosaic.Lib.Tactic
public import Idealize.ShloMosaic.Lib.WordCmp
public import proofs.«01_k».proof.Proof.Segs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2264000 in
/-- What the row of results leaves in the per-token output when the token tile starts at column 0, as the pieces that its stores write. -/
noncomputable def finRun0 (c : Dev nD) (i : grid1.Coords) (arg2 : Memref sig .tc .vmem S1536x7168 .bf16) (harg2 : arg2.IsWhole) (arg3 : Memref sig .tc .vmem S256x7168 .fp8e4m3) (harg3 : arg3.IsWhole) (arg4 : Memref sig .tc .vmem S256x224 .f32) (harg4 : arg4.IsWhole) (arg5 : Memref sig .tc .vmem S1536x1 .i32) (harg5 : arg5.IsWhole) (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole) (arg12 : Memref sig .tc .vmem S1x24 .f32) (harg12 : arg12.IsWhole) (arg13 : Memref sig .tc .vmem S1x12 .f32) (harg13 : arg13.IsWhole) (arg14 : Memref sig .tc .vmem S1x12 .f32) (harg14 : arg14.IsWhole) (arg15 : Memref sig .tc .vmem S256x7168 .bf16) (harg15 : arg15.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) (hc : k1_cond3 i = 1#1)
    (ho0 : k1_off1 i 0#32 = ![0, 0]) (ho1 : k1_off1 i 128#32 = ![0, 128]) (ho2 : k1_off1 i 256#32 = ![0, 256]) (ho3 : k1_off1 i 384#32 = ![0, 384]) (ho4 : k1_off1 i 512#32 = ![0, 512]) (ho5 : k1_off1 i 640#32 = ![0, 640]) (ho6 : k1_off1 i 768#32 = ![0, 768]) (ho7 : k1_off1 i 896#32 = ![0, 896]) (ho8 : k1_off1 i 1024#32 = ![0, 0]) (ho9 : k1_off1 i 1152#32 = ![0, 128]) (ho10 : k1_off1 i 1280#32 = ![0, 256]) (ho11 : k1_off1 i 1408#32 = ![0, 384])
    (xk : Vec F S6x1024 .f32) (xm : Vec F S1536x128 .f32) (xl : Vec F S1536x128 .f32) (xt : Vec F S1536x128 .f32) :
    { L11 : List (View.Piece (Elt F) S6x1024 .f32) //
      ∀ (E : Set ℕ) (K : PUnit → sProp 𝕄),
        iprop(owns (c : Thread nD τ) arg11 fullShare xk ∗ owns (c : Thread nD τ) arg16 fullShare xm ∗ owns (c : Thread nD τ) arg17 fullShare xl ∗ owns (c : Thread nD τ) arg18 fullShare xt
            ∗ (iprop((arg11.view.loc (c : Thread nD τ) ↦[arg11.view.set]{fullShare} arg11.view.writes (Elt F) (harg11.unread xk) L11) ∗ owns (c : Thread nD τ) arg16 fullShare xm ∗ owns (c : Thread nD τ) arg17 fullShare xl ∗ owns (c : Thread nD τ) arg18 fullShare xt) -∗ K ⟨⟩))
          ⊢ wp frame (wpE (defs₀ (F := F)) Variants.none c none) E (pFin i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    unfold pFin
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
    unfold owns
    iintro ⟨⟨%f11, %hf11, H11⟩, ⟨%f16, %hf16, H16⟩, ⟨%f17, %hf17, H17⟩, ⟨%f18, %hf18, H18⟩, Hk⟩
    obtain rfl := harg11.eq_unread hf11; obtain rfl := harg16.eq_unread hf16; obtain rfl := harg17.eq_unread hf17; obtain rfl := harg18.eq_unread hf18
    letI : ClosedOff (k1_off1 i 0#32) := ⟨![0, 0], ho0⟩
    letI : ClosedOff (k1_off1 i 128#32) := ⟨![0, 128], ho1⟩
    letI : ClosedOff (k1_off1 i 256#32) := ⟨![0, 256], ho2⟩
    letI : ClosedOff (k1_off1 i 384#32) := ⟨![0, 384], ho3⟩
    letI : ClosedOff (k1_off1 i 512#32) := ⟨![0, 512], ho4⟩
    letI : ClosedOff (k1_off1 i 640#32) := ⟨![0, 640], ho5⟩
    letI : ClosedOff (k1_off1 i 768#32) := ⟨![0, 768], ho6⟩
    letI : ClosedOff (k1_off1 i 896#32) := ⟨![0, 896], ho7⟩
    letI : ClosedOff (k1_off1 i 1024#32) := ⟨![0, 0], ho8⟩
    letI : ClosedOff (k1_off1 i 1152#32) := ⟨![0, 128], ho9⟩
    letI : ClosedOff (k1_off1 i 1280#32) := ⟨![0, 256], ho10⟩
    letI : ClosedOff (k1_off1 i 1408#32) := ⟨![0, 384], ho11⟩
    sl_exec (disch := sl_exact hc)
    sl_step
    iapply Hk
    isplitl [H11]; · iexact H11
    isplitl [H16]
    · iexists _; isplitr; · ipureintro; exact harg16.read_unread _
      iexact H16
    isplitl [H17]
    · iexists _; isplitr; · ipureintro; exact harg17.read_unread _
      iexact H17
    iexists _; isplitr; · ipureintro; exact harg18.read_unread _
    iexact H18

set_option maxHeartbeats 2264000 in
/-- What the row of results leaves in the per-token output when the token tile starts at column 512, as the pieces that its stores write. -/
noncomputable def finRun1 (c : Dev nD) (i : grid1.Coords) (arg2 : Memref sig .tc .vmem S1536x7168 .bf16) (harg2 : arg2.IsWhole) (arg3 : Memref sig .tc .vmem S256x7168 .fp8e4m3) (harg3 : arg3.IsWhole) (arg4 : Memref sig .tc .vmem S256x224 .f32) (harg4 : arg4.IsWhole) (arg5 : Memref sig .tc .vmem S1536x1 .i32) (harg5 : arg5.IsWhole) (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole) (arg12 : Memref sig .tc .vmem S1x24 .f32) (harg12 : arg12.IsWhole) (arg13 : Memref sig .tc .vmem S1x12 .f32) (harg13 : arg13.IsWhole) (arg14 : Memref sig .tc .vmem S1x12 .f32) (harg14 : arg14.IsWhole) (arg15 : Memref sig .tc .vmem S256x7168 .bf16) (harg15 : arg15.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) (hc : k1_cond3 i = 1#1)
    (ho0 : k1_off1 i 0#32 = ![0, 512]) (ho1 : k1_off1 i 128#32 = ![0, 640]) (ho2 : k1_off1 i 256#32 = ![0, 768]) (ho3 : k1_off1 i 384#32 = ![0, 896]) (ho4 : k1_off1 i 512#32 = ![0, 0]) (ho5 : k1_off1 i 640#32 = ![0, 128]) (ho6 : k1_off1 i 768#32 = ![0, 256]) (ho7 : k1_off1 i 896#32 = ![0, 384]) (ho8 : k1_off1 i 1024#32 = ![0, 512]) (ho9 : k1_off1 i 1152#32 = ![0, 640]) (ho10 : k1_off1 i 1280#32 = ![0, 768]) (ho11 : k1_off1 i 1408#32 = ![0, 896])
    (xk : Vec F S6x1024 .f32) (xm : Vec F S1536x128 .f32) (xl : Vec F S1536x128 .f32) (xt : Vec F S1536x128 .f32) :
    { L11 : List (View.Piece (Elt F) S6x1024 .f32) //
      ∀ (E : Set ℕ) (K : PUnit → sProp 𝕄),
        iprop(owns (c : Thread nD τ) arg11 fullShare xk ∗ owns (c : Thread nD τ) arg16 fullShare xm ∗ owns (c : Thread nD τ) arg17 fullShare xl ∗ owns (c : Thread nD τ) arg18 fullShare xt
            ∗ (iprop((arg11.view.loc (c : Thread nD τ) ↦[arg11.view.set]{fullShare} arg11.view.writes (Elt F) (harg11.unread xk) L11) ∗ owns (c : Thread nD τ) arg16 fullShare xm ∗ owns (c : Thread nD τ) arg17 fullShare xl ∗ owns (c : Thread nD τ) arg18 fullShare xt) -∗ K ⟨⟩))
          ⊢ wp frame (wpE (defs₀ (F := F)) Variants.none c none) E (pFin i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    unfold pFin
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
    unfold owns
    iintro ⟨⟨%f11, %hf11, H11⟩, ⟨%f16, %hf16, H16⟩, ⟨%f17, %hf17, H17⟩, ⟨%f18, %hf18, H18⟩, Hk⟩
    obtain rfl := harg11.eq_unread hf11; obtain rfl := harg16.eq_unread hf16; obtain rfl := harg17.eq_unread hf17; obtain rfl := harg18.eq_unread hf18
    letI : ClosedOff (k1_off1 i 0#32) := ⟨![0, 512], ho0⟩
    letI : ClosedOff (k1_off1 i 128#32) := ⟨![0, 640], ho1⟩
    letI : ClosedOff (k1_off1 i 256#32) := ⟨![0, 768], ho2⟩
    letI : ClosedOff (k1_off1 i 384#32) := ⟨![0, 896], ho3⟩
    letI : ClosedOff (k1_off1 i 512#32) := ⟨![0, 0], ho4⟩
    letI : ClosedOff (k1_off1 i 640#32) := ⟨![0, 128], ho5⟩
    letI : ClosedOff (k1_off1 i 768#32) := ⟨![0, 256], ho6⟩
    letI : ClosedOff (k1_off1 i 896#32) := ⟨![0, 384], ho7⟩
    letI : ClosedOff (k1_off1 i 1024#32) := ⟨![0, 512], ho8⟩
    letI : ClosedOff (k1_off1 i 1152#32) := ⟨![0, 640], ho9⟩
    letI : ClosedOff (k1_off1 i 1280#32) := ⟨![0, 768], ho10⟩
    letI : ClosedOff (k1_off1 i 1408#32) := ⟨![0, 896], ho11⟩
    sl_exec (disch := sl_exact hc)
    sl_step
    iapply Hk
    isplitl [H11]; · iexact H11
    isplitl [H16]
    · iexists _; isplitr; · ipureintro; exact harg16.read_unread _
      iexact H16
    isplitl [H17]
    · iexists _; isplitr; · ipureintro; exact harg17.read_unread _
      iexact H17
    iexists _; isplitr; · ipureintro; exact harg18.read_unread _
    iexact H18

end Cert.KernelIdeal.Hand

end
-- ==== Proof.RunDpo.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.VecWindow
public import Idealize.ShloMosaic.Lib.Tactic
public import Idealize.ShloMosaic.Lib.WordCmp
public import proofs.«01_k».proof.Proof.Segs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2264000 in
/-- What the loss leaves in the last three outputs, as the pieces that its stores write. -/
noncomputable def dpoRun (c : Dev nD) (i : grid1.Coords) (arg2 : Memref sig .tc .vmem S1536x7168 .bf16) (harg2 : arg2.IsWhole) (arg3 : Memref sig .tc .vmem S256x7168 .fp8e4m3) (harg3 : arg3.IsWhole) (arg4 : Memref sig .tc .vmem S256x224 .f32) (harg4 : arg4.IsWhole) (arg5 : Memref sig .tc .vmem S1536x1 .i32) (harg5 : arg5.IsWhole) (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole) (arg12 : Memref sig .tc .vmem S1x24 .f32) (harg12 : arg12.IsWhole) (arg13 : Memref sig .tc .vmem S1x12 .f32) (harg13 : arg13.IsWhole) (arg14 : Memref sig .tc .vmem S1x12 .f32) (harg14 : arg14.IsWhole) (arg15 : Memref sig .tc .vmem S256x7168 .bf16) (harg15 : arg15.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) (hc : k1_cond4 i = 1#1)
    (x4 : Vec F S6x1024 .i32) (x5 : Vec F S6x1024 .i32) (x6 : Vec F S1x24 .f32) (x7 : Vec F S1x12 .i32) (x8 : Vec F S1x12 .i32) (xk : Vec F S6x1024 .f32) :
    Σ' (L12 : List (View.Piece (Elt F) S1x24 .f32)), Σ' (L13 : List (View.Piece (Elt F) S1x12 .f32)), { L14 : List (View.Piece (Elt F) S1x12 .f32) //
      ∀ (E : Set ℕ) (K : PUnit → sProp 𝕄),
        iprop(owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xk ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xk ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
          ⊢ wp frame (wpE (defs₀ (F := F)) Variants.none c none) E (pDpo i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    unfold pDpo
    simp only [k1_part33_eq_skeleton]
    unfold k1_part33_skel
    simp only [k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton]
    unfold owns
    iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, Hk⟩
    obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := sl_exact hc)
    sl_step
    iapply Hk
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [H13]; · iexists _; iexact H13
    iexists _; iexact H14

end Cert.KernelIdeal.Hand

end
-- ==== Proof.Step.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.VecWindow
public import Idealize.ShloMosaic.Lib.Tactic
public import Idealize.ShloMosaic.Lib.WordCmp
public import proofs.«01_k».proof.Proof.Segs
public import proofs.«01_k».proof.Proof.RunMid
public import proofs.«01_k».proof.Proof.RunFin
public import proofs.«01_k».proof.Proof.RunDpo

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The vocabulary tile is the first one: the running maximum, sum and target start afresh. -/
def cIni (i : grid1.Coords) : Prop := Scalar.cmpi .ne (Scalar.extui (Scalar.cmpi .eq (BitVec.ofNat 32 (i 1).val) 0#32)) 0#32 = 1#1

theorem initT (c : Dev nD) (i : grid1.Coords) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) (hc : cIni i) (E : Set ℕ) (K : PUnit → sProp 𝕄) :
    iprop((∃ d, owns (c : Thread nD τ) arg16 fullShare d) ∗ (∃ d, owns (c : Thread nD τ) arg17 fullShare d) ∗ (∃ d, owns (c : Thread nD τ) arg18 fullShare d) ∗ (iprop(owns (c : Thread nD τ) arg16 fullShare (k1_pay79 (F := F)) ∗ owns (c : Thread nD τ) arg17 fullShare (k1_pay80 (F := F)) ∗ owns (c : Thread nD τ) arg18 fullShare (k1_pay81 (F := F))) -∗ K ⟨⟩))
      ⊢ wp frame (wpE (defs₀ (F := F)) Variants.none c none) E (pInit i arg16 arg17 arg18) K := by
  unfold cIni at hc
  unfold pInit owns
  iintro ⟨⟨%d16, %f16, -, H16⟩, ⟨%d17, %f17, -, H17⟩, ⟨%d18, %f18, -, H18⟩, Hk⟩
  sl_exec (disch := sl_exact hc)
  sl_step
  iapply Hk
  isplitl [H16]
  · iexists _; isplitr
    swap; · iexact H16
    ipureintro; exact View.read_writes_full _ _ _ _ _
  isplitl [H17]
  · iexists _; isplitr
    swap; · iexact H17
    ipureintro; exact View.read_writes_full _ _ _ _ _
  iexists _; isplitr
  swap; · iexact H18
  ipureintro; exact View.read_writes_full _ _ _ _ _

theorem initF (c : Dev nD) (i : grid1.Coords) (arg16 : Memref sig .tc .vmem S1536x128 .f32) (arg17 : Memref sig .tc .vmem S1536x128 .f32) (arg18 : Memref sig .tc .vmem S1536x128 .f32) (hc : ¬ cIni i) (E : Set ℕ) (K : PUnit → sProp 𝕄) :
    K ⟨⟩ ⊢ wp frame (wpE (defs₀ (F := F)) Variants.none c none) E (pInit i arg16 arg17 arg18) K := by
  unfold cIni at hc
  unfold pInit
  iintro Hk
  sl_exec (disch := sl_exact hc)
  sl_step
  iexact Hk

theorem zeroT (c : Dev nD) (i : grid1.Coords) (arg11 : Memref sig .tc .vmem S6x1024 .f32) (harg11 : arg11.IsWhole) (hc : k1_cond2 i = 1#1) (E : Set ℕ) (K : PUnit → sProp 𝕄) :
    iprop((∃ d, owns (c : Thread nD τ) arg11 fullShare d) ∗ (iprop(owns (c : Thread nD τ) arg11 fullShare (k1_pay82 (F := F))) -∗ K ⟨⟩))
      ⊢ wp frame (wpE (defs₀ (F := F)) Variants.none c none) E (pZero i arg11) K := by
  unfold pZero owns
  iintro ⟨⟨%d11, %f11, -, H11⟩, Hk⟩
  sl_exec (disch := sl_exact hc)
  sl_step
  iapply Hk
  iexists _; isplitr
  swap; · iexact H11
  ipureintro; exact View.read_writes_full _ _ _ _ _

theorem zeroF (c : Dev nD) (i : grid1.Coords) (arg11 : Memref sig .tc .vmem S6x1024 .f32) (hc : ¬ k1_cond2 i = 1#1) (E : Set ℕ) (K : PUnit → sProp 𝕄) :
    K ⟨⟩ ⊢ wp frame (wpE (defs₀ (F := F)) Variants.none c none) E (pZero i arg11) K := by
  unfold pZero
  iintro Hk
  sl_exec (disch := sl_exact hc)
  sl_step
  iexact Hk

section Body
variable (c : Dev nD) (i : grid1.Coords) (arg2 : Memref sig .tc .vmem S1536x7168 .bf16) (harg2 : arg2.IsWhole) (arg3 : Memref sig .tc .vmem S256x7168 .fp8e4m3) (harg3 : arg3.IsWhole) (arg4 : Memref sig .tc .vmem S256x224 .f32) (harg4 : arg4.IsWhole) (arg5 : Memref sig .tc .vmem S1536x1 .i32) (harg5 : arg5.IsWhole) (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole) (arg12 : Memref sig .tc .vmem S1x24 .f32) (harg12 : arg12.IsWhole) (arg13 : Memref sig .tc .vmem S1x12 .f32) (harg13 : arg13.IsWhole) (arg14 : Memref sig .tc .vmem S1x12 .f32) (harg14 : arg14.IsWhole) (arg15 : Memref sig .tc .vmem S256x7168 .bf16) (harg15 : arg15.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18

theorem finF (hc : ¬ k1_cond3 i = 1#1) (E : Set ℕ) (K : PUnit → sProp 𝕄) :
    K ⟨⟩ ⊢ wp frame (wpE (defs₀ (F := F)) Variants.none c none) E (pFin i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold pFin
  iintro Hk
  sl_exec (disch := sl_exact hc)
  sl_step
  iexact Hk

theorem dpoF (hc : ¬ k1_cond4 i = 1#1) (E : Set ℕ) (K : PUnit → sProp 𝕄) :
    K ⟨⟩ ⊢ wp frame (wpE (defs₀ (F := F)) Variants.none c none) E (pDpo i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold pDpo
  iintro Hk
  sl_exec (disch := sl_exact hc)
  sl_step
  iexact Hk

/-! ## The update -/

/-- What the update leaves in scratch 1. -/
def midM (x0 : Vec F S1536x7168 .bf16) (x1 : Vec F S256x7168 .fp8e4m3) (x2 : Vec F S256x224 .f32) (x3 : Vec F S1536x1 .i32) (xm : Vec F S1536x128 .f32) (xl : Vec F S1536x128 .f32) (xt : Vec F S1536x128 .f32) : Vec F S1536x128 .f32 :=
  View.canon (midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt).1

theorem midM_cover (x0 : Vec F S1536x7168 .bf16) (x1 : Vec F S256x7168 .fp8e4m3) (x2 : Vec F S256x224 .f32) (x3 : Vec F S1536x1 .i32) (xm : Vec F S1536x128 .f32) (xl : Vec F S1536x128 .f32) (xt : Vec F S1536x128 .f32) (y : S1536x128.Idx) :
    ∃ pc ∈ (midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt).1, y ∈ pc.1.set := by
  unfold midRun
  exact View.cover_of_tiledL (s := S1536x128) _ ![512, 128] (by sl_kernel_rfl) y

/-- What the update leaves in scratch 2. -/
def midL (x0 : Vec F S1536x7168 .bf16) (x1 : Vec F S256x7168 .fp8e4m3) (x2 : Vec F S256x224 .f32) (x3 : Vec F S1536x1 .i32) (xm : Vec F S1536x128 .f32) (xl : Vec F S1536x128 .f32) (xt : Vec F S1536x128 .f32) : Vec F S1536x128 .f32 :=
  View.canon (midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt).2.1

theorem midL_cover (x0 : Vec F S1536x7168 .bf16) (x1 : Vec F S256x7168 .fp8e4m3) (x2 : Vec F S256x224 .f32) (x3 : Vec F S1536x1 .i32) (xm : Vec F S1536x128 .f32) (xl : Vec F S1536x128 .f32) (xt : Vec F S1536x128 .f32) (y : S1536x128.Idx) :
    ∃ pc ∈ (midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt).2.1, y ∈ pc.1.set := by
  unfold midRun
  exact View.cover_of_tiledL (s := S1536x128) _ ![512, 128] (by sl_kernel_rfl) y

/-- What the update leaves in scratch 3. -/
def midT (x0 : Vec F S1536x7168 .bf16) (x1 : Vec F S256x7168 .fp8e4m3) (x2 : Vec F S256x224 .f32) (x3 : Vec F S1536x1 .i32) (xm : Vec F S1536x128 .f32) (xl : Vec F S1536x128 .f32) (xt : Vec F S1536x128 .f32) : Vec F S1536x128 .f32 :=
  View.canon (midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt).2.2.1

theorem midT_cover (x0 : Vec F S1536x7168 .bf16) (x1 : Vec F S256x7168 .fp8e4m3) (x2 : Vec F S256x224 .f32) (x3 : Vec F S1536x1 .i32) (xm : Vec F S1536x128 .f32) (xl : Vec F S1536x128 .f32) (xt : Vec F S1536x128 .f32) (y : S1536x128.Idx) :
    ∃ pc ∈ (midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt).2.2.1, y ∈ pc.1.set := by
  unfold midRun
  exact View.cover_of_tiledL (s := S1536x128) _ ![512, 128] (by sl_kernel_rfl) y

theorem midT' (x0 : Vec F S1536x7168 .bf16) (x1 : Vec F S256x7168 .fp8e4m3) (x2 : Vec F S256x224 .f32) (x3 : Vec F S1536x1 .i32) (xm : Vec F S1536x128 .f32) (xl : Vec F S1536x128 .f32) (xt : Vec F S1536x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg15 fullShare d) ∗ owns (c : Thread nD τ) arg16 fullShare xm ∗ owns (c : Thread nD τ) arg17 fullShare xl ∗ owns (c : Thread nD τ) arg18 fullShare xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg15 fullShare d) ∗ owns (c : Thread nD τ) arg16 fullShare (midM c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt) ∗ owns (c : Thread nD τ) arg17 fullShare (midL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt) ∗ owns (c : Thread nD τ) arg18 fullShare (midT c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt)) -∗ K ⟨⟩))
      ⊢ wp frame (wpE (defs₀ (F := F)) Variants.none c none) E (pMid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H2, H3, H4, H5, H15, H16, H17, H18, Hk⟩
  iapply ((midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt).2.2.2 E K)
  isplitl [H2]; · iexact H2
  isplitl [H3]; · iexact H3
  isplitl [H4]; · iexact H4
  isplitl [H5]; · iexact H5
  isplitl [H15]; · iexact H15
  isplitl [H16]; · iexact H16
  isplitl [H17]; · iexact H17
  isplitl [H18]; · iexact H18
  iintro ⟨H2, H3, H4, H5, ⟨%f15, H15⟩, ⟨%f16, H16⟩, ⟨%f17, H17⟩, ⟨%f18, H18⟩⟩
  iapply Hk
  isplitl [H2]; · iexact H2
  isplitl [H3]; · iexact H3
  isplitl [H4]; · iexact H4
  isplitl [H5]; · iexact H5
  isplitl [H15]
  · iexists _; unfold owns; iexists _; isplitr
    swap; · iexact H15
    ipureintro; rfl
  isplitl [H16]
  · unfold owns
    iexists _; isplitr
    swap; · iexact H16
    ipureintro
    exact View.read_writes_eq_canon _ _ _ (midM_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt)
  isplitl [H17]
  · unfold owns
    iexists _; isplitr
    swap; · iexact H17
    ipureintro
    exact View.read_writes_eq_canon _ _ _ (midL_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt)
  unfold owns
  iexists _; isplitr
  swap; · iexact H18
  ipureintro
  exact View.read_writes_eq_canon _ _ _ (midT_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt)

/-! ## The rows of results -/

/-- The per-token output after a token tile's rows, the tile starting at column 0. -/
def fin0 (hc : k1_cond3 i = 1#1) (ho0 : k1_off1 i 0#32 = ![0, 0]) (ho1 : k1_off1 i 128#32 = ![0, 128]) (ho2 : k1_off1 i 256#32 = ![0, 256]) (ho3 : k1_off1 i 384#32 = ![0, 384]) (ho4 : k1_off1 i 512#32 = ![0, 512]) (ho5 : k1_off1 i 640#32 = ![0, 640]) (ho6 : k1_off1 i 768#32 = ![0, 768]) (ho7 : k1_off1 i 896#32 = ![0, 896]) (ho8 : k1_off1 i 1024#32 = ![0, 0]) (ho9 : k1_off1 i 1152#32 = ![0, 128]) (ho10 : k1_off1 i 1280#32 = ![0, 256]) (ho11 : k1_off1 i 1408#32 = ![0, 384]) (xk : Vec F S6x1024 .f32) (xm : Vec F S1536x128 .f32) (xl : Vec F S1536x128 .f32) (xt : Vec F S1536x128 .f32) : Vec F S6x1024 .f32 :=
  arg11.view.read (Elt F) (arg11.view.writes (Elt F) (harg11.unread xk) (finRun0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc ho0 ho1 ho2 ho3 ho4 ho5 ho6 ho7 ho8 ho9 ho10 ho11 xk xm xl xt).1)

theorem fin0T (hc : k1_cond3 i = 1#1) (ho0 : k1_off1 i 0#32 = ![0, 0]) (ho1 : k1_off1 i 128#32 = ![0, 128]) (ho2 : k1_off1 i 256#32 = ![0, 256]) (ho3 : k1_off1 i 384#32 = ![0, 384]) (ho4 : k1_off1 i 512#32 = ![0, 512]) (ho5 : k1_off1 i 640#32 = ![0, 640]) (ho6 : k1_off1 i 768#32 = ![0, 768]) (ho7 : k1_off1 i 896#32 = ![0, 896]) (ho8 : k1_off1 i 1024#32 = ![0, 0]) (ho9 : k1_off1 i 1152#32 = ![0, 128]) (ho10 : k1_off1 i 1280#32 = ![0, 256]) (ho11 : k1_off1 i 1408#32 = ![0, 384]) (xk : Vec F S6x1024 .f32) (xm : Vec F S1536x128 .f32) (xl : Vec F S1536x128 .f32) (xt : Vec F S1536x128 .f32) (E : Set ℕ) (K : PUnit → sProp 𝕄) :
    iprop(owns (c : Thread nD τ) arg11 fullShare xk ∗ owns (c : Thread nD τ) arg16 fullShare xm ∗ owns (c : Thread nD τ) arg17 fullShare xl ∗ owns (c : Thread nD τ) arg18 fullShare xt
        ∗ (iprop(owns (c : Thread nD τ) arg11 fullShare (fin0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc ho0 ho1 ho2 ho3 ho4 ho5 ho6 ho7 ho8 ho9 ho10 ho11 xk xm xl xt) ∗ owns (c : Thread nD τ) arg16 fullShare xm ∗ owns (c : Thread nD τ) arg17 fullShare xl ∗ owns (c : Thread nD τ) arg18 fullShare xt) -∗ K ⟨⟩))
      ⊢ wp frame (wpE (defs₀ (F := F)) Variants.none c none) E (pFin i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H11, H16, H17, H18, Hk⟩
  iapply ((finRun0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc ho0 ho1 ho2 ho3 ho4 ho5 ho6 ho7 ho8 ho9 ho10 ho11 xk xm xl xt).2 E K)
  isplitl [H11]; · iexact H11
  isplitl [H16]; · iexact H16
  isplitl [H17]; · iexact H17
  isplitl [H18]; · iexact H18
  iintro ⟨H11, H16, H17, H18⟩
  iapply Hk
  isplitl [H11]
  · unfold owns
    iexists _; isplitr
    swap; · iexact H11
    ipureintro; rfl
  isplitl [H16]; · iexact H16
  isplitl [H17]; · iexact H17
  iexact H18

/-- The per-token output after a token tile's rows, the tile starting at column 512. -/
def fin1 (hc : k1_cond3 i = 1#1) (ho0 : k1_off1 i 0#32 = ![0, 512]) (ho1 : k1_off1 i 128#32 = ![0, 640]) (ho2 : k1_off1 i 256#32 = ![0, 768]) (ho3 : k1_off1 i 384#32 = ![0, 896]) (ho4 : k1_off1 i 512#32 = ![0, 0]) (ho5 : k1_off1 i 640#32 = ![0, 128]) (ho6 : k1_off1 i 768#32 = ![0, 256]) (ho7 : k1_off1 i 896#32 = ![0, 384]) (ho8 : k1_off1 i 1024#32 = ![0, 512]) (ho9 : k1_off1 i 1152#32 = ![0, 640]) (ho10 : k1_off1 i 1280#32 = ![0, 768]) (ho11 : k1_off1 i 1408#32 = ![0, 896]) (xk : Vec F S6x1024 .f32) (xm : Vec F S1536x128 .f32) (xl : Vec F S1536x128 .f32) (xt : Vec F S1536x128 .f32) : Vec F S6x1024 .f32 :=
  arg11.view.read (Elt F) (arg11.view.writes (Elt F) (harg11.unread xk) (finRun1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc ho0 ho1 ho2 ho3 ho4 ho5 ho6 ho7 ho8 ho9 ho10 ho11 xk xm xl xt).1)

theorem fin1T (hc : k1_cond3 i = 1#1) (ho0 : k1_off1 i 0#32 = ![0, 512]) (ho1 : k1_off1 i 128#32 = ![0, 640]) (ho2 : k1_off1 i 256#32 = ![0, 768]) (ho3 : k1_off1 i 384#32 = ![0, 896]) (ho4 : k1_off1 i 512#32 = ![0, 0]) (ho5 : k1_off1 i 640#32 = ![0, 128]) (ho6 : k1_off1 i 768#32 = ![0, 256]) (ho7 : k1_off1 i 896#32 = ![0, 384]) (ho8 : k1_off1 i 1024#32 = ![0, 512]) (ho9 : k1_off1 i 1152#32 = ![0, 640]) (ho10 : k1_off1 i 1280#32 = ![0, 768]) (ho11 : k1_off1 i 1408#32 = ![0, 896]) (xk : Vec F S6x1024 .f32) (xm : Vec F S1536x128 .f32) (xl : Vec F S1536x128 .f32) (xt : Vec F S1536x128 .f32) (E : Set ℕ) (K : PUnit → sProp 𝕄) :
    iprop(owns (c : Thread nD τ) arg11 fullShare xk ∗ owns (c : Thread nD τ) arg16 fullShare xm ∗ owns (c : Thread nD τ) arg17 fullShare xl ∗ owns (c : Thread nD τ) arg18 fullShare xt
        ∗ (iprop(owns (c : Thread nD τ) arg11 fullShare (fin1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc ho0 ho1 ho2 ho3 ho4 ho5 ho6 ho7 ho8 ho9 ho10 ho11 xk xm xl xt) ∗ owns (c : Thread nD τ) arg16 fullShare xm ∗ owns (c : Thread nD τ) arg17 fullShare xl ∗ owns (c : Thread nD τ) arg18 fullShare xt) -∗ K ⟨⟩))
      ⊢ wp frame (wpE (defs₀ (F := F)) Variants.none c none) E (pFin i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H11, H16, H17, H18, Hk⟩
  iapply ((finRun1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc ho0 ho1 ho2 ho3 ho4 ho5 ho6 ho7 ho8 ho9 ho10 ho11 xk xm xl xt).2 E K)
  isplitl [H11]; · iexact H11
  isplitl [H16]; · iexact H16
  isplitl [H17]; · iexact H17
  isplitl [H18]; · iexact H18
  iintro ⟨H11, H16, H17, H18⟩
  iapply Hk
  isplitl [H11]
  · unfold owns
    iexists _; isplitr
    swap; · iexact H11
    ipureintro; rfl
  isplitl [H16]; · iexact H16
  isplitl [H17]; · iexact H17
  iexact H18

/-! ## The loss -/

/-- What the loss leaves in output 1. -/
def dpoP (hc : k1_cond4 i = 1#1) (x4 : Vec F S6x1024 .i32) (x5 : Vec F S6x1024 .i32) (x6 : Vec F S1x24 .f32) (x7 : Vec F S1x12 .i32) (x8 : Vec F S1x12 .i32) (xk : Vec F S6x1024 .f32) : Vec F S1x24 .f32 :=
  View.canon (dpoRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk).1

theorem dpoP_cover (hc : k1_cond4 i = 1#1) (x4 : Vec F S6x1024 .i32) (x5 : Vec F S6x1024 .i32) (x6 : Vec F S1x24 .f32) (x7 : Vec F S1x12 .i32) (x8 : Vec F S1x12 .i32) (xk : Vec F S6x1024 .f32) (y : S1x24.Idx) :
    ∃ pc ∈ (dpoRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk).1, y ∈ pc.1.set := by
  unfold dpoRun
  exact View.cover_of_tiledL (s := S1x24) _ S1x24.size (by sl_kernel_rfl) y

/-- What the loss leaves in output 2. -/
def dpoL (hc : k1_cond4 i = 1#1) (x4 : Vec F S6x1024 .i32) (x5 : Vec F S6x1024 .i32) (x6 : Vec F S1x24 .f32) (x7 : Vec F S1x12 .i32) (x8 : Vec F S1x12 .i32) (xk : Vec F S6x1024 .f32) : Vec F S1x12 .f32 :=
  View.canon (dpoRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk).2.1

theorem dpoL_cover (hc : k1_cond4 i = 1#1) (x4 : Vec F S6x1024 .i32) (x5 : Vec F S6x1024 .i32) (x6 : Vec F S1x24 .f32) (x7 : Vec F S1x12 .i32) (x8 : Vec F S1x12 .i32) (xk : Vec F S6x1024 .f32) (y : S1x12.Idx) :
    ∃ pc ∈ (dpoRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk).2.1, y ∈ pc.1.set := by
  unfold dpoRun
  exact View.cover_of_tiledL (s := S1x12) _ S1x12.size (by sl_kernel_rfl) y

/-- What the loss leaves in output 3. -/
def dpoM (hc : k1_cond4 i = 1#1) (x4 : Vec F S6x1024 .i32) (x5 : Vec F S6x1024 .i32) (x6 : Vec F S1x24 .f32) (x7 : Vec F S1x12 .i32) (x8 : Vec F S1x12 .i32) (xk : Vec F S6x1024 .f32) : Vec F S1x12 .f32 :=
  View.canon (dpoRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk).2.2.1

theorem dpoM_cover (hc : k1_cond4 i = 1#1) (x4 : Vec F S6x1024 .i32) (x5 : Vec F S6x1024 .i32) (x6 : Vec F S1x24 .f32) (x7 : Vec F S1x12 .i32) (x8 : Vec F S1x12 .i32) (xk : Vec F S6x1024 .f32) (y : S1x12.Idx) :
    ∃ pc ∈ (dpoRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk).2.2.1, y ∈ pc.1.set := by
  unfold dpoRun
  exact View.cover_of_tiledL (s := S1x12) _ S1x12.size (by sl_kernel_rfl) y

theorem dpoT (hc : k1_cond4 i = 1#1) (x4 : Vec F S6x1024 .i32) (x5 : Vec F S6x1024 .i32) (x6 : Vec F S1x24 .f32) (x7 : Vec F S1x12 .i32) (x8 : Vec F S1x12 .i32) (xk : Vec F S6x1024 .f32) (E : Set ℕ) (K : PUnit → sProp 𝕄) :
    iprop(owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xk ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xk ∗ owns (c : Thread nD τ) arg12 fullShare (dpoP c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk) ∗ owns (c : Thread nD τ) arg13 fullShare (dpoL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk) ∗ owns (c : Thread nD τ) arg14 fullShare (dpoM c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk)) -∗ K ⟨⟩))
      ⊢ wp frame (wpE (defs₀ (F := F)) Variants.none c none) E (pDpo i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H6, H7, H8, H9, H10, H11, H12, H13, H14, Hk⟩
  iapply ((dpoRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk).2.2.2 E K)
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H6, H7, H8, H9, H10, H11, ⟨%f12, H12⟩, ⟨%f13, H13⟩, ⟨%f14, H14⟩⟩
  iapply Hk
  isplitl [H6]; · iexact H6
  isplitl [H7]; · iexact H7
  isplitl [H8]; · iexact H8
  isplitl [H9]; · iexact H9
  isplitl [H10]; · iexact H10
  isplitl [H11]; · iexact H11
  isplitl [H12]
  · unfold owns
    iexists _; isplitr
    swap; · iexact H12
    ipureintro
    exact View.read_writes_eq_canon _ _ _ (dpoP_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk)
  isplitl [H13]
  · unfold owns
    iexists _; isplitr
    swap; · iexact H13
    ipureintro
    exact View.read_writes_eq_canon _ _ _ (dpoL_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk)
  unfold owns
  iexists _; isplitr
  swap; · iexact H14
  ipureintro
  exact View.read_writes_eq_canon _ _ _ (dpoM_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk)

/-! ## The whole body from its parts -/

/-- The body's run from the runs of its five parts: `P1`, `P2`, `P4` are what the conditional parts take of the scratch, the per-token output and the last three outputs. -/
theorem bodyT (x0 : Vec F S1536x7168 .bf16) (x1 : Vec F S256x7168 .fp8e4m3) (x2 : Vec F S256x224 .f32) (x3 : Vec F S1536x1 .i32) (xm : Vec F S1536x128 .f32) (xl : Vec F S1536x128 .f32) (xt : Vec F S1536x128 .f32) (P1 P2 Q2 P4 Q3 R Q4 : sProp 𝕄) (E : Set ℕ) (K : PUnit → sProp 𝕄)
    (h1 : ∀ K : PUnit → sProp 𝕄, iprop(P1 ∗ (iprop(owns (c : Thread nD τ) arg16 fullShare xm ∗ owns (c : Thread nD τ) arg17 fullShare xl ∗ owns (c : Thread nD τ) arg18 fullShare xt) -∗ K ⟨⟩)) ⊢ wp frame (wpE (defs₀ (F := F)) Variants.none c none) E (pInit i arg16 arg17 arg18) K)
    (h2 : ∀ K : PUnit → sProp 𝕄, iprop(P2 ∗ (Q2 -∗ K ⟨⟩)) ⊢ wp frame (wpE (defs₀ (F := F)) Variants.none c none) E (pZero i arg11) K)
    (h3 : ∀ K : PUnit → sProp 𝕄, iprop(Q2 ∗ owns (c : Thread nD τ) arg16 fullShare (midM c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt) ∗ owns (c : Thread nD τ) arg17 fullShare (midL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt) ∗ owns (c : Thread nD τ) arg18 fullShare (midT c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt) ∗ (iprop(Q3 ∗ owns (c : Thread nD τ) arg16 fullShare (midM c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt) ∗ owns (c : Thread nD τ) arg17 fullShare (midL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt) ∗ owns (c : Thread nD τ) arg18 fullShare (midT c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt)) -∗ K ⟨⟩)) ⊢ wp frame (wpE (defs₀ (F := F)) Variants.none c none) E (pFin i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K)
    (h4 : ∀ K : PUnit → sProp 𝕄, iprop(Q3 ∗ R ∗ P4 ∗ (iprop(R ∗ Q4) -∗ K ⟨⟩)) ⊢ wp frame (wpE (defs₀ (F := F)) Variants.none c none) E (pDpo i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K) :
    iprop(P1 ∗ P2 ∗ P4 ∗ R ∗ owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg15 fullShare d)
        ∗ (iprop(owns (c : Thread nD τ) arg16 fullShare (midM c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt) ∗ owns (c : Thread nD τ) arg17 fullShare (midL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt) ∗ owns (c : Thread nD τ) arg18 fullShare (midT c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt) ∗ Q4 ∗ R ∗ owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg15 fullShare d)) -∗ K ⟨⟩))
      ⊢ wp frame (wpE (defs₀ (F := F)) Variants.none c none) E (cc1_lm_head_dpo (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [body_eq]
  simp only [wp_bind]
  iintro ⟨HP1, HP2, HP4, HR, H2, H3, H4, H5, H15, Hk⟩
  iapply (h1 _)
  isplitl [HP1]; · iexact HP1
  iintro ⟨H16, H17, H18⟩
  iapply (h2 _)
  isplitl [HP2]; · iexact HP2
  iintro HQ2
  iapply (midT' c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt E _)
  isplitl [H2]; · iexact H2
  isplitl [H3]; · iexact H3
  isplitl [H4]; · iexact H4
  isplitl [H5]; · iexact H5
  isplitl [H15]; · iexact H15
  isplitl [H16]; · iexact H16
  isplitl [H17]; · iexact H17
  isplitl [H18]; · iexact H18
  iintro ⟨H2, H3, H4, H5, H15, H16, H17, H18⟩
  iapply (h3 _)
  isplitl [HQ2]; · iexact HQ2
  isplitl [H16]; · iexact H16
  isplitl [H17]; · iexact H17
  isplitl [H18]; · iexact H18
  iintro ⟨HQ3, H16, H17, H18⟩
  iapply (h4 _)
  isplitl [HQ3]; · iexact HQ3
  isplitl [HR]; · iexact HR
  isplitl [HP4]; · iexact HP4
  iintro ⟨HR, HQ4⟩
  iapply Hk
  isplitl [H16]; · iexact H16
  isplitl [H17]; · iexact H17
  isplitl [H18]; · iexact H18
  isplitl [HQ4]; · iexact HQ4
  isplitl [HR]; · iexact HR
  isplitl [H2]; · iexact H2
  isplitl [H3]; · iexact H3
  isplitl [H4]; · iexact H4
  isplitl [H5]; · iexact H5
  iexact H15

end Body

end Cert.KernelIdeal.Hand

end
-- ==== Proof.Widen.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

set_option maxHeartbeats 4000000 in
/-- What the body leaves in the output block, as the pieces that its 56 stores write. -/
noncomputable def wRun (c : Dev nD) (i : grid0.Coords) (arg1 : Memref sig .tc .vmem S256x7168 .fp8e4m3) (harg1 : arg1.IsWhole) (arg2 : Memref sig .tc .vmem S256x224 .f32) (harg2 : arg2.IsWhole) (arg3 : Memref sig .tc .vmem S256x7168 .bf16) (harg3 : arg3.IsWhole)
    (x0 : Vec F S256x7168 .fp8e4m3) (x1 : Vec F S256x224 .f32) :
    { L3 : List (View.Piece (Elt F) S256x7168 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3)) -∗ K ⟨⟩))
          ⊢ wp frame (wpE (defs₀ (F := F)) Variants.none c none) E (cc0_widen_h i arg1 harg1 arg2 harg2 arg3 harg3) K } := by
  refine ⟨?_, fun E K => ?run⟩
  case run =>
    simp only [cc0_widen_h_eq_skeleton]; unfold cc0_widen_h_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The widened block that the body leaves. -/
def wOut (c : Dev nD) (i : grid0.Coords) (arg1 : Memref sig .tc .vmem S256x7168 .fp8e4m3) (harg1 : arg1.IsWhole) (arg2 : Memref sig .tc .vmem S256x224 .f32) (harg2 : arg2.IsWhole) (arg3 : Memref sig .tc .vmem S256x7168 .bf16) (harg3 : arg3.IsWhole) (x0 : Vec F S256x7168 .fp8e4m3) (x1 : Vec F S256x224 .f32) : Vec F S256x7168 .bf16 :=
  View.canon (wRun c i arg1 harg1 arg2 harg2 arg3 harg3 x0 x1).1

set_option maxHeartbeats 4000000 in
/-- The stores cover the whole block. -/
theorem wCover (c : Dev nD) (i : grid0.Coords) (arg1 : Memref sig .tc .vmem S256x7168 .fp8e4m3) (harg1 : arg1.IsWhole) (arg2 : Memref sig .tc .vmem S256x224 .f32) (harg2 : arg2.IsWhole) (arg3 : Memref sig .tc .vmem S256x7168 .bf16) (harg3 : arg3.IsWhole) (x0 : Vec F S256x7168 .fp8e4m3) (x1 : Vec F S256x224 .f32) (y : S256x7168.Idx) :
    ∃ pc ∈ (wRun c i arg1 harg1 arg2 harg2 arg3 harg3 x0 x1).1, y ∈ pc.1.set := by
  unfold wRun
  exact View.cover_of_tiledL (s := S256x7168) _ ![256, 128] (by sl_kernel_rfl) y

/-- The body on whole staging memrefs: the inputs stay, the output ends at the widened block. -/
theorem sound_kernel0 (c : Dev nD) (E : Set ℕ) (i : grid0.Coords) (arg1 : Memref sig .tc .vmem S256x7168 .fp8e4m3) (harg1 : arg1.IsWhole) (arg2 : Memref sig .tc .vmem S256x224 .f32) (harg2 : arg2.IsWhole) (arg3 : Memref sig .tc .vmem S256x7168 .bf16) (harg3 : arg3.IsWhole)
    (x0 : Vec F S256x7168 .fp8e4m3) (x1 : Vec F S256x224 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (wOut c i arg1 harg1 arg2 harg2 arg3 harg3 x0 x1)) -∗ K ⟨⟩))
      ⊢ wp frame (wpE (defs₀ (F := F)) Variants.none c none) E (cc0_widen_h i arg1 harg1 arg2 harg2 arg3 harg3) K := by
  iintro ⟨H0, H1, H2, Hk⟩
  iapply ((wRun c i arg1 harg1 arg2 harg2 arg3 harg3 x0 x1).2 E K)
  isplitl [H0]; · iexact H0
  isplitl [H1]; · iexact H1
  isplitl [H2]; · iexact H2
  iintro ⟨H0, H1, %f, H2⟩
  iapply Hk
  isplitl [H0]; · iexact H0
  isplitl [H1]; · iexact H1
  unfold owns
  iexists _; isplitr
  swap; · iexact H2
  ipureintro
  exact View.read_writes_eq_canon _ _ _ (wCover c i arg1 harg1 arg2 harg2 arg3 harg3 x0 x1)

/-- The widened block at a point, from its input blocks. -/
def out0_2 (c : Dev nD) (t : Fin cfg0.N) (x0 : Vec F S256x7168 .fp8e4m3) (x1 : Vec F S256x224 .f32) : Vec F S256x7168 .bf16 :=
  wOut c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) x0 x1

/-! ## The pipeline's proof data -/

/-- The proof data of pipeline 0 on core `c`: the arrays as the region finds them (`V`); after the body at
    point `t` each input's buffer at its block and each output's at `widened block of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 c t (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 c t (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  unfold out0_2
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Hand

end
-- ==== Proof.Tile.lean ====
module

public import proofs.«01_k».proof.Proof.Widen
public import proofs.«01_k».proof.Proof.RunMid
public import Idealize.ShloMosaic.Lib.Pointwise
public import Idealize.ShloMosaic.Lib.Pipeline.FrameBody

@[expose] public section

set_option maxRecDepth 16384

noncomputable section

namespace Cert.KernelIdeal.Hand

open Idealize.ShloMosaic Idealize.ShloMosaic.TcCoe Idealize.SL.Sem
open Cert.KernelIdeal Cert.KernelIdeal.Gen

/-! The codes of one tile of 128 columns times the scales of their 32-column groups, as both kernels store it. -/

/-- One stored tile: codes `x`, the loaded scale columns `s`, the first scale column of the tile at `n` among them. -/
def tileT {F : FTy → Type} [FloatOps F] (n : BitVec 32) (s : Vec F S256x128 .f32) (x : Vec F S256x128 .fp8e4m3) : FVec F S256x128 .bf16 :=
  have w0 : IVec S256x128 32 := addi k0_pay4 (broadcast S256x128 n)
  have w1 : IVec S256x128 32 := select (cmpi .slt w0 (broadcast S256x128 0#32)) (addi w0 (broadcast S256x128 128#32)) w0
  have w2 : IVec S256x128 32 := shapeCast S256x128 (shapeCast S256x128x1 w1 shapeCasts_S256x128_S256x128x1) shapeCasts_S256x128x1_S256x128
  have w3 : FVec F S256x128 .bf16 := truncf .bf16 (dynamicGather 1 (k0_pay2 s) w2) bitsLt_bf16_f32
  mulf (extf .bf16 (shapeCast S256x128 x shapeCasts_S256x128_S256x128) bitsLt_fp8e4m3_bf16) w3

/-- The same as the main kernel writes it, its whole-shape reshape around the product. -/
def tileU {F : FTy → Type} [FloatOps F] (n : BitVec 32) (s : Vec F S256x128 .f32) (x : Vec F S256x128 .fp8e4m3) : FVec F S256x128 .bf16 :=
  have w0 : IVec S256x128 32 := addi k0_pay4 (broadcast S256x128 n)
  have w1 : IVec S256x128 32 := select (cmpi .slt w0 (broadcast S256x128 0#32)) (addi w0 (broadcast S256x128 128#32)) w0
  have w2 : IVec S256x128 32 := shapeCast S256x128 (shapeCast S256x128x1 w1 shapeCasts_S256x128_S256x128x1) shapeCasts_S256x128x1_S256x128
  have w3 : FVec F S256x128 .bf16 := truncf .bf16 (dynamicGather 1 (k1_pay83 s) w2) bitsLt_bf16_f32
  shapeCast S256x128 (mulf (extf .bf16 x bitsLt_fp8e4m3_bf16) w3) shapeCasts_S256x128_S256x128

set_option maxHeartbeats 2000000 in
/-- The lane's group number as the programs compute it. -/
theorem group_apply (r : Fin 256) (l : Fin 128) : k0_pay4 (ix2 r l) = BitVec.ofNat 32 (l.val / 32) := by
  pointwise [k0_pay4]
  revert l
  decide +kernel

theorem gather_apply (s : S256x128.Idx → EReal) (q : IVec S256x128 32) (r : Fin 256) (l k : Fin 128) (h : (q (ix2 r l)).toNat % 128 = k.val) :
    dynamicGather (s := S256x128) 1 s q (ix2 r l) = s (ix2 r k) := by
  unfold dynamicGather
  refine congrArg s (funext fun b => ?_)
  match b with
  | ⟨0, _⟩ => rfl
  | ⟨1, _⟩ => exact Fin.ext h

theorem word_apply (n : ℕ) (hn : n ≤ 124) (r : Fin 256) (l : Fin 128) :
    (shapeCast S256x128 (shapeCast S256x128x1 (select (cmpi .slt (addi k0_pay4 (broadcast S256x128 (BitVec.ofNat 32 n))) (broadcast S256x128 0#32)) (addi (addi k0_pay4 (broadcast S256x128 (BitVec.ofNat 32 n))) (broadcast S256x128 128#32)) (addi k0_pay4 (broadcast S256x128 (BitVec.ofNat 32 n)))) shapeCasts_S256x128_S256x128x1) shapeCasts_S256x128x1_S256x128 (ix2 r l)).toNat % 128
      = l.val / 32 + n := by
  have hg := group_apply r l
  generalize k0_pay4 = q at hg ⊢
  have h1 : ∀ (a : Fin 4) (b : Fin 125), (Scalar.select (IntOp.cmpi .slt (IntOp.addi (BitVec.ofNat 32 a.val) (BitVec.ofNat 32 b.val)) 0#32)
      (IntOp.addi (IntOp.addi (BitVec.ofNat 32 a.val) (BitVec.ofNat 32 b.val)) 128#32) (IntOp.addi (BitVec.ofNat 32 a.val) (BitVec.ofNat 32 b.val))).toNat % 128 = a.val + b.val := by
    decide +kernel
  have h2 := h1 ⟨l.val / 32, by omega⟩ ⟨n, by omega⟩
  pointwise
  rw [hg]
  exact h2

theorem tileT_apply (n : ℕ) (hn : n ≤ 124) (s : Vec Ideal S256x128 .f32) (x : Vec Ideal S256x128 .fp8e4m3) (r : Fin 256) (l : Fin 128) :
    tileT (F := Ideal) (BitVec.ofNat 32 n) s x (ix2 r l) = (x (ix2 r l) * s (ix2 r ⟨l.val / 32 + n, by omega⟩) : EReal) := by
  have h := word_apply n hn r l
  unfold tileT
  generalize (shapeCast S256x128 (shapeCast S256x128x1 (select (cmpi .slt (addi k0_pay4 (broadcast S256x128 (BitVec.ofNat 32 n))) (broadcast S256x128 0#32)) (addi (addi k0_pay4 (broadcast S256x128 (BitVec.ofNat 32 n))) (broadcast S256x128 128#32)) (addi k0_pay4 (broadcast S256x128 (BitVec.ofNat 32 n)))) shapeCasts_S256x128_S256x128x1) shapeCasts_S256x128x1_S256x128) = q at h ⊢
  rw [show k0_pay2 (F := Ideal) s = s from by funext i; pointwise [k0_pay2]]
  have e := gather_apply s q r l ⟨l.val / 32 + n, by omega⟩ h
  rw [← e]
  generalize dynamicGather (s := S256x128) 1 s q = g
  pointwise

theorem tileU_apply (n : ℕ) (hn : n ≤ 124) (s : Vec Ideal S256x128 .f32) (x : Vec Ideal S256x128 .fp8e4m3) (r : Fin 256) (l : Fin 128) :
    tileU (F := Ideal) (BitVec.ofNat 32 n) s x (ix2 r l) = (x (ix2 r l) * s (ix2 r ⟨l.val / 32 + n, by omega⟩) : EReal) := by
  have h := word_apply n hn r l
  unfold tileU
  generalize (shapeCast S256x128 (shapeCast S256x128x1 (select (cmpi .slt (addi k0_pay4 (broadcast S256x128 (BitVec.ofNat 32 n))) (broadcast S256x128 0#32)) (addi (addi k0_pay4 (broadcast S256x128 (BitVec.ofNat 32 n))) (broadcast S256x128 128#32)) (addi k0_pay4 (broadcast S256x128 (BitVec.ofNat 32 n)))) shapeCasts_S256x128_S256x128x1) shapeCasts_S256x128x1_S256x128) = q at h ⊢
  rw [show k1_pay83 (F := Ideal) s = s from by funext i; pointwise [k1_pay83]]
  have e := gather_apply s q r l ⟨l.val / 32 + n, by omega⟩ h
  rw [← e]
  generalize dynamicGather (s := S256x128) 1 s q = g
  pointwise

/-- The 56 stored tiles of a block, last first. -/
def tiles {F : FTy → Type} [FloatOps F] (T : BitVec 32 → Vec F S256x128 .f32 → Vec F S256x128 .fp8e4m3 → FVec F S256x128 .bf16) (arg1 : Memref sig .tc .vmem S256x7168 .fp8e4m3) (harg1 : arg1.IsWhole) (arg2 : Memref sig .tc .vmem S256x224 .f32) (harg2 : arg2.IsWhole) (x0 : Vec F S256x7168 .fp8e4m3) (x1 : Vec F S256x224 .f32) : List (View.Piece (Elt F) S256x7168 .bf16) :=
  [⟨Rect.unit (s := S256x7168) ![0, 7040] S256x128.size inb_S256x7168_S256x128_0_7040, T 124#32 (arg2.view.readAt (Elt F) (Rect.unit (s := S256x224) ![0, 96] S256x128.size inb_S256x224_S256x128_0_96).toLoadRect (harg2.unread x1)) (arg1.view.readAt (Elt F) (Rect.unit (s := S256x7168) ![0, 7040] S256x128.size inb_S256x7168_S256x128_0_7040).toLoadRect (harg1.unread x0))⟩,
   ⟨Rect.unit (s := S256x7168) ![0, 6912] S256x128.size inb_S256x7168_S256x128_0_6912, T 120#32 (arg2.view.readAt (Elt F) (Rect.unit (s := S256x224) ![0, 96] S256x128.size inb_S256x224_S256x128_0_96).toLoadRect (harg2.unread x1)) (arg1.view.readAt (Elt F) (Rect.unit (s := S256x7168) ![0, 6912] S256x128.size inb_S256x7168_S256x128_0_6912).toLoadRect (harg1.unread x0))⟩,
   ⟨Rect.unit (s := S256x7168) ![0, 6784] S256x128.size inb_S256x7168_S256x128_0_6784, T 116#32 (arg2.view.readAt (Elt F) (Rect.unit (s := S256x224) ![0, 96] S256x128.size inb_S256x224_S256x128_0_96).toLoadRect (harg2.unread x1)) (arg1.view.readAt (Elt F) (Rect.unit (s := S256x7168) ![0, 6784] S256x128.size inb_S256x7168_S256x128_0_6784).toLoadRect (harg1.unread x0))⟩,
   ⟨Rect.unit (s := S256x7168) ![0, 6656] S256x128.size inb_S256x7168_S256x128_0_6656, T 112#32 (arg2.view.readAt (Elt F) (Rect.unit (s := S256x224) ![0, 96] S256x128.size inb_S256x224_S256x128_0_96).toLoadRect (harg2.unread x1)) (arg1.view.readAt (Elt F) (Rect.unit (s := S256x7168) ![0, 6656] S256x128.size inb_S256x7168_S256x128_0_6656).toLoadRect (harg1.unread x0))⟩,
   ⟨Rect.unit (s := S256x7168) ![0, 6528] S256x128.size inb_S256x7168_S256x128_0_6528, T 108#32 (arg2.view.readAt (Elt F) (Rect.unit (s := S256x224) ![0, 96] S256x128.size inb_S256x224_S256x128_0_96).toLoadRect (harg2.unread x1)) (arg1.view.readAt (Elt F) (Rect.unit (s := S256x7168) ![0, 6528] S256x128.size inb_S256x7168_S256x128_0_6528).toLoadRect (harg1.unread x0))⟩,
   ⟨Rect.unit (s := S256x7168) ![0, 6400] S256x128.size inb_S256x7168_S256x128_0_6400, T 104#32 (arg2.view.readAt (Elt F) (Rect.unit (s := S256x224) ![0, 96] S256x128.size inb_S256x224_S256x128_0_96).toLoadRect (harg2.unread x1)) (arg1.view.readAt (Elt F) (Rect.unit (s := S256x7168) ![0, 6400] S256x128.size inb_S256x7168_S256x128_0_6400).toLoadRect (harg1.unread x0))⟩,
   ⟨Rect.unit (s := S256x7168) ![0, 6272] S256x128.size inb_S256x7168_S256x128_0_6272, T 100#32 (arg2.view.readAt (Elt F) (Rect.unit (s := S256x224) ![0, 96] S256x128.size inb_S256x224_S256x128_0_96).toLoadRect (harg2.unread x1)) (arg1.view.readAt (Elt F) (Rect.unit (s := S256x7168) ![0, 6272] S256x128.size inb_S256x7168_S256x128_0_6272).toLoadRect (harg1.unread x0))⟩,
   ⟨Rect.unit (s := S256x7168) ![0, 6144] S256x128.size inb_S256x7168_S256x128_0_6144, T 96#32 (arg2.view.readAt (Elt F) (Rect.unit (s := S256x224) ![0, 96] S256x128.size inb_S256x224_S256x128_0_96).toLoadRect (harg2.unread x1)) (arg1.view.readAt (Elt F) (Rect.unit (s := S256x7168) ![0, 6144] S256x128.size inb_S256x7168_S256x128_0_6144).toLoadRect (harg1.unread x0))⟩,
   ⟨Rect.unit (s := S256x7168) ![0, 6016] S256x128.size inb_S256x7168_S256x128_0_6016, T 92#32 (arg2.view.readAt (Elt F) (Rect.unit (s := S256x224) ![0, 96] S256x128.size inb_S256x224_S256x128_0_96).toLoadRect (harg2.unread x1)) (arg1.view.readAt (Elt F) (Rect.unit (s := S256x7168) ![0, 6016] S256x128.size inb_S256x7168_S256x128_0_6016).toLoadRect (harg1.unread x0))⟩,
   ⟨Rect.unit (s := S256x7168) ![0, 5888] S256x128.size inb_S256x7168_S256x128_0_5888, T 88#32 (arg2.view.readAt (Elt F) (Rect.unit (s := S256x224) ![0, 96] S256x128.size inb_S256x224_S256x128_0_96).toLoadRect (harg2.unread x1)) (arg1.view.readAt (Elt F) (Rect.unit (s := S256x7168) ![0, 5888] S256x128.size inb_S256x7168_S256x128_0_5888).toLoadRect (harg1.unread x0))⟩,
   ⟨Rect.unit (s := S256x7168) ![0, 5760] S256x128.size inb_S256x7168_S256x128_0_5760, T 84#32 (arg2.view.readAt (Elt F) (Rect.unit (s := S256x224) ![0, 96] S256x128.size inb_S256x224_S256x128_0_96).toLoadRect (harg2.unread x1)) (arg1.view.readAt (Elt F) (Rect.unit (s := S256x7168) ![0, 5760] S256x128.size inb_S256x7168_S256x128_0_5760).toLoadRect (harg1.unread x0))⟩,
   ⟨Rect.unit (s := S256x7168) ![0, 5632] S256x128.size inb_S256x7168_S256x128_0_5632, T 80#32 (arg2.view.readAt (Elt F) (Rect.unit (s := S256x224) ![0, 96] S256x128.size inb_S256x224_S256x128_0_96).toLoadRect (harg2.unread x1)) (arg1.view.readAt (Elt F) (Rect.unit (s := S256x7168) ![0, 5632] S256x128.size inb_S256x7168_S256x128_0_5632).toLoadRect (harg1.unread x0))⟩,
   ⟨Rect.unit (s := S256x7168) ![0, 5504] S256x128.size inb_S256x7168_S256x128_0_5504, T 76#32 (arg2.view.readAt (Elt F) (Rect.unit (s := S256x224) ![0, 96] S256x128.size inb_S256x224_S256x128_0_96).toLoadRect (harg2.unread x1)) (arg1.view.readAt (Elt F) (Rect.unit (s := S256x7168) ![0, 5504] S256x128.size inb_S256x7168_S256x128_0_5504).toLoadRect (harg1.unread x0))⟩,
   ⟨Rect.unit (s := S256x7168) ![0, 5376] S256x128.size inb_S256x7168_S256x128_0_5376, T 72#32 (arg2.view.readAt (Elt F) (Rect.unit (s := S256x224) ![0, 96] S256x128.size inb_S256x224_S256x128_0_96).toLoadRect (harg2.unread x1)) (arg1.view.readAt (Elt F) (Rect.unit (s := S256x7168) ![0, 5376] S256x128.size inb_S256x7168_S256x128_0_5376).toLoadRect (harg1.unread x0))⟩,
   ⟨Rect.unit (s := S256x7168) ![0, 5248] S256x128.size inb_S256x7168_S256x128_0_5248, T 68#32 (arg2.view.readAt (Elt F) (Rect.unit (s := S256x224) ![0, 96] S256x128.size inb_S256x224_S256x128_0_96).toLoadRect (harg2.unread x1)) (arg1.view.readAt (Elt F) (Rect.unit (s := S256x7168) ![0, 5248] S256x128.size inb_S256x7168_S256x128_0_5248).toLoadRect (harg1.unread x0))⟩,
   ⟨Rect.unit (s := S256x7168) ![0, 5120] S256x128.size inb_S256x7168_S256x128_0_5120, T 64#32 (arg2.view.readAt (Elt F) (Rect.unit (s := S256x224) ![0, 96] S256x128.size inb_S256x224_S256x128_0_96).toLoadRect (harg2.unread x1)) (arg1.view.readAt (Elt F) (Rect.unit (s := S256x7168) ![0, 5120] S256x128.size inb_S256x7168_S256x128_0_5120).toLoadRect (harg1.unread x0))⟩,
   ⟨Rect.unit (s := S256x7168) ![0, 4992] S256x128.size inb_S256x7168_S256x128_0_4992, T 60#32 (arg2.view.readAt (Elt F) (Rect.unit (s := S256x224) ![0, 96] S256x128.size inb_S256x224_S256x128_0_96).toLoadRect (harg2.unread x1)) (arg1.view.readAt (Elt F) (Rect.unit (s := S256x7168) ![0, 4992] S256x128.size inb_S256x7168_S256x128_0_4992).toLoadRect (harg1.unread x0))⟩,
   ⟨Rect.unit (s := S256x7168) ![0, 4864] S256x128.size inb_S256x7168_S256x128_0_4864, T 56#32 (arg2.view.readAt (Elt F) (Rect.unit (s := S256x224) ![0, 96] S256x128.size inb_S256x224_S256x128_0_96).toLoadRect (harg2.unread x1)) (arg1.view.readAt (Elt F) (Rect.unit (s := S256x7168) ![0, 4864] S256x128.size inb_S256x7168_S256x128_0_4864).toLoadRect (harg1.unread x0))⟩,
   ⟨Rect.unit (s := S256x7168) ![0, 4736] S256x128.size inb_S256x7168_S256x128_0_4736, T 52#32 (arg2.view.readAt (Elt F) (Rect.unit (s := S256x224) ![0, 96] S256x128.size inb_S256x224_S256x128_0_96).toLoadRect (harg2.unread x1)) (arg1.view.readAt (Elt F) (Rect.unit (s := S256x7168) ![0, 4736] S256x128.size inb_S256x7168_S256x128_0_4736).toLoadRect (harg1.unread x0))⟩,
   ⟨Rect.unit (s := S256x7168) ![0, 4608] S256x128.size inb_S256x7168_S256x128_0_4608, T 48#32 (arg2.view.readAt (Elt F) (Rect.unit (s := S256x224) ![0, 96] S256x128.size inb_S256x224_S256x128_0_96).toLoadRect (harg2.unread x1)) (arg1.view.readAt (Elt F) (Rect.unit (s := S256x7168) ![0, 4608] S256x128.size inb_S256x7168_S256x128_0_4608).toLoadRect (harg1.unread x0))⟩,
   ⟨Rect.unit (s := S256x7168) ![0, 4480] S256x128.size inb_S256x7168_S256x128_0_4480, T 44#32 (arg2.view.readAt (Elt F) (Rect.unit (s := S256x224) ![0, 96] S256x128.size inb_S256x224_S256x128_0_96).toLoadRect (harg2.unread x1)) (arg1.view.readAt (Elt F) (Rect.unit (s := S256x7168) ![0, 4480] S256x128.size inb_S256x7168_S256x128_0_4480).toLoadRect (harg1.unread x0))⟩,
   ⟨Rect.unit (s := S256x7168) ![0, 4352] S256x128.size inb_S256x7168_S256x128_0_4352, T 40#32 (arg2.view.readAt (Elt F) (Rect.unit (s := S256x224) ![0, 96] S256x128.size inb_S256x224_S256x128_0_96).toLoadRect (harg2.unread x1)) (arg1.view.readAt (Elt F) (Rect.unit (s := S256x7168) ![0, 4352] S256x128.size inb_S256x7168_S256x128_0_4352).toLoadRect (harg1.unread x0))⟩,
   ⟨Rect.unit (s := S256x7168) ![0, 4224] S256x128.size inb_S256x7168_S256x128_0_4224, T 36#32 (arg2.view.readAt (Elt F) (Rect.unit (s := S256x224) ![0, 96] S256x128.size inb_S256x224_S256x128_0_96).toLoadRect (harg2.unread x1)) (arg1.view.readAt (Elt F) (Rect.unit (s := S256x7168) ![0, 4224] S256x128.size inb_S256x7168_S256x128_0_4224).toLoadRect (harg1.unread x0))⟩,
   ⟨Rect.unit (s := S256x7168) ![0, 4096] S256x128.size inb_S256x7168_S256x128_0_4096, T 32#32 (arg2.view.readAt (Elt F) (Rect.unit (s := S256x224) ![0, 96] S256x128.size inb_S256x224_S256x128_0_96).toLoadRect (harg2.unread x1)) (arg1.view.readAt (Elt F) (Rect.unit (s := S256x7168) ![0, 4096] S256x128.size inb_S256x7168_S256x128_0_4096).toLoadRect (harg1.unread x0))⟩,
   ⟨Rect.unit (s := S256x7168) ![0, 3968] S256x128.size inb_S256x7168_S256x128_0_3968, T 124#32 (arg2.view.readAt (Elt F) (Rect.unit (s := S256x224) ![0, 0] S256x128.size inb_S256x224_S256x128_0_0).toLoadRect (harg2.unread x1)) (arg1.view.readAt (Elt F) (Rect.unit (s := S256x7168) ![0, 3968] S256x128.size inb_S256x7168_S256x128_0_3968).toLoadRect (harg1.unread x0))⟩,
   ⟨Rect.unit (s := S256x7168) ![0, 3840] S256x128.size inb_S256x7168_S256x128_0_3840, T 120#32 (arg2.view.readAt (Elt F) (Rect.unit (s := S256x224) ![0, 0] S256x128.size inb_S256x224_S256x128_0_0).toLoadRect (harg2.unread x1)) (arg1.view.readAt (Elt F) (Rect.unit (s := S256x7168) ![0, 3840] S256x128.size inb_S256x7168_S256x128_0_3840).toLoadRect (harg1.unread x0))⟩,
   ⟨Rect.unit (s := S256x7168) ![0, 3712] S256x128.size inb_S256x7168_S256x128_0_3712, T 116#32 (arg2.view.readAt (Elt F) (Rect.unit (s := S256x224) ![0, 0] S256x128.size inb_S256x224_S256x128_0_0).toLoadRect (harg2.unread x1)) (arg1.view.readAt (Elt F) (Rect.unit (s := S256x7168) ![0, 3712] S256x128.size inb_S256x7168_S256x128_0_3712).toLoadRect (harg1.unread x0))⟩,
   ⟨Rect.unit (s := S256x7168) ![0, 3584] S256x128.size inb_S256x7168_S256x128_0_3584, T 112#32 (arg2.view.readAt (Elt F) (Rect.unit (s := S256x224) ![0, 0] S256x128.size inb_S256x224_S256x128_0_0).toLoadRect (harg2.unread x1)) (arg1.view.readAt (Elt F) (Rect.unit (s := S256x7168) ![0, 3584] S256x128.size inb_S256x7168_S256x128_0_3584).toLoadRect (harg1.unread x0))⟩,
   ⟨Rect.unit (s := S256x7168) ![0, 3456] S256x128.size inb_S256x7168_S256x128_0_3456, T 108#32 (arg2.view.readAt (Elt F) (Rect.unit (s := S256x224) ![0, 0] S256x128.size inb_S256x224_S256x128_0_0).toLoadRect (harg2.unread x1)) (arg1.view.readAt (Elt F) (Rect.unit (s := S256x7168) ![0, 3456] S256x128.size inb_S256x7168_S256x128_0_3456).toLoadRect (harg1.unread x0))⟩,
   ⟨Rect.unit (s := S256x7168) ![0, 3328] S256x128.size inb_S256x7168_S256x128_0_3328, T 104#32 (arg2.view.readAt (Elt F) (Rect.unit (s := S256x224) ![0, 0] S256x128.size inb_S256x224_S256x128_0_0).toLoadRect (harg2.unread x1)) (arg1.view.readAt (Elt F) (Rect.unit (s := S256x7168) ![0, 3328] S256x128.size inb_S256x7168_S256x128_0_3328).toLoadRect (harg1.unread x0))⟩,
   ⟨Rect.unit (s := S256x7168) ![0, 3200] S256x128.size inb_S256x7168_S256x128_0_3200, T 100#32 (arg2.view.readAt (Elt F) (Rect.unit (s := S256x224) ![0, 0] S256x128.size inb_S256x224_S256x128_0_0).toLoadRect (harg2.unread x1)) (arg1.view.readAt (Elt F) (Rect.unit (s := S256x7168) ![0, 3200] S256x128.size inb_S256x7168_S256x128_0_3200).toLoadRect (harg1.unread x0))⟩,
   ⟨Rect.unit (s := S256x7168) ![0, 3072] S256x128.size inb_S256x7168_S256x128_0_3072, T 96#32 (arg2.view.readAt (Elt F) (Rect.unit (s := S256x224) ![0, 0] S256x128.size inb_S256x224_S256x128_0_0).toLoadRect (harg2.unread x1)) (arg1.view.readAt (Elt F) (Rect.unit (s := S256x7168) ![0, 3072] S256x128.size inb_S256x7168_S256x128_0_3072).toLoadRect (harg1.unread x0))⟩,
   ⟨Rect.unit (s := S256x7168) ![0, 2944] S256x128.size inb_S256x7168_S256x128_0_2944, T 92#32 (arg2.view.readAt (Elt F) (Rect.unit (s := S256x224) ![0, 0] S256x128.size inb_S256x224_S256x128_0_0).toLoadRect (harg2.unread x1)) (arg1.view.readAt (Elt F) (Rect.unit (s := S256x7168) ![0, 2944] S256x128.size inb_S256x7168_S256x128_0_2944).toLoadRect (harg1.unread x0))⟩,
   ⟨Rect.unit (s := S256x7168) ![0, 2816] S256x128.size inb_S256x7168_S256x128_0_2816, T 88#32 (arg2.view.readAt (Elt F) (Rect.unit (s := S256x224) ![0, 0] S256x128.size inb_S256x224_S256x128_0_0).toLoadRect (harg2.unread x1)) (arg1.view.readAt (Elt F) (Rect.unit (s := S256x7168) ![0, 2816] S256x128.size inb_S256x7168_S256x128_0_2816).toLoadRect (harg1.unread x0))⟩,
   ⟨Rect.unit (s := S256x7168) ![0, 2688] S256x128.size inb_S256x7168_S256x128_0_2688, T 84#32 (arg2.view.readAt (Elt F) (Rect.unit (s := S256x224) ![0, 0] S256x128.size inb_S256x224_S256x128_0_0).toLoadRect (harg2.unread x1)) (arg1.view.readAt (Elt F) (Rect.unit (s := S256x7168) ![0, 2688] S256x128.size inb_S256x7168_S256x128_0_2688).toLoadRect (harg1.unread x0))⟩,
   ⟨Rect.unit (s := S256x7168) ![0, 2560] S256x128.size inb_S256x7168_S256x128_0_2560, T 80#32 (arg2.view.readAt (Elt F) (Rect.unit (s := S256x224) ![0, 0] S256x128.size inb_S256x224_S256x128_0_0).toLoadRect (harg2.unread x1)) (arg1.view.readAt (Elt F) (Rect.unit (s := S256x7168) ![0, 2560] S256x128.size inb_S256x7168_S256x128_0_2560).toLoadRect (harg1.unread x0))⟩,
   ⟨Rect.unit (s := S256x7168) ![0, 2432] S256x128.size inb_S256x7168_S256x128_0_2432, T 76#32 (arg2.view.readAt (Elt F) (Rect.unit (s := S256x224) ![0, 0] S256x128.size inb_S256x224_S256x128_0_0).toLoadRect (harg2.unread x1)) (arg1.view.readAt (Elt F) (Rect.unit (s := S256x7168) ![0, 2432] S256x128.size inb_S256x7168_S256x128_0_2432).toLoadRect (harg1.unread x0))⟩,
   ⟨Rect.unit (s := S256x7168) ![0, 2304] S256x128.size inb_S256x7168_S256x128_0_2304, T 72#32 (arg2.view.readAt (Elt F) (Rect.unit (s := S256x224) ![0, 0] S256x128.size inb_S256x224_S256x128_0_0).toLoadRect (harg2.unread x1)) (arg1.view.readAt (Elt F) (Rect.unit (s := S256x7168) ![0, 2304] S256x128.size inb_S256x7168_S256x128_0_2304).toLoadRect (harg1.unread x0))⟩,
   ⟨Rect.unit (s := S256x7168) ![0, 2176] S256x128.size inb_S256x7168_S256x128_0_2176, T 68#32 (arg2.view.readAt (Elt F) (Rect.unit (s := S256x224) ![0, 0] S256x128.size inb_S256x224_S256x128_0_0).toLoadRect (harg2.unread x1)) (arg1.view.readAt (Elt F) (Rect.unit (s := S256x7168) ![0, 2176] S256x128.size inb_S256x7168_S256x128_0_2176).toLoadRect (harg1.unread x0))⟩,
   ⟨Rect.unit (s := S256x7168) ![0, 2048] S256x128.size inb_S256x7168_S256x128_0_2048, T 64#32 (arg2.view.readAt (Elt F) (Rect.unit (s := S256x224) ![0, 0] S256x128.size inb_S256x224_S256x128_0_0).toLoadRect (harg2.unread x1)) (arg1.view.readAt (Elt F) (Rect.unit (s := S256x7168) ![0, 2048] S256x128.size inb_S256x7168_S256x128_0_2048).toLoadRect (harg1.unread x0))⟩,
   ⟨Rect.unit (s := S256x7168) ![0, 1920] S256x128.size inb_S256x7168_S256x128_0_1920, T 60#32 (arg2.view.readAt (Elt F) (Rect.unit (s := S256x224) ![0, 0] S256x128.size inb_S256x224_S256x128_0_0).toLoadRect (harg2.unread x1)) (arg1.view.readAt (Elt F) (Rect.unit (s := S256x7168) ![0, 1920] S256x128.size inb_S256x7168_S256x128_0_1920).toLoadRect (harg1.unread x0))⟩,
   ⟨Rect.unit (s := S256x7168) ![0, 1792] S256x128.size inb_S256x7168_S256x128_0_1792, T 56#32 (arg2.view.readAt (Elt F) (Rect.unit (s := S256x224) ![0, 0] S256x128.size inb_S256x224_S256x128_0_0).toLoadRect (harg2.unread x1)) (arg1.view.readAt (Elt F) (Rect.unit (s := S256x7168) ![0, 1792] S256x128.size inb_S256x7168_S256x128_0_1792).toLoadRect (harg1.unread x0))⟩,
   ⟨Rect.unit (s := S256x7168) ![0, 1664] S256x128.size inb_S256x7168_S256x128_0_1664, T 52#32 (arg2.view.readAt (Elt F) (Rect.unit (s := S256x224) ![0, 0] S256x128.size inb_S256x224_S256x128_0_0).toLoadRect (harg2.unread x1)) (arg1.view.readAt (Elt F) (Rect.unit (s := S256x7168) ![0, 1664] S256x128.size inb_S256x7168_S256x128_0_1664).toLoadRect (harg1.unread x0))⟩,
   ⟨Rect.unit (s := S256x7168) ![0, 1536] S256x128.size inb_S256x7168_S256x128_0_1536, T 48#32 (arg2.view.readAt (Elt F) (Rect.unit (s := S256x224) ![0, 0] S256x128.size inb_S256x224_S256x128_0_0).toLoadRect (harg2.unread x1)) (arg1.view.readAt (Elt F) (Rect.unit (s := S256x7168) ![0, 1536] S256x128.size inb_S256x7168_S256x128_0_1536).toLoadRect (harg1.unread x0))⟩,
   ⟨Rect.unit (s := S256x7168) ![0, 1408] S256x128.size inb_S256x7168_S256x128_0_1408, T 44#32 (arg2.view.readAt (Elt F) (Rect.unit (s := S256x224) ![0, 0] S256x128.size inb_S256x224_S256x128_0_0).toLoadRect (harg2.unread x1)) (arg1.view.readAt (Elt F) (Rect.unit (s := S256x7168) ![0, 1408] S256x128.size inb_S256x7168_S256x128_0_1408).toLoadRect (harg1.unread x0))⟩,
   ⟨Rect.unit (s := S256x7168) ![0, 1280] S256x128.size inb_S256x7168_S256x128_0_1280, T 40#32 (arg2.view.readAt (Elt F) (Rect.unit (s := S256x224) ![0, 0] S256x128.size inb_S256x224_S256x128_0_0).toLoadRect (harg2.unread x1)) (arg1.view.readAt (Elt F) (Rect.unit (s := S256x7168) ![0, 1280] S256x128.size inb_S256x7168_S256x128_0_1280).toLoadRect (harg1.unread x0))⟩,
   ⟨Rect.unit (s := S256x7168) ![0, 1152] S256x128.size inb_S256x7168_S256x128_0_1152, T 36#32 (arg2.view.readAt (Elt F) (Rect.unit (s := S256x224) ![0, 0] S256x128.size inb_S256x224_S256x128_0_0).toLoadRect (harg2.unread x1)) (arg1.view.readAt (Elt F) (Rect.unit (s := S256x7168) ![0, 1152] S256x128.size inb_S256x7168_S256x128_0_1152).toLoadRect (harg1.unread x0))⟩,
   ⟨Rect.unit (s := S256x7168) ![0, 1024] S256x128.size inb_S256x7168_S256x128_0_1024, T 32#32 (arg2.view.readAt (Elt F) (Rect.unit (s := S256x224) ![0, 0] S256x128.size inb_S256x224_S256x128_0_0).toLoadRect (harg2.unread x1)) (arg1.view.readAt (Elt F) (Rect.unit (s := S256x7168) ![0, 1024] S256x128.size inb_S256x7168_S256x128_0_1024).toLoadRect (harg1.unread x0))⟩,
   ⟨Rect.unit (s := S256x7168) ![0, 896] S256x128.size inb_S256x7168_S256x128_0_896, T 28#32 (arg2.view.readAt (Elt F) (Rect.unit (s := S256x224) ![0, 0] S256x128.size inb_S256x224_S256x128_0_0).toLoadRect (harg2.unread x1)) (arg1.view.readAt (Elt F) (Rect.unit (s := S256x7168) ![0, 896] S256x128.size inb_S256x7168_S256x128_0_896).toLoadRect (harg1.unread x0))⟩,
   ⟨Rect.unit (s := S256x7168) ![0, 768] S256x128.size inb_S256x7168_S256x128_0_768, T 24#32 (arg2.view.readAt (Elt F) (Rect.unit (s := S256x224) ![0, 0] S256x128.size inb_S256x224_S256x128_0_0).toLoadRect (harg2.unread x1)) (arg1.view.readAt (Elt F) (Rect.unit (s := S256x7168) ![0, 768] S256x128.size inb_S256x7168_S256x128_0_768).toLoadRect (harg1.unread x0))⟩,
   ⟨Rect.unit (s := S256x7168) ![0, 640] S256x128.size inb_S256x7168_S256x128_0_640, T 20#32 (arg2.view.readAt (Elt F) (Rect.unit (s := S256x224) ![0, 0] S256x128.size inb_S256x224_S256x128_0_0).toLoadRect (harg2.unread x1)) (arg1.view.readAt (Elt F) (Rect.unit (s := S256x7168) ![0, 640] S256x128.size inb_S256x7168_S256x128_0_640).toLoadRect (harg1.unread x0))⟩,
   ⟨Rect.unit (s := S256x7168) ![0, 512] S256x128.size inb_S256x7168_S256x128_0_512, T 16#32 (arg2.view.readAt (Elt F) (Rect.unit (s := S256x224) ![0, 0] S256x128.size inb_S256x224_S256x128_0_0).toLoadRect (harg2.unread x1)) (arg1.view.readAt (Elt F) (Rect.unit (s := S256x7168) ![0, 512] S256x128.size inb_S256x7168_S256x128_0_512).toLoadRect (harg1.unread x0))⟩,
   ⟨Rect.unit (s := S256x7168) ![0, 384] S256x128.size inb_S256x7168_S256x128_0_384, T 12#32 (arg2.view.readAt (Elt F) (Rect.unit (s := S256x224) ![0, 0] S256x128.size inb_S256x224_S256x128_0_0).toLoadRect (harg2.unread x1)) (arg1.view.readAt (Elt F) (Rect.unit (s := S256x7168) ![0, 384] S256x128.size inb_S256x7168_S256x128_0_384).toLoadRect (harg1.unread x0))⟩,
   ⟨Rect.unit (s := S256x7168) ![0, 256] S256x128.size inb_S256x7168_S256x128_0_256, T 8#32 (arg2.view.readAt (Elt F) (Rect.unit (s := S256x224) ![0, 0] S256x128.size inb_S256x224_S256x128_0_0).toLoadRect (harg2.unread x1)) (arg1.view.readAt (Elt F) (Rect.unit (s := S256x7168) ![0, 256] S256x128.size inb_S256x7168_S256x128_0_256).toLoadRect (harg1.unread x0))⟩,
   ⟨Rect.unit (s := S256x7168) ![0, 128] S256x128.size inb_S256x7168_S256x128_0_128, T 4#32 (arg2.view.readAt (Elt F) (Rect.unit (s := S256x224) ![0, 0] S256x128.size inb_S256x224_S256x128_0_0).toLoadRect (harg2.unread x1)) (arg1.view.readAt (Elt F) (Rect.unit (s := S256x7168) ![0, 128] S256x128.size inb_S256x7168_S256x128_0_128).toLoadRect (harg1.unread x0))⟩,
   ⟨Rect.unit (s := S256x7168) ![0, 0] S256x128.size inb_S256x7168_S256x128_0_0, T 0#32 (arg2.view.readAt (Elt F) (Rect.unit (s := S256x224) ![0, 0] S256x128.size inb_S256x224_S256x128_0_0).toLoadRect (harg2.unread x1)) (arg1.view.readAt (Elt F) (Rect.unit (s := S256x7168) ![0, 0] S256x128.size inb_S256x7168_S256x128_0_0).toLoadRect (harg1.unread x0))⟩]

set_option maxHeartbeats 4000000 in
theorem wRun_tiles {F : FTy → Type} [FloatOps F] (c : Dev nD) (i : grid0.Coords) (arg1 : Memref sig .tc .vmem S256x7168 .fp8e4m3) (harg1 : arg1.IsWhole) (arg2 : Memref sig .tc .vmem S256x224 .f32) (harg2 : arg2.IsWhole) (arg3 : Memref sig .tc .vmem S256x7168 .bf16) (harg3 : arg3.IsWhole) (x0 : Vec F S256x7168 .fp8e4m3) (x1 : Vec F S256x224 .f32) :
    (wRun c i arg1 harg1 arg2 harg2 arg3 harg3 x0 x1).1 = tiles tileT arg1 harg1 arg2 harg2 x0 x1 := rfl

set_option maxHeartbeats 4000000 in
theorem mid_tiles {F : FTy → Type} [FloatOps F] (c : Dev nD) (arg1 : Memref sig .tc .vmem S256x7168 .fp8e4m3) (harg1 : arg1.IsWhole) (arg2 : Memref sig .tc .vmem S256x224 .f32) (harg2 : arg2.IsWhole) (x0 : Vec F S256x7168 .fp8e4m3) (x1 : Vec F S256x224 .f32) :
    midRun.sl.H15_56 c arg1 harg1 arg2 harg2 x0 x1 = tiles tileU arg1 harg1 arg2 harg2 x0 x1 := rfl

/-- A covering list whose pieces all agree with `G` leaves `G`. -/
theorem canon_eq_of_agree {s : Shape} {e : EltTy} {Val : EltTy → Type} [∀ e, Nonempty (Val e)] (G : s.Idx → Val e) (y : s.Idx) :
    ∀ (L : List (View.Piece Val s e)), (∀ p ∈ L, ∀ x, p.2 x = G (p.1.emb x)) → (∃ p ∈ L, y ∈ p.1.set) → View.canon L y = G y
  | [], _, h => by obtain ⟨p, hp, _⟩ := h; cases hp
  | p :: L, ha, h => by
    by_cases hy : y ∈ p.1.set
    · obtain ⟨x, rfl⟩ : ∃ x, p.1.emb x = y := p.1.exists_idx_of_mem hy
      obtain ⟨r, w⟩ := p
      rw [View.canon_cons_emb]
      exact ha _ (List.mem_cons_self ..) x
    · rw [View.canon_cons_of_not_mem p L hy]
      refine canon_eq_of_agree G y L (fun q hq => ha q (List.mem_cons_of_mem _ hq)) ?_
      obtain ⟨q, hq, hyq⟩ := h
      rcases List.mem_cons.mp hq with rfl | hq
      · exact absurd hyq hy
      · exact ⟨q, hq, hyq⟩

/-- The scaled block: each code times the scale of its 32-column group. -/
def scaled (x0 : Vec Ideal S256x7168 .fp8e4m3) (x1 : Vec Ideal S256x224 .f32) : S256x7168.Idx → EReal :=
  fun y => x0 y * x1 (ix2 (y 0) ⟨(y 1).val / 32, by have : (y 1).val < 7168 := (y 1).isLt; omega⟩)

theorem tile_agree (T : BitVec 32 → Vec Ideal S256x128 .f32 → Vec Ideal S256x128 .fp8e4m3 → FVec Ideal S256x128 .bf16) (hT : ∀ (n : ℕ) (hn : n ≤ 124) (s : Vec Ideal S256x128 .f32) (x : Vec Ideal S256x128 .fp8e4m3) (r : Fin 256) (l : Fin 128), T (BitVec.ofNat 32 n) s x (ix2 r l) = (x (ix2 r l) * s (ix2 r ⟨l.val / 32 + n, by omega⟩) : EReal)) (arg1 : Memref sig .tc .vmem S256x7168 .fp8e4m3) (harg1 : arg1.IsWhole) (arg2 : Memref sig .tc .vmem S256x224 .f32) (harg2 : arg2.IsWhole) (x0 : Vec Ideal S256x7168 .fp8e4m3) (x1 : Vec Ideal S256x224 .f32) (o p n : ℕ)
    (hn : n ≤ 124) (ho : o % 32 = 0) (hp : o / 32 = p + n)
    (ho' : ∀ a, (![0, o] : Fin 2 → ℕ) a + S256x128.size a ≤ S256x7168.size a) (hp' : ∀ a, (![0, p] : Fin 2 → ℕ) a + S256x128.size a ≤ S256x224.size a)
    (x : S256x128.Idx) :
    T (BitVec.ofNat 32 n) (arg2.view.readAt (Elt Ideal) (Rect.unit (s := S256x224) ![0, p] S256x128.size hp').toLoadRect (harg2.unread x1))
      (arg1.view.readAt (Elt Ideal) (Rect.unit (s := S256x7168) ![0, o] S256x128.size ho').toLoadRect (harg1.unread x0)) x
      = scaled x0 x1 ((Rect.unit (s := S256x7168) ![0, o] S256x128.size ho').emb x) := by
  have h1 := ho' 1
  have h2 := hp' 1
  obtain ⟨r, l, rfl⟩ : ∃ (r : Fin 256) (l : Fin 128), x = ix2 r l := ⟨x 0, x 1, eq_ix2 x⟩
  rw [hT n hn, View.readAt_eq_ld, View.readAt_eq_ld, harg1.read_unread, harg2.read_unread]
  unfold scaled
  have e1 : (Rect.unit (s := S256x7168) ![0, o] S256x128.size ho').emb (ix2 r l) = ix2 r ⟨o + l.val, by simp at h1; omega⟩ := by
    funext a; apply Fin.ext
    match a with
    | ⟨0, _⟩ => simp [Rect.emb, Rect.unit, ix2]
    | ⟨1, _⟩ => simp [Rect.emb, Rect.unit, ix2]
  have e2 : (Rect.unit (s := S256x224) ![0, p] S256x128.size hp').emb (ix2 r ⟨l.val / 32 + n, by omega⟩) = ix2 r ⟨p + (l.val / 32 + n), by simp at h2; omega⟩ := by
    funext a; apply Fin.ext
    match a with
    | ⟨0, _⟩ => simp [Rect.emb, Rect.unit, ix2]
    | ⟨1, _⟩ => simp [Rect.emb, Rect.unit, ix2]
  show x0 ((Rect.unit (s := S256x7168) ![0, o] S256x128.size ho').emb (ix2 r l)) * x1 ((Rect.unit (s := S256x224) ![0, p] S256x128.size hp').emb (ix2 r _)) = _
  rw [e1, e2]
  refine congrArg (x0 _ * x1 ·) ?_
  refine congrArg (ix2 r ·) (Fin.ext ?_)
  show p + (l.val / 32 + n) = (o + l.val) / 32
  omega

set_option maxHeartbeats 4000000 in
theorem tiles_agree (T : BitVec 32 → Vec Ideal S256x128 .f32 → Vec Ideal S256x128 .fp8e4m3 → FVec Ideal S256x128 .bf16) (hT : ∀ (n : ℕ) (hn : n ≤ 124) (s : Vec Ideal S256x128 .f32) (x : Vec Ideal S256x128 .fp8e4m3) (r : Fin 256) (l : Fin 128), T (BitVec.ofNat 32 n) s x (ix2 r l) = (x (ix2 r l) * s (ix2 r ⟨l.val / 32 + n, by omega⟩) : EReal)) (arg1 : Memref sig .tc .vmem S256x7168 .fp8e4m3) (harg1 : arg1.IsWhole) (arg2 : Memref sig .tc .vmem S256x224 .f32) (harg2 : arg2.IsWhole) (x0 : Vec Ideal S256x7168 .fp8e4m3) (x1 : Vec Ideal S256x224 .f32) :
    ∀ p ∈ tiles (F := Ideal) T arg1 harg1 arg2 harg2 x0 x1, ∀ x, p.2 x = scaled x0 x1 (p.1.emb x) := by
  unfold tiles
  simp only [List.forall_mem_cons]
  refine ⟨tile_agree T hT arg1 harg1 arg2 harg2 x0 x1 7040 96 124 (by decide) (by decide) (by decide) _ _, tile_agree T hT arg1 harg1 arg2 harg2 x0 x1 6912 96 120 (by decide) (by decide) (by decide) _ _, tile_agree T hT arg1 harg1 arg2 harg2 x0 x1 6784 96 116 (by decide) (by decide) (by decide) _ _, tile_agree T hT arg1 harg1 arg2 harg2 x0 x1 6656 96 112 (by decide) (by decide) (by decide) _ _, tile_agree T hT arg1 harg1 arg2 harg2 x0 x1 6528 96 108 (by decide) (by decide) (by decide) _ _, tile_agree T hT arg1 harg1 arg2 harg2 x0 x1 6400 96 104 (by decide) (by decide) (by decide) _ _, tile_agree T hT arg1 harg1 arg2 harg2 x0 x1 6272 96 100 (by decide) (by decide) (by decide) _ _, tile_agree T hT arg1 harg1 arg2 harg2 x0 x1 6144 96 96 (by decide) (by decide) (by decide) _ _, tile_agree T hT arg1 harg1 arg2 harg2 x0 x1 6016 96 92 (by decide) (by decide) (by decide) _ _, tile_agree T hT arg1 harg1 arg2 harg2 x0 x1 5888 96 88 (by decide) (by decide) (by decide) _ _, tile_agree T hT arg1 harg1 arg2 harg2 x0 x1 5760 96 84 (by decide) (by decide) (by decide) _ _, tile_agree T hT arg1 harg1 arg2 harg2 x0 x1 5632 96 80 (by decide) (by decide) (by decide) _ _, tile_agree T hT arg1 harg1 arg2 harg2 x0 x1 5504 96 76 (by decide) (by decide) (by decide) _ _, tile_agree T hT arg1 harg1 arg2 harg2 x0 x1 5376 96 72 (by decide) (by decide) (by decide) _ _, tile_agree T hT arg1 harg1 arg2 harg2 x0 x1 5248 96 68 (by decide) (by decide) (by decide) _ _, tile_agree T hT arg1 harg1 arg2 harg2 x0 x1 5120 96 64 (by decide) (by decide) (by decide) _ _, tile_agree T hT arg1 harg1 arg2 harg2 x0 x1 4992 96 60 (by decide) (by decide) (by decide) _ _, tile_agree T hT arg1 harg1 arg2 harg2 x0 x1 4864 96 56 (by decide) (by decide) (by decide) _ _, tile_agree T hT arg1 harg1 arg2 harg2 x0 x1 4736 96 52 (by decide) (by decide) (by decide) _ _, tile_agree T hT arg1 harg1 arg2 harg2 x0 x1 4608 96 48 (by decide) (by decide) (by decide) _ _, tile_agree T hT arg1 harg1 arg2 harg2 x0 x1 4480 96 44 (by decide) (by decide) (by decide) _ _, tile_agree T hT arg1 harg1 arg2 harg2 x0 x1 4352 96 40 (by decide) (by decide) (by decide) _ _, tile_agree T hT arg1 harg1 arg2 harg2 x0 x1 4224 96 36 (by decide) (by decide) (by decide) _ _, tile_agree T hT arg1 harg1 arg2 harg2 x0 x1 4096 96 32 (by decide) (by decide) (by decide) _ _, tile_agree T hT arg1 harg1 arg2 harg2 x0 x1 3968 0 124 (by decide) (by decide) (by decide) _ _, tile_agree T hT arg1 harg1 arg2 harg2 x0 x1 3840 0 120 (by decide) (by decide) (by decide) _ _, tile_agree T hT arg1 harg1 arg2 harg2 x0 x1 3712 0 116 (by decide) (by decide) (by decide) _ _, tile_agree T hT arg1 harg1 arg2 harg2 x0 x1 3584 0 112 (by decide) (by decide) (by decide) _ _, tile_agree T hT arg1 harg1 arg2 harg2 x0 x1 3456 0 108 (by decide) (by decide) (by decide) _ _, tile_agree T hT arg1 harg1 arg2 harg2 x0 x1 3328 0 104 (by decide) (by decide) (by decide) _ _, tile_agree T hT arg1 harg1 arg2 harg2 x0 x1 3200 0 100 (by decide) (by decide) (by decide) _ _, tile_agree T hT arg1 harg1 arg2 harg2 x0 x1 3072 0 96 (by decide) (by decide) (by decide) _ _, tile_agree T hT arg1 harg1 arg2 harg2 x0 x1 2944 0 92 (by decide) (by decide) (by decide) _ _, tile_agree T hT arg1 harg1 arg2 harg2 x0 x1 2816 0 88 (by decide) (by decide) (by decide) _ _, tile_agree T hT arg1 harg1 arg2 harg2 x0 x1 2688 0 84 (by decide) (by decide) (by decide) _ _, tile_agree T hT arg1 harg1 arg2 harg2 x0 x1 2560 0 80 (by decide) (by decide) (by decide) _ _, tile_agree T hT arg1 harg1 arg2 harg2 x0 x1 2432 0 76 (by decide) (by decide) (by decide) _ _, tile_agree T hT arg1 harg1 arg2 harg2 x0 x1 2304 0 72 (by decide) (by decide) (by decide) _ _, tile_agree T hT arg1 harg1 arg2 harg2 x0 x1 2176 0 68 (by decide) (by decide) (by decide) _ _, tile_agree T hT arg1 harg1 arg2 harg2 x0 x1 2048 0 64 (by decide) (by decide) (by decide) _ _, tile_agree T hT arg1 harg1 arg2 harg2 x0 x1 1920 0 60 (by decide) (by decide) (by decide) _ _, tile_agree T hT arg1 harg1 arg2 harg2 x0 x1 1792 0 56 (by decide) (by decide) (by decide) _ _, tile_agree T hT arg1 harg1 arg2 harg2 x0 x1 1664 0 52 (by decide) (by decide) (by decide) _ _, tile_agree T hT arg1 harg1 arg2 harg2 x0 x1 1536 0 48 (by decide) (by decide) (by decide) _ _, tile_agree T hT arg1 harg1 arg2 harg2 x0 x1 1408 0 44 (by decide) (by decide) (by decide) _ _, tile_agree T hT arg1 harg1 arg2 harg2 x0 x1 1280 0 40 (by decide) (by decide) (by decide) _ _, tile_agree T hT arg1 harg1 arg2 harg2 x0 x1 1152 0 36 (by decide) (by decide) (by decide) _ _, tile_agree T hT arg1 harg1 arg2 harg2 x0 x1 1024 0 32 (by decide) (by decide) (by decide) _ _, tile_agree T hT arg1 harg1 arg2 harg2 x0 x1 896 0 28 (by decide) (by decide) (by decide) _ _, tile_agree T hT arg1 harg1 arg2 harg2 x0 x1 768 0 24 (by decide) (by decide) (by decide) _ _, tile_agree T hT arg1 harg1 arg2 harg2 x0 x1 640 0 20 (by decide) (by decide) (by decide) _ _, tile_agree T hT arg1 harg1 arg2 harg2 x0 x1 512 0 16 (by decide) (by decide) (by decide) _ _, tile_agree T hT arg1 harg1 arg2 harg2 x0 x1 384 0 12 (by decide) (by decide) (by decide) _ _, tile_agree T hT arg1 harg1 arg2 harg2 x0 x1 256 0 8 (by decide) (by decide) (by decide) _ _, tile_agree T hT arg1 harg1 arg2 harg2 x0 x1 128 0 4 (by decide) (by decide) (by decide) _ _, tile_agree T hT arg1 harg1 arg2 harg2 x0 x1 0 0 0 (by decide) (by decide) (by decide) _ _, fun p hp => absurd hp List.not_mem_nil⟩

/-- The first kernel's block is the scaled block; -/
theorem wOut_apply (c : Dev nD) (i : grid0.Coords) (arg1 : Memref sig .tc .vmem S256x7168 .fp8e4m3) (harg1 : arg1.IsWhole) (arg2 : Memref sig .tc .vmem S256x224 .f32) (harg2 : arg2.IsWhole) (arg3 : Memref sig .tc .vmem S256x7168 .bf16) (harg3 : arg3.IsWhole) (x0 : Vec Ideal S256x7168 .fp8e4m3) (x1 : Vec Ideal S256x224 .f32) (y : S256x7168.Idx) :
    wOut (F := Ideal) c i arg1 harg1 arg2 harg2 arg3 harg3 x0 x1 y = scaled x0 x1 y := by
  have hc := wCover (F := Ideal) c i arg1 harg1 arg2 harg2 arg3 harg3 x0 x1 y
  unfold wOut
  rw [wRun_tiles] at hc ⊢
  exact canon_eq_of_agree (scaled x0 x1) y _ (tiles_agree tileT tileT_apply arg1 harg1 arg2 harg2 x0 x1) hc

/-- and so is the weight tile that the main kernel reads back. -/
theorem v993_apply (c : Dev nD) (arg1 : Memref sig .tc .vmem S256x7168 .fp8e4m3) (harg1 : arg1.IsWhole) (arg2 : Memref sig .tc .vmem S256x224 .f32) (harg2 : arg2.IsWhole) (arg15 : Memref sig .tc .vmem S256x7168 .bf16) (x0 : Vec Ideal S256x7168 .fp8e4m3) (x1 : Vec Ideal S256x224 .f32) (v : Fin 256) (k : Fin 7168) :
    midRun.sl.v993 (F := Ideal) c arg1 harg1 arg2 harg2 arg15 x0 x1 (ix2 v k) = scaled x0 x1 (ix2 v k) := by
  have hc := View.cover_of_tiledL (s := S256x7168) (tiles (F := Ideal) tileU arg1 harg1 arg2 harg2 x0 x1) ![256, 128] (by sl_kernel_rfl) (ix2 v k)
  unfold midRun.sl.v993
  rw [mid_tiles, View.readCov_eq_canon']
  have e : (Rect.unit (s := S256x7168) ![0, 0] S256x7168.size inb_S256x7168_S256x7168_0_0).toLoadRect.idx (ix2 v k) = ix2 v k := by
    pointwise
  show View.canon _ ((Rect.unit (s := S256x7168) ![0, 0] S256x7168.size inb_S256x7168_S256x7168_0_0).toLoadRect.idx (ix2 v k)) = _
  rw [e]
  exact canon_eq_of_agree (scaled x0 x1) _ _ (tiles_agree tileU tileU_apply arg1 harg1 arg2 harg2 x0 x1) hc

end Cert.KernelIdeal.Hand

end
-- ==== Proof.Math.lean ====
module

public import Idealize.ShloMosaic.PureOps.Ideal
public import Idealize.ShloMosaic.PureOps.Ideal.Laws

@[expose] public section

noncomputable section

/-! The logarithm of a sum of exponentials on the extended reals, taken at once or by a running maximum
    and a running sum per lane, and the running pick of one entry. -/

namespace Cert.Lse

open Idealize.ShloMosaic

/-- A sum over `a * b` numbers, block by block. -/
theorem sum_blocks (f : ℕ → EReal) (b : ℕ) : ∀ a : ℕ, ∑ v ∈ Finset.range (a * b), f v = ∑ j ∈ Finset.range a, ∑ k ∈ Finset.range b, f (b * j + k)
  | 0 => by simp
  | a + 1 => by
    rw [Nat.succ_mul, Finset.sum_range_add, sum_blocks f b a, Finset.sum_range_succ]
    refine congrArg _ (Finset.sum_congr rfl fun k _ => ?_)
    rw [Nat.mul_comm b a]

theorem exp_nonneg (x : EReal) : 0 ≤ Ideal.exp x := by
  induction x using EReal.rec with
  | bot => simp
  | top => simp
  | coe r => rw [Ideal.exp_coe]; exact_mod_cast (Real.exp_pos r).le

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Moving a term from one shift to a larger one. -/
theorem exp_shift (x m m' : EReal) (h1 : x ≤ m) (h2 : m ≤ m') (hm : m ≠ ⊥) :
    Ideal.exp (x - m) * Ideal.exp (m - m') = Ideal.exp (x - m') := by
  induction m using EReal.rec with
  | bot => exact absurd rfl hm
  | top =>
    obtain rfl : m' = ⊤ := top_le_iff.mp h2
    simp [EReal.sub_top]
  | coe r =>
    induction m' using EReal.rec with
    | bot => exact absurd h2 (by simp)
    | top => simp [EReal.sub_top]
    | coe r' =>
      induction x using EReal.rec with
      | bot => rw [EReal.bot_sub, EReal.bot_sub, Ideal.exp_bot, zero_mul]
      | top => exact absurd h1 (by simp)
      | coe q =>
        rw [← EReal.coe_sub, ← EReal.coe_sub, ← EReal.coe_sub, Ideal.exp_coe, Ideal.exp_coe, Ideal.exp_coe, ← EReal.coe_mul, ← Real.exp_add]
        congr 2; ring

theorem sum_mul_of_nonneg {ι : Type} (s : Finset ι) (f : ι → EReal) (c : EReal) (hf : ∀ i ∈ s, 0 ≤ f i) :
    (∑ i ∈ s, f i) * c = ∑ i ∈ s, f i * c := by
  classical
  induction s using Finset.induction_on with
  | empty => simp
  | insert a s ha ih =>
    rw [Finset.sum_insert ha, Finset.sum_insert ha, EReal.right_distrib_of_nonneg (hf a (Finset.mem_insert_self ..))
      (Finset.sum_nonneg fun i hi => hf i (Finset.mem_insert_of_mem hi)), ih fun i hi => hf i (Finset.mem_insert_of_mem hi)]

/-! ## One lane -/

variable (B : EReal) (x : ℕ → EReal) (l : ℕ)

/-- The lane's running maximum after `n` tiles of two entries; -/
def mx : ℕ → EReal
  | 0 => B
  | n + 1 => max (max (mx n) (x (256 * n + l))) (x (256 * n + (128 + l)))
/-- its running sum; -/
def sm : ℕ → EReal
  | 0 => 0
  | n + 1 => (sm n * Ideal.exp (mx B x l n - mx B x l (n + 1)) + Ideal.exp (x (256 * n + l) - mx B x l (n + 1)))
      + Ideal.exp (x (256 * n + (128 + l)) - mx B x l (n + 1))
/-- its running pick of entry `L`. -/
def tg (L : ℕ) : ℕ → EReal
  | 0 => 0
  | n + 1 => if L = 256 * n + (128 + l) then x (256 * n + (128 + l)) else if L = 256 * n + l then x (256 * n + l) else tg L n

theorem mx_le_succ (n : ℕ) : mx B x l n ≤ mx B x l (n + 1) := le_max_of_le_left (le_max_left _ _)
theorem B_le_mx : ∀ n, B ≤ mx B x l n
  | 0 => le_rfl
  | n + 1 => (B_le_mx n).trans (mx_le_succ B x l n)
theorem le_mx (n j : ℕ) (h : j < n) : x (256 * j + l) ≤ mx B x l n ∧ x (256 * j + (128 + l)) ≤ mx B x l n := by
  induction n with
  | zero => omega
  | succ n ih =>
    rcases Nat.lt_succ_iff_lt_or_eq.mp h with h | rfl
    · exact ⟨(ih h).1.trans (mx_le_succ B x l n), (ih h).2.trans (mx_le_succ B x l n)⟩
    · exact ⟨le_max_of_le_left (le_max_right _ _), le_max_right _ _⟩
theorem mx_le (n : ℕ) (a : EReal) (hB : B ≤ a) (h : ∀ j < n, x (256 * j + l) ≤ a ∧ x (256 * j + (128 + l)) ≤ a) : mx B x l n ≤ a := by
  induction n with
  | zero => exact hB
  | succ n ih =>
    exact max_le (max_le (ih fun j hj => h j (by omega)) (h n (by omega)).1) (h n (by omega)).2

/-- The entries of the lane, summed under the shift `a`. -/
def part (n : ℕ) (a : EReal) : EReal := ∑ j ∈ Finset.range n, (Ideal.exp (x (256 * j + l) - a) + Ideal.exp (x (256 * j + (128 + l)) - a))

theorem part_shift (n : ℕ) (m m' : EReal) (hm : m ≠ ⊥) (hmm : m ≤ m') (h : ∀ j < n, x (256 * j + l) ≤ m ∧ x (256 * j + (128 + l)) ≤ m) :
    part x l n m * Ideal.exp (m - m') = part x l n m' := by
  unfold part
  rw [sum_mul_of_nonneg _ _ _ fun j _ => add_nonneg (exp_nonneg _) (exp_nonneg _)]
  refine Finset.sum_congr rfl fun j hj => ?_
  have hj := h j (Finset.mem_range.mp hj)
  rw [EReal.right_distrib_of_nonneg (exp_nonneg _) (exp_nonneg _), exp_shift _ _ _ hj.1 hmm hm, exp_shift _ _ _ hj.2 hmm hm]

theorem sm_eq (hB : B ≠ ⊥) (n : ℕ) : sm B x l n = part x l n (mx B x l n) := by
  have hne : ∀ n, mx B x l n ≠ ⊥ := fun n h => hB (le_bot_iff.mp (h ▸ B_le_mx B x l n))
  induction n with
  | zero => simp [sm, part]
  | succ n ih =>
    rw [sm, ih, part_shift x l n _ _ (hne n) (mx_le_succ B x l n) fun j hj => le_mx B x l n j hj]
    unfold part
    rw [Finset.sum_range_succ, add_assoc]

theorem tg_eq (L : ℕ) (hl : l < 128) (n : ℕ) : tg x l L n = if L % 128 = l ∧ L < 256 * n then x L else 0 := by
  induction n with
  | zero => simp [tg]
  | succ n ih =>
    rw [tg, ih]
    by_cases h1 : L = 256 * n + (128 + l)
    · rw [if_pos h1, if_pos (by omega), h1]
    · rw [if_neg h1]
      by_cases h2 : L = 256 * n + l
      · rw [if_pos h2, if_pos (by omega), h2]
      · rw [if_neg h2]
        by_cases h3 : L % 128 = l ∧ L < 256 * n
        · rw [if_pos h3, if_pos (by omega)]
        · rw [if_neg h3, if_neg (by omega)]

/-! ## All lanes -/

/-- Maximum, shifted sum and pick of a whole row of `N` entries. -/
def top (N : ℕ) : EReal := (Finset.range N).sup x
def lse (N : ℕ) : EReal := top x N + Ideal.log (∑ v ∈ Finset.range N, Ideal.exp (x v - top x N))
def pick (N L : ℕ) : EReal := ∑ v ∈ Finset.range N, if v = L then x v else 0

/-- The lanes' maximum, the sum of their rescaled sums, and the row's log of the sum as the lanes give it. -/
def laneTop (n : ℕ) : EReal := (Finset.range 128).sup fun l => mx B x l n
def laneLse (n : ℕ) : EReal := laneTop B x n + Ideal.log (∑ l ∈ Finset.range 128, sm B x l n * Ideal.exp (mx B x l n - laneTop B x n))

theorem lane_tile (n v : ℕ) (hv : v < n * 256) : ∃ l < 128, ∃ j < n, v = 256 * j + l ∨ v = 256 * j + (128 + l) :=
  ⟨v % 128, by omega, v / 256, by omega, by omega⟩

theorem laneTop_eq (n : ℕ) : laneTop B x n = max B (top x (n * 256)) := by
  unfold laneTop top
  apply le_antisymm
  · refine Finset.sup_le fun l hl => mx_le B x l n _ (le_max_left _ _) fun j hj => ?_
    have hl := Finset.mem_range.mp hl
    exact ⟨le_max_of_le_right (Finset.le_sup (f := x) (Finset.mem_range.mpr (by omega))),
      le_max_of_le_right (Finset.le_sup (f := x) (Finset.mem_range.mpr (by omega)))⟩
  · refine max_le ((B_le_mx B x 0 n).trans (Finset.le_sup (f := fun l => mx B x l n) (Finset.mem_range.mpr (by omega)))) ?_
    refine Finset.sup_le fun v hv => ?_
    obtain ⟨l, hl, j, hj, h | h⟩ := lane_tile n v (Finset.mem_range.mp hv)
    · exact (h ▸ (le_mx B x l n j hj).1).trans (Finset.le_sup (f := fun l => mx B x l n) (Finset.mem_range.mpr hl))
    · exact (h ▸ (le_mx B x l n j hj).2).trans (Finset.le_sup (f := fun l => mx B x l n) (Finset.mem_range.mpr hl))

theorem sum_lanes (f : ℕ → EReal) (n : ℕ) :
    ∑ l ∈ Finset.range 128, ∑ j ∈ Finset.range n, (f (256 * j + l) + f (256 * j + (128 + l))) = ∑ v ∈ Finset.range (n * 256), f v := by
  rw [sum_blocks, Finset.sum_comm]
  refine Finset.sum_congr rfl fun j _ => ?_
  rw [Finset.sum_add_distrib, show 256 = 128 + 128 from rfl, Finset.sum_range_add]

theorem lane_sum (hB : B ≠ ⊥) (n : ℕ) :
    ∑ l ∈ Finset.range 128, sm B x l n * Ideal.exp (mx B x l n - laneTop B x n) = ∑ v ∈ Finset.range (n * 256), Ideal.exp (x v - laneTop B x n) := by
  rw [← sum_lanes fun v => Ideal.exp (x v - laneTop B x n)]
  refine Finset.sum_congr rfl fun l hl => ?_
  rw [sm_eq B x l hB]
  refine part_shift x l n _ _ (fun h => hB (le_bot_iff.mp (h ▸ B_le_mx B x l n))) (Finset.le_sup (f := fun l => mx B x l n) hl) fun j hj => le_mx B x l n j hj

/-- Under a real shift above no infinite entry, the log of the sum does not depend on the shift. -/
theorem log_sum_shift (N : ℕ) (a b : ℝ) (h : ∀ v < N, x v ≠ ⊤) :
    (a : EReal) + Ideal.log (∑ v ∈ Finset.range N, Ideal.exp (x v - (a : EReal)))
      = (b : EReal) + Ideal.log (∑ v ∈ Finset.range N, Ideal.exp (x v - (b : EReal))) := by
  let g : ℕ → ℝ := fun v => if x v = ⊥ then 0 else Real.exp (x v).toReal
  have hg : ∀ c : ℝ, ∑ v ∈ Finset.range N, Ideal.exp (x v - (c : EReal)) = ((Real.exp (-c) * ∑ v ∈ Finset.range N, g v : ℝ) : EReal) := by
    intro c
    rw [Finset.mul_sum, coe_sum]
    refine Finset.sum_congr rfl fun v hv => ?_
    have hv := h v (Finset.mem_range.mp hv)
    show _ = ((Real.exp (-c) * (if x v = ⊥ then 0 else Real.exp (x v).toReal) : ℝ) : EReal)
    generalize x v = y at hv
    induction y using EReal.rec with
    | bot => simp [EReal.bot_sub]
    | top => exact absurd rfl hv
    | coe r =>
      rw [if_neg (EReal.coe_ne_bot r), EReal.toReal_coe, ← Real.exp_add, ← EReal.coe_sub, Ideal.exp_coe]
      congr 2; ring
  have hpos : 0 ≤ ∑ v ∈ Finset.range N, g v := Finset.sum_nonneg fun v _ => by
    show 0 ≤ if x v = ⊥ then (0 : ℝ) else Real.exp (x v).toReal
    split
    · exact le_rfl
    · exact (Real.exp_pos _).le
  have key : ∀ c : ℝ, (c : EReal) + Ideal.log (∑ v ∈ Finset.range N, Ideal.exp (x v - (c : EReal))) = Ideal.log ((∑ v ∈ Finset.range N, g v : ℝ) : EReal) := by
    intro c
    rw [hg c]
    generalize ∑ v ∈ Finset.range N, g v = G at hpos
    rcases hpos.eq_or_lt with rfl | hG
    · rw [mul_zero, Ideal.log_coe, if_pos le_rfl, EReal.add_bot]
    · rw [Ideal.log_coe, if_neg (not_le.mpr (mul_pos (Real.exp_pos _) hG)), Ideal.log_coe, if_neg (not_le.mpr hG),
        Real.log_mul (Real.exp_pos _).ne' hG.ne', Real.log_exp, ← EReal.coe_add]
      congr 1; ring
  rw [key a, key b]

theorem laneLse_eq (B : ℝ) (n : ℕ) : laneLse (B : EReal) x n = lse x (n * 256) := by
  unfold laneLse lse
  rw [lane_sum (B : EReal) x (EReal.coe_ne_bot B) n, laneTop_eq]
  rcases le_total ((B : ℝ) : EReal) (top x (n * 256)) with h | h
  · rw [max_eq_right h]
  · rw [max_eq_left h]
    have hx : ∀ v < n * 256, x v ≤ top x (n * 256) := fun v hv => Finset.le_sup (f := x) (Finset.mem_range.mpr hv)
    generalize top x (n * 256) = a at h hx
    induction a using EReal.rec with
    | bot =>
      rw [EReal.bot_add, Finset.sum_eq_zero fun v hv => ?_]
      · rw [← EReal.coe_zero, Ideal.log_coe, if_pos le_rfl, EReal.add_bot]
      · rw [le_bot_iff.mp (hx v (Finset.mem_range.mp hv)), EReal.bot_sub, Ideal.exp_bot]
    | top => exact absurd h (by simp)
    | coe r =>
      refine log_sum_shift x (n * 256) B r fun v hv e => ?_
      have := hx v hv
      rw [e] at this
      exact absurd this (by simp)

theorem lane_pick (L n : ℕ) : ∑ l ∈ Finset.range 128, tg x l L n = pick x (n * 256) L := by
  unfold pick
  rw [Finset.sum_congr rfl fun l hl => tg_eq x l L (Finset.mem_range.mp hl) n]
  by_cases h : L < 256 * n
  · rw [Finset.sum_eq_single (L % 128), Finset.sum_eq_single L]
    · rw [if_pos ⟨rfl, h⟩, if_pos rfl]
    · intro v _ hv; rw [if_neg hv]
    · intro hL; exact absurd (Finset.mem_range.mpr (by omega)) hL
    · intro l _ hl; rw [if_neg fun hh => hl hh.1.symm]
    · intro hL; exact absurd (Finset.mem_range.mpr (by omega)) hL
  · rw [Finset.sum_eq_zero fun l _ => if_neg fun hh => h hh.2, Finset.sum_eq_zero fun v hv => if_neg fun hh => ?_]
    have := Finset.mem_range.mp hv
    omega

/-- The row's log-probability of entry `L`. -/
def logp (N L : ℕ) : EReal := pick x N L - lse x N

end Cert.Lse

end
-- ==== Proof.Mid.lean ====
module

public import proofs.«01_k».proof.Proof.Tile
public import proofs.«01_k».proof.Proof.Math
public import proofs.«01_k».proof.Proof.Step

@[expose] public section

set_option maxRecDepth 16384

noncomputable section

namespace Cert.KernelIdeal.Hand

open Idealize.ShloMosaic Idealize.ShloMosaic.TcCoe Idealize.SL.Sem
open Cert.KernelIdeal Cert.KernelIdeal.Gen

/-! One tile of the vocabulary: what the update of maximum, sum and target is at an index. -/

theorem x0_apply (hb : Vec Ideal S512x7168 .bf16) (w : Vec Ideal S256x7168 .bf16) (r : Fin 512) (l : Fin 128) :
    k1_pay187 (F := Ideal) hb w (ix2 r l) = ∑ k : Fin 7168, hb (ix2 r k) * w (ix2 ⟨l.val, by omega⟩ k) := by
  pointwise [k1_pay187, k1_pay185, Ideal.ofBits_zero_f32, zero_add]

theorem x1_apply (hb : Vec Ideal S512x7168 .bf16) (w : Vec Ideal S256x7168 .bf16) (r : Fin 512) (l : Fin 128) :
    k1_pay188 (F := Ideal) hb w (ix2 r l) = ∑ k : Fin 7168, hb (ix2 r k) * w (ix2 ⟨128 + l.val, by omega⟩ k) := by
  pointwise [k1_pay188, k1_pay185, Ideal.ofBits_zero_f32, zero_add]

theorem pay190_apply (a b m : Vec Ideal S512x128 .f32) (r : Fin 512) (l : Fin 128) :
    k1_pay190 (F := Ideal) a b m (ix2 r l) = max (max (m (ix2 r l)) (a (ix2 r l))) (b (ix2 r l)) := by
  pointwise [k1_pay190, k1_pay189]

theorem pay191_apply (a b m s : Vec Ideal S512x128 .f32) (r : Fin 512) (l : Fin 128) :
    k1_pay191 (F := Ideal) a b m s (ix2 r l) = (s (ix2 r l) * Ideal.exp (m (ix2 r l) - max (max (m (ix2 r l)) (a (ix2 r l))) (b (ix2 r l)))
      + Ideal.exp (a (ix2 r l) - max (max (m (ix2 r l)) (a (ix2 r l))) (b (ix2 r l)))) + Ideal.exp (b (ix2 r l) - max (max (m (ix2 r l)) (a (ix2 r l))) (b (ix2 r l))) := by
  pointwise [k1_pay191, k1_pay189]

theorem select_cmp_eq {α : Type} {w : ℕ} (x y : BitVec w) (a b : α) : Scalar.select (IntOp.cmpi .eq x y) a b = if x = y then a else b := by
  rw [WordCmp.cmpi_eq_eq]
  by_cases h : x = y <;> simp [Scalar.select, h]

theorem pay192_apply (lab : Vec Ideal S512x1 .i32) (n : BitVec 32) (a b t : Vec Ideal S512x128 .f32) (r : Fin 512) (l : Fin 128) :
    k1_pay192 (F := Ideal) (k1_pay186 (F := Ideal) lab) n (iota .tc S512x128 32 [1] iota_S512x128_d1_w32) a b t (ix2 r l)
      = if lab (ix2 r 0) - n - 128#32 = BitVec.ofNat 32 l.val then b (ix2 r l) else if lab (ix2 r 0) - n - 0#32 = BitVec.ofNat 32 l.val then a (ix2 r l) else t (ix2 r l) := by
  have h : k1_pay192 (F := Ideal) (k1_pay186 (F := Ideal) lab) n (iota .tc S512x128 32 [1] iota_S512x128_d1_w32) a b t (ix2 r l) = Scalar.select (IntOp.cmpi CmpIPredicate.eq (IntOp.subi (IntOp.subi (lab (ix2 r 0)) n) 128#32) (BitVec.ofNat 32 l.val))
      (b (ix2 r l)) (Scalar.select (IntOp.cmpi CmpIPredicate.eq (IntOp.subi (IntOp.subi (lab (ix2 r 0)) n) 0#32) (BitVec.ofNat 32 l.val)) (a (ix2 r l)) (t (ix2 r l))) := by
    pointwise [k1_pay192, k1_pay186]
  rw [h, select_cmp_eq, select_cmp_eq]
  rfl

/-- The label of a lane, as numbers. -/
theorem label_iff (lab : BitVec 32) (j c l : ℕ) (hj : j < 125) (hc : c ≤ 128) (hl : l < 128) :
    lab - BitVec.ofNat 32 j * 256#32 - BitVec.ofNat 32 c = BitVec.ofNat 32 l ↔ lab.toNat = 256 * j + (c + l) := by
  have hb := lab.isLt
  rw [← BitVec.toNat_inj]
  simp only [BitVec.toNat_sub, BitVec.toNat_mul, BitVec.toNat_ofNat]
  omega

theorem rows_7168 (m : Memref sig .tc .vmem S1536x7168 .bf16) (hm : m.IsWhole) (o : ℕ) (h : ∀ a, (![o, 0] : Fin 2 → ℕ) a + S512x7168.size a ≤ S1536x7168.size a) (x : Vec Ideal S1536x7168 .bf16) (r : Fin 512) (l : Fin 7168) :
    m.view.readAt (Elt Ideal) (Rect.unit (s := S1536x7168) ![o, 0] S512x7168.size h).toLoadRect (hm.unread x) (ix2 r l) = x (ix2 ⟨o + r.val, by have := h 0; simp at this; omega⟩ l) := by
  rw [View.readAt_eq_ld, hm.read_unread]
  refine congrArg x ?_
  funext a; apply Fin.ext
  match a with
  | ⟨0, _⟩ => simp [Rect.emb, Rect.unit, ix2]
  | ⟨1, _⟩ => simp [Rect.emb, Rect.unit, ix2]

theorem rows_128 (m : Memref sig .tc .vmem S1536x128 .f32) (hm : m.IsWhole) (o : ℕ) (h : ∀ a, (![o, 0] : Fin 2 → ℕ) a + S512x128.size a ≤ S1536x128.size a) (x : Vec Ideal S1536x128 .f32) (r : Fin 512) (l : Fin 128) :
    m.view.readAt (Elt Ideal) (Rect.unit (s := S1536x128) ![o, 0] S512x128.size h).toLoadRect (hm.unread x) (ix2 r l) = x (ix2 ⟨o + r.val, by have := h 0; simp at this; omega⟩ l) := by
  rw [View.readAt_eq_ld, hm.read_unread]
  refine congrArg x ?_
  funext a; apply Fin.ext
  match a with
  | ⟨0, _⟩ => simp [Rect.emb, Rect.unit, ix2]
  | ⟨1, _⟩ => simp [Rect.emb, Rect.unit, ix2]

theorem rows_1 (m : Memref sig .tc .vmem S1536x1 .i32) (hm : m.IsWhole) (o : ℕ) (h : ∀ a, (![o, 0] : Fin 2 → ℕ) a + S512x1.size a ≤ S1536x1.size a) (x : Vec Ideal S1536x1 .i32) (r : Fin 512) (l : Fin 1) :
    m.view.readAt (Elt Ideal) (Rect.unit (s := S1536x1) ![o, 0] S512x1.size h).toLoadRect (hm.unread x) (ix2 r l) = x (ix2 ⟨o + r.val, by have := h 0; simp at this; omega⟩ l) := by
  rw [View.readAt_eq_ld, hm.read_unread]
  refine congrArg x ?_
  funext a; apply Fin.ext
  match a with
  | ⟨0, _⟩ => simp [Rect.emb, Rect.unit, ix2]
  | ⟨1, _⟩ => simp [Rect.emb, Rect.unit, ix2]

theorem emb_rows (o : ℕ) (h : ∀ a, (![o, 0] : Fin 2 → ℕ) a + S512x128.size a ≤ S1536x128.size a) (r : Fin 512) (l : Fin 128) :
    (Rect.unit (s := S1536x128) ![o, 0] S512x128.size h).emb (ix2 r l) = ix2 ⟨o + r.val, by have := h 0; simp at this; omega⟩ l := by
  funext a; apply Fin.ext
  match a with
  | ⟨0, _⟩ => simp [Rect.emb, Rect.unit, ix2]
  | ⟨1, _⟩ => simp [Rect.emb, Rect.unit, ix2]

/-- The logit of row `r` against row `v` of the tile. -/
def lgt (x0 : Vec Ideal S1536x7168 .bf16) (w : Vec Ideal S256x7168 .bf16) (r : Fin 1536) (v : Fin 256) : EReal := ∑ k : Fin 7168, x0 (ix2 r k) * w (ix2 v k)

def xA (x0 : Vec Ideal S1536x7168 .bf16) (w : Vec Ideal S256x7168 .bf16) (y : S1536x128.Idx) : EReal := lgt x0 w (y 0) ⟨(y 1).val, by have := (y 1).isLt; simp at this; omega⟩
def xB (x0 : Vec Ideal S1536x7168 .bf16) (w : Vec Ideal S256x7168 .bf16) (y : S1536x128.Idx) : EReal := lgt x0 w (y 0) ⟨128 + (y 1).val, by have := (y 1).isLt; simp at this; omega⟩
def newM (x0 : Vec Ideal S1536x7168 .bf16) (w : Vec Ideal S256x7168 .bf16) (xm : Vec Ideal S1536x128 .f32) (y : S1536x128.Idx) : EReal := max (max (xm y) (xA x0 w y)) (xB x0 w y)
def newL (x0 : Vec Ideal S1536x7168 .bf16) (w : Vec Ideal S256x7168 .bf16) (xm xl : Vec Ideal S1536x128 .f32) (y : S1536x128.Idx) : EReal :=
  (xl y * Ideal.exp (xm y - newM x0 w xm y) + Ideal.exp (xA x0 w y - newM x0 w xm y)) + Ideal.exp (xB x0 w y - newM x0 w xm y)
def newT (n : BitVec 32) (x0 : Vec Ideal S1536x7168 .bf16) (w : Vec Ideal S256x7168 .bf16) (x3 : Vec Ideal S1536x1 .i32) (xt : Vec Ideal S1536x128 .f32) (y : S1536x128.Idx) : EReal :=
  if x3 (ix2 (y 0) 0) - n - 128#32 = BitVec.ofNat 32 (y 1).val then xB x0 w y else if x3 (ix2 (y 0) 0) - n - 0#32 = BitVec.ofNat 32 (y 1).val then xA x0 w y else xt y

theorem xA_blk (arg2 : Memref sig .tc .vmem S1536x7168 .bf16) (harg2 : arg2.IsWhole) (o : ℕ) (h7 : ∀ a, (![o, 0] : Fin 2 → ℕ) a + S512x7168.size a ≤ S1536x7168.size a) (x0 : Vec Ideal S1536x7168 .bf16) (w : Vec Ideal S256x7168 .bf16) (r : Fin 512) (l : Fin 128) :
    k1_pay187 (F := Ideal) (arg2.view.readAt (Elt Ideal) (Rect.unit (s := S1536x7168) ![o, 0] S512x7168.size h7).toLoadRect (harg2.unread x0)) w (ix2 r l) = xA x0 w (ix2 ⟨o + r.val, by have := h7 0; simp at this; omega⟩ l) := by
  rw [x0_apply]
  exact Finset.sum_congr rfl fun k _ => congrArg (· * w (ix2 _ k)) (rows_7168 arg2 harg2 o h7 x0 r k)

theorem xB_blk (arg2 : Memref sig .tc .vmem S1536x7168 .bf16) (harg2 : arg2.IsWhole) (o : ℕ) (h7 : ∀ a, (![o, 0] : Fin 2 → ℕ) a + S512x7168.size a ≤ S1536x7168.size a) (x0 : Vec Ideal S1536x7168 .bf16) (w : Vec Ideal S256x7168 .bf16) (r : Fin 512) (l : Fin 128) :
    k1_pay188 (F := Ideal) (arg2.view.readAt (Elt Ideal) (Rect.unit (s := S1536x7168) ![o, 0] S512x7168.size h7).toLoadRect (harg2.unread x0)) w (ix2 r l) = xB x0 w (ix2 ⟨o + r.val, by have := h7 0; simp at this; omega⟩ l) := by
  rw [x1_apply]
  exact Finset.sum_congr rfl fun k _ => congrArg (· * w (ix2 _ k)) (rows_7168 arg2 harg2 o h7 x0 r k)

def pieceM (n : BitVec 32) (o : ℕ) (h7 : ∀ a, (![o, 0] : Fin 2 → ℕ) a + S512x7168.size a ≤ S1536x7168.size a) (h1 : ∀ a, (![o, 0] : Fin 2 → ℕ) a + S512x1.size a ≤ S1536x1.size a) (h : ∀ a, (![o, 0] : Fin 2 → ℕ) a + S512x128.size a ≤ S1536x128.size a) (arg2 : Memref sig .tc .vmem S1536x7168 .bf16) (harg2 : arg2.IsWhole) (arg5 : Memref sig .tc .vmem S1536x1 .i32) (harg5 : arg5.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) (x0 : Vec Ideal S1536x7168 .bf16) (w : Vec Ideal S256x7168 .bf16) (x3 : Vec Ideal S1536x1 .i32) (xm xl xt : Vec Ideal S1536x128 .f32) : View.Piece (Elt Ideal) S1536x128 .f32 :=
  ⟨Rect.unit (s := S1536x128) ![o, 0] S512x128.size h, k1_pay190 (F := Ideal) (k1_pay187 (F := Ideal) (arg2.view.readAt (Elt Ideal) (Rect.unit (s := S1536x7168) ![o, 0] S512x7168.size h7).toLoadRect (harg2.unread x0)) w) (k1_pay188 (F := Ideal) (arg2.view.readAt (Elt Ideal) (Rect.unit (s := S1536x7168) ![o, 0] S512x7168.size h7).toLoadRect (harg2.unread x0)) w) (arg16.view.readAt (Elt Ideal) (Rect.unit (s := S1536x128) ![o, 0] S512x128.size h).toLoadRect (harg16.unread xm))⟩

theorem pieceM_agree (n : BitVec 32) (o : ℕ) (h7 : ∀ a, (![o, 0] : Fin 2 → ℕ) a + S512x7168.size a ≤ S1536x7168.size a) (h1 : ∀ a, (![o, 0] : Fin 2 → ℕ) a + S512x1.size a ≤ S1536x1.size a) (h : ∀ a, (![o, 0] : Fin 2 → ℕ) a + S512x128.size a ≤ S1536x128.size a) (arg2 : Memref sig .tc .vmem S1536x7168 .bf16) (harg2 : arg2.IsWhole) (arg5 : Memref sig .tc .vmem S1536x1 .i32) (harg5 : arg5.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) (x0 : Vec Ideal S1536x7168 .bf16) (w : Vec Ideal S256x7168 .bf16) (x3 : Vec Ideal S1536x1 .i32) (xm xl xt : Vec Ideal S1536x128 .f32) (x : S512x128.Idx) :
    (pieceM n o h7 h1 h arg2 harg2 arg5 harg5 arg16 harg16 arg17 harg17 arg18 harg18 x0 w x3 xm xl xt).2 x = (newM x0 w xm) ((pieceM n o h7 h1 h arg2 harg2 arg5 harg5 arg16 harg16 arg17 harg17 arg18 harg18 x0 w x3 xm xl xt).1.emb x) := by
  obtain ⟨r, l, rfl⟩ : ∃ (r : Fin 512) (l : Fin 128), x = ix2 r l := ⟨x 0, x 1, eq_ix2 x⟩
  have e := emb_rows o h r l
  show (k1_pay190 (F := Ideal) (k1_pay187 (F := Ideal) (arg2.view.readAt (Elt Ideal) (Rect.unit (s := S1536x7168) ![o, 0] S512x7168.size h7).toLoadRect (harg2.unread x0)) w) (k1_pay188 (F := Ideal) (arg2.view.readAt (Elt Ideal) (Rect.unit (s := S1536x7168) ![o, 0] S512x7168.size h7).toLoadRect (harg2.unread x0)) w) (arg16.view.readAt (Elt Ideal) (Rect.unit (s := S1536x128) ![o, 0] S512x128.size h).toLoadRect (harg16.unread xm))) (ix2 r l) = (newM x0 w xm) ((Rect.unit (s := S1536x128) ![o, 0] S512x128.size h).emb (ix2 r l))
  rw [e]
  rw [pay190_apply, xA_blk, xB_blk, rows_128]
  rfl

def pieceL (n : BitVec 32) (o : ℕ) (h7 : ∀ a, (![o, 0] : Fin 2 → ℕ) a + S512x7168.size a ≤ S1536x7168.size a) (h1 : ∀ a, (![o, 0] : Fin 2 → ℕ) a + S512x1.size a ≤ S1536x1.size a) (h : ∀ a, (![o, 0] : Fin 2 → ℕ) a + S512x128.size a ≤ S1536x128.size a) (arg2 : Memref sig .tc .vmem S1536x7168 .bf16) (harg2 : arg2.IsWhole) (arg5 : Memref sig .tc .vmem S1536x1 .i32) (harg5 : arg5.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) (x0 : Vec Ideal S1536x7168 .bf16) (w : Vec Ideal S256x7168 .bf16) (x3 : Vec Ideal S1536x1 .i32) (xm xl xt : Vec Ideal S1536x128 .f32) : View.Piece (Elt Ideal) S1536x128 .f32 :=
  ⟨Rect.unit (s := S1536x128) ![o, 0] S512x128.size h, k1_pay191 (F := Ideal) (k1_pay187 (F := Ideal) (arg2.view.readAt (Elt Ideal) (Rect.unit (s := S1536x7168) ![o, 0] S512x7168.size h7).toLoadRect (harg2.unread x0)) w) (k1_pay188 (F := Ideal) (arg2.view.readAt (Elt Ideal) (Rect.unit (s := S1536x7168) ![o, 0] S512x7168.size h7).toLoadRect (harg2.unread x0)) w) (arg16.view.readAt (Elt Ideal) (Rect.unit (s := S1536x128) ![o, 0] S512x128.size h).toLoadRect (harg16.unread xm)) (arg17.view.readAt (Elt Ideal) (Rect.unit (s := S1536x128) ![o, 0] S512x128.size h).toLoadRect (harg17.unread xl))⟩

theorem pieceL_agree (n : BitVec 32) (o : ℕ) (h7 : ∀ a, (![o, 0] : Fin 2 → ℕ) a + S512x7168.size a ≤ S1536x7168.size a) (h1 : ∀ a, (![o, 0] : Fin 2 → ℕ) a + S512x1.size a ≤ S1536x1.size a) (h : ∀ a, (![o, 0] : Fin 2 → ℕ) a + S512x128.size a ≤ S1536x128.size a) (arg2 : Memref sig .tc .vmem S1536x7168 .bf16) (harg2 : arg2.IsWhole) (arg5 : Memref sig .tc .vmem S1536x1 .i32) (harg5 : arg5.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) (x0 : Vec Ideal S1536x7168 .bf16) (w : Vec Ideal S256x7168 .bf16) (x3 : Vec Ideal S1536x1 .i32) (xm xl xt : Vec Ideal S1536x128 .f32) (x : S512x128.Idx) :
    (pieceL n o h7 h1 h arg2 harg2 arg5 harg5 arg16 harg16 arg17 harg17 arg18 harg18 x0 w x3 xm xl xt).2 x = (newL x0 w xm xl) ((pieceL n o h7 h1 h arg2 harg2 arg5 harg5 arg16 harg16 arg17 harg17 arg18 harg18 x0 w x3 xm xl xt).1.emb x) := by
  obtain ⟨r, l, rfl⟩ : ∃ (r : Fin 512) (l : Fin 128), x = ix2 r l := ⟨x 0, x 1, eq_ix2 x⟩
  have e := emb_rows o h r l
  show (k1_pay191 (F := Ideal) (k1_pay187 (F := Ideal) (arg2.view.readAt (Elt Ideal) (Rect.unit (s := S1536x7168) ![o, 0] S512x7168.size h7).toLoadRect (harg2.unread x0)) w) (k1_pay188 (F := Ideal) (arg2.view.readAt (Elt Ideal) (Rect.unit (s := S1536x7168) ![o, 0] S512x7168.size h7).toLoadRect (harg2.unread x0)) w) (arg16.view.readAt (Elt Ideal) (Rect.unit (s := S1536x128) ![o, 0] S512x128.size h).toLoadRect (harg16.unread xm)) (arg17.view.readAt (Elt Ideal) (Rect.unit (s := S1536x128) ![o, 0] S512x128.size h).toLoadRect (harg17.unread xl))) (ix2 r l) = (newL x0 w xm xl) ((Rect.unit (s := S1536x128) ![o, 0] S512x128.size h).emb (ix2 r l))
  rw [e]
  rw [pay191_apply, xA_blk, xB_blk, rows_128, rows_128]
  rfl

def pieceT (n : BitVec 32) (o : ℕ) (h7 : ∀ a, (![o, 0] : Fin 2 → ℕ) a + S512x7168.size a ≤ S1536x7168.size a) (h1 : ∀ a, (![o, 0] : Fin 2 → ℕ) a + S512x1.size a ≤ S1536x1.size a) (h : ∀ a, (![o, 0] : Fin 2 → ℕ) a + S512x128.size a ≤ S1536x128.size a) (arg2 : Memref sig .tc .vmem S1536x7168 .bf16) (harg2 : arg2.IsWhole) (arg5 : Memref sig .tc .vmem S1536x1 .i32) (harg5 : arg5.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) (x0 : Vec Ideal S1536x7168 .bf16) (w : Vec Ideal S256x7168 .bf16) (x3 : Vec Ideal S1536x1 .i32) (xm xl xt : Vec Ideal S1536x128 .f32) : View.Piece (Elt Ideal) S1536x128 .f32 :=
  ⟨Rect.unit (s := S1536x128) ![o, 0] S512x128.size h, k1_pay192 (F := Ideal) (k1_pay186 (F := Ideal) (arg5.view.readAt (Elt Ideal) (Rect.unit (s := S1536x1) ![o, 0] S512x1.size h1).toLoadRect (harg5.unread x3))) n (iota .tc S512x128 32 [1] iota_S512x128_d1_w32) (k1_pay187 (F := Ideal) (arg2.view.readAt (Elt Ideal) (Rect.unit (s := S1536x7168) ![o, 0] S512x7168.size h7).toLoadRect (harg2.unread x0)) w) (k1_pay188 (F := Ideal) (arg2.view.readAt (Elt Ideal) (Rect.unit (s := S1536x7168) ![o, 0] S512x7168.size h7).toLoadRect (harg2.unread x0)) w) (arg18.view.readAt (Elt Ideal) (Rect.unit (s := S1536x128) ![o, 0] S512x128.size h).toLoadRect (harg18.unread xt))⟩

theorem pieceT_agree (n : BitVec 32) (o : ℕ) (h7 : ∀ a, (![o, 0] : Fin 2 → ℕ) a + S512x7168.size a ≤ S1536x7168.size a) (h1 : ∀ a, (![o, 0] : Fin 2 → ℕ) a + S512x1.size a ≤ S1536x1.size a) (h : ∀ a, (![o, 0] : Fin 2 → ℕ) a + S512x128.size a ≤ S1536x128.size a) (arg2 : Memref sig .tc .vmem S1536x7168 .bf16) (harg2 : arg2.IsWhole) (arg5 : Memref sig .tc .vmem S1536x1 .i32) (harg5 : arg5.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) (x0 : Vec Ideal S1536x7168 .bf16) (w : Vec Ideal S256x7168 .bf16) (x3 : Vec Ideal S1536x1 .i32) (xm xl xt : Vec Ideal S1536x128 .f32) (x : S512x128.Idx) :
    (pieceT n o h7 h1 h arg2 harg2 arg5 harg5 arg16 harg16 arg17 harg17 arg18 harg18 x0 w x3 xm xl xt).2 x = (newT n x0 w x3 xt) ((pieceT n o h7 h1 h arg2 harg2 arg5 harg5 arg16 harg16 arg17 harg17 arg18 harg18 x0 w x3 xm xl xt).1.emb x) := by
  obtain ⟨r, l, rfl⟩ : ∃ (r : Fin 512) (l : Fin 128), x = ix2 r l := ⟨x 0, x 1, eq_ix2 x⟩
  have e := emb_rows o h r l
  show (k1_pay192 (F := Ideal) (k1_pay186 (F := Ideal) (arg5.view.readAt (Elt Ideal) (Rect.unit (s := S1536x1) ![o, 0] S512x1.size h1).toLoadRect (harg5.unread x3))) n (iota .tc S512x128 32 [1] iota_S512x128_d1_w32) (k1_pay187 (F := Ideal) (arg2.view.readAt (Elt Ideal) (Rect.unit (s := S1536x7168) ![o, 0] S512x7168.size h7).toLoadRect (harg2.unread x0)) w) (k1_pay188 (F := Ideal) (arg2.view.readAt (Elt Ideal) (Rect.unit (s := S1536x7168) ![o, 0] S512x7168.size h7).toLoadRect (harg2.unread x0)) w) (arg18.view.readAt (Elt Ideal) (Rect.unit (s := S1536x128) ![o, 0] S512x128.size h).toLoadRect (harg18.unread xt))) (ix2 r l) = (newT n x0 w x3 xt) ((Rect.unit (s := S1536x128) ![o, 0] S512x128.size h).emb (ix2 r l))
  rw [e]
  rw [pay192_apply, xA_blk, xB_blk, rows_128, rows_1]
  rfl

section Body
variable (c : Dev nD) (i : grid1.Coords) (arg2 : Memref sig .tc .vmem S1536x7168 .bf16) (harg2 : arg2.IsWhole) (arg3 : Memref sig .tc .vmem S256x7168 .fp8e4m3) (harg3 : arg3.IsWhole) (arg4 : Memref sig .tc .vmem S256x224 .f32) (harg4 : arg4.IsWhole) (arg5 : Memref sig .tc .vmem S1536x1 .i32) (harg5 : arg5.IsWhole) (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole) (arg12 : Memref sig .tc .vmem S1x24 .f32) (harg12 : arg12.IsWhole) (arg13 : Memref sig .tc .vmem S1x12 .f32) (harg13 : arg13.IsWhole) (arg14 : Memref sig .tc .vmem S1x12 .f32) (harg14 : arg14.IsWhole) (arg15 : Memref sig .tc .vmem S256x7168 .bf16) (harg15 : arg15.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18

theorem midRun_M (x0 : Vec Ideal S1536x7168 .bf16) (x1 : Vec Ideal S256x7168 .fp8e4m3) (x2 : Vec Ideal S256x224 .f32) (x3 : Vec Ideal S1536x1 .i32) (xm : Vec Ideal S1536x128 .f32) (xl : Vec Ideal S1536x128 .f32) (xt : Vec Ideal S1536x128 .f32) :
    (midRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt).1 = [pieceM (Scalar.muli (BitVec.ofNat 32 (i 1).val) 256#32) 1024 inb_S1536x7168_S512x7168_1024_0 inb_S1536x1_S512x1_1024_0 inb_S1536x128_S512x128_1024_0 arg2 harg2 arg5 harg5 arg16 harg16 arg17 harg17 arg18 harg18 x0 (midRun.sl.v993 (F := Ideal) c arg3 harg3 arg4 harg4 arg15 x1 x2) x3 xm xl xt, pieceM (Scalar.muli (BitVec.ofNat 32 (i 1).val) 256#32) 512 inb_S1536x7168_S512x7168_512_0 inb_S1536x1_S512x1_512_0 inb_S1536x128_S512x128_512_0 arg2 harg2 arg5 harg5 arg16 harg16 arg17 harg17 arg18 harg18 x0 (midRun.sl.v993 (F := Ideal) c arg3 harg3 arg4 harg4 arg15 x1 x2) x3 xm xl xt, pieceM (Scalar.muli (BitVec.ofNat 32 (i 1).val) 256#32) 0 inb_S1536x7168_S512x7168_0_0 inb_S1536x1_S512x1_0_0 inb_S1536x128_S512x128_0_0 arg2 harg2 arg5 harg5 arg16 harg16 arg17 harg17 arg18 harg18 x0 (midRun.sl.v993 (F := Ideal) c arg3 harg3 arg4 harg4 arg15 x1 x2) x3 xm xl xt] := rfl

theorem midM_apply (x0 : Vec Ideal S1536x7168 .bf16) (x1 : Vec Ideal S256x7168 .fp8e4m3) (x2 : Vec Ideal S256x224 .f32) (x3 : Vec Ideal S1536x1 .i32) (xm : Vec Ideal S1536x128 .f32) (xl : Vec Ideal S1536x128 .f32) (xt : Vec Ideal S1536x128 .f32) (y : S1536x128.Idx) :
    midM (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt y = (newM x0 (midRun.sl.v993 (F := Ideal) c arg3 harg3 arg4 harg4 arg15 x1 x2) xm) y := by
  have hc := midM_cover (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt y
  unfold midM
  rw [midRun_M] at hc ⊢
  refine canon_eq_of_agree (newM x0 (midRun.sl.v993 (F := Ideal) c arg3 harg3 arg4 harg4 arg15 x1 x2) xm) y _ ?_ hc
  intro p hp
  simp only [List.mem_cons, List.not_mem_nil, or_false] at hp
  rcases hp with rfl | rfl | rfl
  · intro x; exact pieceM_agree ..
  · intro x; exact pieceM_agree ..
  · intro x; exact pieceM_agree ..

theorem midRun_L (x0 : Vec Ideal S1536x7168 .bf16) (x1 : Vec Ideal S256x7168 .fp8e4m3) (x2 : Vec Ideal S256x224 .f32) (x3 : Vec Ideal S1536x1 .i32) (xm : Vec Ideal S1536x128 .f32) (xl : Vec Ideal S1536x128 .f32) (xt : Vec Ideal S1536x128 .f32) :
    (midRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt).2.1 = [pieceL (Scalar.muli (BitVec.ofNat 32 (i 1).val) 256#32) 1024 inb_S1536x7168_S512x7168_1024_0 inb_S1536x1_S512x1_1024_0 inb_S1536x128_S512x128_1024_0 arg2 harg2 arg5 harg5 arg16 harg16 arg17 harg17 arg18 harg18 x0 (midRun.sl.v993 (F := Ideal) c arg3 harg3 arg4 harg4 arg15 x1 x2) x3 xm xl xt, pieceL (Scalar.muli (BitVec.ofNat 32 (i 1).val) 256#32) 512 inb_S1536x7168_S512x7168_512_0 inb_S1536x1_S512x1_512_0 inb_S1536x128_S512x128_512_0 arg2 harg2 arg5 harg5 arg16 harg16 arg17 harg17 arg18 harg18 x0 (midRun.sl.v993 (F := Ideal) c arg3 harg3 arg4 harg4 arg15 x1 x2) x3 xm xl xt, pieceL (Scalar.muli (BitVec.ofNat 32 (i 1).val) 256#32) 0 inb_S1536x7168_S512x7168_0_0 inb_S1536x1_S512x1_0_0 inb_S1536x128_S512x128_0_0 arg2 harg2 arg5 harg5 arg16 harg16 arg17 harg17 arg18 harg18 x0 (midRun.sl.v993 (F := Ideal) c arg3 harg3 arg4 harg4 arg15 x1 x2) x3 xm xl xt] := rfl

theorem midL_apply (x0 : Vec Ideal S1536x7168 .bf16) (x1 : Vec Ideal S256x7168 .fp8e4m3) (x2 : Vec Ideal S256x224 .f32) (x3 : Vec Ideal S1536x1 .i32) (xm : Vec Ideal S1536x128 .f32) (xl : Vec Ideal S1536x128 .f32) (xt : Vec Ideal S1536x128 .f32) (y : S1536x128.Idx) :
    midL (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt y = (newL x0 (midRun.sl.v993 (F := Ideal) c arg3 harg3 arg4 harg4 arg15 x1 x2) xm xl) y := by
  have hc := midL_cover (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt y
  unfold midL
  rw [midRun_L] at hc ⊢
  refine canon_eq_of_agree (newL x0 (midRun.sl.v993 (F := Ideal) c arg3 harg3 arg4 harg4 arg15 x1 x2) xm xl) y _ ?_ hc
  intro p hp
  simp only [List.mem_cons, List.not_mem_nil, or_false] at hp
  rcases hp with rfl | rfl | rfl
  · intro x; exact pieceL_agree ..
  · intro x; exact pieceL_agree ..
  · intro x; exact pieceL_agree ..

theorem midRun_T (x0 : Vec Ideal S1536x7168 .bf16) (x1 : Vec Ideal S256x7168 .fp8e4m3) (x2 : Vec Ideal S256x224 .f32) (x3 : Vec Ideal S1536x1 .i32) (xm : Vec Ideal S1536x128 .f32) (xl : Vec Ideal S1536x128 .f32) (xt : Vec Ideal S1536x128 .f32) :
    (midRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt).2.2.1 = [pieceT (Scalar.muli (BitVec.ofNat 32 (i 1).val) 256#32) 1024 inb_S1536x7168_S512x7168_1024_0 inb_S1536x1_S512x1_1024_0 inb_S1536x128_S512x128_1024_0 arg2 harg2 arg5 harg5 arg16 harg16 arg17 harg17 arg18 harg18 x0 (midRun.sl.v993 (F := Ideal) c arg3 harg3 arg4 harg4 arg15 x1 x2) x3 xm xl xt, pieceT (Scalar.muli (BitVec.ofNat 32 (i 1).val) 256#32) 512 inb_S1536x7168_S512x7168_512_0 inb_S1536x1_S512x1_512_0 inb_S1536x128_S512x128_512_0 arg2 harg2 arg5 harg5 arg16 harg16 arg17 harg17 arg18 harg18 x0 (midRun.sl.v993 (F := Ideal) c arg3 harg3 arg4 harg4 arg15 x1 x2) x3 xm xl xt, pieceT (Scalar.muli (BitVec.ofNat 32 (i 1).val) 256#32) 0 inb_S1536x7168_S512x7168_0_0 inb_S1536x1_S512x1_0_0 inb_S1536x128_S512x128_0_0 arg2 harg2 arg5 harg5 arg16 harg16 arg17 harg17 arg18 harg18 x0 (midRun.sl.v993 (F := Ideal) c arg3 harg3 arg4 harg4 arg15 x1 x2) x3 xm xl xt] := rfl

theorem midT_apply (x0 : Vec Ideal S1536x7168 .bf16) (x1 : Vec Ideal S256x7168 .fp8e4m3) (x2 : Vec Ideal S256x224 .f32) (x3 : Vec Ideal S1536x1 .i32) (xm : Vec Ideal S1536x128 .f32) (xl : Vec Ideal S1536x128 .f32) (xt : Vec Ideal S1536x128 .f32) (y : S1536x128.Idx) :
    midT (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt y = (newT (Scalar.muli (BitVec.ofNat 32 (i 1).val) 256#32) x0 (midRun.sl.v993 (F := Ideal) c arg3 harg3 arg4 harg4 arg15 x1 x2) x3 xt) y := by
  have hc := midT_cover (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt y
  unfold midT
  rw [midRun_T] at hc ⊢
  refine canon_eq_of_agree (newT (Scalar.muli (BitVec.ofNat 32 (i 1).val) 256#32) x0 (midRun.sl.v993 (F := Ideal) c arg3 harg3 arg4 harg4 arg15 x1 x2) x3 xt) y _ ?_ hc
  intro p hp
  simp only [List.mem_cons, List.not_mem_nil, or_false] at hp
  rcases hp with rfl | rfl | rfl
  · intro x; exact pieceT_agree ..
  · intro x; exact pieceT_agree ..
  · intro x; exact pieceT_agree ..

end Body

end Cert.KernelIdeal.Hand

end
-- ==== Proof.Dpo.lean ====
module

public import proofs.«01_k».proof.Proof.Step
public import proofs.«01_k».proof.Proof.Mid

@[expose] public section

set_option maxRecDepth 16384

noncomputable section

namespace Cert.KernelIdeal.Hand

open Idealize.ShloMosaic Idealize.ShloMosaic.TcCoe Idealize.SL.Sem
open Cert.KernelIdeal Cert.KernelIdeal.Gen

/-! What the loss at the last grid point writes, as array expressions. -/

/-- One sequence of the policy row: the weighted sum of its tokens goes to its place. -/
def polStep (seg : IVec S6x1024 32) (W : FVec Ideal S6x1024 .f32) (s : BitVec 32) (acc : FVec Ideal S1x24 .f32) : FVec Ideal S1x24 .f32 :=
  select (cmpi .eq (iota .tc S1x24 32 [1] iota_S1x24_d1_w32) (broadcast S1x24 s))
    (broadcastTo S1x24 (shapeCast S1x1 (broadcast S1x1 (extractAt ![0, 0, 0] (shapeCast S1x1x1 (multiReduction .add [1, 2] S1 (shapeCast S1x6x1024 (select (cmpi .eq seg (broadcast S6x1024 s)) W (broadcast S6x1024 (Scalar.ofBits .f32 0x00000000#32))) shapeCasts_S6x1024_S1x6x1024) 0x00000000#32 reduces_S1x6x1024_S1 (.inl rfl) rfl) shapeCasts_S1_S1x1x1) inpos_S1x1x1_p0_0_0)) shapeCasts_S1x1_S1x1) broadcasts_S1x1_S1x24) acc

/-- The policy row after the first `n` sequences. -/
def polAcc (seg : IVec S6x1024 32) (W : FVec Ideal S6x1024 .f32) : ℕ → FVec Ideal S1x24 .f32
  | 0 => broadcast S1x24 (Scalar.ofBits .f32 0x00000000#32)
  | n + 1 => polStep seg W (BitVec.ofNat 32 n) (polAcc seg W n)

theorem slK : ∀ k : Fin 24, S1x24.Slices ![0, k.val] S1x1 := by decide

/-- One sequence of the pair sums: added where it is chosen, taken off where it is rejected. -/
def pairStep (ch rj : IVec S1x12 32) (ratio : FVec Ideal S1x24 .f32) (k : Fin 24) (acc : FVec Ideal S1x12 .f32) : FVec Ideal S1x12 .f32 :=
  subf (addf acc (select (cmpi .eq ch (broadcast S1x12 (BitVec.ofNat 32 k.val))) (broadcastTo S1x12 (shapeCast S1x1 (extractStridedSlice S1x1 ![0, k.val] ratio (slK k)) shapeCasts_S1x1_S1x1) broadcasts_S1x1_S1x12) (broadcast S1x12 (Scalar.ofBits .f32 0x00000000#32))))
    (select (cmpi .eq rj (broadcast S1x12 (BitVec.ofNat 32 k.val))) (broadcastTo S1x12 (shapeCast S1x1 (extractStridedSlice S1x1 ![0, k.val] ratio (slK k)) shapeCasts_S1x1_S1x1) broadcasts_S1x1_S1x12) (broadcast S1x12 (Scalar.ofBits .f32 0x00000000#32)))

/-- The pair sums after the first `n` sequences. -/
def pairAcc (ch rj : IVec S1x12 32) (ratio : FVec Ideal S1x24 .f32) : ℕ → FVec Ideal S1x12 .f32
  | 0 => broadcast S1x12 (Scalar.ofBits .f32 0x00000000#32)
  | n + 1 => pairStep ch rj ratio ⟨n % 24, Nat.mod_lt _ (by decide)⟩ (pairAcc ch rj ratio n)

/-- The margins. -/
def marV (pair : FVec Ideal S1x12 .f32) : FVec Ideal S1x12 .f32 := mulf (broadcast S1x12 (Scalar.ofBits .f32 0x3DCCCCCD#32)) pair

/-- The loss of the margins. -/
def lossV (mar : FVec Ideal S1x12 .f32) : FVec Ideal S1x12 .f32 :=
  addf (maximumf (subf (broadcast S1x12 (Scalar.ofBits .f32 0x00000000#32)) mar) (broadcast S1x12 (Scalar.ofBits .f32 0x00000000#32)))
    (log1p (exp (subf (broadcast S1x12 (Scalar.ofBits .f32 0x00000000#32)) (absf mar))))

abbrev ldT (a : Memref sig .tc .vmem S6x1024 .i32) (ha : a.IsWhole) (x : Vec Ideal S6x1024 .i32) : Vec Ideal S6x1024 .i32 :=
  View.readAt (Elt Ideal) a.view (Rect.unit (s := S6x1024) ![0, 0] S6x1024.size inb_S6x1024_S6x1024_0_0).toLoadRect (ha.unread x)
abbrev ldK (a : Memref sig .tc .vmem S6x1024 .f32) (ha : a.IsWhole) (x : Vec Ideal S6x1024 .f32) : Vec Ideal S6x1024 .f32 :=
  View.readAt (Elt Ideal) a.view (Rect.unit (s := S6x1024) ![0, 0] S6x1024.size inb_S6x1024_S6x1024_0_0).toLoadRect (ha.unread x)
abbrev ldR (a : Memref sig .tc .vmem S1x24 .f32) (ha : a.IsWhole) (x : Vec Ideal S1x24 .f32) : Vec Ideal S1x24 .f32 :=
  View.readAt (Elt Ideal) a.view (Rect.unit (s := S1x24) ![0, 0] S1x24.size inb_S1x24_S1x24_0_0).toLoadRect (ha.unread x)
abbrev ldP (a : Memref sig .tc .vmem S1x12 .i32) (ha : a.IsWhole) (x : Vec Ideal S1x12 .i32) : Vec Ideal S1x12 .i32 :=
  View.readAt (Elt Ideal) a.view (Rect.unit (s := S1x12) ![0, 0] S1x12.size inb_S1x12_S1x12_0_0).toLoadRect (ha.unread x)

theorem polStep_apply (seg : IVec S6x1024 32) (W : FVec Ideal S6x1024 .f32) (s : BitVec 32) (acc : FVec Ideal S1x24 .f32) (x : Fin 24) :
    polStep seg W s acc (ix2 0 x) = if BitVec.ofNat 32 x.val = s then ∑ q : Fin 6, ∑ p : Fin 1024, (if seg (ix2 q p) = s then (W (ix2 q p) : EReal) else 0) else (acc (ix2 0 x) : EReal) := by
  unfold polStep
  pointwise [Ideal.ofBits_zero_f32, zero_add, select_cmp_eq]

theorem pairStep_apply (ch rj : IVec S1x12 32) (ratio : FVec Ideal S1x24 .f32) (k : Fin 24) (acc : FVec Ideal S1x12 .f32) (x : Fin 12) :
    (pairStep ch rj ratio k acc (ix2 0 x) : EReal) = (acc (ix2 0 x) : EReal) + (if ch (ix2 0 x) = BitVec.ofNat 32 k.val then (ratio (ix2 0 k) : EReal) else 0) - (if rj (ix2 0 x) = BitVec.ofNat 32 k.val then (ratio (ix2 0 k) : EReal) else 0) := by
  unfold pairStep
  pointwise [Ideal.ofBits_zero_f32, select_cmp_eq]

theorem marV_apply (pair : FVec Ideal S1x12 .f32) (x : Fin 12) : (marV pair (ix2 0 x) : EReal) = Ideal.ofBits .f32 0x3DCCCCCD#32 * (pair (ix2 0 x) : EReal) := by
  unfold marV
  pointwise []

theorem lossV_apply (mar : FVec Ideal S1x12 .f32) (x : Fin 12) : (lossV mar (ix2 0 x) : EReal) = max (0 - (mar (ix2 0 x) : EReal)) 0 + Ideal.log1p (Ideal.exp (0 - FloatOps.absf (F := Ideal) (φ := .f32) (mar (ix2 0 x)))) := by
  unfold lossV
  pointwise [Ideal.ofBits_zero_f32]

end Cert.KernelIdeal.Hand

end
-- ==== Proof.DpoL.lean ====
module

public import proofs.«01_k».proof.Proof.Dpo

@[expose] public section

set_option maxRecDepth 16384

noncomputable section

namespace Cert.KernelIdeal.Hand

open Idealize.ShloMosaic Idealize.ShloMosaic.TcCoe Idealize.SL.Sem
open Cert.KernelIdeal Cert.KernelIdeal.Gen

/-! The three written rows. -/

section Body
variable (c : Dev nD) (i : grid1.Coords) (arg2 : Memref sig .tc .vmem S1536x7168 .bf16) (harg2 : arg2.IsWhole) (arg3 : Memref sig .tc .vmem S256x7168 .fp8e4m3) (harg3 : arg3.IsWhole) (arg4 : Memref sig .tc .vmem S256x224 .f32) (harg4 : arg4.IsWhole) (arg5 : Memref sig .tc .vmem S1536x1 .i32) (harg5 : arg5.IsWhole) (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole) (arg12 : Memref sig .tc .vmem S1x24 .f32) (harg12 : arg12.IsWhole) (arg13 : Memref sig .tc .vmem S1x12 .f32) (harg13 : arg13.IsWhole) (arg14 : Memref sig .tc .vmem S1x12 .f32) (harg14 : arg14.IsWhole) (arg15 : Memref sig .tc .vmem S256x7168 .bf16) (harg15 : arg15.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18

theorem dpoRun_P (hc : k1_cond4 i = 1#1) (x4 : Vec Ideal S6x1024 .i32) (x5 : Vec Ideal S6x1024 .i32) (x6 : Vec Ideal S1x24 .f32) (x7 : Vec Ideal S1x12 .i32) (x8 : Vec Ideal S1x12 .i32) (xk : Vec Ideal S6x1024 .f32) : (dpoRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk).1 = [⟨Rect.unit (s := S1x24) ![0, 0] ![1, 24] inb_S1x24_S1x24_0_0, polAcc (ldT arg6 harg6 x4) (k1_pay36 (ldK arg11 harg11 xk) (ldT arg7 harg7 x5)) 24⟩] := rfl

theorem dpoRun_M (hc : k1_cond4 i = 1#1) (x4 : Vec Ideal S6x1024 .i32) (x5 : Vec Ideal S6x1024 .i32) (x6 : Vec Ideal S1x24 .f32) (x7 : Vec Ideal S1x12 .i32) (x8 : Vec Ideal S1x12 .i32) (xk : Vec Ideal S6x1024 .f32) : (dpoRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk).2.2.1 = [⟨Rect.unit (s := S1x12) ![0, 0] ![1, 12] inb_S1x12_S1x12_0_0, marV (pairAcc (k1_pay34 (ldP arg9 harg9 x7)) (k1_pay34 (ldP arg10 harg10 x8)) (subf (polAcc (ldT arg6 harg6 x4) (k1_pay36 (ldK arg11 harg11 xk) (ldT arg7 harg7 x5)) 24) (k1_pay33 (ldR arg8 harg8 x6))) 24)⟩] := rfl

theorem dpoRun_L (hc : k1_cond4 i = 1#1) (x4 : Vec Ideal S6x1024 .i32) (x5 : Vec Ideal S6x1024 .i32) (x6 : Vec Ideal S1x24 .f32) (x7 : Vec Ideal S1x12 .i32) (x8 : Vec Ideal S1x12 .i32) (xk : Vec Ideal S6x1024 .f32) : (dpoRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk).2.1 = [⟨Rect.unit (s := S1x12) ![0, 0] ![1, 12] inb_S1x12_S1x12_0_0, lossV (marV (pairAcc (k1_pay34 (ldP arg9 harg9 x7)) (k1_pay34 (ldP arg10 harg10 x8)) (subf (polAcc (ldT arg6 harg6 x4) (k1_pay36 (ldK arg11 harg11 xk) (ldT arg7 harg7 x5)) 24) (k1_pay33 (ldR arg8 harg8 x6))) 24))⟩] := rfl

end Body

end Cert.KernelIdeal.Hand

end
-- ==== Proof.Spec.lean ====
module

public import Idealize.ShloMosaic.Lib.Pointwise

/-! The loss on extended reals, as both programs are shown to compute it. -/

@[expose] public noncomputable section

namespace Cert.Spec

open Idealize.ShloMosaic

/-- The policy log-probability of sequence `s`: its tokens' log-probabilities under the mask. -/
def pol (tok : Fin 6 → Fin 1024 → EReal) (seg mk : Fin 6 → Fin 1024 → BitVec 32) (s : ℕ) : EReal :=
  ∑ q : Fin 6, ∑ p : Fin 1024, if seg q p = BitVec.ofNat 32 s then tok q p * (FloatOps.sitofp (F := Ideal) .f32 (mk q p) : EReal) else 0

/-- Entry `w` of a row of 24, zero outside the row. -/
def at24 (w : BitVec 32) (f : ℕ → EReal) : EReal := if w.toNat < 24 then f w.toNat else 0

/-- The margin of a pair. -/
def mar (pl rf : ℕ → EReal) (ch rj : BitVec 32) : EReal :=
  Ideal.ofBits .f32 0x3DCCCCCD#32 * ((at24 ch pl - at24 ch rf) - (at24 rj pl - at24 rj rf))

/-- The loss of a margin. -/
def loss (m : EReal) : EReal := max (0 - m) 0 + Ideal.log1p (Ideal.exp (0 - FloatOps.absf (F := Ideal) (φ := .f32) m))

theorem ofNat_eq_iff (w : BitVec 32) (k : ℕ) (hk : k < 24) : w = BitVec.ofNat 32 k ↔ k = w.toNat := by
  constructor
  · intro e; rw [e, BitVec.toNat_ofNat]; omega
  · intro e; rw [e, BitVec.ofNat_toNat]; exact (BitVec.setWidth_eq _).symm

theorem sum_at24 (w : BitVec 32) (f : ℕ → EReal) : (∑ k ∈ Finset.range 24, if w = BitVec.ofNat 32 k then f k else 0) = at24 w f := by
  have : ∀ k ∈ Finset.range 24, (if w = BitVec.ofNat 32 k then f k else 0) = if k = w.toNat then f k else 0 :=
    fun k hk => if_congr (ofNat_eq_iff w k (Finset.mem_range.mp hk)) rfl rfl
  rw [Finset.sum_congr rfl this, Finset.sum_ite_eq', at24]
  exact if_congr Finset.mem_range rfl rfl

/-- Adding and taking off one sequence at a time gives the difference of the picked entries. -/
theorem pair_fold (g : ℕ → EReal) (r : ℕ → EReal) (ch rj : BitVec 32) (h0 : g 0 = 0)
    (h : ∀ n, n < 24 → g (n + 1) = g n + (if ch = BitVec.ofNat 32 n then r n else 0) - (if rj = BitVec.ofNat 32 n then r n else 0)) :
    ∀ n, n ≤ 24 → g n = (∑ k ∈ Finset.range n, if ch = BitVec.ofNat 32 k then r k else 0) + ∑ k ∈ Finset.range n, if rj = BitVec.ofNat 32 k then -r k else 0 := by
  intro n
  induction n with
  | zero => intro _; simp [h0]
  | succ n ih =>
    intro hn
    rw [h n (by omega), ih (by omega), Finset.sum_range_succ, Finset.sum_range_succ, sub_eq_add_neg]
    have : -(if rj = BitVec.ofNat 32 n then r n else 0) = if rj = BitVec.ofNat 32 n then -r n else 0 := by split_ifs <;> simp
    rw [this, add_assoc, add_add_add_comm]

theorem pair_fold_at (g : ℕ → EReal) (pl rf : ℕ → EReal) (ch rj : BitVec 32) (h0 : g 0 = 0)
    (h : ∀ n, n < 24 → g (n + 1) = g n + (if ch = BitVec.ofNat 32 n then pl n - rf n else 0) - (if rj = BitVec.ofNat 32 n then pl n - rf n else 0)) :
    g 24 = (at24 ch pl - at24 ch rf) - (at24 rj pl - at24 rj rf) := by
  rw [pair_fold g (fun n => pl n - rf n) ch rj h0 h 24 le_rfl, sum_at24, sum_at24 rj fun n => -(pl n - rf n)]
  unfold at24
  split_ifs <;> simp [sub_eq_add_neg]

theorem sum_tok (f : Fin 6144 → EReal) : (∑ n : Fin 6144, f n) = ∑ q : Fin 6, ∑ p : Fin 1024, f ⟨1024 * q.val + p.val, by omega⟩ := by
  rw [← Fintype.sum_prod_type' (f := fun (q : Fin 6) (p : Fin 1024) => f ⟨1024 * q.val + p.val, by omega⟩)]
  exact (Fintype.sum_equiv (finProdFinEquiv : Fin 6 × Fin 1024 ≃ Fin 6144) _ _ fun x => congrArg f (Fin.ext (by simp [finProdFinEquiv, add_comm]))).symm

end Cert.Spec

end
-- ==== Proof.DpoV.lean ====
module

public import proofs.«01_k».proof.Proof.DpoL
public import proofs.«01_k».proof.Proof.Spec

@[expose] public section

set_option maxRecDepth 16384

noncomputable section

namespace Cert.KernelIdeal.Hand

open Idealize.ShloMosaic Idealize.ShloMosaic.TcCoe Idealize.SL.Sem
open Cert.KernelIdeal Cert.KernelIdeal.Gen

/-! What the loss at the last grid point writes, entry by entry. -/

theorem ldT_apply (a : Memref sig .tc .vmem S6x1024 .i32) (ha : a.IsWhole) (x : Vec Ideal S6x1024 .i32) (q : Fin 6) (p : Fin 1024) : ldT a ha x (ix2 q p) = x (ix2 q p) :=
  (congrFun (ha.read_unread x) _).trans (congrArg x (funext fun k => Fin.ext (by match k with | ⟨0, _⟩ => simp [Rect.unit, ix2] | ⟨1, _⟩ => simp [Rect.unit, ix2])))

theorem ldK_apply (a : Memref sig .tc .vmem S6x1024 .f32) (ha : a.IsWhole) (x : Vec Ideal S6x1024 .f32) (q : Fin 6) (p : Fin 1024) : ldK a ha x (ix2 q p) = x (ix2 q p) :=
  (congrFun (ha.read_unread x) _).trans (congrArg x (funext fun k => Fin.ext (by match k with | ⟨0, _⟩ => simp [Rect.unit, ix2] | ⟨1, _⟩ => simp [Rect.unit, ix2])))

theorem ldR_apply (a : Memref sig .tc .vmem S1x24 .f32) (ha : a.IsWhole) (x : Vec Ideal S1x24 .f32) (q : Fin 1) (p : Fin 24) : ldR a ha x (ix2 q p) = x (ix2 q p) :=
  (congrFun (ha.read_unread x) _).trans (congrArg x (funext fun k => Fin.ext (by match k with | ⟨0, _⟩ => simp [Rect.unit, ix2] | ⟨1, _⟩ => simp [Rect.unit, ix2])))

theorem ldP_apply (a : Memref sig .tc .vmem S1x12 .i32) (ha : a.IsWhole) (x : Vec Ideal S1x12 .i32) (q : Fin 1) (p : Fin 12) : ldP a ha x (ix2 q p) = x (ix2 q p) :=
  (congrFun (ha.read_unread x) _).trans (congrArg x (funext fun k => Fin.ext (by match k with | ⟨0, _⟩ => simp [Rect.unit, ix2] | ⟨1, _⟩ => simp [Rect.unit, ix2])))

theorem polAcc_apply (seg : IVec S6x1024 32) (W : FVec Ideal S6x1024 .f32) (x : Fin 24) : ∀ n, n ≤ 24 → (polAcc seg W n (ix2 0 x) : EReal) = if x.val < n then ∑ q : Fin 6, ∑ p : Fin 1024, (if seg (ix2 q p) = BitVec.ofNat 32 x.val then (W (ix2 q p) : EReal) else 0) else 0 := by
  intro n
  induction n with
  | zero => intro _; exact Ideal.ofBits_zero_f32
  | succ n ih =>
    intro hn
    have hx := x.isLt
    refine (polStep_apply seg W (BitVec.ofNat 32 n) (polAcc seg W n) x).trans ?_
    rw [ih (by omega)]
    have e : (BitVec.ofNat 32 x.val = BitVec.ofNat 32 n) ↔ x.val = n := by
      constructor
      · intro h
        have := congrArg BitVec.toNat h
        simp only [BitVec.toNat_ofNat] at this
        omega
      · intro h; rw [h]
    by_cases h : x.val = n
    · rw [if_pos (e.mpr h), if_pos (by omega), h]
    · rw [if_neg (fun h' => h (e.mp h'))]
      by_cases h' : x.val < n
      · rw [if_pos h', if_pos (by omega)]
      · rw [if_neg h', if_neg (by omega)]

theorem pay36_apply (a : Vec Ideal S6x1024 .f32) (m : Vec Ideal S6x1024 .i32) (q : Fin 6) (p : Fin 1024) : (k1_pay36 a m (ix2 q p) : EReal) = (a (ix2 q p) : EReal) * (FloatOps.sitofp (F := Ideal) .f32 (m (ix2 q p)) : EReal) := by
  pointwise [k1_pay36]

theorem pay33_apply (a : Vec Ideal S1x24 .f32) (p : Fin 24) : k1_pay33 a (ix2 0 p) = a (ix2 0 p) := by
  pointwise [k1_pay33]

theorem pay34_apply (a : Vec Ideal S1x12 .i32) (p : Fin 12) : k1_pay34 (F := Ideal) a (ix2 0 p) = a (ix2 0 p) := by
  pointwise [k1_pay34]

/-- A row of 24 as a function of the number. -/
def row24k (x : Vec Ideal S1x24 .f32) (s : ℕ) : EReal := if h : s < 24 then x (ix2 0 ⟨s, h⟩) else 0

section
variable (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole)
  (x4 : Vec Ideal S6x1024 .i32) (x5 : Vec Ideal S6x1024 .i32) (x6 : Vec Ideal S1x24 .f32) (x7 : Vec Ideal S1x12 .i32) (x8 : Vec Ideal S1x12 .i32) (xk : Vec Ideal S6x1024 .f32)

theorem pol_apply (x : Fin 24) : (polAcc (ldT arg6 harg6 x4) (k1_pay36 (ldK arg11 harg11 xk) (ldT arg7 harg7 x5)) 24 (ix2 0 x) : EReal) = (Spec.pol (fun q p => xk (ix2 q p)) (fun q p => x4 (ix2 q p)) (fun q p => x5 (ix2 q p))) x.val := by
  rw [polAcc_apply _ _ _ 24 le_rfl, if_pos x.isLt, Spec.pol]
  refine Finset.sum_congr rfl fun q _ => Finset.sum_congr rfl fun p _ => ?_
  rw [ldT_apply, pay36_apply, ldK_apply, ldT_apply]

theorem ratio_apply (x : Fin 24) : ((subf (polAcc (ldT arg6 harg6 x4) (k1_pay36 (ldK arg11 harg11 xk) (ldT arg7 harg7 x5)) 24) (k1_pay33 (ldR arg8 harg8 x6))) (ix2 0 x) : EReal) = (Spec.pol (fun q p => xk (ix2 q p)) (fun q p => x4 (ix2 q p)) (fun q p => x5 (ix2 q p))) x.val - row24k x6 x.val := by
  rw [row24k, dif_pos x.isLt, ← pol_apply arg6 harg6 arg7 harg7 arg11 harg11 x4 x5 xk x]
  show ((polAcc (ldT arg6 harg6 x4) (k1_pay36 (ldK arg11 harg11 xk) (ldT arg7 harg7 x5)) 24 (ix2 0 x) : EReal) - (k1_pay33 (ldR arg8 harg8 x6) (ix2 0 x) : EReal)) = _
  rw [pay33_apply, ldR_apply]

theorem pair_apply (x : Fin 12) : ((pairAcc (k1_pay34 (ldP arg9 harg9 x7)) (k1_pay34 (ldP arg10 harg10 x8)) (subf (polAcc (ldT arg6 harg6 x4) (k1_pay36 (ldK arg11 harg11 xk) (ldT arg7 harg7 x5)) 24) (k1_pay33 (ldR arg8 harg8 x6))) 24) (ix2 0 x) : EReal) = (Spec.at24 (x7 (ix2 0 x)) (Spec.pol (fun q p => xk (ix2 q p)) (fun q p => x4 (ix2 q p)) (fun q p => x5 (ix2 q p))) - Spec.at24 (x7 (ix2 0 x)) (row24k x6)) - (Spec.at24 (x8 (ix2 0 x)) (Spec.pol (fun q p => xk (ix2 q p)) (fun q p => x4 (ix2 q p)) (fun q p => x5 (ix2 q p))) - Spec.at24 (x8 (ix2 0 x)) (row24k x6)) := by
  refine Spec.pair_fold_at (fun n => (pairAcc (k1_pay34 (ldP arg9 harg9 x7)) (k1_pay34 (ldP arg10 harg10 x8)) (subf (polAcc (ldT arg6 harg6 x4) (k1_pay36 (ldK arg11 harg11 xk) (ldT arg7 harg7 x5)) 24) (k1_pay33 (ldR arg8 harg8 x6))) n) (ix2 0 x)) (Spec.pol (fun q p => xk (ix2 q p)) (fun q p => x4 (ix2 q p)) (fun q p => x5 (ix2 q p))) (row24k x6) _ _ ?_ ?_
  · exact Ideal.ofBits_zero_f32
  · intro n hn
    refine (pairStep_apply _ _ _ ⟨n % 24, _⟩ _ x).trans ?_
    rw [ratio_apply, pay34_apply, pay34_apply, ldP_apply, ldP_apply]
    simp only [Nat.mod_eq_of_lt hn]

theorem mar_apply (x : Fin 12) : (marV (pairAcc (k1_pay34 (ldP arg9 harg9 x7)) (k1_pay34 (ldP arg10 harg10 x8)) (subf (polAcc (ldT arg6 harg6 x4) (k1_pay36 (ldK arg11 harg11 xk) (ldT arg7 harg7 x5)) 24) (k1_pay33 (ldR arg8 harg8 x6))) 24) (ix2 0 x) : EReal) = Spec.mar (Spec.pol (fun q p => xk (ix2 q p)) (fun q p => x4 (ix2 q p)) (fun q p => x5 (ix2 q p))) (row24k x6) (x7 (ix2 0 x)) (x8 (ix2 0 x)) := by
  rw [marV_apply, pair_apply, Spec.mar]

theorem loss_apply (x : Fin 12) : (lossV (marV (pairAcc (k1_pay34 (ldP arg9 harg9 x7)) (k1_pay34 (ldP arg10 harg10 x8)) (subf (polAcc (ldT arg6 harg6 x4) (k1_pay36 (ldK arg11 harg11 xk) (ldT arg7 harg7 x5)) 24) (k1_pay33 (ldR arg8 harg8 x6))) 24)) (ix2 0 x) : EReal) = Spec.loss (Spec.mar (Spec.pol (fun q p => xk (ix2 q p)) (fun q p => x4 (ix2 q p)) (fun q p => x5 (ix2 q p))) (row24k x6) (x7 (ix2 0 x)) (x8 (ix2 0 x))) := by
  rw [lossV_apply, mar_apply, Spec.loss]

end

theorem emb24 (x : Fin 24) : (Rect.unit (s := S1x24) ![0, 0] ![1, 24] inb_S1x24_S1x24_0_0).emb (ix2 0 x) = ix2 0 x :=
  funext fun k => Fin.ext (by match k with | ⟨0, _⟩ => simp [Rect.emb, Rect.unit, ix2] | ⟨1, _⟩ => simp [Rect.emb, Rect.unit, ix2])

theorem emb12 (x : Fin 12) : (Rect.unit (s := S1x12) ![0, 0] ![1, 12] inb_S1x12_S1x12_0_0).emb (ix2 0 x) = ix2 0 x :=
  funext fun k => Fin.ext (by match k with | ⟨0, _⟩ => simp [Rect.emb, Rect.unit, ix2] | ⟨1, _⟩ => simp [Rect.emb, Rect.unit, ix2])

section Body
variable (c : Dev nD) (i : grid1.Coords) (arg2 : Memref sig .tc .vmem S1536x7168 .bf16) (harg2 : arg2.IsWhole) (arg3 : Memref sig .tc .vmem S256x7168 .fp8e4m3) (harg3 : arg3.IsWhole) (arg4 : Memref sig .tc .vmem S256x224 .f32) (harg4 : arg4.IsWhole) (arg5 : Memref sig .tc .vmem S1536x1 .i32) (harg5 : arg5.IsWhole) (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole) (arg12 : Memref sig .tc .vmem S1x24 .f32) (harg12 : arg12.IsWhole) (arg13 : Memref sig .tc .vmem S1x12 .f32) (harg13 : arg13.IsWhole) (arg14 : Memref sig .tc .vmem S1x12 .f32) (harg14 : arg14.IsWhole) (arg15 : Memref sig .tc .vmem S256x7168 .bf16) (harg15 : arg15.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18

theorem dpoP_apply (hc : k1_cond4 i = 1#1) (x4 : Vec Ideal S6x1024 .i32) (x5 : Vec Ideal S6x1024 .i32) (x6 : Vec Ideal S1x24 .f32) (x7 : Vec Ideal S1x12 .i32) (x8 : Vec Ideal S1x12 .i32) (xk : Vec Ideal S6x1024 .f32) (x : Fin 24) : (dpoP (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk (ix2 0 x) : EReal) = (Spec.pol (fun q p => xk (ix2 q p)) (fun q p => x4 (ix2 q p)) (fun q p => x5 (ix2 q p))) x.val := by
  unfold dpoP
  rw [dpoRun_P, ← emb24 x, View.canon_cons_emb]
  exact pol_apply arg6 harg6 arg7 harg7 arg11 harg11 x4 x5 xk x

theorem dpoM_apply (hc : k1_cond4 i = 1#1) (x4 : Vec Ideal S6x1024 .i32) (x5 : Vec Ideal S6x1024 .i32) (x6 : Vec Ideal S1x24 .f32) (x7 : Vec Ideal S1x12 .i32) (x8 : Vec Ideal S1x12 .i32) (xk : Vec Ideal S6x1024 .f32) (x : Fin 12) : (dpoM (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk (ix2 0 x) : EReal) = Spec.mar (Spec.pol (fun q p => xk (ix2 q p)) (fun q p => x4 (ix2 q p)) (fun q p => x5 (ix2 q p))) (row24k x6) (x7 (ix2 0 x)) (x8 (ix2 0 x)) := by
  unfold dpoM
  rw [dpoRun_M]
  refine (congrArg _ (emb12 x).symm).trans ((View.canon_cons_emb _ _ _ _).trans ?_)
  exact mar_apply arg6 harg6 arg7 harg7 arg8 harg8 arg9 harg9 arg10 harg10 arg11 harg11 x4 x5 x6 x7 x8 xk x

theorem dpoL_apply (hc : k1_cond4 i = 1#1) (x4 : Vec Ideal S6x1024 .i32) (x5 : Vec Ideal S6x1024 .i32) (x6 : Vec Ideal S1x24 .f32) (x7 : Vec Ideal S1x12 .i32) (x8 : Vec Ideal S1x12 .i32) (xk : Vec Ideal S6x1024 .f32) (x : Fin 12) : (dpoL (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk (ix2 0 x) : EReal) = Spec.loss (Spec.mar (Spec.pol (fun q p => xk (ix2 q p)) (fun q p => x4 (ix2 q p)) (fun q p => x5 (ix2 q p))) (row24k x6) (x7 (ix2 0 x)) (x8 (ix2 0 x))) := by
  unfold dpoL
  rw [dpoRun_L]
  refine (congrArg _ (emb12 x).symm).trans ((View.canon_cons_emb _ _ _ _).trans ?_)
  exact loss_apply arg6 harg6 arg7 harg7 arg8 harg8 arg9 harg9 arg10 harg10 arg11 harg11 x4 x5 x6 x7 x8 xk x

end Body

end Cert.KernelIdeal.Hand

end
-- ==== Proof.Row.lean ====
module

public import proofs.«01_k».proof.Proof.Mid

@[expose] public section

set_option maxRecDepth 16384

noncomputable section

namespace Cert.KernelIdeal.Hand

open Idealize.ShloMosaic Idealize.ShloMosaic.TcCoe Idealize.SL.Sem
open Cert.KernelIdeal Cert.KernelIdeal.Gen

/-! What the closing step of a token block writes, entry by entry. -/

theorem negInf : Ideal.ofBits .f32 0xFF800000#32 = ⊥ := by simp [Ideal.ofBits, Ideal.ieee]

/-- The log-probability that a row's lanes stand for. -/
def laneLp (m l t : Fin 128 → EReal) : EReal :=
  (∑ k : Fin 128, t k) - ((Finset.univ.sup m) + Ideal.log (∑ k : Fin 128, l k * Ideal.exp (m k - Finset.univ.sup m)))

/-- The log-probabilities of 128 tokens, one per lane. -/
abbrev rowP (m l t : Vec Ideal S128x128 .f32) : FVec Ideal S1x128 .f32 := k1_pay1 m l t

theorem rowP_apply (m l t : Vec Ideal S128x128 .f32) (x : Fin 128) :
    rowP m l t (ix2 0 x) = laneLp (fun k => m (ix2 x k)) (fun k => l (ix2 x k)) (fun k => t (ix2 x k)) := by
  unfold rowP laneLp
  pointwise [k1_pay1, Ideal.ofBits_zero_f32, zero_add, negInf]
  rfl

theorem off_eq : ∀ (i : grid1.Coords) (m : Fin 12), k1_off1 i (BitVec.ofNat 32 (128 * m.val)) = ![0, (1536 * (i 0).val + 128 * m.val) % 1024] := by decide +kernel

/-- A tile with one row replaced. -/
abbrev tilP (n : BitVec 32) (row : FVec Ideal S1x128 .f32) (old : Vec Ideal S6x128 .f32) : FVec Ideal S6x128 .f32 := k1_pay4 (iota .tc S6x128 32 [0] iota_S6x128_d0_w32) n row old

theorem floor_eq : ∀ (i : Fin 4) (m : Fin 12), (let n : BitVec 32 := Scalar.addi (Scalar.muli (BitVec.ofNat 32 i.val) 1536#32) (BitVec.ofNat 32 (128 * m.val))
    (Scalar.select
          (Scalar.andi
            (Scalar.cmpi CmpIPredicate.ne
              (Scalar.subi (Scalar.extui (Scalar.cmpi CmpIPredicate.sgt n 0#32))
                (Scalar.extui (Scalar.cmpi CmpIPredicate.slt n 0#32)))
              (Scalar.subi (Scalar.extui (Scalar.cmpi CmpIPredicate.sgt 1024#32 0#32))
                (Scalar.extui (Scalar.cmpi CmpIPredicate.slt 1024#32 0#32))))
            (Scalar.cmpi CmpIPredicate.ne (Scalar.remsi n 1024#32) 0#32))
          (Scalar.subi (Scalar.divsi n 1024#32) 1#32) (Scalar.divsi n 1024#32) : BitVec 32)) = BitVec.ofNat 32 ((1536 * i.val + 128 * m.val) / 1024) := by decide +kernel

theorem tilP_apply (i : Fin 4) (m : Fin 12) (row : FVec Ideal S1x128 .f32) (old : Vec Ideal S6x128 .f32) (q : Fin 6) (x : Fin 128) :
    tilP (Scalar.addi (Scalar.muli (BitVec.ofNat 32 i.val) 1536#32) (BitVec.ofNat 32 (128 * m.val))) row old (ix2 q x) = if q.val = (1536 * i.val + 128 * m.val) / 1024 then row (ix2 0 x) else old (ix2 q x) := by
  unfold tilP
  pointwise [k1_pay4]
  rw [show _ = _ from floor_eq i m, select_cmp_eq]
  have e : (BitVec.ofNat 32 q.val = BitVec.ofNat 32 ((1536 * i.val + 128 * m.val) / 1024)) ↔ q.val = (1536 * i.val + 128 * m.val) / 1024 := by
    have hi := i.isLt
    have hm := m.isLt
    constructor
    · intro h
      have := congrArg BitVec.toNat h
      simp only [BitVec.toNat_ofNat] at this
      omega
    · intro h
      rw [h]
  simp only [e]

section Closing

variable (c : Dev nD) (i : grid1.Coords) (arg11 : Memref sig .tc .vmem S6x1024 .f32) (harg11 : arg11.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) (hc : k1_cond3 i = 1#1)
    (xk : Vec Ideal S6x1024 .f32) (xm : Vec Ideal S1536x128 .f32) (xl : Vec Ideal S1536x128 .f32) (xt : Vec Ideal S1536x128 .f32)

theorem inbRow (m : Fin 12) : ∀ a, (![128 * m.val, 0] : Fin 2 → ℕ) a + S128x128.size a ≤ S1536x128.size a := by
  have := m.isLt
  intro a
  match a with
  | 0 => show 128 * m.val + 128 ≤ 1536; omega
  | 1 => show 0 + 128 ≤ 128; omega

/-- 128 rows of a scratch array. -/
abbrev ldRows (a : Memref sig .tc .vmem S1536x128 .f32) (ha : a.IsWhole) (x : Vec Ideal S1536x128 .f32) (m : Fin 12) : Vec Ideal S128x128 .f32 :=
  View.readAt (Elt Ideal) a.view (Rect.unit (s := S1536x128) ![128 * m.val, 0] S128x128.size (inbRow m)).toLoadRect (ha.unread x)

/-- Piece number `m % 12`, over a given tile. -/
def fPiece (m : Fin 12) (old : Vec Ideal S6x128 .f32) : View.Piece (Elt Ideal) S6x1024 .f32 :=
  ⟨Rect.unit (s := S6x1024) (k1_off1 i (BitVec.ofNat 32 (128 * m.val))) S6x128.size (k1_off1_inb i hc m),
    tilP (Scalar.addi (Scalar.muli (BitVec.ofNat 32 (i 0).val) 1536#32) (BitVec.ofNat 32 (128 * m.val))) (rowP (ldRows arg16 harg16 xm m) (ldRows arg17 harg17 xl m) (ldRows arg18 harg18 xt m)) old⟩

abbrev tRect (m : Fin 12) : LoadRect S6x1024 := (Rect.unit (s := S6x1024) (k1_off1 i (BitVec.ofNat 32 (128 * m.val))) S6x128.size (k1_off1_inb i hc m)).toLoadRect

/-- The pieces written so far, newest first. -/
def fL : ℕ → List (View.Piece (Elt Ideal) S6x1024 .f32)
  | 0 => []
  | m + 1 => fPiece i arg16 harg16 arg17 harg17 arg18 harg18 hc xm xl xt ⟨m % 12, Nat.mod_lt _ (by decide)⟩
      (cond (Nat.ble (m + 1) 8) (View.readAt (Elt Ideal) arg11.view (tRect i hc ⟨m % 12, Nat.mod_lt _ (by decide)⟩) (harg11.unread xk)) (arg11.view.readCov (fL m) (tRect i hc ⟨m % 12, Nat.mod_lt _ (by decide)⟩))) :: fL m

end Closing

theorem finRun0_L (c : Dev nD) (i : grid1.Coords) (arg2 : Memref sig .tc .vmem S1536x7168 .bf16) (harg2 : arg2.IsWhole) (arg3 : Memref sig .tc .vmem S256x7168 .fp8e4m3) (harg3 : arg3.IsWhole) (arg4 : Memref sig .tc .vmem S256x224 .f32) (harg4 : arg4.IsWhole) (arg5 : Memref sig .tc .vmem S1536x1 .i32) (harg5 : arg5.IsWhole) (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole) (arg12 : Memref sig .tc .vmem S1x24 .f32) (harg12 : arg12.IsWhole) (arg13 : Memref sig .tc .vmem S1x12 .f32) (harg13 : arg13.IsWhole) (arg14 : Memref sig .tc .vmem S1x12 .f32) (harg14 : arg14.IsWhole) (arg15 : Memref sig .tc .vmem S256x7168 .bf16) (harg15 : arg15.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) (hc : k1_cond3 i = 1#1)
    (ho0 : k1_off1 i 0#32 = ![0, 0]) (ho1 : k1_off1 i 128#32 = ![0, 128]) (ho2 : k1_off1 i 256#32 = ![0, 256]) (ho3 : k1_off1 i 384#32 = ![0, 384]) (ho4 : k1_off1 i 512#32 = ![0, 512]) (ho5 : k1_off1 i 640#32 = ![0, 640]) (ho6 : k1_off1 i 768#32 = ![0, 768]) (ho7 : k1_off1 i 896#32 = ![0, 896]) (ho8 : k1_off1 i 1024#32 = ![0, 0]) (ho9 : k1_off1 i 1152#32 = ![0, 128]) (ho10 : k1_off1 i 1280#32 = ![0, 256]) (ho11 : k1_off1 i 1408#32 = ![0, 384])
    (xk : Vec Ideal S6x1024 .f32) (xm : Vec Ideal S1536x128 .f32) (xl : Vec Ideal S1536x128 .f32) (xt : Vec Ideal S1536x128 .f32)  :
    (finRun0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc ho0 ho1 ho2 ho3 ho4 ho5 ho6 ho7 ho8 ho9 ho10 ho11 xk xm xl xt).1 = fL i arg11 harg11 arg16 harg16 arg17 harg17 arg18 harg18 hc xk xm xl xt 12 := rfl

theorem finRun1_L (c : Dev nD) (i : grid1.Coords) (arg2 : Memref sig .tc .vmem S1536x7168 .bf16) (harg2 : arg2.IsWhole) (arg3 : Memref sig .tc .vmem S256x7168 .fp8e4m3) (harg3 : arg3.IsWhole) (arg4 : Memref sig .tc .vmem S256x224 .f32) (harg4 : arg4.IsWhole) (arg5 : Memref sig .tc .vmem S1536x1 .i32) (harg5 : arg5.IsWhole) (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole) (arg12 : Memref sig .tc .vmem S1x24 .f32) (harg12 : arg12.IsWhole) (arg13 : Memref sig .tc .vmem S1x12 .f32) (harg13 : arg13.IsWhole) (arg14 : Memref sig .tc .vmem S1x12 .f32) (harg14 : arg14.IsWhole) (arg15 : Memref sig .tc .vmem S256x7168 .bf16) (harg15 : arg15.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) (hc : k1_cond3 i = 1#1)
    (ho0 : k1_off1 i 0#32 = ![0, 512]) (ho1 : k1_off1 i 128#32 = ![0, 640]) (ho2 : k1_off1 i 256#32 = ![0, 768]) (ho3 : k1_off1 i 384#32 = ![0, 896]) (ho4 : k1_off1 i 512#32 = ![0, 0]) (ho5 : k1_off1 i 640#32 = ![0, 128]) (ho6 : k1_off1 i 768#32 = ![0, 256]) (ho7 : k1_off1 i 896#32 = ![0, 384]) (ho8 : k1_off1 i 1024#32 = ![0, 512]) (ho9 : k1_off1 i 1152#32 = ![0, 640]) (ho10 : k1_off1 i 1280#32 = ![0, 768]) (ho11 : k1_off1 i 1408#32 = ![0, 896])
    (xk : Vec Ideal S6x1024 .f32) (xm : Vec Ideal S1536x128 .f32) (xl : Vec Ideal S1536x128 .f32) (xt : Vec Ideal S1536x128 .f32)  :
    (finRun1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc ho0 ho1 ho2 ho3 ho4 ho5 ho6 ho7 ho8 ho9 ho10 ho11 xk xm xl xt).1 = fL i arg11 harg11 arg16 harg16 arg17 harg17 arg18 harg18 hc xk xm xl xt 12 := rfl

end Cert.KernelIdeal.Hand

end
-- ==== Proof.Fin.lean ====
module

public import proofs.«01_k».proof.Proof.Row
public import proofs.«01_k».proof.Proof.Step

@[expose] public section

set_option maxRecDepth 16384

noncomputable section

namespace Cert.KernelIdeal.Hand

open Idealize.ShloMosaic Idealize.ShloMosaic.TcCoe Idealize.SL.Sem
open Cert.KernelIdeal Cert.KernelIdeal.Gen

/-! The token log-probabilities after the closing step of a token block. -/

section Closing

variable (c : Dev nD) (i : grid1.Coords) (arg11 : Memref sig .tc .vmem S6x1024 .f32) (harg11 : arg11.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) (hc : k1_cond3 i = 1#1)
    (xk : Vec Ideal S6x1024 .f32) (xm : Vec Ideal S1536x128 .f32) (xl : Vec Ideal S1536x128 .f32) (xt : Vec Ideal S1536x128 .f32)

/-- The log-probability that row `r` of the block stands for. -/
def rowv (r : ℕ) : EReal :=
  if h : r < 1536 then laneLp (fun k => xm (ix2 ⟨r, h⟩ k)) (fun k => xl (ix2 ⟨r, h⟩ k)) (fun k => xt (ix2 ⟨r, h⟩ k)) else 0

/-- The first lane that piece `b` of token block `j` writes. -/
def lane0 (j b : ℕ) : ℕ := (1536 * j + 128 * b) % 1024

/-- What the array holds after `m` pieces of token block `j`. -/
def stage (j m : ℕ) (y : S6x1024.Idx) : EReal :=
  if 1536 * j ≤ 1024 * (y 0).val + (y 1).val ∧ 1024 * (y 0).val + (y 1).val < 1536 * j + 128 * m then rowv xm xl xt (1024 * (y 0).val + (y 1).val - 1536 * j) else xk y

theorem ldRows_apply (a : Memref sig .tc .vmem S1536x128 .f32) (ha : a.IsWhole) (x : Vec Ideal S1536x128 .f32) (m : Fin 12) (r : Fin 128) (k : Fin 128) :
    ldRows a ha x m (ix2 r k) = x (ix2 ⟨128 * m.val + r.val, by omega⟩ k) := by
  refine (congrFun (ha.read_unread x) _).trans (congrArg x (funext fun a => Fin.ext ?_))
  match a with
  | 0 => show 128 * m.val + 1 * r.val = 128 * m.val + r.val; omega
  | 1 => show 0 + 1 * k.val = k.val; omega

theorem fPiece_apply (m : Fin 12) (old : Vec Ideal S6x128 .f32) (q : Fin 6) (x : Fin 128) :
    (fPiece i arg16 harg16 arg17 harg17 arg18 harg18 hc xm xl xt m old).2 (ix2 q x)
      = if q.val = (1536 * (i 0).val + 128 * m.val) / 1024 then rowv xm xl xt (128 * m.val + x.val) else old (ix2 q x) := by
  refine (tilP_apply (i 0) m _ old q x).trans ?_
  rw [rowP_apply]
  unfold rowv
  rw [dif_pos (show 128 * m.val + x.val < 1536 by omega)]
  simp only [ldRows_apply]

theorem mem_fPiece (m : Fin 12) (old : Vec Ideal S6x128 .f32) (y : S6x1024.Idx) :
    y ∈ (fPiece i arg16 harg16 arg17 harg17 arg18 harg18 hc xm xl xt m old).1.set ↔ lane0 (i 0).val m.val ≤ (y 1).val ∧ (y 1).val < lane0 (i 0).val m.val + 128 := by
  unfold fPiece
  rw [Rect.mem_set_unit]
  have h0 : k1_off1 i (BitVec.ofNat 32 (128 * m.val)) 0 = 0 := congrFun (off_eq i m) 0
  have h1 : k1_off1 i (BitVec.ofNat 32 (128 * m.val)) 1 = lane0 (i 0).val m.val := congrFun (off_eq i m) 1
  constructor
  · intro h
    have := h 1
    rw [h1] at this
    exact this
  · intro h a
    match a with
    | 0 =>
      refine ⟨?_, ?_⟩
      · show k1_off1 i (BitVec.ofNat 32 (128 * m.val)) 0 ≤ _
        rw [h0]; exact Nat.zero_le _
      · show _ < k1_off1 i (BitVec.ofNat 32 (128 * m.val)) 0 + 6
        rw [h0]; exact (y 0).isLt
    | 1 =>
      show k1_off1 i (BitVec.ofNat 32 (128 * m.val)) 1 ≤ _ ∧ _ < k1_off1 i (BitVec.ofNat 32 (128 * m.val)) 1 + 128
      rw [h1]; exact h

theorem tRect_idx (m : Fin 12) (q : Fin 6) (x : Fin 128) (y : S6x1024.Idx) (h0 : (y 0).val = q.val) (h1 : (y 1).val = lane0 (i 0).val m.val + x.val) : (tRect i hc m).idx (ix2 q x) = y := by
  have g0 : k1_off1 i (BitVec.ofNat 32 (128 * m.val)) 0 = 0 := congrFun (off_eq i m) 0
  have g1 : k1_off1 i (BitVec.ofNat 32 (128 * m.val)) 1 = lane0 (i 0).val m.val := congrFun (off_eq i m) 1
  funext a
  apply Fin.ext
  match a with
  | 0 =>
    show k1_off1 i (BitVec.ofNat 32 (128 * m.val)) 0 + 1 * q.val = (y 0).val
    omega
  | 1 =>
    show k1_off1 i (BitVec.ofNat 32 (128 * m.val)) 1 + 1 * x.val = (y 1).val
    omega

theorem canon_hit (m : Fin 12) (old : Vec Ideal S6x128 .f32) (L : List (View.Piece (Elt Ideal) S6x1024 .f32)) (y : S6x1024.Idx) (q : Fin 6) (x : Fin 128) (h0 : (y 0).val = q.val) (h1 : (y 1).val = lane0 (i 0).val m.val + x.val) :
    View.canon (fPiece i arg16 harg16 arg17 harg17 arg18 harg18 hc xm xl xt m old :: L) y
      = if q.val = (1536 * (i 0).val + 128 * m.val) / 1024 then rowv xm xl xt (128 * m.val + x.val) else old (ix2 q x) := by
  rw [← fPiece_apply i arg16 harg16 arg17 harg17 arg18 harg18 hc xm xl xt m old q x]
  have e := tRect_idx i hc m q x y h0 h1
  rw [← e]
  exact View.canon_cons_emb (fPiece i arg16 harg16 arg17 harg17 arg18 harg18 hc xm xl xt m old).1 (fPiece i arg16 harg16 arg17 harg17 arg18 harg18 hc xm xl xt m old).2 L (ix2 q x)

theorem fL_apply : ∀ (m : ℕ), m ≤ 12 → ∀ (y : S6x1024.Idx), (∃ b < m, lane0 (i 0).val b ≤ (y 1).val ∧ (y 1).val < lane0 (i 0).val b + 128) →
    View.canon (fL i arg11 harg11 arg16 harg16 arg17 harg17 arg18 harg18 hc xk xm xl xt m) y = stage xk xm xl xt (i 0).val m y := by
  intro m
  induction m with
  | zero => intro _ y ⟨b, hb, _⟩; omega
  | succ m ih =>
    intro hm y hy
    have hj : (i 0).val < 4 := (i 0).isLt
    have hq : (y 0).val < 6 := (y 0).isLt
    have hs : (y 1).val < 1024 := (y 1).isLt
    have hmm : m % 12 = m := Nat.mod_eq_of_lt (by omega)
    by_cases hit : lane0 (i 0).val m ≤ (y 1).val ∧ (y 1).val < lane0 (i 0).val m + 128
    · have hx : (y 1).val - lane0 (i 0).val m < 128 := by omega
      have hc1 : (y 1).val = lane0 (i 0).val (⟨m % 12, Nat.mod_lt _ (by decide)⟩ : Fin 12).val + ((y 1).val - lane0 (i 0).val m) := by
        show (y 1).val = lane0 (i 0).val (m % 12) + _
        rw [hmm]; omega
      have e1 := canon_hit i arg16 harg16 arg17 harg17 arg18 harg18 hc xm xl xt ⟨m % 12, Nat.mod_lt _ (by decide)⟩
        (cond (Nat.ble (m + 1) 8) (View.readAt (Elt Ideal) arg11.view (tRect i hc ⟨m % 12, Nat.mod_lt _ (by decide)⟩) (harg11.unread xk)) (arg11.view.readCov (fL i arg11 harg11 arg16 harg16 arg17 harg17 arg18 harg18 hc xk xm xl xt m) (tRect i hc ⟨m % 12, Nat.mod_lt _ (by decide)⟩)))
        (fL i arg11 harg11 arg16 harg16 arg17 harg17 arg18 harg18 hc xk xm xl xt m) y ⟨(y 0).val, hq⟩ ⟨(y 1).val - lane0 (i 0).val m, hx⟩ rfl hc1
      refine e1.trans ?_
      have ei := tRect_idx i hc ⟨m % 12, Nat.mod_lt _ (by decide)⟩ ⟨(y 0).val, hq⟩ ⟨(y 1).val - lane0 (i 0).val m, hx⟩ y rfl hc1
      have eo : (cond (Nat.ble (m + 1) 8) (View.readAt (Elt Ideal) arg11.view (tRect i hc ⟨m % 12, Nat.mod_lt _ (by decide)⟩) (harg11.unread xk)) (arg11.view.readCov (fL i arg11 harg11 arg16 harg16 arg17 harg17 arg18 harg18 hc xk xm xl xt m) (tRect i hc ⟨m % 12, Nat.mod_lt _ (by decide)⟩))) (ix2 ⟨(y 0).val, hq⟩ ⟨(y 1).val - lane0 (i 0).val m, hx⟩)
          = stage xk xm xl xt (i 0).val m y := by
        by_cases h8 : m < 8
        · rw [show Nat.ble (m + 1) 8 = true from Nat.ble_eq.mpr (by omega)]
          refine (congrFun (harg11.read_unread xk) _).trans ?_
          show xk ((tRect i hc _).idx _) = _
          rw [ei]
          unfold stage
          rw [if_neg]
          unfold lane0 at hit
          omega
        · rw [show Nat.ble (m + 1) 8 = false from by rw [Bool.eq_false_iff]; intro h; have := Nat.ble_eq.mp h; omega]
          show arg11.view.readCov _ _ _ = _
          rw [View.readCov_eq_canon']
          show View.canon _ ((tRect i hc _).idx _) = _
          rw [ei]
          refine ih (by omega) y ⟨m - 8, by omega, ?_⟩
          have : lane0 (i 0).val (m - 8) = lane0 (i 0).val m := by unfold lane0; omega
          rw [this]
          exact hit
      rw [eo]
      show (if (y 0).val = (1536 * (i 0).val + 128 * (m % 12)) / 1024 then rowv xm xl xt (128 * (m % 12) + ((y 1).val - lane0 (i 0).val m)) else _) = _
      rw [hmm]
      by_cases hr : (y 0).val = (1536 * (i 0).val + 128 * m) / 1024
      · rw [if_pos hr]
        unfold stage
        unfold lane0 at hit hx ⊢
        rw [if_pos (by omega)]
        congr 1
        omega
      · rw [if_neg hr]
        unfold stage
        unfold lane0 at hit
        have : (1536 * (i 0).val ≤ 1024 * (y 0).val + (y 1).val ∧ 1024 * (y 0).val + (y 1).val < 1536 * (i 0).val + 128 * (m + 1)) ↔ (1536 * (i 0).val ≤ 1024 * (y 0).val + (y 1).val ∧ 1024 * (y 0).val + (y 1).val < 1536 * (i 0).val + 128 * m) := by omega
        simp only [this]
    · have e1 := View.canon_cons_of_not_mem (fPiece i arg16 harg16 arg17 harg17 arg18 harg18 hc xm xl xt ⟨m % 12, Nat.mod_lt _ (by decide)⟩
        (cond (Nat.ble (m + 1) 8) (View.readAt (Elt Ideal) arg11.view (tRect i hc ⟨m % 12, Nat.mod_lt _ (by decide)⟩) (harg11.unread xk)) (arg11.view.readCov (fL i arg11 harg11 arg16 harg16 arg17 harg17 arg18 harg18 hc xk xm xl xt m) (tRect i hc ⟨m % 12, Nat.mod_lt _ (by decide)⟩))))
        (fL i arg11 harg11 arg16 harg16 arg17 harg17 arg18 harg18 hc xk xm xl xt m) (y := y)
        (fun h => hit (by rw [mem_fPiece] at h; rw [← hmm]; exact h))
      refine e1.trans ?_
      obtain ⟨b, hb, hbl⟩ := hy
      have hbm : b ≠ m := fun h => hit (h ▸ hbl)
      rw [ih (by omega) y ⟨b, by omega, hbl⟩]
      unfold stage
      unfold lane0 at hit
      have : (1536 * (i 0).val ≤ 1024 * (y 0).val + (y 1).val ∧ 1024 * (y 0).val + (y 1).val < 1536 * (i 0).val + 128 * (m + 1)) ↔ (1536 * (i 0).val ≤ 1024 * (y 0).val + (y 1).val ∧ 1024 * (y 0).val + (y 1).val < 1536 * (i 0).val + 128 * m) := by omega
      simp only [this]

theorem fL_cover : ∀ (m : ℕ), m ≤ 12 → ∀ (y : S6x1024.Idx), (∃ b < m, lane0 (i 0).val b ≤ (y 1).val ∧ (y 1).val < lane0 (i 0).val b + 128) →
    ∃ p ∈ fL i arg11 harg11 arg16 harg16 arg17 harg17 arg18 harg18 hc xk xm xl xt m, y ∈ p.1.set := by
  intro m
  induction m with
  | zero => intro _ y ⟨b, hb, _⟩; omega
  | succ m ih =>
    intro hm y ⟨b, hb, hbl⟩
    by_cases hbm : b = m
    · refine ⟨_, List.mem_cons_self .., ?_⟩
      rw [mem_fPiece]
      show lane0 (i 0).val (m % 12) ≤ _ ∧ _ < lane0 (i 0).val (m % 12) + 128
      rw [Nat.mod_eq_of_lt (by omega), ← hbm]
      exact hbl
    · obtain ⟨p, hp, hy⟩ := ih (by omega) y ⟨b, by omega, hbl⟩
      exact ⟨p, List.mem_cons_of_mem _ hp, hy⟩

theorem fL_read (f : arg11.view.ty.Contents (Elt Ideal)) (y : S6x1024.Idx) :
    arg11.view.read (Elt Ideal) (arg11.view.writes (Elt Ideal) f (fL i arg11 harg11 arg16 harg16 arg17 harg17 arg18 harg18 hc xk xm xl xt 12)) y = stage xk xm xl xt (i 0).val 12 y := by
  have hj : (i 0).val < 4 := (i 0).isLt
  have hs : (y 1).val < 1024 := (y 1).isLt
  have h : ∃ b < 12, lane0 (i 0).val b ≤ (y 1).val ∧ (y 1).val < lane0 (i 0).val b + 128 :=
    ⟨((y 1).val / 128 + 4 * (i 0).val) % 8, by omega, by unfold lane0; omega⟩
  rw [View.read_writes_apply_eq_canon _ _ _ _ (fL_cover i arg11 harg11 arg16 harg16 arg17 harg17 arg18 harg18 hc xk xm xl xt 12 (le_refl _) y h)]
  exact fL_apply i arg11 harg11 arg16 harg16 arg17 harg17 arg18 harg18 hc xk xm xl xt 12 (le_refl _) y h

end Closing

theorem fin0_apply (c : Dev nD) (i : grid1.Coords) (arg2 : Memref sig .tc .vmem S1536x7168 .bf16) (harg2 : arg2.IsWhole) (arg3 : Memref sig .tc .vmem S256x7168 .fp8e4m3) (harg3 : arg3.IsWhole) (arg4 : Memref sig .tc .vmem S256x224 .f32) (harg4 : arg4.IsWhole) (arg5 : Memref sig .tc .vmem S1536x1 .i32) (harg5 : arg5.IsWhole) (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole) (arg12 : Memref sig .tc .vmem S1x24 .f32) (harg12 : arg12.IsWhole) (arg13 : Memref sig .tc .vmem S1x12 .f32) (harg13 : arg13.IsWhole) (arg14 : Memref sig .tc .vmem S1x12 .f32) (harg14 : arg14.IsWhole) (arg15 : Memref sig .tc .vmem S256x7168 .bf16) (harg15 : arg15.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) (hc : k1_cond3 i = 1#1)
    (ho0 : k1_off1 i 0#32 = ![0, 0]) (ho1 : k1_off1 i 128#32 = ![0, 128]) (ho2 : k1_off1 i 256#32 = ![0, 256]) (ho3 : k1_off1 i 384#32 = ![0, 384]) (ho4 : k1_off1 i 512#32 = ![0, 512]) (ho5 : k1_off1 i 640#32 = ![0, 640]) (ho6 : k1_off1 i 768#32 = ![0, 768]) (ho7 : k1_off1 i 896#32 = ![0, 896]) (ho8 : k1_off1 i 1024#32 = ![0, 0]) (ho9 : k1_off1 i 1152#32 = ![0, 128]) (ho10 : k1_off1 i 1280#32 = ![0, 256]) (ho11 : k1_off1 i 1408#32 = ![0, 384])
    (xk : Vec Ideal S6x1024 .f32) (xm : Vec Ideal S1536x128 .f32) (xl : Vec Ideal S1536x128 .f32) (xt : Vec Ideal S1536x128 .f32)  (y : S6x1024.Idx) :
    fin0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc ho0 ho1 ho2 ho3 ho4 ho5 ho6 ho7 ho8 ho9 ho10 ho11 xk xm xl xt y = stage xk xm xl xt (i 0).val 12 y := by
  unfold fin0
  rw [finRun0_L]
  exact fL_read i arg11 harg11 arg16 harg16 arg17 harg17 arg18 harg18 hc xk xm xl xt _ y

theorem fin1_apply (c : Dev nD) (i : grid1.Coords) (arg2 : Memref sig .tc .vmem S1536x7168 .bf16) (harg2 : arg2.IsWhole) (arg3 : Memref sig .tc .vmem S256x7168 .fp8e4m3) (harg3 : arg3.IsWhole) (arg4 : Memref sig .tc .vmem S256x224 .f32) (harg4 : arg4.IsWhole) (arg5 : Memref sig .tc .vmem S1536x1 .i32) (harg5 : arg5.IsWhole) (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole) (arg12 : Memref sig .tc .vmem S1x24 .f32) (harg12 : arg12.IsWhole) (arg13 : Memref sig .tc .vmem S1x12 .f32) (harg13 : arg13.IsWhole) (arg14 : Memref sig .tc .vmem S1x12 .f32) (harg14 : arg14.IsWhole) (arg15 : Memref sig .tc .vmem S256x7168 .bf16) (harg15 : arg15.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) (hc : k1_cond3 i = 1#1)
    (ho0 : k1_off1 i 0#32 = ![0, 512]) (ho1 : k1_off1 i 128#32 = ![0, 640]) (ho2 : k1_off1 i 256#32 = ![0, 768]) (ho3 : k1_off1 i 384#32 = ![0, 896]) (ho4 : k1_off1 i 512#32 = ![0, 0]) (ho5 : k1_off1 i 640#32 = ![0, 128]) (ho6 : k1_off1 i 768#32 = ![0, 256]) (ho7 : k1_off1 i 896#32 = ![0, 384]) (ho8 : k1_off1 i 1024#32 = ![0, 512]) (ho9 : k1_off1 i 1152#32 = ![0, 640]) (ho10 : k1_off1 i 1280#32 = ![0, 768]) (ho11 : k1_off1 i 1408#32 = ![0, 896])
    (xk : Vec Ideal S6x1024 .f32) (xm : Vec Ideal S1536x128 .f32) (xl : Vec Ideal S1536x128 .f32) (xt : Vec Ideal S1536x128 .f32)  (y : S6x1024.Idx) :
    fin1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc ho0 ho1 ho2 ho3 ho4 ho5 ho6 ho7 ho8 ho9 ho10 ho11 xk xm xl xt y = stage xk xm xl xt (i 0).val 12 y := by
  unfold fin1
  rw [finRun1_L]
  exact fL_read i arg11 harg11 arg16 harg16 arg17 harg17 arg18 harg18 hc xk xm xl xt _ y

end Cert.KernelIdeal.Hand

end
-- ==== Proof.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.VecWindow
public import Idealize.ShloMosaic.Lib.Tactic
public import Idealize.ShloMosaic.Lib.WordCmp
public import proofs.«01_k».proof.Proof.Step

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each staging buffer is a whole buffer -/

theorem hst0 (t : Fin cfg1.N) : (win1_0.stage (cfg1.slots t 0)).IsWhole := hstage1_0 ((cfg1.slots t 0).cast nbuf1_0)
theorem hst1 (t : Fin cfg1.N) : (win1_1.stage (cfg1.slots t 1)).IsWhole := hstage1_1 ((cfg1.slots t 1).cast nbuf1_1)
theorem hst2 (t : Fin cfg1.N) : (win1_2.stage (cfg1.slots t 2)).IsWhole := hstage1_2 ((cfg1.slots t 2).cast nbuf1_2)
theorem hst3 (t : Fin cfg1.N) : (win1_3.stage (cfg1.slots t 3)).IsWhole := hstage1_3 ((cfg1.slots t 3).cast nbuf1_3)
theorem hst4 (t : Fin cfg1.N) : (win1_4.stage (cfg1.slots t 4)).IsWhole := hstage1_4 ((cfg1.slots t 4).cast nbuf1_4)
theorem hst5 (t : Fin cfg1.N) : (win1_5.stage (cfg1.slots t 5)).IsWhole := hstage1_5 ((cfg1.slots t 5).cast nbuf1_5)
theorem hst6 (t : Fin cfg1.N) : (win1_6.stage (cfg1.slots t 6)).IsWhole := hstage1_6 ((cfg1.slots t 6).cast nbuf1_6)
theorem hst7 (t : Fin cfg1.N) : (win1_7.stage (cfg1.slots t 7)).IsWhole := hstage1_7 ((cfg1.slots t 7).cast nbuf1_7)
theorem hst8 (t : Fin cfg1.N) : (win1_8.stage (cfg1.slots t 8)).IsWhole := hstage1_8 ((cfg1.slots t 8).cast nbuf1_8)
theorem hst9 (t : Fin cfg1.N) : (win1_9.stage (cfg1.slots t 9)).IsWhole := hstage1_9 ((cfg1.slots t 9).cast nbuf1_9)
theorem hst10 (t : Fin cfg1.N) : (win1_10.stage (cfg1.slots t 10)).IsWhole := hstage1_10 ((cfg1.slots t 10).cast nbuf1_10)
theorem hst11 (t : Fin cfg1.N) : (win1_11.stage (cfg1.slots t 11)).IsWhole := hstage1_11 ((cfg1.slots t 11).cast nbuf1_11)
theorem hst12 (t : Fin cfg1.N) : (win1_12.stage (cfg1.slots t 12)).IsWhole := hstage1_12 ((cfg1.slots t 12).cast nbuf1_12)

/-! ## When each conditional part of the body runs -/

theorem hcond_ini : ∀ t : Fin cfg1.N, cIni (grid1.coords t) ↔ t.val % 125 = 0 :=
  (fun t => by
    have ht : t.val < 500 := Nat.lt_of_lt_of_eq t.isLt N_1
    have e0 : (grid1.coords t 0).val = t.val / 125 % 4 := Pipeline.Grid.coords_val t 0 (by decide) rfl
    have e1 : (grid1.coords t 1).val = t.val / 1 % 125 := Pipeline.Grid.coords_val t 1 (by decide) rfl
    simp only [cIni, e0, e1]
    word_cmp : ∀ t : Fin grid1.N, cIni (grid1.coords t) ↔ t.val % 125 = 0)
theorem hcond2 : ∀ t : Fin cfg1.N, k1_cond2 (grid1.coords t) = 1#1 ↔ t.val % 500 = 0 :=
  (fun t => by
    have ht : t.val < 500 := Nat.lt_of_lt_of_eq t.isLt N_1
    have e0 : (grid1.coords t 0).val = t.val / 125 % 4 := Pipeline.Grid.coords_val t 0 (by decide) rfl
    have e1 : (grid1.coords t 1).val = t.val / 1 % 125 := Pipeline.Grid.coords_val t 1 (by decide) rfl
    simp only [k1_cond2, e0, e1]
    word_cmp : ∀ t : Fin grid1.N, k1_cond2 (grid1.coords t) = 1#1 ↔ t.val % 500 = 0)
theorem hcond3 : ∀ t : Fin cfg1.N, k1_cond3 (grid1.coords t) = 1#1 ↔ t.val % 125 = 124 :=
  (fun t => by
    have ht : t.val < 500 := Nat.lt_of_lt_of_eq t.isLt N_1
    have e0 : (grid1.coords t 0).val = t.val / 125 % 4 := Pipeline.Grid.coords_val t 0 (by decide) rfl
    have e1 : (grid1.coords t 1).val = t.val / 1 % 125 := Pipeline.Grid.coords_val t 1 (by decide) rfl
    simp only [k1_cond3, e0, e1]
    word_cmp : ∀ t : Fin grid1.N, k1_cond3 (grid1.coords t) = 1#1 ↔ t.val % 125 = 124)
theorem hcond4 : ∀ t : Fin cfg1.N, k1_cond4 (grid1.coords t) = 1#1 ↔ t.val % 500 = 499 :=
  (fun t => by
    have ht : t.val < 500 := Nat.lt_of_lt_of_eq t.isLt N_1
    have e0 : (grid1.coords t 0).val = t.val / 125 % 4 := Pipeline.Grid.coords_val t 0 (by decide) rfl
    have e1 : (grid1.coords t 1).val = t.val / 1 % 125 := Pipeline.Grid.coords_val t 1 (by decide) rfl
    simp only [k1_cond4, e0, e1]
    word_cmp : ∀ t : Fin grid1.N, k1_cond4 (grid1.coords t) = 1#1 ↔ t.val % 500 = 499)
/-! Where each row of results goes: the token tile is even or odd. -/

theorem off0_0 : ∀ t : Fin cfg1.N, t.val / 125 % 2 = 0 → k1_off1 (grid1.coords t) 0#32 = ![0, 0] := by decide +kernel
theorem off0_1 : ∀ t : Fin cfg1.N, t.val / 125 % 2 = 0 → k1_off1 (grid1.coords t) 128#32 = ![0, 128] := by decide +kernel
theorem off0_2 : ∀ t : Fin cfg1.N, t.val / 125 % 2 = 0 → k1_off1 (grid1.coords t) 256#32 = ![0, 256] := by decide +kernel
theorem off0_3 : ∀ t : Fin cfg1.N, t.val / 125 % 2 = 0 → k1_off1 (grid1.coords t) 384#32 = ![0, 384] := by decide +kernel
theorem off0_4 : ∀ t : Fin cfg1.N, t.val / 125 % 2 = 0 → k1_off1 (grid1.coords t) 512#32 = ![0, 512] := by decide +kernel
theorem off0_5 : ∀ t : Fin cfg1.N, t.val / 125 % 2 = 0 → k1_off1 (grid1.coords t) 640#32 = ![0, 640] := by decide +kernel
theorem off0_6 : ∀ t : Fin cfg1.N, t.val / 125 % 2 = 0 → k1_off1 (grid1.coords t) 768#32 = ![0, 768] := by decide +kernel
theorem off0_7 : ∀ t : Fin cfg1.N, t.val / 125 % 2 = 0 → k1_off1 (grid1.coords t) 896#32 = ![0, 896] := by decide +kernel
theorem off0_8 : ∀ t : Fin cfg1.N, t.val / 125 % 2 = 0 → k1_off1 (grid1.coords t) 1024#32 = ![0, 0] := by decide +kernel
theorem off0_9 : ∀ t : Fin cfg1.N, t.val / 125 % 2 = 0 → k1_off1 (grid1.coords t) 1152#32 = ![0, 128] := by decide +kernel
theorem off0_10 : ∀ t : Fin cfg1.N, t.val / 125 % 2 = 0 → k1_off1 (grid1.coords t) 1280#32 = ![0, 256] := by decide +kernel
theorem off0_11 : ∀ t : Fin cfg1.N, t.val / 125 % 2 = 0 → k1_off1 (grid1.coords t) 1408#32 = ![0, 384] := by decide +kernel
theorem off1_0 : ∀ t : Fin cfg1.N, t.val / 125 % 2 = 1 → k1_off1 (grid1.coords t) 0#32 = ![0, 512] := by decide +kernel
theorem off1_1 : ∀ t : Fin cfg1.N, t.val / 125 % 2 = 1 → k1_off1 (grid1.coords t) 128#32 = ![0, 640] := by decide +kernel
theorem off1_2 : ∀ t : Fin cfg1.N, t.val / 125 % 2 = 1 → k1_off1 (grid1.coords t) 256#32 = ![0, 768] := by decide +kernel
theorem off1_3 : ∀ t : Fin cfg1.N, t.val / 125 % 2 = 1 → k1_off1 (grid1.coords t) 384#32 = ![0, 896] := by decide +kernel
theorem off1_4 : ∀ t : Fin cfg1.N, t.val / 125 % 2 = 1 → k1_off1 (grid1.coords t) 512#32 = ![0, 0] := by decide +kernel
theorem off1_5 : ∀ t : Fin cfg1.N, t.val / 125 % 2 = 1 → k1_off1 (grid1.coords t) 640#32 = ![0, 128] := by decide +kernel
theorem off1_6 : ∀ t : Fin cfg1.N, t.val / 125 % 2 = 1 → k1_off1 (grid1.coords t) 768#32 = ![0, 256] := by decide +kernel
theorem off1_7 : ∀ t : Fin cfg1.N, t.val / 125 % 2 = 1 → k1_off1 (grid1.coords t) 896#32 = ![0, 384] := by decide +kernel
theorem off1_8 : ∀ t : Fin cfg1.N, t.val / 125 % 2 = 1 → k1_off1 (grid1.coords t) 1024#32 = ![0, 512] := by decide +kernel
theorem off1_9 : ∀ t : Fin cfg1.N, t.val / 125 % 2 = 1 → k1_off1 (grid1.coords t) 1152#32 = ![0, 640] := by decide +kernel
theorem off1_10 : ∀ t : Fin cfg1.N, t.val / 125 % 2 = 1 → k1_off1 (grid1.coords t) 1280#32 = ![0, 768] := by decide +kernel
theorem off1_11 : ∀ t : Fin cfg1.N, t.val / 125 % 2 = 1 → k1_off1 (grid1.coords t) 1408#32 = ![0, 896] := by decide +kernel

/-! ## Which points store into the outputs -/

theorem idle9 : ∀ t : Fin cfg1.N, cfg1.idle 9 (grid1.coords t) = (!(k1_cond2 (grid1.coords t) == 1#1) && !(k1_cond3 (grid1.coords t) == 1#1)) := fun _ => rfl
theorem idle10 : ∀ t : Fin cfg1.N, cfg1.idle 10 (grid1.coords t) = !(k1_cond4 (grid1.coords t) == 1#1) := fun _ => rfl
theorem idle11 : ∀ t : Fin cfg1.N, cfg1.idle 11 (grid1.coords t) = !(k1_cond4 (grid1.coords t) == 1#1) := fun _ => rfl
theorem idle12 : ∀ t : Fin cfg1.N, cfg1.idle 12 (grid1.coords t) = !(k1_cond4 (grid1.coords t) == 1#1) := fun _ => rfl

theorem fresh9_step : ∀ t : Fin cfg1.N,
    decide ((t.val + 1) % 500 = 0) = ((cfg1.win 9).flush t || (cfg1.idle 9 (cfg1.grid.coords t) && decide (t.val % 500 = 0))) := by
  intro t
  have ht : t.val < 500 := Nat.lt_of_lt_of_eq t.isLt N_1
  rw [show cfg1.grid.coords t = grid1.coords t from rfl, idle9 t]
  by_cases h : t.val % 500 = 499
  · rw [(flush1_9 t).mpr h]; simp; omega
  · rw [Bool.eq_false_iff.mpr (fun hf => h ((flush1_9 t).mp hf))]
    by_cases h0 : t.val % 500 = 0
    · rw [(hcond2 t).mpr h0]; simp; omega
    · simp [h0]; omega
/-- The per-token output's buffer holds nothing that was stored only before the first point. -/
theorem fresh9 (t : Fin cfg1.N) : cfg1.fresh 9 t.val = decide (t.val % 500 = 0) :=
  Pipeline.Cfg.fresh_tab cfg1 9 (fun n => decide (n % 500 = 0)) rfl fresh9_step t.val (Nat.le_of_lt t.isLt)

section Regions
-- the buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## What is carried from point to point -/

/-- The running maximum, sum and target of the token tile, and the per-token output. -/
structure St (F : FTy → Type) where
  mx : Vec F S1536x128 .f32
  sm : Vec F S1536x128 .f32
  tg : Vec F S1536x128 .f32
  tok : Vec F S6x1024 .f32

/-- All of it as the first stores leave it. -/
def st0 : St F := ⟨k1_pay79, k1_pay80, k1_pay81, k1_pay82⟩

/-- The scratch as the update finds it: fresh at a token tile's first point. -/
def ini (t : Fin cfg1.N) (s : St F) : St F := if t.val % 125 = 0 then ⟨k1_pay79, k1_pay80, k1_pay81, s.tok⟩ else s

def mMx (c : Dev nD) (t : Fin cfg1.N) (s : St F) : Vec F S1536x128 .f32 :=
  midM c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) (iblk1 V c 0 t) (iblk1 V c 1 t) (iblk1 V c 2 t) (iblk1 V c 3 t) (ini t s).mx (ini t s).sm (ini t s).tg
def mSm (c : Dev nD) (t : Fin cfg1.N) (s : St F) : Vec F S1536x128 .f32 :=
  midL c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) (iblk1 V c 0 t) (iblk1 V c 1 t) (iblk1 V c 2 t) (iblk1 V c 3 t) (ini t s).mx (ini t s).sm (ini t s).tg
def mTg (c : Dev nD) (t : Fin cfg1.N) (s : St F) : Vec F S1536x128 .f32 :=
  midT c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) (iblk1 V c 0 t) (iblk1 V c 1 t) (iblk1 V c 2 t) (iblk1 V c 3 t) (ini t s).mx (ini t s).sm (ini t s).tg

/-- The per-token output after a point. -/
def mTok (c : Dev nD) (t : Fin cfg1.N) (s : St F) : Vec F S6x1024 .f32 :=
  if t.val % 500 = 0 then k1_pay82
  else if h : t.val % 125 = 124 then
    if hp : t.val / 125 % 2 = 0 then
      fin0 c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) ((hcond3 t).mpr h) (off0_0 t hp) (off0_1 t hp) (off0_2 t hp) (off0_3 t hp) (off0_4 t hp) (off0_5 t hp) (off0_6 t hp) (off0_7 t hp) (off0_8 t hp) (off0_9 t hp) (off0_10 t hp) (off0_11 t hp) s.tok (mMx V c t s) (mSm V c t s) (mTg V c t s)
    else have hp : t.val / 125 % 2 = 1 := by omega
      fin1 c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) ((hcond3 t).mpr h) (off1_0 t hp) (off1_1 t hp) (off1_2 t hp) (off1_3 t hp) (off1_4 t hp) (off1_5 t hp) (off1_6 t hp) (off1_7 t hp) (off1_8 t hp) (off1_9 t hp) (off1_10 t hp) (off1_11 t hp) s.tok (mMx V c t s) (mSm V c t s) (mTg V c t s)
  else s.tok

/-- One point. -/
def stepSt (c : Dev nD) (t : Fin cfg1.N) (s : St F) : St F := ⟨mMx V c t s, mSm V c t s, mTg V c t s, mTok V c t s⟩

/-- What is held after point `n`. -/
def st (c : Dev nD) : (n : ℕ) → n < cfg1.N → St F
  | 0, h => stepSt V c ⟨0, h⟩ st0
  | n + 1, h => stepSt V c ⟨n + 1, h⟩ (st c n (Nat.lt_of_succ_lt h))

/-- What is held before point `n`. -/
def prevSt (c : Dev nD) (n : ℕ) (h : n < cfg1.N) : St F := if hz : n = 0 then st0 else st V c (n - 1) (by omega)

theorem st_eq (c : Dev nD) (t : Fin cfg1.N) : st V c t.val t.isLt = stepSt V c t (prevSt V c t.val t.isLt) := by
  obtain ⟨n, hn⟩ := t
  cases n with
  | zero => rfl
  | succ n => rfl

/-- One of the last three outputs after a point: stored at the last point only. -/
def aPol (c : Dev nD) (t : Fin cfg1.N) : Vec F S1x24 .f32 :=
  if h : t.val % 500 = 499 then
    dpoP c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) ((hcond4 t).mpr h) (iblk1 V c 4 t) (iblk1 V c 5 t) (iblk1 V c 6 t) (iblk1 V c 7 t) (iblk1 V c 8 t) (st V c t.val t.isLt).tok
  else View.canon []
/-- One of the last three outputs after a point: stored at the last point only. -/
def aLoss (c : Dev nD) (t : Fin cfg1.N) : Vec F S1x12 .f32 :=
  if h : t.val % 500 = 499 then
    dpoL c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) ((hcond4 t).mpr h) (iblk1 V c 4 t) (iblk1 V c 5 t) (iblk1 V c 6 t) (iblk1 V c 7 t) (iblk1 V c 8 t) (st V c t.val t.isLt).tok
  else View.canon []
/-- One of the last three outputs after a point: stored at the last point only. -/
def aMar (c : Dev nD) (t : Fin cfg1.N) : Vec F S1x12 .f32 :=
  if h : t.val % 500 = 499 then
    dpoM c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) ((hcond4 t).mpr h) (iblk1 V c 4 t) (iblk1 V c 5 t) (iblk1 V c 6 t) (iblk1 V c 7 t) (iblk1 V c 8 t) (st V c t.val t.isLt).tok
  else View.canon []

/-! ## The pipeline's proof data -/

/-- The scratch the region leaves alone, and the generator register. -/
def restS (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
    ∗ (∃ r, prngReg c r))

/-- Before the first point every scratch at anything; afterwards the running values at what the point before left. -/
def PhiS (c : Dev nD) : (n : ℕ) → n ≤ cfg1.N → sProp 𝕄
  | 0, _ => iprop((∃ d, owns (c : Thread nD τ) (Memref.whole cc1_scratch0) fullShare d) ∗ ((∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d)) ∗ restS (F := F) c)
  | n + 1, hn => iprop((∃ d, owns (c : Thread nD τ) (Memref.whole cc1_scratch0) fullShare d) ∗ (owns (c : Thread nD τ) (Memref.whole cc1_scratch1) fullShare (st V c n hn).mx ∗ owns (c : Thread nD τ) (Memref.whole cc1_scratch2) fullShare (st V c n hn).sm ∗ owns (c : Thread nD τ) (Memref.whole cc1_scratch3) fullShare (st V c n hn).tg) ∗ restS (F := F) c)

/-- The proof data of the main call: the arrays as the region finds them, each input's buffer at its block, the outputs at what the points leave. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (st V c t.val t.isLt).tok
    | ⟨10, _⟩ => aPol V c t
    | ⟨11, _⟩ => aLoss V c t
    | ⟨12, _⟩ => aMar V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (st V c t.val t.isLt).tok := by dsimp only [dat1]
theorem after1_10 (c : Dev nD) (t : Fin cfg1.N) : (dat1 V c).after 10 t = aPol V c t := by dsimp only [dat1]
theorem after1_11 (c : Dev nD) (t : Fin cfg1.N) : (dat1 V c).after 11 t = aLoss V c t := by dsimp only [dat1]
theorem after1_12 (c : Dev nD) (t : Fin cfg1.N) : (dat1 V c).after 12 t = aMar V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

theorem hcarry9 (c : Dev nD) : ∀ (t : Fin cfg1.N) (_ : t.val ≠ 0), cfg1.idle 9 (grid1.coords t) = true → cfg1.fresh 9 t.val = false →
    (dat1 V c).after 9 t = (dat1 V c).after 9 ⟨t.val - 1, by omega⟩ := by
  intro t hz hi _
  rw [idle9 t] at hi
  simp only [Bool.and_eq_true, Bool.not_eq_true', beq_eq_false_iff_ne, ne_eq] at hi
  have h2 : ¬ t.val % 500 = 0 := fun h => hi.1 ((hcond2 t).mpr h)
  have h3 : ¬ t.val % 125 = 124 := fun h => hi.2 ((hcond3 t).mpr h)
  rw [after1_9, after1_9, st_eq]
  unfold stepSt mTok prevSt
  simp only [h2, h3, hz, if_false, dif_neg, not_false_eq_true, dite_false]

/-- Away from the first point the per-token output's buffer holds what the point before left. -/
theorem before1_9 (c : Dev nD) (t : Fin cfg1.N) (h : ¬ t.val % 500 = 0) (d) :
    (dat1 V c).before 9 t d = (prevSt V c t.val t.isLt).tok := by
  have hz : t.val ≠ 0 := fun e => h (by rw [e])
  rw [Dat.before_out_traj _ 9 rfl (fun _ _ => rfl) (hcarry9 V c) t.val t rfl d,
    if_neg (by rw [fresh9 t]; simpa using h), after1_9]
  unfold prevSt
  rw [dif_neg hz]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ (dat1 V c).leavesExact 9 t
    ∗ (dat1 V c).leavesExact 10 t
    ∗ (dat1 V c).leavesExact 11 t
    ∗ (dat1 V c).leavesExact 12 t)

theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- The running values as a point is handed them: at anything at the first point, else at what the point before left. -/
def scrP (c : Dev nD) (t : Fin cfg1.N) : sProp 𝕄 :=
  if t.val = 0 then iprop((∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d))
  else iprop(owns (c : Thread nD τ) (Memref.whole cc1_scratch1) fullShare (prevSt V c t.val t.isLt).mx ∗ owns (c : Thread nD τ) (Memref.whole cc1_scratch2) fullShare (prevSt V c t.val t.isLt).sm ∗ owns (c : Thread nD τ) (Memref.whole cc1_scratch3) fullShare (prevSt V c t.val t.isLt).tg)

theorem PhiS_scrP (c : Dev nD) (t : Fin cfg1.N) (h) :
    PhiS V c t.val h = iprop((∃ d, owns (c : Thread nD τ) (Memref.whole cc1_scratch0) fullShare d) ∗ scrP V c t ∗ restS (F := F) c) := by
  obtain ⟨n, hn⟩ := t
  cases n with
  | zero => rfl
  | succ n => rfl

theorem ini1 (c : Dev nD) (t : Fin cfg1.N) (K : PUnit → sProp 𝕄) :
    iprop(scrP V c t ∗ (iprop(owns (c : Thread nD τ) (Memref.whole cc1_scratch1) fullShare (ini t (prevSt V c t.val t.isLt)).mx ∗ owns (c : Thread nD τ) (Memref.whole cc1_scratch2) fullShare (ini t (prevSt V c t.val t.isLt)).sm ∗ owns (c : Thread nD τ) (Memref.whole cc1_scratch3) fullShare (ini t (prevSt V c t.val t.isLt)).tg) -∗ K ⟨⟩))
      ⊢ wp frame (wpE (defs₀ (F := F)) Variants.none c none) Set.univ (pInit (grid1.coords t) (Memref.whole cc1_scratch1) (Memref.whole cc1_scratch2) (Memref.whole cc1_scratch3)) K := by
  unfold scrP
  by_cases h : t.val % 125 = 0
  · have e : (ini t (prevSt V c t.val t.isLt)) = ⟨k1_pay79, k1_pay80, k1_pay81, (prevSt V c t.val t.isLt).tok⟩ := by unfold ini; rw [if_pos h]
    rw [e]
    dsimp only
    by_cases hz : t.val = 0
    · rw [if_pos hz]
      iintro ⟨⟨H16, H17, H18⟩, Hk⟩
      iapply (initT c (grid1.coords t) _ (Memref.isWhole_whole _) _ (Memref.isWhole_whole _) _ (Memref.isWhole_whole _) ((hcond_ini t).mpr h) Set.univ K)
      isplitl [H16]; · iexact H16
      isplitl [H17]; · iexact H17
      isplitl [H18]; · iexact H18
      iexact Hk
    · rw [if_neg hz]
      iintro ⟨⟨H16, H17, H18⟩, Hk⟩
      iapply (initT c (grid1.coords t) _ (Memref.isWhole_whole _) _ (Memref.isWhole_whole _) _ (Memref.isWhole_whole _) ((hcond_ini t).mpr h) Set.univ K)
      isplitl [H16]; · iexists _; iexact H16
      isplitl [H17]; · iexists _; iexact H17
      isplitl [H18]; · iexists _; iexact H18
      iexact Hk
  · have e : (ini t (prevSt V c t.val t.isLt)) = (prevSt V c t.val t.isLt) := by unfold ini; rw [if_neg h]
    rw [e, if_neg (fun hz : t.val = 0 => h (by rw [hz]))]
    iintro ⟨HP, Hk⟩
    iapply (initF c (grid1.coords t) _ _ _ (fun hh => h ((hcond_ini t).mp hh)) Set.univ K)
    iapply Hk
    iexact HP

theorem leaves9_live (c : Dev nD) (t : Fin cfg1.N) (h : t.val % 500 = 0 ∨ t.val % 125 = 124) :
    (dat1 V c).leavesExact 9 t = owns (c : Thread nD τ) (st1_9 t) fullShare (st V c t.val t.isLt).tok := by
  have hl : cfg1.idle 9 (grid1.coords t) = false := by
    rw [idle9 t]
    rcases h with h | h
    · rw [(hcond2 t).mpr h]; rfl
    · rw [(hcond3 t).mpr h]; simp
  unfold Dat.leavesExact; rw [hl, after1_9]
theorem leaves9_idle (c : Dev nD) (t : Fin cfg1.N) (h : ¬ (t.val % 500 = 0 ∨ t.val % 125 = 124)) :
    (dat1 V c).leavesExact 9 t = iprop(∃ d, owns (c : Thread nD τ) (st1_9 t) fullShare ((dat1 V c).before 9 t d)) := by
  have hl : cfg1.idle 9 (grid1.coords t) = true := by
    rw [idle9 t]
    simp only [Bool.and_eq_true, Bool.not_eq_true', beq_eq_false_iff_ne, ne_eq]
    exact ⟨fun hh => h (.inl ((hcond2 t).mp hh)), fun hh => h (.inr ((hcond3 t).mp hh))⟩
  have hf : (cfg1.win 9).flush t = false := Bool.eq_false_iff.mpr fun hf => h (.inr (by have := (flush1_9 t).mp hf; omega))
  exact Dat.leavesExact_idle _ 9 t hl hf

theorem leaves10_live (c : Dev nD) (t : Fin cfg1.N) (h : t.val % 500 = 499) :
    (dat1 V c).leavesExact 10 t = owns (c : Thread nD τ) (st1_10 t) fullShare (aPol V c t) := by
  have hl : cfg1.idle 10 (grid1.coords t) = false := by
    rw [idle10 t]
    rw [(hcond4 t).mpr h]; rfl
  unfold Dat.leavesExact; rw [hl, after1_10]
theorem leaves10_idle (c : Dev nD) (t : Fin cfg1.N) (h : ¬ (t.val % 500 = 499)) :
    (dat1 V c).leavesExact 10 t = iprop(∃ d, owns (c : Thread nD τ) (st1_10 t) fullShare ((dat1 V c).before 10 t d)) := by
  have hl : cfg1.idle 10 (grid1.coords t) = true := by
    rw [idle10 t]
    simp only [Bool.not_eq_true', beq_eq_false_iff_ne, ne_eq]
    exact fun hh => h ((hcond4 t).mp hh)
  have hf : (cfg1.win 10).flush t = false := Bool.eq_false_iff.mpr fun hf => h ((flush1_10 t).mp hf)
  exact Dat.leavesExact_idle _ 10 t hl hf

theorem leaves11_live (c : Dev nD) (t : Fin cfg1.N) (h : t.val % 500 = 499) :
    (dat1 V c).leavesExact 11 t = owns (c : Thread nD τ) (st1_11 t) fullShare (aLoss V c t) := by
  have hl : cfg1.idle 11 (grid1.coords t) = false := by
    rw [idle11 t]
    rw [(hcond4 t).mpr h]; rfl
  unfold Dat.leavesExact; rw [hl, after1_11]
theorem leaves11_idle (c : Dev nD) (t : Fin cfg1.N) (h : ¬ (t.val % 500 = 499)) :
    (dat1 V c).leavesExact 11 t = iprop(∃ d, owns (c : Thread nD τ) (st1_11 t) fullShare ((dat1 V c).before 11 t d)) := by
  have hl : cfg1.idle 11 (grid1.coords t) = true := by
    rw [idle11 t]
    simp only [Bool.not_eq_true', beq_eq_false_iff_ne, ne_eq]
    exact fun hh => h ((hcond4 t).mp hh)
  have hf : (cfg1.win 11).flush t = false := Bool.eq_false_iff.mpr fun hf => h ((flush1_11 t).mp hf)
  exact Dat.leavesExact_idle _ 11 t hl hf

theorem leaves12_live (c : Dev nD) (t : Fin cfg1.N) (h : t.val % 500 = 499) :
    (dat1 V c).leavesExact 12 t = owns (c : Thread nD τ) (st1_12 t) fullShare (aMar V c t) := by
  have hl : cfg1.idle 12 (grid1.coords t) = false := by
    rw [idle12 t]
    rw [(hcond4 t).mpr h]; rfl
  unfold Dat.leavesExact; rw [hl, after1_12]
theorem leaves12_idle (c : Dev nD) (t : Fin cfg1.N) (h : ¬ (t.val % 500 = 499)) :
    (dat1 V c).leavesExact 12 t = iprop(∃ d, owns (c : Thread nD τ) (st1_12 t) fullShare ((dat1 V c).before 12 t d)) := by
  have hl : cfg1.idle 12 (grid1.coords t) = true := by
    rw [idle12 t]
    simp only [Bool.not_eq_true', beq_eq_false_iff_ne, ne_eq]
    exact fun hh => h ((hcond4 t).mp hh)
  have hf : (cfg1.win 12).flush t = false := Bool.eq_false_iff.mpr fun hf => h ((flush1_12 t).mp hf)
  exact Dat.leavesExact_idle _ 12 t hl hf

/-- The body at a point, the parts that differ from point to point left open. -/
theorem run_at (c : Dev nD) (t : Fin cfg1.N) (P2 Q2 P4 Q3 Q4 : sProp 𝕄) (K : PUnit → sProp 𝕄)
    (h2 : ∀ K : PUnit → sProp 𝕄, iprop(P2 ∗ (Q2 -∗ K ⟨⟩)) ⊢ wp frame (wpE (defs₀ (F := F)) Variants.none c none) Set.univ (pZero (grid1.coords t) (st1_9 t)) K)
    (h3 : ∀ K : PUnit → sProp 𝕄, iprop(Q2 ∗ owns (c : Thread nD τ) (Memref.whole cc1_scratch1) fullShare (mMx V c t (prevSt V c t.val t.isLt)) ∗ owns (c : Thread nD τ) (Memref.whole cc1_scratch2) fullShare (mSm V c t (prevSt V c t.val t.isLt)) ∗ owns (c : Thread nD τ) (Memref.whole cc1_scratch3) fullShare (mTg V c t (prevSt V c t.val t.isLt)) ∗ (iprop(Q3 ∗ owns (c : Thread nD τ) (Memref.whole cc1_scratch1) fullShare (mMx V c t (prevSt V c t.val t.isLt)) ∗ owns (c : Thread nD τ) (Memref.whole cc1_scratch2) fullShare (mSm V c t (prevSt V c t.val t.isLt)) ∗ owns (c : Thread nD τ) (Memref.whole cc1_scratch3) fullShare (mTg V c t (prevSt V c t.val t.isLt))) -∗ K ⟨⟩)) ⊢ wp frame (wpE (defs₀ (F := F)) Variants.none c none) Set.univ (pFin (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _)) K)
    (h4 : ∀ K : PUnit → sProp 𝕄, iprop(Q3 ∗ iprop(owns (c : Thread nD τ) (st1_4 t) fullShare (iblk1 V c 4 t) ∗ owns (c : Thread nD τ) (st1_5 t) fullShare (iblk1 V c 5 t) ∗ owns (c : Thread nD τ) (st1_6 t) fullShare (iblk1 V c 6 t) ∗ owns (c : Thread nD τ) (st1_7 t) fullShare (iblk1 V c 7 t) ∗ owns (c : Thread nD τ) (st1_8 t) fullShare (iblk1 V c 8 t)) ∗ P4 ∗ (iprop(iprop(owns (c : Thread nD τ) (st1_4 t) fullShare (iblk1 V c 4 t) ∗ owns (c : Thread nD τ) (st1_5 t) fullShare (iblk1 V c 5 t) ∗ owns (c : Thread nD τ) (st1_6 t) fullShare (iblk1 V c 6 t) ∗ owns (c : Thread nD τ) (st1_7 t) fullShare (iblk1 V c 7 t) ∗ owns (c : Thread nD τ) (st1_8 t) fullShare (iblk1 V c 8 t)) ∗ Q4) -∗ K ⟨⟩)) ⊢ wp frame (wpE (defs₀ (F := F)) Variants.none c none) Set.univ (pDpo (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _)) K) :
    iprop(scrP V c t ∗ P2 ∗ P4 ∗ iprop(owns (c : Thread nD τ) (st1_4 t) fullShare (iblk1 V c 4 t) ∗ owns (c : Thread nD τ) (st1_5 t) fullShare (iblk1 V c 5 t) ∗ owns (c : Thread nD τ) (st1_6 t) fullShare (iblk1 V c 6 t) ∗ owns (c : Thread nD τ) (st1_7 t) fullShare (iblk1 V c 7 t) ∗ owns (c : Thread nD τ) (st1_8 t) fullShare (iblk1 V c 8 t)) ∗ owns (c : Thread nD τ) (st1_0 t) fullShare (iblk1 V c 0 t) ∗ owns (c : Thread nD τ) (st1_1 t) fullShare (iblk1 V c 1 t) ∗ owns (c : Thread nD τ) (st1_2 t) fullShare (iblk1 V c 2 t) ∗ owns (c : Thread nD τ) (st1_3 t) fullShare (iblk1 V c 3 t) ∗ (∃ d, owns (c : Thread nD τ) (Memref.whole cc1_scratch0) fullShare d)
        ∗ (iprop(owns (c : Thread nD τ) (Memref.whole cc1_scratch1) fullShare (mMx V c t (prevSt V c t.val t.isLt)) ∗ owns (c : Thread nD τ) (Memref.whole cc1_scratch2) fullShare (mSm V c t (prevSt V c t.val t.isLt)) ∗ owns (c : Thread nD τ) (Memref.whole cc1_scratch3) fullShare (mTg V c t (prevSt V c t.val t.isLt)) ∗ Q4 ∗ iprop(owns (c : Thread nD τ) (st1_4 t) fullShare (iblk1 V c 4 t) ∗ owns (c : Thread nD τ) (st1_5 t) fullShare (iblk1 V c 5 t) ∗ owns (c : Thread nD τ) (st1_6 t) fullShare (iblk1 V c 6 t) ∗ owns (c : Thread nD τ) (st1_7 t) fullShare (iblk1 V c 7 t) ∗ owns (c : Thread nD τ) (st1_8 t) fullShare (iblk1 V c 8 t)) ∗ owns (c : Thread nD τ) (st1_0 t) fullShare (iblk1 V c 0 t) ∗ owns (c : Thread nD τ) (st1_1 t) fullShare (iblk1 V c 1 t) ∗ owns (c : Thread nD τ) (st1_2 t) fullShare (iblk1 V c 2 t) ∗ owns (c : Thread nD τ) (st1_3 t) fullShare (iblk1 V c 3 t) ∗ (∃ d, owns (c : Thread nD τ) (Memref.whole cc1_scratch0) fullShare d)) -∗ K ⟨⟩))
      ⊢ wp frame (wpE (defs₀ (F := F)) Variants.none c none) Set.univ (bodyAt1 t) K :=
  bodyT c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) (iblk1 V c 0 t) (iblk1 V c 1 t) (iblk1 V c 2 t) (iblk1 V c 3 t) _ _ _ (scrP V c t) P2 Q2 P4 Q3 (iprop(owns (c : Thread nD τ) (st1_4 t) fullShare (iblk1 V c 4 t) ∗ owns (c : Thread nD τ) (st1_5 t) fullShare (iblk1 V c 5 t) ∗ owns (c : Thread nD τ) (st1_6 t) fullShare (iblk1 V c 6 t) ∗ owns (c : Thread nD τ) (st1_7 t) fullShare (iblk1 V c 7 t) ∗ owns (c : Thread nD τ) (st1_8 t) fullShare (iblk1 V c 8 t))) Q4 Set.univ K (ini1 V c t) h2 h3 h4

set_option maxHeartbeats 4000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [before1_0, before1_1, before1_2, before1_3, before1_4, before1_5, before1_6, before1_7, before1_8]
  rw [show (dat1 V c).owesAt () t.succ = (dat1 V c).owesAt () t.castSucc from rfl, PhiS_castSucc, PhiS_scrP,
    show (dat1 V c).Φ t.succ = PhiS V c (t.val + 1) t.isLt from rfl, after1_0, after1_1, after1_2, after1_3, after1_4, after1_5, after1_6, after1_7, after1_8]
  have hst : (st V c t.val t.isLt).tok = mTok V c t (prevSt V c t.val t.isLt) := by rw [st_eq]; rfl
  rw [show PhiS V c (t.val + 1) t.isLt = iprop((∃ d, owns (c : Thread nD τ) (Memref.whole cc1_scratch0) fullShare d) ∗ iprop(owns (c : Thread nD τ) (Memref.whole cc1_scratch1) fullShare (mMx V c t (prevSt V c t.val t.isLt)) ∗ owns (c : Thread nD τ) (Memref.whole cc1_scratch2) fullShare (mSm V c t (prevSt V c t.val t.isLt)) ∗ owns (c : Thread nD τ) (Memref.whole cc1_scratch3) fullShare (mTg V c t (prevSt V c t.val t.isLt))) ∗ restS (F := F) c) from by
    show iprop((∃ d, owns (c : Thread nD τ) (Memref.whole cc1_scratch0) fullShare d) ∗ (owns (c : Thread nD τ) (Memref.whole cc1_scratch1) fullShare (st V c t.val t.isLt).mx ∗ owns (c : Thread nD τ) (Memref.whole cc1_scratch2) fullShare (st V c t.val t.isLt).sm ∗ owns (c : Thread nD τ) (Memref.whole cc1_scratch3) fullShare (st V c t.val t.isLt).tg) ∗ restS (F := F) c) = _
    rw [st_eq]; rfl]
  by_cases h0 : t.val % 500 = 0
  · have h1 : ¬ t.val % 125 = 124 := by omega
    have h3 : ¬ t.val % 500 = 499 := by omega
    have e : (st V c t.val t.isLt).tok = k1_pay82 := by rw [hst]; unfold mTok; rw [if_pos h0]

    rw [leaves9_live V c t (.inl h0), e, leaves10_idle V c t h3, leaves11_idle V c t h3, leaves12_idle V c t h3]
    iintro ⟨⟨H15, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
    iapply (run_at V c t iprop(∃ d, owns (c : Thread nD τ) (st1_9 t) fullShare d) iprop(owns (c : Thread nD τ) (st1_9 t) fullShare k1_pay82) iprop((∃ d, owns (c : Thread nD τ) (st1_10 t) fullShare ((dat1 V c).before 10 t d)) ∗ (∃ d, owns (c : Thread nD τ) (st1_11 t) fullShare ((dat1 V c).before 11 t d)) ∗ (∃ d, owns (c : Thread nD τ) (st1_12 t) fullShare ((dat1 V c).before 12 t d))) iprop(owns (c : Thread nD τ) (st1_9 t) fullShare k1_pay82) iprop(owns (c : Thread nD τ) (st1_9 t) fullShare k1_pay82 ∗ (∃ d, owns (c : Thread nD τ) (st1_10 t) fullShare ((dat1 V c).before 10 t d)) ∗ (∃ d, owns (c : Thread nD τ) (st1_11 t) fullShare ((dat1 V c).before 11 t d)) ∗ (∃ d, owns (c : Thread nD τ) (st1_12 t) fullShare ((dat1 V c).before 12 t d))) _
      (fun K => zeroT c (grid1.coords t) _ (hst9 t) ((hcond2 t).mpr h0) Set.univ K)
      (fun K => by
        iintro ⟨HQ, H16, H17, H18, Hk⟩
        iapply (finF c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) (fun hh => h1 ((hcond3 t).mp hh)) Set.univ K)
        iapply Hk
        isplitl [HQ]; · iexact HQ
        isplitl [H16]; · iexact H16
        isplitl [H17]; · iexact H17
        iexact H18)
      (fun K => by
        iintro ⟨HQ, HR, HP, Hk⟩
        iapply (dpoF c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) (fun hh => h3 ((hcond4 t).mp hh)) Set.univ K)
        iapply Hk
        isplitl [HR]; · iexact HR
        isplitl [HQ]; · iexact HQ
        iexact HP))
    isplitl [HS]; · iexact HS
    isplitl [H9]; · icases H9 with ⟨%d9, H9⟩; iexists _; iexact H9
    isplitl [H10 H11 H12]
    · isplitl [H10]; · iexact H10
      isplitl [H11]; · iexact H11
      iexact H12
    isplitl [H4 H5 H6 H7 H8]
    · isplitl [H4]; · iexact H4
      isplitl [H5]; · iexact H5
      isplitl [H6]; · iexact H6
      isplitl [H7]; · iexact H7
      iexact H8
    isplitl [H0]; · iexact H0
    isplitl [H1]; · iexact H1
    isplitl [H2]; · iexact H2
    isplitl [H3]; · iexact H3
    isplitl [H15]; · iexact H15
    iintro ⟨H16, H17, H18, ⟨H9, H10, H11, H12⟩, ⟨H4, H5, H6, H7, H8⟩, H0, H1, H2, H3, H15⟩
    isplitl [H15 H16 H17 H18 HR]
    · isplitl [H15]; · iexact H15
      isplitl [H16 H17 H18]
      · isplitl [H16]; · iexact H16
        isplitl [H17]; · iexact H17
        iexact H18
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

  · by_cases h1 : t.val % 125 = 124
    · by_cases h3 : t.val % 500 = 499
      · simp only [before1_9 V c t h0]

        rw [leaves9_live V c t (.inr h1), leaves10_live V c t h3, leaves11_live V c t h3, leaves12_live V c t h3]
        iintro ⟨⟨H15, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
        iapply (run_at V c t iprop(owns (c : Thread nD τ) (st1_9 t) fullShare (prevSt V c t.val t.isLt).tok) iprop(owns (c : Thread nD τ) (st1_9 t) fullShare (prevSt V c t.val t.isLt).tok) iprop((∃ d, owns (c : Thread nD τ) (st1_10 t) fullShare ((dat1 V c).before 10 t d)) ∗ (∃ d, owns (c : Thread nD τ) (st1_11 t) fullShare ((dat1 V c).before 11 t d)) ∗ (∃ d, owns (c : Thread nD τ) (st1_12 t) fullShare ((dat1 V c).before 12 t d))) iprop(owns (c : Thread nD τ) (st1_9 t) fullShare (st V c t.val t.isLt).tok) iprop(owns (c : Thread nD τ) (st1_9 t) fullShare (st V c t.val t.isLt).tok ∗ owns (c : Thread nD τ) (st1_10 t) fullShare (aPol V c t) ∗ owns (c : Thread nD τ) (st1_11 t) fullShare (aLoss V c t) ∗ owns (c : Thread nD τ) (st1_12 t) fullShare (aMar V c t)) _
          (fun K => by
            iintro ⟨HP, Hk⟩
            iapply (zeroF c (grid1.coords t) _ (fun hh => h0 ((hcond2 t).mp hh)) Set.univ K)
            iapply Hk
            iexact HP)
          (fun K => by
            rw [hst]
            unfold mTok
            rw [if_neg h0, dif_pos h1]
            by_cases hp : t.val / 125 % 2 = 0
            · rw [dif_pos hp]
              iintro ⟨HQ, H16, H17, H18, Hk⟩
              iapply (fin0T c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) ((hcond3 t).mpr h1) (off0_0 t hp) (off0_1 t hp) (off0_2 t hp) (off0_3 t hp) (off0_4 t hp) (off0_5 t hp) (off0_6 t hp) (off0_7 t hp) (off0_8 t hp) (off0_9 t hp) (off0_10 t hp) (off0_11 t hp) _ _ _ _ Set.univ K)
              isplitl [HQ]; · iexact HQ
              isplitl [H16]; · iexact H16
              isplitl [H17]; · iexact H17
              isplitl [H18]; · iexact H18
              iintro ⟨HQ, H16, H17, H18⟩
              iapply Hk
              isplitl [HQ]; · iexact HQ
              isplitl [H16]; · iexact H16
              isplitl [H17]; · iexact H17
              iexact H18
            · rw [dif_neg hp]
              have hp : t.val / 125 % 2 = 1 := by omega
              iintro ⟨HQ, H16, H17, H18, Hk⟩
              iapply (fin1T c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) ((hcond3 t).mpr h1) (off1_0 t hp) (off1_1 t hp) (off1_2 t hp) (off1_3 t hp) (off1_4 t hp) (off1_5 t hp) (off1_6 t hp) (off1_7 t hp) (off1_8 t hp) (off1_9 t hp) (off1_10 t hp) (off1_11 t hp) _ _ _ _ Set.univ K)
              isplitl [HQ]; · iexact HQ
              isplitl [H16]; · iexact H16
              isplitl [H17]; · iexact H17
              isplitl [H18]; · iexact H18
              iintro ⟨HQ, H16, H17, H18⟩
              iapply Hk
              isplitl [HQ]; · iexact HQ
              isplitl [H16]; · iexact H16
              isplitl [H17]; · iexact H17
              iexact H18)
          (fun K => by
            unfold aPol aLoss aMar
            rw [dif_pos h3, dif_pos h3, dif_pos h3]
            iintro ⟨HQ, ⟨H6, H7, H8, H9, H10⟩, ⟨H12, H13, H14⟩, Hk⟩
            iapply (dpoT c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) ((hcond4 t).mpr h3) (iblk1 V c 4 t) (iblk1 V c 5 t) (iblk1 V c 6 t) (iblk1 V c 7 t) (iblk1 V c 8 t) (st V c t.val t.isLt).tok Set.univ K)
            isplitl [H6]; · iexact H6
            isplitl [H7]; · iexact H7
            isplitl [H8]; · iexact H8
            isplitl [H9]; · iexact H9
            isplitl [H10]; · iexact H10
            isplitl [HQ]; · iexact HQ
            isplitl [H12]; · icases H12 with ⟨%d, H12⟩; iexists _; iexact H12
            isplitl [H13]; · icases H13 with ⟨%d, H13⟩; iexists _; iexact H13
            isplitl [H14]; · icases H14 with ⟨%d, H14⟩; iexists _; iexact H14
            iintro ⟨H6, H7, H8, H9, H10, HQ, H12, H13, H14⟩
            iapply Hk
            isplitl [H6 H7 H8 H9 H10]
            · isplitl [H6]; · iexact H6
              isplitl [H7]; · iexact H7
              isplitl [H8]; · iexact H8
              isplitl [H9]; · iexact H9
              iexact H10
            isplitl [HQ]; · iexact HQ
            isplitl [H12]; · iexact H12
            isplitl [H13]; · iexact H13
            iexact H14))
        isplitl [HS]; · iexact HS
        isplitl [H9]; · icases H9 with ⟨%d9, H9⟩; iexact H9
        isplitl [H10 H11 H12]
        · isplitl [H10]; · iexact H10
          isplitl [H11]; · iexact H11
          iexact H12
        isplitl [H4 H5 H6 H7 H8]
        · isplitl [H4]; · iexact H4
          isplitl [H5]; · iexact H5
          isplitl [H6]; · iexact H6
          isplitl [H7]; · iexact H7
          iexact H8
        isplitl [H0]; · iexact H0
        isplitl [H1]; · iexact H1
        isplitl [H2]; · iexact H2
        isplitl [H3]; · iexact H3
        isplitl [H15]; · iexact H15
        iintro ⟨H16, H17, H18, ⟨H9, H10, H11, H12⟩, ⟨H4, H5, H6, H7, H8⟩, H0, H1, H2, H3, H15⟩
        isplitl [H15 H16 H17 H18 HR]
        · isplitl [H15]; · iexact H15
          isplitl [H16 H17 H18]
          · isplitl [H16]; · iexact H16
            isplitl [H17]; · iexact H17
            iexact H18
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12

      · simp only [before1_9 V c t h0]

        rw [leaves9_live V c t (.inr h1), leaves10_idle V c t h3, leaves11_idle V c t h3, leaves12_idle V c t h3]
        iintro ⟨⟨H15, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
        iapply (run_at V c t iprop(owns (c : Thread nD τ) (st1_9 t) fullShare (prevSt V c t.val t.isLt).tok) iprop(owns (c : Thread nD τ) (st1_9 t) fullShare (prevSt V c t.val t.isLt).tok) iprop((∃ d, owns (c : Thread nD τ) (st1_10 t) fullShare ((dat1 V c).before 10 t d)) ∗ (∃ d, owns (c : Thread nD τ) (st1_11 t) fullShare ((dat1 V c).before 11 t d)) ∗ (∃ d, owns (c : Thread nD τ) (st1_12 t) fullShare ((dat1 V c).before 12 t d))) iprop(owns (c : Thread nD τ) (st1_9 t) fullShare (st V c t.val t.isLt).tok) iprop(owns (c : Thread nD τ) (st1_9 t) fullShare (st V c t.val t.isLt).tok ∗ (∃ d, owns (c : Thread nD τ) (st1_10 t) fullShare ((dat1 V c).before 10 t d)) ∗ (∃ d, owns (c : Thread nD τ) (st1_11 t) fullShare ((dat1 V c).before 11 t d)) ∗ (∃ d, owns (c : Thread nD τ) (st1_12 t) fullShare ((dat1 V c).before 12 t d))) _
          (fun K => by
            iintro ⟨HP, Hk⟩
            iapply (zeroF c (grid1.coords t) _ (fun hh => h0 ((hcond2 t).mp hh)) Set.univ K)
            iapply Hk
            iexact HP)
          (fun K => by
            rw [hst]
            unfold mTok
            rw [if_neg h0, dif_pos h1]
            by_cases hp : t.val / 125 % 2 = 0
            · rw [dif_pos hp]
              iintro ⟨HQ, H16, H17, H18, Hk⟩
              iapply (fin0T c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) ((hcond3 t).mpr h1) (off0_0 t hp) (off0_1 t hp) (off0_2 t hp) (off0_3 t hp) (off0_4 t hp) (off0_5 t hp) (off0_6 t hp) (off0_7 t hp) (off0_8 t hp) (off0_9 t hp) (off0_10 t hp) (off0_11 t hp) _ _ _ _ Set.univ K)
              isplitl [HQ]; · iexact HQ
              isplitl [H16]; · iexact H16
              isplitl [H17]; · iexact H17
              isplitl [H18]; · iexact H18
              iintro ⟨HQ, H16, H17, H18⟩
              iapply Hk
              isplitl [HQ]; · iexact HQ
              isplitl [H16]; · iexact H16
              isplitl [H17]; · iexact H17
              iexact H18
            · rw [dif_neg hp]
              have hp : t.val / 125 % 2 = 1 := by omega
              iintro ⟨HQ, H16, H17, H18, Hk⟩
              iapply (fin1T c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) ((hcond3 t).mpr h1) (off1_0 t hp) (off1_1 t hp) (off1_2 t hp) (off1_3 t hp) (off1_4 t hp) (off1_5 t hp) (off1_6 t hp) (off1_7 t hp) (off1_8 t hp) (off1_9 t hp) (off1_10 t hp) (off1_11 t hp) _ _ _ _ Set.univ K)
              isplitl [HQ]; · iexact HQ
              isplitl [H16]; · iexact H16
              isplitl [H17]; · iexact H17
              isplitl [H18]; · iexact H18
              iintro ⟨HQ, H16, H17, H18⟩
              iapply Hk
              isplitl [HQ]; · iexact HQ
              isplitl [H16]; · iexact H16
              isplitl [H17]; · iexact H17
              iexact H18)
          (fun K => by
            iintro ⟨HQ, HR, HP, Hk⟩
            iapply (dpoF c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) (fun hh => h3 ((hcond4 t).mp hh)) Set.univ K)
            iapply Hk
            isplitl [HR]; · iexact HR
            isplitl [HQ]; · iexact HQ
            iexact HP))
        isplitl [HS]; · iexact HS
        isplitl [H9]; · icases H9 with ⟨%d9, H9⟩; iexact H9
        isplitl [H10 H11 H12]
        · isplitl [H10]; · iexact H10
          isplitl [H11]; · iexact H11
          iexact H12
        isplitl [H4 H5 H6 H7 H8]
        · isplitl [H4]; · iexact H4
          isplitl [H5]; · iexact H5
          isplitl [H6]; · iexact H6
          isplitl [H7]; · iexact H7
          iexact H8
        isplitl [H0]; · iexact H0
        isplitl [H1]; · iexact H1
        isplitl [H2]; · iexact H2
        isplitl [H3]; · iexact H3
        isplitl [H15]; · iexact H15
        iintro ⟨H16, H17, H18, ⟨H9, H10, H11, H12⟩, ⟨H4, H5, H6, H7, H8⟩, H0, H1, H2, H3, H15⟩
        isplitl [H15 H16 H17 H18 HR]
        · isplitl [H15]; · iexact H15
          isplitl [H16 H17 H18]
          · isplitl [H16]; · iexact H16
            isplitl [H17]; · iexact H17
            iexact H18
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12

    · have h3 : ¬ t.val % 500 = 499 := by omega

      rw [leaves9_idle V c t (by omega), leaves10_idle V c t h3, leaves11_idle V c t h3, leaves12_idle V c t h3]
      iintro ⟨⟨H15, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
      iapply (run_at V c t iprop((∃ d, owns (c : Thread nD τ) (st1_9 t) fullShare ((dat1 V c).before 9 t d))) iprop((∃ d, owns (c : Thread nD τ) (st1_9 t) fullShare ((dat1 V c).before 9 t d))) iprop((∃ d, owns (c : Thread nD τ) (st1_10 t) fullShare ((dat1 V c).before 10 t d)) ∗ (∃ d, owns (c : Thread nD τ) (st1_11 t) fullShare ((dat1 V c).before 11 t d)) ∗ (∃ d, owns (c : Thread nD τ) (st1_12 t) fullShare ((dat1 V c).before 12 t d))) iprop((∃ d, owns (c : Thread nD τ) (st1_9 t) fullShare ((dat1 V c).before 9 t d))) iprop((∃ d, owns (c : Thread nD τ) (st1_9 t) fullShare ((dat1 V c).before 9 t d)) ∗ (∃ d, owns (c : Thread nD τ) (st1_10 t) fullShare ((dat1 V c).before 10 t d)) ∗ (∃ d, owns (c : Thread nD τ) (st1_11 t) fullShare ((dat1 V c).before 11 t d)) ∗ (∃ d, owns (c : Thread nD τ) (st1_12 t) fullShare ((dat1 V c).before 12 t d))) _
        (fun K => by
          iintro ⟨HP, Hk⟩
          iapply (zeroF c (grid1.coords t) _ (fun hh => h0 ((hcond2 t).mp hh)) Set.univ K)
          iapply Hk
          iexact HP)
        (fun K => by
          iintro ⟨HQ, H16, H17, H18, Hk⟩
          iapply (finF c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) (fun hh => h1 ((hcond3 t).mp hh)) Set.univ K)
          iapply Hk
          isplitl [HQ]; · iexact HQ
          isplitl [H16]; · iexact H16
          isplitl [H17]; · iexact H17
          iexact H18)
        (fun K => by
          iintro ⟨HQ, HR, HP, Hk⟩
          iapply (dpoF c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) (fun hh => h3 ((hcond4 t).mp hh)) Set.univ K)
          iapply Hk
          isplitl [HR]; · iexact HR
          isplitl [HQ]; · iexact HQ
          iexact HP))
      isplitl [HS]; · iexact HS
      isplitl [H9]; · iexact H9
      isplitl [H10 H11 H12]
      · isplitl [H10]; · iexact H10
        isplitl [H11]; · iexact H11
        iexact H12
      isplitl [H4 H5 H6 H7 H8]
      · isplitl [H4]; · iexact H4
        isplitl [H5]; · iexact H5
        isplitl [H6]; · iexact H6
        isplitl [H7]; · iexact H7
        iexact H8
      isplitl [H0]; · iexact H0
      isplitl [H1]; · iexact H1
      isplitl [H2]; · iexact H2
      isplitl [H3]; · iexact H3
      isplitl [H15]; · iexact H15
      iintro ⟨H16, H17, H18, ⟨H9, H10, H11, H12⟩, ⟨H4, H5, H6, H7, H8⟩, H0, H1, H2, H3, H15⟩
      isplitl [H15 H16 H17 H18 HR]
      · isplitl [H15]; · iexact H15
        isplitl [H16 H17 H18]
        · isplitl [H16]; · iexact H16
          isplitl [H17]; · iexact H17
          iexact H18
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! ## Entering and leaving the region -/

theorem PhiA1_eq (c : Dev nD) :
    (Pipeline.ΦA spec1 c : sProp 𝕄) ⊢ PhiS V c 0 (Nat.zero_le _) := by
  unfold Pipeline.ΦA PhiS restS; rw [scopedRest1_eq]; simp only [owns_whole]
  iintro ⟨⟨A, B, C, D, X, Y, S0, S1, S2, S3⟩, G⟩
  isplitl [S0]; · iexact S0
  isplitl [S1 S2 S3]
  · isplitl [S1]; · iexact S1
    isplitl [S2]; · iexact S2
    iexact S3
  isplitl [A]; · iexact A
  isplitl [B]; · iexact B
  isplitl [C]; · iexact C
  isplitl [D]; · iexact D
  isplitl [X]; · iexact X
  isplitl [Y]; · iexact Y
  iexact G

theorem hin1 (c : Dev nD) : (Pipeline.ΦA spec1 c : sProp 𝕄) ⊢ (dat1 V c).Φ 0 := PhiA1_eq V c

theorem hout1 (c : Dev nD) : (dat1 V c).Φ (Fin.last cfg1.N) ⊢ (Pipeline.ΦA spec1 c : sProp 𝕄) := by
  rw [show (dat1 V c).Φ (Fin.last cfg1.N) = PhiS V c (499 + 1) (le_of_eq (show 500 = cfg1.N from N_1.symm)) from rfl]
  unfold Pipeline.ΦA PhiS restS; rw [scopedRest1_eq]; simp only [owns_whole]
  iintro ⟨S0, ⟨S1, S2, S3⟩, A, B, C, D, X, Y, G⟩
  isplitr [G]
  · isplitl [A]; · iexact A
    isplitl [B]; · iexact B
    isplitl [C]; · iexact C
    isplitl [D]; · iexact D
    isplitl [X]; · iexact X
    isplitl [Y]; · iexact Y
    isplitl [S0]; · iexact S0
    isplitl [S1]; · iexists _; iexact S1
    isplitl [S2]; · iexists _; iexact S2
    iexists _; iexact S3
  iexact G

end Regions

end Cert.KernelIdeal.Hand

end
-- ==== Proof.RunAll.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Pipeline.RegionsLoop
public import Idealize.ShloMosaic.Lib.Pipeline.FrameSuffix
public import Idealize.ShloMosaic.Lib.UnfoldOut
public import Idealize.ShloMosaic.Lib.VecWindow
public import Idealize.ShloMosaic.Lib.Tactic
public import Idealize.ShloMosaic.Lib.WordCmp
public import proofs.«01_k».proof.Proof.Widen
public import proofs.«01_k».proof.Proof.Region1

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of the program -/

/-- At the launch. -/
abbrev W0 : Dev nD → Valuation τ sig (Elt F) := fun c b => m (c, b)
/-- After the first host stretch. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the widening call. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch. -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- After the main call. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- At the end. -/
abbrev W5 (c : Dev nD) : Valuation τ sig (Elt F) := StableHlo.after hostOps2 (W4 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (A_eq0 (V1 m) c w))
  · exact W2_of_ne m c r fun w e => hw ⟨w, e⟩
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m c (Proc.devRef .tc r) = W3 m c (Proc.devRef .tc r) := by
  by_cases hw : ∃ w : Fin cfg1.W, Pipeline.arrRef spec1 w = r
  · obtain ⟨w, rfl⟩ := hw
    exact (W4_arr m c w).trans (((dat1 (V3 m) c).arrAt_in w (h w rfl) _).trans (A_eq1 (V3 m) c w))
  · exact W4_of_ne m c r fun w e => hw ⟨w, e⟩
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

theorem ops0_fresh : (hostOps0 : List (HloOp τ sig (Elt F))).Forall fun op => op.fresh = ∅ := by
  simp only [List.Forall]; repeat' constructor
theorem ops0_writes : (hostOps0 : List (HloOp τ sig (Elt F))).Forall fun op => op.writes ⊆ (([main_v0, main_v1] : List (Ref sig .tc)).map (Proc.devRef (τ := τ) .tc)).toFinset :=
  StableHlo.forall_writes_sub_of_map rfl
theorem W1_host (c : Dev nD) (r : Ref sig .tc) (h : r ∉ ([main_v0, main_v1] : List (Ref sig .tc))) : W1 m c r = W0 m c r :=
  StableHlo.after_of_writes_sub hostOps0 _ ops0_writes h

theorem ops1_fresh : (hostOps1 : List (HloOp τ sig (Elt F))).Forall fun op => op.fresh = ∅ := by
  simp only [List.Forall]; repeat' constructor
theorem ops1_writes : (hostOps1 : List (HloOp τ sig (Elt F))).Forall fun op => op.writes ⊆ (([main_v3, main_v4, main_v5, main_v6] : List (Ref sig .tc)).map (Proc.devRef (τ := τ) .tc)).toFinset :=
  StableHlo.forall_writes_sub_of_map rfl
theorem W3_host (c : Dev nD) (r : Ref sig .tc) (h : r ∉ ([main_v3, main_v4, main_v5, main_v6] : List (Ref sig .tc))) : W3 m c r = W2 m c r :=
  StableHlo.after_of_writes_sub hostOps1 _ ops1_writes h

theorem ops2_fresh : (hostOps2 : List (HloOp τ sig (Elt F))).Forall fun op => op.fresh = ∅ := by
  simp only [List.Forall]; repeat' constructor
theorem ops2_writes : (hostOps2 : List (HloOp τ sig (Elt F))).Forall fun op => op.writes ⊆ (([main_v8, main_v9, main_v10] : List (Ref sig .tc)).map (Proc.devRef (τ := τ) .tc)).toFinset :=
  StableHlo.forall_writes_sub_of_map rfl
theorem W5_host (c : Dev nD) (r : Ref sig .tc) (h : r ∉ ([main_v8, main_v9, main_v10] : List (Ref sig .tc))) : W5 m c r = W4 m c r :=
  StableHlo.after_of_writes_sub hostOps2 _ ops2_writes h

/-- The argument arrays. -/
abbrev argRefs : List (Ref sig .tc) := [main_arg0, main_arg1, main_arg2, main_arg3, main_arg4, main_arg5, main_arg6, main_arg7, main_arg8, main_arg9]
theorem argsIn0 : ∀ a ∈ argRefs, ∀ w : Fin cfg0.W, Pipeline.arrRef spec0 w = a → (cfg0.win w).isOut = false :=
  ListAll.forall_mem_of_all_decide (by decide +kernel)
theorem argsIn1 : ∀ a ∈ argRefs, ∀ w : Fin cfg1.W, Pipeline.arrRef spec1 w = a → (cfg1.win w).isOut = false :=
  ListAll.forall_mem_of_all_decide (by decide +kernel)
theorem argsH : ∀ a ∈ argRefs, a ∉ ([main_v0, main_v1] : List (Ref sig .tc)) ∧ a ∉ ([main_v3, main_v4, main_v5, main_v6] : List (Ref sig .tc)) ∧ a ∉ ([main_v8, main_v9, main_v10] : List (Ref sig .tc)) :=
  ListAll.forall_mem_of_all_decide (by decide +kernel)
/-- Every argument ends as launched. -/
theorem W5_args (c : Dev nD) (a : Ref sig .tc) (ha : a ∈ argRefs) : W5 m c (Proc.devRef .tc a) = m ((c : Thread nD τ).loc a) :=
  (W5_host m c a (argsH a ha).2.2).trans <| (W4_of m c a (argsIn1 a ha)).trans <| (W3_host m c a (argsH a ha).2.1).trans <|
    (W2_of m c a (argsIn0 a ha)).trans <| (W1_host m c a (argsH a ha).1).trans rfl

/-! ## The segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers: the generator register and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

-- `iapply` of a library lemma stated over `pin pcs a p` unifies with the pinned configuration only when unification may
-- unfold plain definitions in a metavariable's type
set_option backward.isDefEq.respectTransparency.types false in
/-- The widening call over the thread state. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- The main call over the thread state. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) (A_eq1 (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m 1 c).Φ 0 := hin1 (V3 m) c
    unfold Pipeline.ΦA at h
    iintro ⟨Hp, -, Hr⟩
    iapply h
    isplitl [Hr]; · iexact Hr
    iexact Hp
  hout c := by
    rw [Pipeline.ownSems0_none]
    have h : (pdats m 1 c).Φ (Fin.last (Pipeline.pin pcfgs adm 1).N) ⊢ (Pipeline.ΦA spec1 c : sProp 𝕄) := hout1 (V3 m) c
    unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub ops0_fresh (W0 m)),
    .region (reg0 m),
    .host (hseg hostOps1 hostOps1_sub ops1_fresh (W2 m)),
    .region (reg1 m),
    .host (hseg hostOps2 hostOps2_sub ops2_fresh (W4 m)) ]
theorem main_run (c : Dev nD) : main (F := F) c = Pipeline.Seg.run (segs m) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: every weakly fair execution ends, every unscoped buffer holds what the boundaries above say, and every semaphore counter is zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m c b)
      ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      unfold R
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h hz => ⟨h, funext fun g => hz g (.inr (no_unscoped g.2))⟩)

/-- The arguments end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1 c _ (mem_uc main_arg0 (by decide))).trans (W5_args m c main_arg0 (by decide)),
    (h.1 c _ (mem_uc main_arg1 (by decide))).trans (W5_args m c main_arg1 (by decide)),
    (h.1 c _ (mem_uc main_arg2 (by decide))).trans (W5_args m c main_arg2 (by decide)),
    (h.1 c _ (mem_uc main_arg3 (by decide))).trans (W5_args m c main_arg3 (by decide)),
    (h.1 c _ (mem_uc main_arg4 (by decide))).trans (W5_args m c main_arg4 (by decide)),
    (h.1 c _ (mem_uc main_arg5 (by decide))).trans (W5_args m c main_arg5 (by decide)),
    (h.1 c _ (mem_uc main_arg6 (by decide))).trans (W5_args m c main_arg6 (by decide)),
    (h.1 c _ (mem_uc main_arg7 (by decide))).trans (W5_args m c main_arg7 (by decide)),
    (h.1 c _ (mem_uc main_arg8 (by decide))).trans (W5_args m c main_arg8 (by decide)),
    (h.1 c _ (mem_uc main_arg9 (by decide))).trans (W5_args m c main_arg9 (by decide))⟩, h.2⟩) (run m ρ)

end Cert.KernelIdeal.Hand

end
-- ==== Proof.Blocks.lean ====
module

public import proofs.«01_k».proof.Proof.RunAll
public import Idealize.ShloMosaic.Lib.Pipeline.ValueKit
public import Idealize.ShloMosaic.Lib.Pointwise
public import Idealize.ShloMosaic.Lib.Pipeline.ReadBack

@[expose] public section

set_option maxRecDepth 16384

noncomputable section

namespace Cert.KernelIdeal.Hand

open Idealize.ShloMosaic Idealize.ShloMosaic.TcCoe Idealize.SL.Sem
open Cert.KernelIdeal Cert.KernelIdeal.Gen

/-! The blocks of the windows, read off their arrays, and the coordinates of the grid points. -/

theorem co0 : ∀ t : Fin cfg1.N, (grid1.coords t 0).val = t.val / 125 := by decide +kernel
theorem co1 : ∀ t : Fin cfg1.N, (grid1.coords t 1).val = t.val % 125 := by decide +kernel
theorem idx1_0 : ∀ t : Fin cfg1.N, win1_0.index t = ![t.val / 125, 0] := by decide +kernel
theorem idx1_1 : ∀ t : Fin cfg1.N, win1_1.index t = ![t.val % 125, 0] := by decide +kernel
theorem idx1_2 : ∀ t : Fin cfg1.N, win1_2.index t = ![t.val % 125, 0] := by decide +kernel
theorem idx1_3 : ∀ t : Fin cfg1.N, win1_3.index t = ![t.val / 125, 0] := by decide +kernel
theorem idx1_4 : ∀ t : Fin cfg1.N, win1_4.index t = ![0, 0] := by decide +kernel
theorem idx1_5 : ∀ t : Fin cfg1.N, win1_5.index t = ![0, 0] := by decide +kernel
theorem idx1_6 : ∀ t : Fin cfg1.N, win1_6.index t = ![0, 0] := by decide +kernel
theorem idx1_7 : ∀ t : Fin cfg1.N, win1_7.index t = ![0, 0] := by decide +kernel
theorem idx1_8 : ∀ t : Fin cfg1.N, win1_8.index t = ![0, 0] := by decide +kernel
theorem idx1_9 : ∀ t : Fin cfg1.N, win1_9.index t = ![0, 0] := by decide +kernel
theorem idx1_10 : ∀ t : Fin cfg1.N, win1_10.index t = ![0, 0] := by decide +kernel
theorem idx1_11 : ∀ t : Fin cfg1.N, win1_11.index t = ![0, 0] := by decide +kernel
theorem idx1_12 : ∀ t : Fin cfg1.N, win1_12.index t = ![0, 0] := by decide +kernel
theorem idx0_0 : ∀ t : Fin cfg0.N, win0_0.index t = ![t.val, 0] := by decide +kernel
theorem idx0_1 : ∀ t : Fin cfg0.N, win0_1.index t = ![t.val, 0] := by decide +kernel
theorem idx0_2 : ∀ t : Fin cfg0.N, win0_2.index t = ![t.val, 0] := by decide +kernel

variable (V : (c : Dev nD) → (b : Ref sig .tc) → Buf (Elt Ideal) ((c : Thread nD τ).loc b))

theorem iblk1_0 (c : Dev nD) (t : Fin cfg1.N) (r : Fin 1536) (k : Fin 7168) : iblk1 V c 0 t (ix2 r k) = V c main_v2 (ix2 ⟨1536 * (t.val / 125) + r.val, by have : t.val < 500 := t.isLt; omega⟩ k) := by
  blk_ext [iblk1, idx1_0 t]

theorem iblk1_1 (c : Dev nD) (t : Fin cfg1.N) (r : Fin 256) (k : Fin 7168) : iblk1 V c 1 t (ix2 r k) = V c main_arg2 (ix2 ⟨256 * (t.val % 125) + r.val, by omega⟩ k) := by
  blk_ext [iblk1, idx1_1 t]

theorem iblk1_2 (c : Dev nD) (t : Fin cfg1.N) (r : Fin 256) (k : Fin 224) : iblk1 V c 2 t (ix2 r k) = V c main_arg3 (ix2 ⟨256 * (t.val % 125) + r.val, by omega⟩ k) := by
  blk_ext [iblk1, idx1_2 t]

theorem iblk1_3 (c : Dev nD) (t : Fin cfg1.N) (r : Fin 1536) (k : Fin 1) : iblk1 V c 3 t (ix2 r k) = V c main_v3 (ix2 ⟨1536 * (t.val / 125) + r.val, by have : t.val < 500 := t.isLt; omega⟩ k) := by
  blk_ext [iblk1, idx1_3 t]

theorem iblk1_4 (c : Dev nD) (t : Fin cfg1.N) (y : S6x1024.Idx) : iblk1 V c 4 t y = V c main_arg5 y := by
  blk_ext [iblk1, idx1_4 t]

theorem iblk1_5 (c : Dev nD) (t : Fin cfg1.N) (y : S6x1024.Idx) : iblk1 V c 5 t y = V c main_arg6 y := by
  blk_ext [iblk1, idx1_5 t]

theorem iblk1_6 (c : Dev nD) (t : Fin cfg1.N) (y : S1x24.Idx) : iblk1 V c 6 t y = V c main_v4 y := by
  blk_ext [iblk1, idx1_6 t]

theorem iblk1_7 (c : Dev nD) (t : Fin cfg1.N) (y : S1x12.Idx) : iblk1 V c 7 t y = V c main_v5 y := by
  blk_ext [iblk1, idx1_7 t]

theorem iblk1_8 (c : Dev nD) (t : Fin cfg1.N) (y : S1x12.Idx) : iblk1 V c 8 t y = V c main_v6 y := by
  blk_ext [iblk1, idx1_8 t]

theorem iblk0_0 (c : Dev nD) (t : Fin cfg0.N) (r : Fin 256) (k : Fin 7168) : iblk0 V c 0 t (ix2 r k) = V c main_v0 (ix2 ⟨256 * t.val + r.val, by have : t.val < 24 := t.isLt; omega⟩ k) := by
  blk_ext [iblk0, idx0_0 t]

theorem iblk0_1 (c : Dev nD) (t : Fin cfg0.N) (r : Fin 256) (k : Fin 224) : iblk0 V c 1 t (ix2 r k) = V c main_v1 (ix2 ⟨256 * t.val + r.val, by have : t.val < 24 := t.isLt; omega⟩ k) := by
  blk_ext [iblk0, idx0_1 t]

end Cert.KernelIdeal.Hand

end
-- ==== Proof.Inv.lean ====
module

public import proofs.«01_k».proof.Proof.Mid
public import proofs.«01_k».proof.Proof.Blocks

@[expose] public section

set_option maxRecDepth 16384

noncomputable section

namespace Cert.KernelIdeal.Hand

open Idealize.ShloMosaic Idealize.ShloMosaic.TcCoe Idealize.SL.Sem
open Cert.KernelIdeal Cert.KernelIdeal.Gen

/-! The running maximum, sum and pick of every row after each point of the main call. -/

variable (V : (c : Dev nD) → (b : Ref sig .tc) → Buf (Elt Ideal) ((c : Thread nD τ).loc b))

/-- Entry `k` of the widened hidden state of token `n`. -/
def hid (c : Dev nD) (n : Fin 6144) (k : Fin 7168) : EReal := V c main_v2 (ix2 n k)

/-- Entry `k` of the quantised row of vocabulary entry `v`. -/
def wq (c : Dev nD) (v : Fin 32000) (k : Fin 7168) : EReal := V c main_arg2 (ix2 v k)

/-- The scale of block `k` of vocabulary entry `v`. -/
def ws (c : Dev nD) (v : Fin 32000) (k : Fin 224) : EReal := V c main_arg3 (ix2 v k)

/-- The logit of token `n` and vocabulary entry `v`, zero outside the arrays. -/
def X (c : Dev nD) (n v : ℕ) : EReal :=
  if h : n < 6144 ∧ v < 32000 then ∑ k : Fin 7168, hid V c ⟨n, h.1⟩ k * (wq V c ⟨v, h.2⟩ k * ws V c ⟨v, h.2⟩ ⟨k.val / 32, by omega⟩) else 0

/-- The label of token `n`. -/
def lab (c : Dev nD) (n : ℕ) : ℕ := if h : n < 6144 then BitVec.toNat (w := 32) (V c main_v3 (ix2 ⟨n, h⟩ 0)) else 0

/-- The constant that the running maximum starts from. -/
def B0 : EReal := Scalar.ofBits (F := Ideal) .f32 0xF149F2CA#32

theorem lgt_eq (c : Dev nD) (t : Fin cfg1.N) (arg3 : Memref sig .tc .vmem S256x7168 .fp8e4m3) (harg3 : arg3.IsWhole) (arg4 : Memref sig .tc .vmem S256x224 .f32) (harg4 : arg4.IsWhole) (arg15 : Memref sig .tc .vmem S256x7168 .bf16)
    (r : Fin 1536) (v : Fin 256) :
    lgt (iblk1 V c 0 t) (midRun.sl.v993 (F := Ideal) c arg3 harg3 arg4 harg4 arg15 (iblk1 V c 1 t) (iblk1 V c 2 t)) r v = X V c (1536 * (t.val / 125) + r.val) (256 * (t.val % 125) + v.val) := by
  have ht : t.val < 500 := t.isLt
  unfold lgt X
  rw [dif_pos ⟨by omega, by omega⟩]
  refine Finset.sum_congr rfl fun k _ => ?_
  rw [v993_apply, iblk1_0]
  unfold scaled
  exact congrArg₂ (fun a b : EReal => hid V c ⟨1536 * (t.val / 125) + r.val, by omega⟩ k * (a * b)) (iblk1_1 V c t v k) (iblk1_2 V c t v ⟨k.val / 32, by omega⟩)

theorem mMx_apply (c : Dev nD) (t : Fin cfg1.N) (s : St Ideal) (r : Fin 1536) (l : Fin 128) :
    mMx V c t s (ix2 r l) = max (max ((ini t s).mx (ix2 r l)) (X V c (1536 * (t.val / 125) + r.val) (256 * (t.val % 125) + l.val))) (X V c (1536 * (t.val / 125) + r.val) (256 * (t.val % 125) + (128 + l.val))) := by
  unfold mMx
  rw [midM_apply]
  show max (max _ (lgt _ _ r ⟨l.val, _⟩)) (lgt _ _ r ⟨128 + l.val, _⟩) = _
  rw [lgt_eq, lgt_eq]

theorem mSm_apply (c : Dev nD) (t : Fin cfg1.N) (s : St Ideal) (r : Fin 1536) (l : Fin 128) :
    mSm V c t s (ix2 r l) = ((ini t s).sm (ix2 r l) * Ideal.exp ((ini t s).mx (ix2 r l) - mMx V c t s (ix2 r l)) + Ideal.exp (X V c (1536 * (t.val / 125) + r.val) (256 * (t.val % 125) + l.val) - mMx V c t s (ix2 r l)))
      + Ideal.exp (X V c (1536 * (t.val / 125) + r.val) (256 * (t.val % 125) + (128 + l.val)) - mMx V c t s (ix2 r l)) := by
  rw [mMx_apply]
  unfold mSm
  rw [midL_apply]
  show (_ * Ideal.exp (_ - max (max _ (lgt _ _ r ⟨l.val, _⟩)) (lgt _ _ r ⟨128 + l.val, _⟩)) + Ideal.exp (lgt _ _ r ⟨l.val, _⟩ - max (max _ (lgt _ _ r ⟨l.val, _⟩)) (lgt _ _ r ⟨128 + l.val, _⟩))) + Ideal.exp (lgt _ _ r ⟨128 + l.val, _⟩ - max (max _ (lgt _ _ r ⟨l.val, _⟩)) (lgt _ _ r ⟨128 + l.val, _⟩)) = _
  rw [lgt_eq, lgt_eq]

/-- The label of row `r` of the block at point `t`. -/
def lb (c : Dev nD) (t : Fin cfg1.N) (r : Fin 1536) : BitVec 32 := iblk1 V c 3 t (ix2 r 0)

theorem mTg_apply (c : Dev nD) (t : Fin cfg1.N) (s : St Ideal) (r : Fin 1536) (l : Fin 128) :
    mTg V c t s (ix2 r l) = if lab V c (1536 * (t.val / 125) + r.val) = 256 * (t.val % 125) + (128 + l.val) then X V c (1536 * (t.val / 125) + r.val) (256 * (t.val % 125) + (128 + l.val))
      else if lab V c (1536 * (t.val / 125) + r.val) = 256 * (t.val % 125) + l.val then X V c (1536 * (t.val / 125) + r.val) (256 * (t.val % 125) + l.val) else (ini t s).tg (ix2 r l) := by
  have ht : t.val < 500 := t.isLt
  unfold mTg
  rw [midT_apply]
  have hl : lab V c (1536 * (t.val / 125) + r.val) = (lb V c t r).toNat := by
    unfold lab
    rw [dif_pos (by omega)]
    unfold lb
    rw [iblk1_3]
  show (if lb V c t r - BitVec.ofNat 32 (grid1.coords t 1).val * 256#32 - BitVec.ofNat 32 128 = BitVec.ofNat 32 l.val then lgt _ _ r ⟨128 + l.val, _⟩
    else if lb V c t r - BitVec.ofNat 32 (grid1.coords t 1).val * 256#32 - BitVec.ofNat 32 0 = BitVec.ofNat 32 l.val then lgt _ _ r ⟨l.val, _⟩ else (ini t s).tg (ix2 r l)) = _
  rw [lgt_eq, lgt_eq, hl, co1]
  simp only [label_iff _ (t.val % 125) _ l.val (by omega) (le_refl 128) l.isLt, label_iff _ (t.val % 125) 0 l.val (by omega) (by omega) l.isLt, Nat.zero_add]

theorem pay79_apply (y : S1536x128.Idx) : k1_pay79 (F := Ideal) y = B0 := rfl
theorem pay80_apply (y : S1536x128.Idx) : k1_pay80 (F := Ideal) y = 0 := Ideal.ofBits_zero_f32
theorem pay81_apply (y : S1536x128.Idx) : k1_pay81 (F := Ideal) y = 0 := Ideal.ofBits_zero_f32

/-- What a row holds after `n` tiles. -/
structure Held (c : Dev nD) (s : St Ideal) (i n : ℕ) : Prop where
  mx : ∀ (r : Fin 1536) (l : Fin 128), s.mx (ix2 r l) = Lse.mx B0 (X V c (1536 * i + r.val)) l.val n
  sm : ∀ (r : Fin 1536) (l : Fin 128), s.sm (ix2 r l) = Lse.sm B0 (X V c (1536 * i + r.val)) l.val n
  tg : ∀ (r : Fin 1536) (l : Fin 128), s.tg (ix2 r l) = Lse.tg (X V c (1536 * i + r.val)) l.val (lab V c (1536 * i + r.val)) n

attribute [irreducible] B0 X lab

theorem mx_next (B : EReal) (x : ℕ → EReal) (l n : ℕ) : max (max (Lse.mx B x l n) (x (256 * n + l))) (x (256 * n + (128 + l))) = Lse.mx B x l (n + 1) := rfl
theorem sm_next (B : EReal) (x : ℕ → EReal) (l n : ℕ) : (Lse.sm B x l n * Ideal.exp (Lse.mx B x l n - Lse.mx B x l (n + 1)) + Ideal.exp (x (256 * n + l) - Lse.mx B x l (n + 1)))
      + Ideal.exp (x (256 * n + (128 + l)) - Lse.mx B x l (n + 1)) = Lse.sm B x l (n + 1) := rfl
theorem tg_next (x : ℕ → EReal) (l L n : ℕ) : (if L = 256 * n + (128 + l) then x (256 * n + (128 + l)) else if L = 256 * n + l then x (256 * n + l) else Lse.tg x l L n) = Lse.tg x l L (n + 1) := rfl

theorem held_mx (c : Dev nD) (t : Fin cfg1.N) (s : St Ideal) (h : Held V c (ini t s) (t.val / 125) (t.val % 125)) (r : Fin 1536) (l : Fin 128) :
    mMx V c t s (ix2 r l) = Lse.mx B0 (X V c (1536 * (t.val / 125) + r.val)) l.val (t.val % 125 + 1) := by
  rw [mMx_apply, h.mx]
  exact mx_next _ _ _ _

theorem held_sm (c : Dev nD) (t : Fin cfg1.N) (s : St Ideal) (h : Held V c (ini t s) (t.val / 125) (t.val % 125)) (r : Fin 1536) (l : Fin 128) :
    mSm V c t s (ix2 r l) = Lse.sm B0 (X V c (1536 * (t.val / 125) + r.val)) l.val (t.val % 125 + 1) := by
  refine (mSm_apply V c t s r l).trans ?_
  rw [held_mx V c t s h r l, h.mx r l, h.sm r l]
  exact sm_next B0 (X V c (1536 * (t.val / 125) + r.val)) l.val (t.val % 125)

theorem held_tg (c : Dev nD) (t : Fin cfg1.N) (s : St Ideal) (h : Held V c (ini t s) (t.val / 125) (t.val % 125)) (r : Fin 1536) (l : Fin 128) :
    mTg V c t s (ix2 r l) = Lse.tg (X V c (1536 * (t.val / 125) + r.val)) l.val (lab V c (1536 * (t.val / 125) + r.val)) (t.val % 125 + 1) := by
  refine (mTg_apply V c t s r l).trans ?_
  rw [h.tg r l]
  exact tg_next _ _ _ _

theorem held_mk (c : Dev nD) (a b e : Vec Ideal S1536x128 .f32) (k : Vec Ideal S6x1024 .f32) (i n : ℕ) (h1 : ∀ (r : Fin 1536) (l : Fin 128), a (ix2 r l) = Lse.mx B0 (X V c (1536 * i + r.val)) l.val n)
    (h2 : ∀ (r : Fin 1536) (l : Fin 128), b (ix2 r l) = Lse.sm B0 (X V c (1536 * i + r.val)) l.val n)
    (h3 : ∀ (r : Fin 1536) (l : Fin 128), e (ix2 r l) = Lse.tg (X V c (1536 * i + r.val)) l.val (lab V c (1536 * i + r.val)) n) :
    Held V c ⟨a, b, e, k⟩ i n := ⟨h1, h2, h3⟩

theorem held_step (c : Dev nD) (t : Fin cfg1.N) (s : St Ideal) (h : Held V c (ini t s) (t.val / 125) (t.val % 125)) :
    Held V c (stepSt V c t s) (t.val / 125) (t.val % 125 + 1) := by
  unfold stepSt
  exact held_mk V c _ _ _ _ _ _ (held_mx V c t s h) (held_sm V c t s h) (held_tg V c t s h)

theorem held_fresh (c : Dev nD) (k : Vec Ideal S6x1024 .f32) (i : ℕ) : Held V c (⟨k1_pay79 (F := Ideal), k1_pay80 (F := Ideal), k1_pay81 (F := Ideal), k⟩ : St Ideal) i 0 where
  mx r l := pay79_apply (ix2 r l)
  sm r l := pay80_apply (ix2 r l)
  tg r l := pay81_apply (ix2 r l)

theorem held (c : Dev nD) : ∀ (n : ℕ) (h : n < cfg1.N), Held V c (st V c n h) (n / 125) (n % 125 + 1) := by
  intro n
  induction n with
  | zero =>
    intro h
    have e := st_eq V c ⟨0, h⟩
    rw [show st V c 0 h = _ from e]
    refine held_step V c ⟨0, h⟩ _ ?_
    unfold ini
    rw [if_pos (show (0 : ℕ) % 125 = 0 from rfl)]
    exact held_fresh V c _ _
  | succ n ih =>
    intro h
    have e := st_eq V c ⟨n + 1, h⟩
    rw [show st V c (n + 1) h = _ from e]
    refine held_step V c ⟨n + 1, h⟩ _ ?_
    unfold ini
    by_cases h0 : (n + 1) % 125 = 0
    · rw [if_pos h0]
      show Held V c _ ((n + 1) / 125) ((n + 1) % 125)
      rw [h0]
      exact held_fresh V c _ _
    · rw [if_neg h0]
      have hp : prevSt V c (n + 1) h = st V c n (Nat.lt_of_succ_lt h) := by
        unfold prevSt
        rw [dif_neg (Nat.succ_ne_zero n)]
        rfl
      show Held V c (prevSt V c (n + 1) h) ((n + 1) / 125) ((n + 1) % 125)
      rw [hp, show (n + 1) / 125 = n / 125 by omega, show (n + 1) % 125 = n % 125 + 1 by omega]
      exact ih _

end Cert.KernelIdeal.Hand

end
-- ==== Proof.Tok.lean ====
module

public import proofs.«01_k».proof.Proof.Fin
public import proofs.«01_k».proof.Proof.Inv

@[expose] public section

set_option maxRecDepth 16384

noncomputable section

namespace Cert.KernelIdeal.Hand

open Idealize.ShloMosaic Idealize.ShloMosaic.TcCoe Idealize.SL.Sem
open Cert.KernelIdeal Cert.KernelIdeal.Gen

/-! The token log-probabilities after every point of the main call. -/

variable (V : (c : Dev nD) → (b : Ref sig .tc) → Buf (Elt Ideal) ((c : Thread nD τ).loc b))

theorem ieee_real (e m w : ℕ) (b : BitVec w) (h : (b.extractLsb' m e).toNat ≠ 2 ^ e - 1) : ∃ r : ℝ, Ideal.ieee e m b = (r : EReal) := by
  unfold Ideal.ieee
  dsimp only
  rw [if_neg h]
  by_cases h0 : (b.extractLsb' m e).toNat = 0
  · rw [if_pos h0]; exact ⟨_, rfl⟩
  · rw [if_neg h0]; exact ⟨_, rfl⟩

theorem B0_real : ∃ b : ℝ, B0 = (b : EReal) := by
  unfold B0
  exact ieee_real 8 23 32 (0xF149F2CA#32) (by decide)

theorem sup_fin (f : ℕ → EReal) (n : ℕ) : (Finset.univ.sup fun k : Fin n => f k.val) = (Finset.range n).sup f := by
  apply le_antisymm
  · exact Finset.sup_le fun k _ => Finset.le_sup (f := f) (Finset.mem_range.mpr k.isLt)
  · exact Finset.sup_le fun k hk => Finset.le_sup (f := fun k : Fin n => f k.val) (Finset.mem_univ ⟨k, Finset.mem_range.mp hk⟩)

theorem laneLp_eq (x : ℕ → EReal) (L n : ℕ) :
    laneLp (fun k => Lse.mx B0 x k.val n) (fun k => Lse.sm B0 x k.val n) (fun k => Lse.tg x k.val L n) = Lse.logp x (n * 256) L := by
  obtain ⟨b, hb⟩ := B0_real
  unfold laneLp Lse.logp
  rw [← Lse.laneLse_eq x b n, ← Lse.lane_pick x L n, ← hb]
  unfold Lse.laneLse Lse.laneTop
  rw [sup_fin (fun k => Lse.mx B0 x k n) 128, Finset.sum_range, Finset.sum_range]

/-- The log-probability of token `n`. -/
def lp (c : Dev nD) (n : ℕ) : EReal := Lse.logp (X V c n) 32000 (lab V c n)

theorem rowv_held (c : Dev nD) (a b e : Vec Ideal S1536x128 .f32) (k : Vec Ideal S6x1024 .f32) (i : ℕ) (H : Held V c ⟨a, b, e, k⟩ i 125) (r : ℕ) (hr : r < 1536) :
    rowv a b e r = lp V c (1536 * i + r) := by
  have h1 : ∀ (r : Fin 1536) (l : Fin 128), a (ix2 r l) = Lse.mx B0 (X V c (1536 * i + r.val)) l.val 125 := H.mx
  have h2 : ∀ (r : Fin 1536) (l : Fin 128), b (ix2 r l) = Lse.sm B0 (X V c (1536 * i + r.val)) l.val 125 := H.sm
  have h3 : ∀ (r : Fin 1536) (l : Fin 128), e (ix2 r l) = Lse.tg (X V c (1536 * i + r.val)) l.val (lab V c (1536 * i + r.val)) 125 := H.tg
  unfold rowv lp
  rw [dif_pos hr]
  simp only [h1, h2, h3]
  exact laneLp_eq _ _ 125

theorem mTok_stage (c : Dev nD) (t : Fin cfg1.N) (s : St Ideal) (h : t.val % 125 = 124) (y : S6x1024.Idx) :
    mTok V c t s y = stage s.tok (mMx V c t s) (mSm V c t s) (mTg V c t s) (t.val / 125) 12 y := by
  have ht : t.val < 500 := t.isLt
  rw [← co0 t]
  unfold mTok
  rw [if_neg (by omega), dif_pos h]
  by_cases hp : t.val / 125 % 2 = 0
  · rw [dif_pos hp]
    exact fin0_apply ..
  · rw [dif_neg hp]
    exact fin1_apply ..

theorem mTok_keep (c : Dev nD) (t : Fin cfg1.N) (s : St Ideal) (h0 : t.val % 500 ≠ 0) (h : t.val % 125 ≠ 124) : mTok V c t s = s.tok := by
  unfold mTok
  rw [if_neg h0, dif_neg h]

theorem st_tok (c : Dev nD) (t : Fin cfg1.N) : (st V c t.val t.isLt).tok = mTok V c t (prevSt V c t.val t.isLt) := by
  rw [st_eq]
  unfold stepSt
  generalize mMx V c t _ = a
  generalize mSm V c t _ = b
  generalize mTg V c t _ = d
  rfl

theorem tok_inv (c : Dev nD) : ∀ (n : ℕ) (h : n < cfg1.N) (y : S6x1024.Idx), 1024 * (y 0).val + (y 1).val < 1536 * ((n + 1) / 125) →
    (st V c n h).tok y = lp V c (1024 * (y 0).val + (y 1).val) := by
  intro n
  induction n with
  | zero => intro h y hy; omega
  | succ n ih =>
    intro h y hy
    have hn : n + 1 < 500 := h
    rw [st_tok V c ⟨n + 1, h⟩]
    have hp : prevSt V c (n + 1) h = st V c n (Nat.lt_of_succ_lt h) := by
      unfold prevSt
      rw [dif_neg (Nat.succ_ne_zero n)]
      rfl
    by_cases h1 : (n + 1) % 125 = 124
    · rw [mTok_stage V c ⟨n + 1, h⟩ _ h1]
      unfold stage
      show (if 1536 * ((n + 1) / 125) ≤ _ ∧ _ then _ else (prevSt V c (n + 1) h).tok y) = _
      by_cases hr : 1536 * ((n + 1) / 125) ≤ 1024 * (y 0).val + (y 1).val
      · rw [if_pos ⟨hr, by show _ < 1536 * ((n + 1) / 125) + 128 * 12; omega⟩]
        have H := held V c (n + 1) h
        rw [show st V c (n + 1) h = _ from st_eq V c ⟨n + 1, h⟩] at H
        unfold stepSt at H
        rw [h1] at H
        rw [rowv_held V c _ _ _ _ _ H _ (by show _ - 1536 * ((n + 1) / 125) < 1536; omega)]
        congr 1
        show 1536 * ((n + 1) / 125) + (_ - 1536 * ((n + 1) / 125)) = _
        omega
      · rw [if_neg (fun hh => hr hh.1), hp]
        exact ih _ y (by omega)
    · by_cases h0 : (n + 1) % 500 = 0
      · omega
      · rw [mTok_keep V c ⟨n + 1, h⟩ _ h0 h1]
        show (prevSt V c (n + 1) h).tok y = _
        rw [hp]
        exact ih _ y (by omega)

/-- At the last point every token has its log-probability. -/
theorem tok_last (c : Dev nD) (h : 499 < cfg1.N) (y : S6x1024.Idx) : (st V c 499 h).tok y = lp V c (1024 * (y 0).val + (y 1).val) :=
  tok_inv V c 499 h y (by have : (y 0).val < 6 := (y 0).isLt; have : (y 1).val < 1024 := (y 1).isLt; omega)

end Cert.KernelIdeal.Hand

end
-- ==== Proof.Arr.lean ====
module

public import proofs.«01_k».proof.Proof.DpoV
public import proofs.«01_k».proof.Proof.Tok
public import proofs.«01_k».proof.Proof.Tile
public import Idealize.ShloMosaic.Lib.Pipeline.Covers

@[expose] public section

set_option maxRecDepth 16384

noncomputable section

namespace Cert.KernelIdeal.Hand

open Idealize.ShloMosaic Idealize.ShloMosaic.TcCoe Idealize.SL.Sem
open Cert.KernelIdeal Cert.KernelIdeal.Gen

/-! The arrays that the two calls leave. -/

variable (V : (c : Dev nD) → (b : Ref sig .tc) → Buf (Elt Ideal) ((c : Thread nD τ).loc b))

def h0 (c : Dev nD) (n : Fin 6144) (k : Fin 7168) : EReal := V c main_v0 (ix2 n k)
def h1 (c : Dev nD) (n : Fin 6144) (k : Fin 224) : EReal := V c main_v1 (ix2 n k)

/-- The widened hidden states. -/
def wide (c : Dev nD) (i : S6144x7168.Idx) : EReal := h0 V c (i 0) (i 1) * h1 V c (i 0) ⟨(i 1).val / 32, by have : (i 1).val < 7168 := (i 1).isLt; omega⟩

theorem out0_apply (c : Dev nD) (t : Fin cfg0.N) (r : Fin 256) (k : Fin 7168) : (out0_2 c t (iblk0 V c 0 t) (iblk0 V c 1 t) (ix2 r k) : EReal) = wide V c (ix2 ⟨256 * t.val + r.val, by have : t.val < 24 := t.isLt; omega⟩ k) := by
  unfold out0_2
  refine (wOut_apply _ _ _ _ _ _ _ _ _ _ _).trans ?_
  unfold scaled wide h0 h1
  exact congrArg₂ (fun a b : EReal => a * b) (iblk0_0 V c t r k) (iblk0_1 V c t r ⟨k.val / 32, by omega⟩)

theorem arr0 (c : Dev nD) : (dat0 V c).arrAt 2 cfg0.N = fun i : S6144x7168.Idx => (wide V c i : EReal) := by
  refine (dat0 V c).arrAt_eq_of_covers 2 _ (by decide +kernel) fun t hf y => ?_
  blk_simp
  rw [after0_2]
  have hy : y = ix2 (y 0) (y 1) := by
    funext a
    match a with
    | ⟨0, _⟩ => rfl
    | ⟨1, _⟩ => rfl
  have e : (win0_2.blk t).view.emb y = ix2 (⟨256 * t.val + (y 0).val, by have : t.val < 24 := t.isLt; have : (y 0).val < 256 := (y 0).isLt; omega⟩ : Fin 6144) (⟨(y 1).val, (y 1).isLt⟩ : Fin 7168) := by
    blk_ext [idx0_2 t]
  rw [e]
  exact (congrArg _ hy).trans (out0_apply V c t ⟨(y 0).val, (y 0).isLt⟩ ⟨(y 1).val, (y 1).isLt⟩)

/-- The last grid point. -/
def tLast : Fin cfg1.N := ⟨499, by decide⟩

theorem arr9 (c : Dev nD) : (dat1 V c).arrAt 9 cfg1.N = fun y : S6x1024.Idx => (lp V c (1024 * (y 0).val + (y 1).val) : EReal) := by
  refine (dat1 V c).arrAt_eq_of_after_last 9 tLast (by decide +kernel) _ fun j => ?_
  blk_simp
  rw [after1_9]
  exact tok_last V c (by decide) j

theorem aPol_last (c : Dev nD) (x : Fin 24) : (aPol V c tLast (ix2 0 x) : EReal) = Spec.pol (fun q p => lp V c (1024 * q.val + p.val)) (fun q p => V c main_arg5 (ix2 q p)) (fun q p => V c main_arg6 (ix2 q p)) x.val := by
  rw [aPol, dif_pos (by decide)]
  refine (dpoP_apply (x := x) ..).trans ?_
  simp only [iblk1_4, iblk1_5]
  refine congrArg (fun f => Spec.pol f _ _ x.val) (funext fun q => funext fun p => ?_)
  exact tok_last V c (by decide) (ix2 q p)

theorem mar_args (c : Dev nD) (j : Fin 12) : Spec.mar (Spec.pol (fun q p => (st V c tLast.val tLast.isLt).tok (ix2 q p)) (fun q p => iblk1 V c 4 tLast (ix2 q p)) (fun q p => iblk1 V c 5 tLast (ix2 q p))) (row24k (iblk1 V c 6 tLast)) (iblk1 V c 7 tLast (ix2 0 j)) (iblk1 V c 8 tLast (ix2 0 j))
    = Spec.mar (Spec.pol (fun q p => lp V c (1024 * q.val + p.val)) (fun q p => V c main_arg5 (ix2 q p)) (fun q p => V c main_arg6 (ix2 q p))) (row24k (V c main_v4)) (V c main_v5 (ix2 0 j)) (V c main_v6 (ix2 0 j)) := by
  simp only [iblk1_4, iblk1_5]
  rw [iblk1_7, iblk1_8]
  refine congrArg₂ (fun f r => Spec.mar (Spec.pol f _ _) r _ _) (funext fun q => funext fun p => ?_) (congrArg row24k (funext fun y => iblk1_6 V c tLast y))
  exact tok_last V c (by decide) (ix2 q p)

theorem aMar_last (c : Dev nD) (j : Fin 12) : (aMar V c tLast (ix2 0 j) : EReal) = Spec.mar (Spec.pol (fun q p => lp V c (1024 * q.val + p.val)) (fun q p => V c main_arg5 (ix2 q p)) (fun q p => V c main_arg6 (ix2 q p))) (row24k (V c main_v4)) (V c main_v5 (ix2 0 j)) (V c main_v6 (ix2 0 j)) := by
  rw [aMar, dif_pos (by decide)]
  exact (dpoM_apply (x := j) ..).trans (mar_args V c j)

theorem aLoss_last (c : Dev nD) (j : Fin 12) : (aLoss V c tLast (ix2 0 j) : EReal) = Spec.loss (Spec.mar (Spec.pol (fun q p => lp V c (1024 * q.val + p.val)) (fun q p => V c main_arg5 (ix2 q p)) (fun q p => V c main_arg6 (ix2 q p))) (row24k (V c main_v4)) (V c main_v5 (ix2 0 j)) (V c main_v6 (ix2 0 j))) := by
  rw [aLoss, dif_pos (by decide)]
  exact (dpoL_apply (x := j) ..).trans (congrArg Spec.loss (mar_args V c j))

theorem arr10 (c : Dev nD) : (dat1 V c).arrAt 10 cfg1.N = aPol V c tLast := by
  refine (dat1 V c).arrAt_eq_of_after_last 10 tLast (by decide +kernel) _ fun j => ?_
  blk_simp
  rw [after1_10]

theorem arr11 (c : Dev nD) : (dat1 V c).arrAt 11 cfg1.N = aLoss V c tLast := by
  refine (dat1 V c).arrAt_eq_of_after_last 11 tLast (by decide +kernel) _ fun j => ?_
  blk_simp
  rw [after1_11]

theorem arr12 (c : Dev nD) : (dat1 V c).arrAt 12 cfg1.N = aMar V c tLast := by
  refine (dat1 V c).arrAt_eq_of_after_last 12 tLast (by decide +kernel) _ fun j => ?_
  blk_simp
  rw [after1_12]

end Cert.KernelIdeal.Hand

end
-- ==== Proof.Exit.lean ====
module

public import proofs.«01_k».proof.Proof.Arr
public import proofs.«01_k».proof.Proof.RunAll
public import Idealize.ShloMosaic.Lib.Pointwise

@[expose] public section

set_option maxRecDepth 16384

noncomputable section

namespace Cert.KernelIdeal.Hand

open Idealize.ShloMosaic Idealize.ShloMosaic.TcCoe Idealize.SL.Sem
open Cert.KernelIdeal Cert.KernelIdeal.Gen

/-! The contents at the end of the run, as functions of the arguments. -/

variable (m : (ℓ : Loc nD τ sig) → Buf (Elt Ideal) ℓ)

theorem W1_v0 (c : Dev nD) : V1 m c main_v0 = shapeCast S6144x7168 (m ((c : Thread nD τ).loc main_arg0)) shapeCasts_S6x1024x7168_S6144x7168 := rfl
theorem W1_v1 (c : Dev nD) : V1 m c main_v1 = shapeCast S6144x224 (m ((c : Thread nD τ).loc main_arg1)) shapeCasts_S6x1024x224_S6144x224 := rfl
theorem W3_v3 (c : Dev nD) : V3 m c main_v3 = shapeCast S6144x1 (W2 m c main_arg4) shapeCasts_S6x1024_S6144x1 := rfl
theorem W3_v4 (c : Dev nD) : V3 m c main_v4 = shapeCast S1x24 (W2 m c main_arg7) shapeCasts_S24_S1x24 := rfl
theorem W3_v5 (c : Dev nD) : V3 m c main_v5 = shapeCast S1x12 (W2 m c main_arg8) shapeCasts_S12_S1x12 := rfl
theorem W3_v6 (c : Dev nD) : V3 m c main_v6 = shapeCast S1x12 (W2 m c main_arg9) shapeCasts_S12_S1x12 := rfl
theorem W5_v8 (c : Dev nD) : W5 m c main_v8 = shapeCast S24 (W4 m c main_v7_1) shapeCasts_S1x24_S24 := rfl
theorem W5_v9 (c : Dev nD) : W5 m c main_v9 = shapeCast S12 (W4 m c main_v7_2) shapeCasts_S1x12_S12 := rfl
theorem W5_v10 (c : Dev nD) : W5 m c main_v10 = shapeCast S12 (W4 m c main_v7_3) shapeCasts_S1x12_S12 := rfl

/-- The argument arrays are what they were when the main call runs. -/
theorem W2_args (c : Dev nD) (a : Ref sig .tc) (ha : a ∈ argRefs) : W2 m c (Proc.devRef .tc a) = m ((c : Thread nD τ).loc a) :=
  (W2_of m c a (argsIn0 a ha)).trans <| (W1_host m c a (argsH a ha).1).trans rfl
theorem W3_args (c : Dev nD) (a : Ref sig .tc) (ha : a ∈ argRefs) : V3 m c a = m ((c : Thread nD τ).loc a) :=
  (W3_host m c a (argsH a ha).2.1).trans (W2_args m c a ha)

theorem flatH_apply (x : Vec Ideal S6x1024x7168 .fp8e4m3) (n : Fin 6144) (k : Fin 7168) : shapeCast S6144x7168 x shapeCasts_S6x1024x7168_S6144x7168 (ix2 n k) = x (ix3 (⟨n.val / 1024, by omega⟩ : Fin 6) (⟨n.val % 1024, by omega⟩ : Fin 1024) k) := by
  pointwise
theorem flatS_apply (x : Vec Ideal S6x1024x224 .f32) (n : Fin 6144) (k : Fin 224) : shapeCast S6144x224 x shapeCasts_S6x1024x224_S6144x224 (ix2 n k) = x (ix3 (⟨n.val / 1024, by omega⟩ : Fin 6) (⟨n.val % 1024, by omega⟩ : Fin 1024) k) := by
  pointwise
theorem flatL_apply (x : Vec Ideal S6x1024 .i32) (n : Fin 6144) : shapeCast S6144x1 x shapeCasts_S6x1024_S6144x1 (ix2 n 0) = x (ix2 (⟨n.val / 1024, by omega⟩ : Fin 6) (⟨n.val % 1024, by omega⟩ : Fin 1024)) := by
  pointwise
theorem row24_apply (x : Vec Ideal S24 .f32) (s : Fin 24) : shapeCast S1x24 x shapeCasts_S24_S1x24 (ix2 0 s) = x (ix1 s) := by
  pointwise
theorem row12_apply (x : Vec Ideal S12 .i32) (s : Fin 12) : shapeCast S1x12 x shapeCasts_S12_S1x12 (ix2 0 s) = x (ix1 s) := by
  pointwise
theorem out24_apply (x : Vec Ideal S1x24 .f32) (s : Fin 24) : shapeCast S24 x shapeCasts_S1x24_S24 (ix1 s) = x (ix2 0 s) := by
  pointwise
theorem out12_apply (x : Vec Ideal S1x12 .f32) (s : Fin 12) : shapeCast S12 x shapeCasts_S1x12_S12 (ix1 s) = x (ix2 0 s) := by
  pointwise

end Cert.KernelIdeal.Hand

end
-- ==== Proof.RefVal.lean ====
module

public import Idealize.ShloMosaic.Lib.Pointwise
public import proofs.«01_k».proof.Proof.Gen.ReferenceIdeal.Read
public import proofs.«01_k».proof.Proof.Math

/-! What the reference computes, entry by entry. -/

@[expose] public noncomputable section

namespace Cert.RefVal

open Idealize.ShloMosaic Cert.ReferenceIdeal Cert.ReferenceIdeal.Gen Cert.ReferenceIdeal.Read

variable (x1 : (⟨S6x1024x224, .f32⟩ : BufTy).Contents (Elt Ideal)) (x3 : (⟨S32000x224, .f32⟩ : BufTy).Contents (Elt Ideal)) (x4 x5 x6 : (⟨S6x1024, .i32⟩ : BufTy).Contents (Elt Ideal)) (x7 : (⟨S24, .f32⟩ : BufTy).Contents (Elt Ideal)) (x8 x9 : (⟨S12, .i32⟩ : BufTy).Contents (Elt Ideal)) (r0 : (⟨S6144x7168, .bf16⟩ : BufTy).Contents (Elt Ideal)) (r1 : (⟨S32000x7168, .bf16⟩ : BufTy).Contents (Elt Ideal))

/-- The reference's logit of token `n` and vocabulary entry `v`, zero outside the arrays. -/
def X (n v : ℕ) : EReal :=
  if h : n < 6144 ∧ v < 32000 then ∑ k : Fin 7168, ((r0 (ix2 ⟨n, h.1⟩ k) : EReal) * (x1 (ix3 ⟨n / 1024, by omega⟩ ⟨n % 1024, by omega⟩ ⟨k.val / 32, by omega⟩) : EReal)) * ((r1 (ix2 ⟨v, h.2⟩ k) : EReal) * (x3 (ix2 ⟨v, h.2⟩ ⟨k.val / 32, by omega⟩) : EReal)) else 0

theorem negInf : Ideal.ofBits .f32 0xFF800000#32 = ⊥ := by simp [Ideal.ofBits, Ideal.ieee]

theorem v8_eq (n : Fin 6144) (k : Fin 7168) : val_main_v8 (F := Ideal) x1 r0 (ix2 n k) = (r0 (ix2 n k) : EReal) * (x1 (ix3 ⟨n.val / 1024, by omega⟩ ⟨n.val % 1024, by omega⟩ ⟨k.val / 32, by omega⟩) : EReal) := by
  rw [val_main_v8_apply, val_main_v7_apply, val_main_v3_apply, val_main_v6_apply, val_main_v5_apply, val_main_v4_apply, val_main_v2_apply]
  show (_ * _ : EReal) = _
  congr 1
  · exact congrArg r0 (funext fun a => Fin.ext (by
      match a with
      | ⟨0, _⟩ => simp [ix2, ix3]; omega
      | ⟨1, _⟩ => simp [ix2, ix3]; omega))
  · exact congrArg x1 (funext fun a => Fin.ext (by
      match a with
      | ⟨0, _⟩ => simp [ix2, ix3]; omega
      | ⟨1, _⟩ => simp [ix2, ix3]; omega
      | ⟨2, _⟩ => simp [ix2, ix3]; omega))

theorem v14_eq (n : Fin 32000) (k : Fin 7168) : val_main_v14 (F := Ideal) x3 r1 (ix2 n k) = (r1 (ix2 n k) : EReal) * (x3 (ix2 n ⟨k.val / 32, by omega⟩) : EReal) := by
  rw [val_main_v14_apply, val_main_v13_apply, val_main_v9_apply, val_main_v12_apply, val_main_v11_apply, val_main_v10_apply]
  show (_ * _ : EReal) = _
  congr 1
  · exact congrArg r1 (funext fun a => Fin.ext (by
      match a with
      | ⟨0, _⟩ => simp [ix2]; omega
      | ⟨1, _⟩ => simp [ix2]; omega))
  · exact congrArg x3 (funext fun a => Fin.ext (by
      match a with
      | ⟨0, _⟩ => simp [ix2]; omega
      | ⟨1, _⟩ => simp [ix2]; omega))

theorem v15_eq (n : Fin 6144) (v : Fin 32000) : val_main_v15 (F := Ideal) x1 x3 r0 r1 (ix2 n v) = X x1 x3 r0 r1 n.val v.val := by
  rw [val_main_v15_apply]
  unfold X
  rw [dif_pos ⟨n.isLt, v.isLt⟩]
  refine Finset.sum_congr rfl fun k _ => ?_
  rw [show lidx_main_v15 (ix2 n v) k = ix2 n k from funext fun a => by match a with | ⟨0, _⟩ => rfl | ⟨1, _⟩ => rfl, show ridx_main_v15 (ix2 n v) k = ix2 v k from funext fun a => by match a with | ⟨0, _⟩ => rfl | ⟨1, _⟩ => rfl, v8_eq, v14_eq]

theorem sup_fin (f : ℕ → EReal) (n : ℕ) : (Finset.univ.sup fun k : Fin n => f k.val) = (Finset.range n).sup f := by
  apply le_antisymm
  · exact Finset.sup_le fun k _ => Finset.le_sup (f := f) (Finset.mem_range.mpr k.isLt)
  · exact Finset.sup_le fun k hk => Finset.le_sup (f := fun k : Fin n => f k.val) (Finset.mem_univ ⟨k, Finset.mem_range.mp hk⟩)

theorem fold_top (y : (⟨S6144x32000, .f32⟩ : BufTy).Contents (Elt Ideal)) (n : Fin 6144) : Host.reduce (FloatOps.maximumf (F := Ideal) (φ := .f32)) y (val_main_cst (F := Ideal)) reducesTo_S6144x32000_S6144_d1 h_S_ (ix1 n) = Finset.univ.sup fun v : Fin 32000 => (y (ix2 n v) : EReal) := by
  pointwise [val_main_cst, negInf]
  rfl

theorem v16_eq (n : Fin 6144) : val_main_v16 (F := Ideal) x1 x3 r0 r1 (ix1 n) = Lse.top (X x1 x3 r0 r1 n.val) 32000 := by
  unfold val_main_v16
  rw [fold_top, Lse.top, ← sup_fin]
  simp only [v15_eq]

theorem v20_eq (n : Fin 6144) (v : Fin 32000) : val_main_v20 (F := Ideal) x1 x3 r0 r1 (ix2 n v) = Ideal.exp (X x1 x3 r0 r1 n.val v.val - Lse.top (X x1 x3 r0 r1 n.val) 32000) := by
  rw [val_main_v20_apply, val_main_v19_apply, val_main_v18_apply, val_main_v17_apply, show idx_main_v17 (idx_main_v18 (ix2 n v)) = ix1 n from funext fun a => by match a with | ⟨0, _⟩ => rfl, v16_eq, v15_eq]
  rfl

theorem lse_of (a s z : EReal) (hz : z = 0) : FloatOps.addf (F := Ideal) (φ := .f32) a (FloatOps.hostUnary (F := Ideal) (φ := .f32) .log (z + s : EReal)) = a + Ideal.log s := by
  rw [hz, zero_add]; rfl

theorem sub_of (b s z : EReal) (hz : z = 0) : FloatOps.subf (F := Ideal) (φ := .f32) (z + s : EReal) b = s - b := by
  rw [hz, zero_add]; rfl

theorem v23_eq (n : Fin 6144) : val_main_v23 (F := Ideal) x1 x3 r0 r1 (ix1 n) = Lse.lse (X x1 x3 r0 r1 n.val) 32000 := by
  rw [val_main_v23_apply, val_main_v22_apply, val_main_v21_apply, v16_eq, val_main_cst_0_apply]
  have h : (∑ k : Fin 32000, (val_main_v20 (F := Ideal) x1 x3 r0 r1 (idx_main_v21 (ix1 n) k) : EReal)) = ∑ v ∈ Finset.range 32000, Ideal.exp (X x1 x3 r0 r1 n.val v - Lse.top (X x1 x3 r0 r1 n.val) 32000) := by
    rw [← Fin.sum_univ_eq_sum_range]
    refine Finset.sum_congr rfl fun k _ => ?_
    rw [show idx_main_v21 (ix1 n) k = ix2 n k from funext fun a => by match a with | ⟨0, _⟩ => rfl | ⟨1, _⟩ => rfl, v20_eq]
  refine (lse_of _ _ _ Ideal.ofBits_zero_f32).trans ?_
  rw [h, Lse.lse]

/-- The label of token `n` as a number. -/
def lab (n : ℕ) : ℕ := if h : n < 6144 then BitVec.toNat (x4 (ix2 ⟨n / 1024, by omega⟩ ⟨n % 1024, by omega⟩)) else 0

theorem select_eq {α : Type} (a b : BitVec 32) (x y : α) : Scalar.select (IntOp.cmpi .eq a b) x y = if a = b then x else y := by
  by_cases h : a = b
  · subst h; simp [Scalar.select, IntOp.cmpi]
  · have : (a == b) = false := by simpa using h
    simp [Scalar.select, IntOp.cmpi, h, this]

theorem zero_call0 (i : S6144x32000.Idx) : (val_main_call0_v1 (F := Ideal) i : EReal) = 0 := by
  rw [val_main_call0_v1_apply, val_main_call0_v0_apply, val_main_cst_1_apply]; exact Ideal.ofBits_zero_f32

theorem v29_eq (n : Fin 6144) (v : Fin 32000) : (val_main_v29 (F := Ideal) x1 x3 x4 r0 r1 (ix2 n v) : EReal) = if v.val = lab x4 n.val then X x1 x3 r0 r1 n.val v.val else 0 := by
  rw [val_main_v29_apply, val_main_v28_apply, select_eq, zero_call0, v15_eq, val_main_v24_apply, val_main_v27_apply, val_main_v26_apply, val_main_v25_apply]
  have h : idx_main_v25 (idx_main_v26 (idx_main_v27 (ix2 n v))) = ix2 ⟨n.val / 1024, by omega⟩ ⟨n.val % 1024, by omega⟩ := funext fun a => by
    match a with
    | ⟨0, _⟩ => exact Fin.ext (by simp [ix2, idx_main_v25, idx_main_v26, idx_main_v27])
    | ⟨1, _⟩ => exact Fin.ext (by simp [ix2, idx_main_v25, idx_main_v26, idx_main_v27])
  rw [h]
  refine if_congr ?_ rfl rfl
  rw [lab, dif_pos n.isLt]
  show BitVec.ofNat 32 v.val = _ ↔ _
  constructor
  · intro e; rw [← e, BitVec.toNat_ofNat]; omega
  · intro e; rw [e, BitVec.ofNat_toNat]; exact BitVec.setWidth_eq _

/-- Token log-probabilities of the reference. -/
theorem v31_eq (n : Fin 6144) : val_main_v31 (F := Ideal) x1 x3 x4 r0 r1 (ix1 n) = Lse.logp (X x1 x3 r0 r1 n.val) 32000 (lab x4 n.val) := by
  rw [val_main_v31_apply, v23_eq, val_main_v30_apply, val_main_cst_2_apply]
  have h : (∑ k : Fin 32000, (val_main_v29 (F := Ideal) x1 x3 x4 r0 r1 (idx_main_v30 (ix1 n) k) : EReal)) = Lse.pick (X x1 x3 r0 r1 n.val) 32000 (lab x4 n.val) := by
    rw [Lse.pick, ← Fin.sum_univ_eq_sum_range]
    refine Finset.sum_congr rfl fun k _ => ?_
    rw [show idx_main_v30 (ix1 n) k = ix2 n k from funext fun a => by match a with | ⟨0, _⟩ => rfl | ⟨1, _⟩ => rfl, v29_eq]
  refine (sub_of _ _ _ Ideal.ofBits_zero_f32).trans ?_
  rw [h, Lse.logp]

theorem v32_eq (y : S6x1024.Idx) : val_main_v32 (F := Ideal) x1 x3 x4 r0 r1 y = Lse.logp (X x1 x3 r0 r1 (1024 * (y 0).val + (y 1).val)) 32000 (lab x4 (1024 * (y 0).val + (y 1).val)) := by
  have h0 : (y 0).val < 6 := (y 0).isLt
  have h1 : (y 1).val < 1024 := (y 1).isLt
  rw [val_main_v32_apply, show idx_main_v32 y = ix1 ⟨1024 * (y 0).val + (y 1).val, by omega⟩ from funext fun a => by match a with | ⟨0, _⟩ => exact Fin.ext (by simp [idx_main_v32, ix1]; omega), v31_eq]

end Cert.RefVal

end
-- ==== Proof.RefDpo.lean ====
module

public import proofs.«01_k».proof.Proof.RefVal
public import proofs.«01_k».proof.Proof.Spec

/-! What the reference computes from the token log-probabilities. -/

@[expose] public noncomputable section

namespace Cert.RefVal

open Idealize.ShloMosaic Cert.ReferenceIdeal Cert.ReferenceIdeal.Gen Cert.ReferenceIdeal.Read

variable (x1 : (⟨S6x1024x224, .f32⟩ : BufTy).Contents (Elt Ideal)) (x3 : (⟨S32000x224, .f32⟩ : BufTy).Contents (Elt Ideal)) (x4 x5 x6 : (⟨S6x1024, .i32⟩ : BufTy).Contents (Elt Ideal)) (x7 : (⟨S24, .f32⟩ : BufTy).Contents (Elt Ideal)) (x8 x9 : (⟨S12, .i32⟩ : BufTy).Contents (Elt Ideal)) (r0 : (⟨S6144x7168, .bf16⟩ : BufTy).Contents (Elt Ideal)) (r1 : (⟨S32000x7168, .bf16⟩ : BufTy).Contents (Elt Ideal))

/-- The token log-probabilities of the reference, by row and column. -/
def tok (q : Fin 6) (p : Fin 1024) : EReal := Lse.logp (X x1 x3 r0 r1 (1024 * q.val + p.val)) 32000 (lab x4 (1024 * q.val + p.val))

/-- An array of words by row and column. -/
def words (x : (⟨S6x1024, .i32⟩ : BufTy).Contents (Elt Ideal)) (q : Fin 6) (p : Fin 1024) : BitVec 32 := x (ix2 q p)

/-- A row of 24 as a function of the number. -/
def row24 (x : (⟨S24, .f32⟩ : BufTy).Contents (Elt Ideal)) (s : ℕ) : EReal := if h : s < 24 then x (ix1 ⟨s, h⟩) else 0

theorem v44_eq (q : Fin 6) (p : Fin 1024) (s : Fin 24) : (val_main_v44 (F := Ideal) x1 x3 x4 x5 x6 r0 r1 (ix2 ⟨1024 * q.val + p.val, by omega⟩ s) : EReal) = if words x5 q p = BitVec.ofNat 32 s.val then tok x1 x3 x4 r0 r1 q p * (FloatOps.sitofp (F := Ideal) .f32 (words x6 q p) : EReal) else 0 := by
  rw [val_main_v44_apply, val_main_v42_apply, select_eq, val_main_v40_apply, val_main_v37_apply, val_main_v36_apply, val_main_v41_apply, val_main_v39_apply, val_main_v38_apply, val_main_call1_v1_apply, val_main_v43_apply, val_main_v35_apply, val_main_v34_apply, val_main_v32_apply, val_main_v33_apply, val_main_call1_v2_apply, val_main_call1_v0_apply, val_main_cst_3_apply]
  have h1 : idx_main_v36 (idx_main_v37 (idx_main_v40 (ix2 (⟨1024 * q.val + p.val, by omega⟩ : Fin 6144) s))) = ix2 q p := funext fun a => by
    match a with
    | ⟨0, _⟩ => exact Fin.ext (by simp [ix2, idx_main_v36, idx_main_v37, idx_main_v40]; omega)
    | ⟨1, _⟩ => exact Fin.ext (by simp [ix2, idx_main_v36, idx_main_v37, idx_main_v40])
  have h2 : idx_main_v35 (idx_main_v43 (idx_main_call1_v1 (ix2 (⟨1024 * q.val + p.val, by omega⟩ : Fin 6144) s))) = ix2 q p := funext fun a => by
    match a with
    | ⟨0, _⟩ => exact Fin.ext (by simp [ix2, idx_main_v35, idx_main_v43, idx_main_call1_v1]; omega)
    | ⟨1, _⟩ => exact Fin.ext (by simp [ix2, idx_main_v35, idx_main_v43, idx_main_call1_v1])
  have h3 : idx_main_v32 (ix2 q p) = ix1 ⟨1024 * q.val + p.val, by omega⟩ := funext fun a => by
    match a with
    | ⟨0, _⟩ => exact Fin.ext (by simp [ix1, ix2, idx_main_v32]; omega)
  rw [h1, h2, h3, v31_eq]
  exact if_congr Iff.rfl rfl Ideal.ofBits_zero_f32

theorem v45_eq (s : Fin 24) : (val_main_v45 (F := Ideal) x1 x3 x4 x5 x6 r0 r1 (ix1 s) : EReal) = Spec.pol (tok x1 x3 x4 r0 r1) (words x5) (words x6) s.val := by
  rw [val_main_v45_apply, val_main_cst_4_apply]
  have h : (∑ k : Fin 6144, (val_main_v44 (F := Ideal) x1 x3 x4 x5 x6 r0 r1 (idx_main_v45 (ix1 s) k) : EReal)) = Spec.pol (tok x1 x3 x4 r0 r1) (words x5) (words x6) s.val := by
    rw [Spec.sum_tok, Spec.pol]
    refine Finset.sum_congr rfl fun q _ => Finset.sum_congr rfl fun p _ => ?_
    rw [← v44_eq]
    exact congrArg _ (funext fun a => by match a with | ⟨0, _⟩ => rfl | ⟨1, _⟩ => rfl)
  exact (congrArg (fun z : EReal => z + _) Ideal.ofBits_zero_f32).trans ((zero_add _).trans h)

/-- A masked sum over a row of 24 picks one entry. -/
theorem pick24 (w : BitVec 32) (f : ℕ → EReal) (g : Fin 24 → EReal) (z : EReal) (hz : z = 0) (h : ∀ k : Fin 24, g k = if w = BitVec.ofNat 32 k.val then f k.val else 0) : z + ∑ k : Fin 24, g k = Spec.at24 w f := by
  rw [hz, zero_add, ← Spec.sum_at24, ← Fin.sum_univ_eq_sum_range (fun k => if w = BitVec.ofNat 32 k then f k else 0)]
  exact Finset.sum_congr rfl fun k _ => h k

theorem row24_at (x : (⟨S24, .f32⟩ : BufTy).Contents (Elt Ideal)) (k : Fin 24) : row24 x k.val = x (ix1 k) := by
  rw [row24, dif_pos k.isLt]

theorem v54_eq (j : Fin 12) : (val_main_v54 (F := Ideal) x1 x3 x4 x5 x6 x8 r0 r1 (ix1 j) : EReal) = Spec.at24 (x8 (ix1 j)) (Spec.pol (tok x1 x3 x4 r0 r1) (words x5) (words x6)) := by
  rw [val_main_v54_apply]
  refine pick24 _ _ _ _ ((val_main_cst_6_apply _).trans Ideal.ofBits_zero_f32) fun k => ?_
  rw [val_main_v53_apply, val_main_v51_apply, select_eq, val_main_v49_apply, val_main_v48_apply, val_main_v50_apply, val_main_v47_apply, val_main_v46_apply, val_main_call2_v1_apply, val_main_v52_apply, val_main_call2_v2_apply, val_main_call2_v0_apply, val_main_cst_5_apply]
  rw [← v45_eq]
  refine if_congr (Iff.of_eq (congrArg (fun z => z = _) (congrArg x8 (funext fun a => by match a with | ⟨0, _⟩ => rfl)))) (congrArg _ (funext fun a => by match a with | ⟨0, _⟩ => rfl)) Ideal.ofBits_zero_f32

theorem v61_eq (j : Fin 12) : (val_main_v61 (F := Ideal) x1 x3 x4 x5 x6 x9 r0 r1 (ix1 j) : EReal) = Spec.at24 (x9 (ix1 j)) (Spec.pol (tok x1 x3 x4 r0 r1) (words x5) (words x6)) := by
  rw [val_main_v61_apply]
  refine pick24 _ _ _ _ ((val_main_cst_8_apply _).trans Ideal.ofBits_zero_f32) fun k => ?_
  rw [val_main_v60_apply, val_main_v58_apply, select_eq, val_main_v56_apply, val_main_v55_apply, val_main_v57_apply, val_main_v47_apply, val_main_v46_apply, val_main_call3_v1_apply, val_main_v59_apply, val_main_call3_v2_apply, val_main_call3_v0_apply, val_main_cst_7_apply]
  rw [← v45_eq]
  refine if_congr (Iff.of_eq (congrArg (fun z => z = _) (congrArg x9 (funext fun a => by match a with | ⟨0, _⟩ => rfl)))) (congrArg _ (funext fun a => by match a with | ⟨0, _⟩ => rfl)) Ideal.ofBits_zero_f32

theorem v68_eq (j : Fin 12) : (val_main_v68 (F := Ideal) x7 x8 (ix1 j) : EReal) = Spec.at24 (x8 (ix1 j)) (row24 x7) := by
  rw [val_main_v68_apply]
  refine pick24 _ _ _ _ ((val_main_cst_10_apply _).trans Ideal.ofBits_zero_f32) fun k => ?_
  rw [val_main_v67_apply, val_main_v65_apply, select_eq, val_main_v63_apply, val_main_v62_apply, val_main_v64_apply, val_main_v47_apply, val_main_v46_apply, val_main_call4_v1_apply, val_main_v66_apply, val_main_call4_v2_apply, val_main_call4_v0_apply, val_main_cst_9_apply]
  rw [row24_at]
  refine if_congr (Iff.of_eq (congrArg (fun z => z = _) (congrArg x8 (funext fun a => by match a with | ⟨0, _⟩ => rfl)))) (congrArg _ (funext fun a => by match a with | ⟨0, _⟩ => rfl)) Ideal.ofBits_zero_f32

theorem v75_eq (j : Fin 12) : (val_main_v75 (F := Ideal) x7 x9 (ix1 j) : EReal) = Spec.at24 (x9 (ix1 j)) (row24 x7) := by
  rw [val_main_v75_apply]
  refine pick24 _ _ _ _ ((val_main_cst_12_apply _).trans Ideal.ofBits_zero_f32) fun k => ?_
  rw [val_main_v74_apply, val_main_v72_apply, select_eq, val_main_v70_apply, val_main_v69_apply, val_main_v71_apply, val_main_v47_apply, val_main_v46_apply, val_main_call5_v1_apply, val_main_v73_apply, val_main_call5_v2_apply, val_main_call5_v0_apply, val_main_cst_11_apply]
  rw [row24_at]
  refine if_congr (Iff.of_eq (congrArg (fun z => z = _) (congrArg x9 (funext fun a => by match a with | ⟨0, _⟩ => rfl)))) (congrArg _ (funext fun a => by match a with | ⟨0, _⟩ => rfl)) Ideal.ofBits_zero_f32

theorem v80_eq (j : Fin 12) : (val_main_v80 (F := Ideal) x1 x3 x4 x5 x6 x7 x8 x9 r0 r1 (ix1 j) : EReal) = Spec.mar (Spec.pol (tok x1 x3 x4 r0 r1) (words x5) (words x6)) (row24 x7) (x8 (ix1 j)) (x9 (ix1 j)) := by
  rw [val_main_v80_apply, val_main_v79_apply, val_main_cst_13_apply, val_main_v78_apply, val_main_v77_apply, val_main_v76_apply, v54_eq, v61_eq, v68_eq, v75_eq]
  rfl

theorem une_self (d : EReal) : FloatOps.cmpf (F := Ideal) (φ := .f32) .une d d = 0#1 := by
  show Ideal.cmp .une d d = 0#1
  simp [Ideal.cmp]

theorem v94_eq (j : Fin 12) : (val_main_v94 (F := Ideal) x1 x3 x4 x5 x6 x7 x8 x9 r0 r1 (ix1 j) : EReal) = Spec.loss (Spec.mar (Spec.pol (tok x1 x3 x4 r0 r1) (words x5) (words x6)) (row24 x7) (x8 (ix1 j)) (x9 (ix1 j))) := by
  rw [val_main_v94_apply, val_main_v86_apply, une_self, val_main_v93_apply, val_main_v92_apply, val_main_v91_apply, val_main_v90_apply, val_main_v89_apply, val_main_v85_apply, val_main_v84_apply, val_main_v83_apply, val_main_v82_apply, val_main_v81_apply, v80_eq, val_main_cst_14_apply]
  generalize Spec.mar (Spec.pol (tok x1 x3 x4 r0 r1) (words x5) (words x6)) (row24 x7) (x8 (ix1 j)) (x9 (ix1 j)) = m
  show max (-m) (Ideal.ofBits .f32 0x00000000#32) + Ideal.log1p (Ideal.exp (-(max (-m - Ideal.ofBits .f32 0x00000000#32) (-(-m - Ideal.ofBits .f32 0x00000000#32))))) = max (0 - m) 0 + Ideal.log1p (Ideal.exp (0 - max m (-m)))
  rw [Ideal.ofBits_zero_f32, sub_zero, neg_neg, zero_sub, zero_sub, max_comm m]

end Cert.RefVal

end
-- ==== Proof.RefExit.lean ====
module

public import proofs.«01_k».proof.Proof.RefDpo
public import proofs.«01_k».proof.Proof.Gen.ReferenceIdeal.Run
public import Idealize.ShloMosaic.Lib.Pipeline.ValueKit
public import Idealize.ShloMosaic.Lib.Pipeline.Covers
public import Idealize.ShloMosaic.Lib.Claim

/-! What the reference's cast of the codes leaves. -/

@[expose] public noncomputable section

namespace Cert.RefVal

open Idealize.ShloMosaic Idealize.ShloMosaic.TcCoe Idealize.SL.Sem Cert.ReferenceIdeal Cert.ReferenceIdeal.Gen

set_option maxRecDepth 16384

variable (m : (ℓ : Loc nD τ sig) → Buf (Elt Ideal) ℓ)

theorem idx0 : ∀ t : Fin cfg0.N, win0_0.index t = ![0, 0] := by decide +kernel
theorem idx1 : ∀ t : Fin cfg0.N, win0_1.index t = ![0, 0] := by decide +kernel

theorem flat_apply (x : Vec Ideal S6x1024x7168 .fp8e4m3) (n : Fin 6144) (k : Fin 7168) : shapeCast S6144x7168 x shapeCasts_S6x1024x7168_S6144x7168 (ix2 n k) = x (ix3 (⟨n.val / 1024, by omega⟩ : Fin 6) (⟨n.val % 1024, by omega⟩ : Fin 1024) k) := by
  pointwise

theorem reg0 (c : Dev nD) (n : Fin 6144) (k : Fin 7168) : (Value.reg_main_v1_0 m c (ix2 n k) : EReal) = (m ((c.tc : Thread nD τ).loc main_arg0) (ix3 (⟨n.val / 1024, by omega⟩ : Fin 6) (⟨n.val % 1024, by omega⟩ : Fin 1024) k) : EReal) := by
  have h : Value.reg_main_v1_0 m c = fun i : S6144x7168.Idx => (V m c main_v0 i : EReal) := by
    unfold Value.reg_main_v1_0
    refine (dats m 0 c).arrAt_eq_of_after_last 2 t0_0 (by decide +kernel) _ fun j => ?_
    blk_simp
    rw [after0_2]
    unfold out0_2
    have e : r0_0.emb j = j := funext fun a => Fin.ext (by
      match a with
      | ⟨0, _⟩ => simp [Rect.emb, Rect.unit]
      | ⟨1, _⟩ => simp [Rect.emb, Rect.unit])
    refine (congrArg _ e.symm).trans ((View.canon_cons_emb _ _ _ _).trans ?_)
    have l : View.ld (iblk m c 0 t0_0) r0_0 j = V m c main_v0 j := by
      show iblk m c 0 t0_0 (r0_0.emb j) = _
      rw [e]
      blk_ext [iblk, idx0 t0_0]
    pointwise [k0_pay1]
    exact (congrArg (iblk m c 0 t0_0) e.symm).trans l
  rw [h]
  have g : V m c main_v0 = shapeCast S6144x7168 (m ((c.tc : Thread nD τ).loc main_arg0)) shapeCasts_S6x1024x7168_S6144x7168 := rfl
  exact (congrFun g (ix2 n k)).trans (flat_apply _ n k)

theorem reg1 (c : Dev nD) (y : S32000x7168.Idx) : (Value.reg_main_v1_1 m c y : EReal) = (m ((c.tc : Thread nD τ).loc main_arg2) y : EReal) := by
  have h : Value.reg_main_v1_1 m c = fun i : S32000x7168.Idx => (V m c main_arg2 i : EReal) := by
    unfold Value.reg_main_v1_1
    refine (dats m 0 c).arrAt_eq_of_after_last 3 t0_0 (by decide +kernel) _ fun j => ?_
    blk_simp
    rw [after0_3]
    unfold out0_3
    have e : r0_1.emb j = j := funext fun a => Fin.ext (by
      match a with
      | ⟨0, _⟩ => simp [Rect.emb, Rect.unit]
      | ⟨1, _⟩ => simp [Rect.emb, Rect.unit])
    refine (congrArg _ e.symm).trans ((View.canon_cons_emb _ _ _ _).trans ?_)
    have l : View.ld (iblk m c 1 t0_0) r0_1 j = V m c main_arg2 j := by
      show iblk m c 1 t0_0 (r0_1.emb j) = _
      rw [e]
      blk_ext [iblk, idx1 t0_0]
    pointwise [k0_pay2]
    exact (congrArg (iblk m c 1 t0_0) e.symm).trans l
  rw [h, V_main_arg2]

/-- The run of the reference: each result is its stage over the arguments and the cast codes, and the arguments stay. -/
theorem run (ρ : Dev nD → PrngReg) :
    θ_run defs (onTc (τ := τ) (main (F := Ideal))) ⟨m, fun _ => 0, ρ⟩ fun r => ∀ c : Dev nD,
      r.2.mem ((c.tc : Thread nD τ).loc main_v45) = Read.val_main_v45 (F := Ideal) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (Value.reg_main_v1_0 m c) (Value.reg_main_v1_1 m c)
      ∧ r.2.mem ((c.tc : Thread nD τ).loc main_v94) = Read.val_main_v94 (F := Ideal) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (Value.reg_main_v1_0 m c) (Value.reg_main_v1_1 m c)
      ∧ r.2.mem ((c.tc : Thread nD τ).loc main_v80) = Read.val_main_v80 (F := Ideal) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (Value.reg_main_v1_0 m c) (Value.reg_main_v1_1 m c)
      ∧ r.2.mem ((c.tc : Thread nD τ).loc main_v32) = Read.val_main_v32 (F := Ideal) (m ((c.tc : Thread nD τ).loc main_arg1)) (m ((c.tc : Thread nD τ).loc main_arg3)) (m ((c.tc : Thread nD τ).loc main_arg4)) (Value.reg_main_v1_0 m c) (Value.reg_main_v1_1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (Value.run m ρ)
  obtain ⟨h0, h1, h2, h3, ha⟩ := h c
  refine ⟨h0.trans ((Read.val_main_v45_eq (Value.exitV m c)).trans ?_), h1.trans ((Read.val_main_v94_eq (Value.exitV m c)).trans ?_), h2.trans ((Read.val_main_v80_eq (Value.exitV m c)).trans ?_), h3.trans ((Read.val_main_v32_eq (Value.exitV m c)).trans ?_), ha⟩
  · rw [Value.exit_main_arg1, Value.exit_main_arg3, Value.exit_main_arg4, Value.exit_main_arg5, Value.exit_main_arg6, Value.exit_main_v1_0, Value.exit_main_v1_1]
  · rw [Value.exit_main_arg1, Value.exit_main_arg3, Value.exit_main_arg4, Value.exit_main_arg5, Value.exit_main_arg6, Value.exit_main_arg7, Value.exit_main_arg8, Value.exit_main_arg9, Value.exit_main_v1_0, Value.exit_main_v1_1]
  · rw [Value.exit_main_arg1, Value.exit_main_arg3, Value.exit_main_arg4, Value.exit_main_arg5, Value.exit_main_arg6, Value.exit_main_arg7, Value.exit_main_arg8, Value.exit_main_arg9, Value.exit_main_v1_0, Value.exit_main_v1_1]
  · rw [Value.exit_main_arg1, Value.exit_main_arg3, Value.exit_main_arg4, Value.exit_main_v1_0, Value.exit_main_v1_1]

end Cert.RefVal

end
-- ==== Proof.Match.lean ====
module

public import proofs.«01_k».proof.Proof.Exit
public import proofs.«01_k».proof.Proof.RefExit

@[expose] public section

set_option maxRecDepth 16384

noncomputable section

namespace Cert.KernelIdeal.Hand

open Idealize.ShloMosaic Idealize.ShloMosaic.TcCoe Idealize.SL.Sem
open Cert.KernelIdeal Cert.KernelIdeal.Gen

/-! The run of the kernel against the run of the reference, entry by entry. -/

variable (m : (ℓ : Loc nD τ sig) → Buf (Elt Ideal) ℓ)

theorem v2_eq (c : Dev nD) (n : Fin 6144) (k : Fin 7168) : hid (V3 m) c n k = wide (V1 m) c (ix2 n k) := by
  unfold hid
  exact congrFun ((W3_host m c main_v2 (by decide)).trans ((W2_arr m c 2).trans (arr0 (V1 m) c))) (ix2 n k)

/-- Entry `k` of the quantised hidden state of token `n`. -/
def hq (c : Dev nD) (n : Fin 6144) (k : Fin 7168) : EReal := m ((c : Thread nD τ).loc main_arg0) (ix3 (⟨n.val / 1024, by omega⟩ : Fin 6) (⟨n.val % 1024, by omega⟩ : Fin 1024) k)

/-- The scale of block `k` of the hidden state of token `n`. -/
def hs (c : Dev nD) (n : Fin 6144) (k : Fin 224) : EReal := m ((c : Thread nD τ).loc main_arg1) (ix3 (⟨n.val / 1024, by omega⟩ : Fin 6) (⟨n.val % 1024, by omega⟩ : Fin 1024) k)

theorem wide_eq (c : Dev nD) (n : Fin 6144) (k : Fin 7168) : wide (V1 m) c (ix2 n k) = hq m c n k * hs m c n ⟨k.val / 32, by omega⟩ := by
  unfold wide h0 h1 hq hs
  exact congrArg₂ (fun a b : EReal => a * b) ((congrFun (W1_v0 m c) _).trans (flatH_apply _ n k)) ((congrFun (W1_v1 m c) _).trans (flatS_apply _ n ⟨k.val / 32, by omega⟩))

section
variable (c : Dev nD) (x1 : (⟨Cert.ReferenceIdeal.S6x1024x224, .f32⟩ : BufTy).Contents (Elt Ideal)) (x3 : (⟨Cert.ReferenceIdeal.S32000x224, .f32⟩ : BufTy).Contents (Elt Ideal)) (x4 x5 x6 : (⟨Cert.ReferenceIdeal.S6x1024, .i32⟩ : BufTy).Contents (Elt Ideal)) (x7 : (⟨Cert.ReferenceIdeal.S24, .f32⟩ : BufTy).Contents (Elt Ideal)) (x8 x9 : (⟨Cert.ReferenceIdeal.S12, .i32⟩ : BufTy).Contents (Elt Ideal)) (r0 : (⟨Cert.ReferenceIdeal.S6144x7168, .bf16⟩ : BufTy).Contents (Elt Ideal)) (r1 : (⟨Cert.ReferenceIdeal.S32000x7168, .bf16⟩ : BufTy).Contents (Elt Ideal))

theorem X_match (g1 : m ((c : Thread nD τ).loc main_arg1) = x1) (g3 : m ((c : Thread nD τ).loc main_arg3) = x3)
    (g0 : ∀ (n : Fin 6144) (k : Fin 7168), (r0 (ix2 n k) : EReal) = hq m c n k)
    (g2 : ∀ (n : Fin 32000) (k : Fin 7168), (r1 (ix2 n k) : EReal) = (m ((c : Thread nD τ).loc main_arg2) (ix2 n k) : EReal)) : X (V3 m) c = RefVal.X x1 x3 r0 r1 := by
  funext n v
  unfold X RefVal.X
  split_ifs with h
  · refine Finset.sum_congr rfl fun k _ => ?_
    rw [v2_eq, wide_eq, g0, g2, ← g1, ← g3]
    unfold wq ws hs
    rw [W3_args m c main_arg2 (by decide), W3_args m c main_arg3 (by decide)]
  · rfl

theorem lab_match (g4 : m ((c : Thread nD τ).loc main_arg4) = x4) : lab (V3 m) c = RefVal.lab x4 := by
  funext n
  unfold lab RefVal.lab
  split_ifs with h
  · refine congrArg BitVec.toNat ((congrFun (W3_v3 m c) _).trans ((flatL_apply _ ⟨n, h⟩).trans ?_))
    rw [W2_args m c main_arg4 (by decide), g4]
  · rfl

theorem row_match (g7 : m ((c : Thread nD τ).loc main_arg7) = x7) : row24k (V3 m c main_v4) = RefVal.row24 x7 := by
  funext s
  unfold row24k RefVal.row24
  split_ifs with h
  · refine (congrFun (W3_v4 m c) _).trans ((row24_apply _ ⟨s, h⟩).trans ?_)
    rw [W2_args m c main_arg7 (by decide), g7]
  · rfl

theorem ch_match (g8 : m ((c : Thread nD τ).loc main_arg8) = x8) (j : Fin 12) : V3 m c main_v5 (ix2 0 j) = x8 (ix1 j) := by
  refine (congrFun (W3_v5 m c) _).trans ((row12_apply _ j).trans ?_)
  rw [W2_args m c main_arg8 (by decide), g8]

theorem rj_match (g9 : m ((c : Thread nD τ).loc main_arg9) = x9) (j : Fin 12) : V3 m c main_v6 (ix2 0 j) = x9 (ix1 j) := by
  refine (congrFun (W3_v6 m c) _).trans ((row12_apply _ j).trans ?_)
  rw [W2_args m c main_arg9 (by decide), g9]

theorem tok_match (hX : X (V3 m) c = RefVal.X x1 x3 r0 r1) (hl : lab (V3 m) c = RefVal.lab x4) : (fun (q : Fin 6) (p : Fin 1024) => lp (V3 m) c (1024 * q.val + p.val)) = RefVal.tok x1 x3 x4 r0 r1 := by
  funext q p
  unfold lp RefVal.tok
  rw [hX, hl]

theorem out_tok (hX : X (V3 m) c = RefVal.X x1 x3 r0 r1) (hl : lab (V3 m) c = RefVal.lab x4) : W5 m c main_v7_0 = Cert.ReferenceIdeal.Read.val_main_v32 (F := Ideal) x1 x3 x4 r0 r1 := by
  refine (W5_host m c main_v7_0 (by decide)).trans ((W4_arr m c 9).trans ((arr9 (V3 m) c).trans ?_))
  funext y
  refine Eq.trans ?_ (RefVal.v32_eq x1 x3 x4 r0 r1 y).symm
  unfold lp
  rw [hX, hl]

theorem idx1_eq {n : ℕ} (y : (⟨1, ![n]⟩ : Shape).Idx) : y = ix1 (y 0) := by
  funext a
  match a with
  | ⟨0, _⟩ => rfl

theorem out_pol (hX : X (V3 m) c = RefVal.X x1 x3 r0 r1) (hl : lab (V3 m) c = RefVal.lab x4) (g5 : m ((c : Thread nD τ).loc main_arg5) = x5) (g6 : m ((c : Thread nD τ).loc main_arg6) = x6) : W5 m c main_v8 = Cert.ReferenceIdeal.Read.val_main_v45 (F := Ideal) x1 x3 x4 x5 x6 r0 r1 := by
  refine (W5_v8 m c).trans ?_
  funext y
  rw [idx1_eq y]
  refine (out24_apply _ (y 0)).trans (Eq.trans ?_ (RefVal.v45_eq x1 x3 x4 x5 x6 r0 r1 (y 0)).symm)
  refine (congrFun ((W4_arr m c 10).trans (arr10 (V3 m) c)) _).trans ((aPol_last (V3 m) c (y 0)).trans ?_)
  rw [tok_match m c x1 x3 x4 r0 r1 hX hl, W3_args m c main_arg5 (by decide), W3_args m c main_arg6 (by decide), g5, g6]
  rfl

theorem mar_match (hX : X (V3 m) c = RefVal.X x1 x3 r0 r1) (hl : lab (V3 m) c = RefVal.lab x4) (g5 : m ((c : Thread nD τ).loc main_arg5) = x5) (g6 : m ((c : Thread nD τ).loc main_arg6) = x6) (g7 : m ((c : Thread nD τ).loc main_arg7) = x7) (g8 : m ((c : Thread nD τ).loc main_arg8) = x8) (g9 : m ((c : Thread nD τ).loc main_arg9) = x9) (j : Fin 12) :
    Spec.mar (Spec.pol (fun q p => lp (V3 m) c (1024 * q.val + p.val)) (fun q p => V3 m c main_arg5 (ix2 q p)) (fun q p => V3 m c main_arg6 (ix2 q p))) (row24k (V3 m c main_v4)) (V3 m c main_v5 (ix2 0 j)) (V3 m c main_v6 (ix2 0 j))
      = Spec.mar (Spec.pol (RefVal.tok x1 x3 x4 r0 r1) (RefVal.words x5) (RefVal.words x6)) (RefVal.row24 x7) (x8 (ix1 j)) (x9 (ix1 j)) := by
  rw [tok_match m c x1 x3 x4 r0 r1 hX hl, W3_args m c main_arg5 (by decide), W3_args m c main_arg6 (by decide), g5, g6, row_match m c x7 g7, ch_match m c x8 g8, rj_match m c x9 g9]
  rfl

theorem out_loss (hX : X (V3 m) c = RefVal.X x1 x3 r0 r1) (hl : lab (V3 m) c = RefVal.lab x4) (g5 : m ((c : Thread nD τ).loc main_arg5) = x5) (g6 : m ((c : Thread nD τ).loc main_arg6) = x6) (g7 : m ((c : Thread nD τ).loc main_arg7) = x7) (g8 : m ((c : Thread nD τ).loc main_arg8) = x8) (g9 : m ((c : Thread nD τ).loc main_arg9) = x9) : W5 m c main_v9 = Cert.ReferenceIdeal.Read.val_main_v94 (F := Ideal) x1 x3 x4 x5 x6 x7 x8 x9 r0 r1 := by
  refine (W5_v9 m c).trans ?_
  funext y
  rw [idx1_eq y]
  refine (out12_apply _ (y 0)).trans (Eq.trans ?_ (RefVal.v94_eq x1 x3 x4 x5 x6 x7 x8 x9 r0 r1 (y 0)).symm)
  refine (congrFun ((W4_arr m c 11).trans (arr11 (V3 m) c)) _).trans ((aLoss_last (V3 m) c (y 0)).trans ?_)
  exact congrArg Spec.loss (mar_match m c x1 x3 x4 x5 x6 x7 x8 x9 r0 r1 hX hl g5 g6 g7 g8 g9 (y 0))

theorem out_mar (hX : X (V3 m) c = RefVal.X x1 x3 r0 r1) (hl : lab (V3 m) c = RefVal.lab x4) (g5 : m ((c : Thread nD τ).loc main_arg5) = x5) (g6 : m ((c : Thread nD τ).loc main_arg6) = x6) (g7 : m ((c : Thread nD τ).loc main_arg7) = x7) (g8 : m ((c : Thread nD τ).loc main_arg8) = x8) (g9 : m ((c : Thread nD τ).loc main_arg9) = x9) : W5 m c main_v10 = Cert.ReferenceIdeal.Read.val_main_v80 (F := Ideal) x1 x3 x4 x5 x6 x7 x8 x9 r0 r1 := by
  refine (W5_v10 m c).trans ?_
  funext y
  rw [idx1_eq y]
  refine (out12_apply _ (y 0)).trans (Eq.trans ?_ (RefVal.v80_eq x1 x3 x4 x5 x6 x7 x8 x9 r0 r1 (y 0)).symm)
  refine (congrFun ((W4_arr m c 12).trans (arr12 (V3 m) c)) _).trans ((aMar_last (V3 m) c (y 0)).trans ?_)
  exact mar_match m c x1 x3 x4 x5 x6 x7 x8 x9 r0 r1 hX hl g5 g6 g7 g8 g9 (y 0)
end

end Cert.KernelIdeal.Hand

end
-- ==== Proof.KWiden.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

set_option maxHeartbeats 4000000 in
/-- What the body leaves in the output block, as the pieces that its 56 stores write. -/
noncomputable def wRun (c : Dev nD) (i : grid0.Coords) (arg1 : Memref sig .tc .vmem S256x7168 .fp8e4m3) (harg1 : arg1.IsWhole) (arg2 : Memref sig .tc .vmem S256x224 .f32) (harg2 : arg2.IsWhole) (arg3 : Memref sig .tc .vmem S256x7168 .bf16) (harg3 : arg3.IsWhole)
    (x0 : Vec F S256x7168 .fp8e4m3) (x1 : Vec F S256x224 .f32) :
    { L3 : List (View.Piece (Elt F) S256x7168 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3)) -∗ K ⟨⟩))
          ⊢ wp frame (wpE (defs₀ (F := F)) Variants.none c none) E (cc0_widen_h i arg1 harg1 arg2 harg2 arg3 harg3) K } := by
  refine ⟨?_, fun E K => ?run⟩
  case run =>
    simp only [cc0_widen_h_eq_skeleton]; unfold cc0_widen_h_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The widened block that the body leaves. -/
def wOut (c : Dev nD) (i : grid0.Coords) (arg1 : Memref sig .tc .vmem S256x7168 .fp8e4m3) (harg1 : arg1.IsWhole) (arg2 : Memref sig .tc .vmem S256x224 .f32) (harg2 : arg2.IsWhole) (arg3 : Memref sig .tc .vmem S256x7168 .bf16) (harg3 : arg3.IsWhole) (x0 : Vec F S256x7168 .fp8e4m3) (x1 : Vec F S256x224 .f32) : Vec F S256x7168 .bf16 :=
  View.canon (wRun c i arg1 harg1 arg2 harg2 arg3 harg3 x0 x1).1

set_option maxHeartbeats 4000000 in
/-- The stores cover the whole block. -/
theorem wCover (c : Dev nD) (i : grid0.Coords) (arg1 : Memref sig .tc .vmem S256x7168 .fp8e4m3) (harg1 : arg1.IsWhole) (arg2 : Memref sig .tc .vmem S256x224 .f32) (harg2 : arg2.IsWhole) (arg3 : Memref sig .tc .vmem S256x7168 .bf16) (harg3 : arg3.IsWhole) (x0 : Vec F S256x7168 .fp8e4m3) (x1 : Vec F S256x224 .f32) (y : S256x7168.Idx) :
    ∃ pc ∈ (wRun c i arg1 harg1 arg2 harg2 arg3 harg3 x0 x1).1, y ∈ pc.1.set := by
  unfold wRun
  exact View.cover_of_tiledL (s := S256x7168) _ ![256, 128] (by sl_kernel_rfl) y

/-- The body on whole staging memrefs: the inputs stay, the output ends at the widened block. -/
theorem sound_kernel0 (c : Dev nD) (E : Set ℕ) (i : grid0.Coords) (arg1 : Memref sig .tc .vmem S256x7168 .fp8e4m3) (harg1 : arg1.IsWhole) (arg2 : Memref sig .tc .vmem S256x224 .f32) (harg2 : arg2.IsWhole) (arg3 : Memref sig .tc .vmem S256x7168 .bf16) (harg3 : arg3.IsWhole)
    (x0 : Vec F S256x7168 .fp8e4m3) (x1 : Vec F S256x224 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (wOut c i arg1 harg1 arg2 harg2 arg3 harg3 x0 x1)) -∗ K ⟨⟩))
      ⊢ wp frame (wpE (defs₀ (F := F)) Variants.none c none) E (cc0_widen_h i arg1 harg1 arg2 harg2 arg3 harg3) K := by
  iintro ⟨H0, H1, H2, Hk⟩
  iapply ((wRun c i arg1 harg1 arg2 harg2 arg3 harg3 x0 x1).2 E K)
  isplitl [H0]; · iexact H0
  isplitl [H1]; · iexact H1
  isplitl [H2]; · iexact H2
  iintro ⟨H0, H1, %f, H2⟩
  iapply Hk
  isplitl [H0]; · iexact H0
  isplitl [H1]; · iexact H1
  unfold owns
  iexists _; isplitr
  swap; · iexact H2
  ipureintro
  exact View.read_writes_eq_canon _ _ _ (wCover c i arg1 harg1 arg2 harg2 arg3 harg3 x0 x1)

/-- The widened block at a point, from its input blocks. -/
def out0_2 (c : Dev nD) (t : Fin cfg0.N) (x0 : Vec F S256x7168 .fp8e4m3) (x1 : Vec F S256x224 .f32) : Vec F S256x7168 .bf16 :=
  wOut c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) x0 x1

/-! ## The pipeline's proof data -/

/-- The proof data of pipeline 0 on core `c`: the arrays as the region finds them (`V`); after the body at
    point `t` each input's buffer at its block and each output's at `widened block of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 c t (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 c t (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  unfold out0_2
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Hand

end
-- ==== Proof.KSegs.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The body of the main call, cut at its conditionals

The body is five programs one after another: two conditional initialisations, the unconditional update of the running maximum, sum and
target, the conditional row of results, and the conditional loss. -/

section Programs
variable (i : grid1.Coords) (arg2 : Memref sig .tc .vmem S1536x7168 .bf16) (harg2 : arg2.IsWhole) (arg3 : Memref sig .tc .vmem S256x7168 .fp8e4m3) (harg3 : arg3.IsWhole) (arg4 : Memref sig .tc .vmem S256x224 .f32) (harg4 : arg4.IsWhole) (arg5 : Memref sig .tc .vmem S1536x1 .i32) (harg5 : arg5.IsWhole) (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole) (arg12 : Memref sig .tc .vmem S1x24 .f32) (harg12 : arg12.IsWhole) (arg13 : Memref sig .tc .vmem S1x12 .f32) (harg13 : arg13.IsWhole) (arg14 : Memref sig .tc .vmem S1x12 .f32) (harg14 : arg14.IsWhole) (arg15 : Memref sig .tc .vmem S256x7168 .bf16) (harg15 : arg15.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole)

/-- First vocabulary tile of a token tile: the running values start over. -/
def pInit : Prog (TpuEff nD τ sig (Elt F) Λ₀ .tc) PUnit := do
  let arg0 : BitVec 32 := BitVec.ofNat 32 (i 0).val
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k1_h1 : v2 = 1#1 then do
    let v1135 : Vec F S1536x128 .f32 ← Prog.lift (.load arg16 (Rect.unit (s := S1536x128) ![0, 0] S1536x128.size inb_S1536x128_S1536x128_0_0).toLoadRect (View.loadsAt_vmem h_S1536x128))
    Prog.lift (.store arg16 (Rect.unit (s := S1536x128) ![0, 0] S1536x128.size inb_S1536x128_S1536x128_0_0) (k1_pay79 (F := F)) Finset.univ (View.stores_vmem_bits_univ h_S1536x128 rfl) (.inl rfl))
    let v1139 : Vec F S1536x128 .f32 ← Prog.lift (.load arg17 (Rect.unit (s := S1536x128) ![0, 0] S1536x128.size inb_S1536x128_S1536x128_0_0).toLoadRect (View.loadsAt_vmem h_S1536x128))
    Prog.lift (.store arg17 (Rect.unit (s := S1536x128) ![0, 0] S1536x128.size inb_S1536x128_S1536x128_0_0) (k1_pay80 (F := F)) Finset.univ (View.stores_vmem_bits_univ h_S1536x128 rfl) (.inl rfl))
    let v1143 : Vec F S1536x128 .f32 ← Prog.lift (.load arg18 (Rect.unit (s := S1536x128) ![0, 0] S1536x128.size inb_S1536x128_S1536x128_0_0).toLoadRect (View.loadsAt_vmem h_S1536x128))
    Prog.lift (.store arg18 (Rect.unit (s := S1536x128) ![0, 0] S1536x128.size inb_S1536x128_S1536x128_0_0) (k1_pay81 (F := F)) Finset.univ (View.stores_vmem_bits_univ h_S1536x128 rfl) (.inl rfl))
    pure ⟨⟩
  else do
    pure ⟨⟩

/-- First point of the grid: the per-token result starts at zero. -/
def pZero : Prog (TpuEff nD τ sig (Elt F) Λ₀ .tc) PUnit := do
  if k1_h2 : k1_cond2 i = 1#1 then do
    let v1135 : Vec F S6x1024 .f32 ← Prog.lift (.load arg11 (Rect.unit (s := S6x1024) ![0, 0] S6x1024.size inb_S6x1024_S6x1024_0_0).toLoadRect (View.loadsAt_vmem h_S6x1024))
    Prog.lift (.store arg11 (Rect.unit (s := S6x1024) ![0, 0] S6x1024.size inb_S6x1024_S6x1024_0_0) (k1_pay82 (F := F)) Finset.univ (View.stores_vmem_bits_univ h_S6x1024 rfl) (.inl rfl))
    pure ⟨⟩
  else do
    pure ⟨⟩

/-- Every point: widen the weights tile and fold its logits into the running values. -/
def pMid : Prog (TpuEff nD τ sig (Elt F) Λ₀ .tc) PUnit := do
  let arg0 : BitVec 32 := BitVec.ofNat 32 (i 0).val
  let arg1 : BitVec 32 := BitVec.ofNat 32 (i 1).val
  let v8 : Vec F S256x128 .f32 ← Prog.lift (.load arg4 (Rect.unit (s := S256x224) ![0, 0] S256x128.size inb_S256x224_S256x128_0_0).toLoadRect (View.loadsAt_vmem h_S256x128))
  let v11 : Vec F S256x128 .f32 ← Prog.lift (.load arg4 (Rect.unit (s := S256x224) ![0, 96] S256x128.size inb_S256x224_S256x128_0_96).toLoadRect (View.loadsAt_vmem h_S256x128))
  let v10 : FVec F S256x128 .f32 := k1_pay83 v8
  let v13 : FVec F S256x128 .f32 := k1_pay84 v11
  have v38 : IVec S256x128 32 := k1_pay85
  let c0_i32_11 : BitVec 32 := 0#32
  let v80 : IVec S256x128x1 32 ← k1_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 c0_i32_11
  let v120 : FVec F S256x128 .bf16 ← k1_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 v80
  let ⟨v159, v161⟩ : Σ' (v159 : IVec S256x128 32), IVec S256x128 1 ← k1_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 v120
  let v202 : FVec F S256x128 .bf16 ← k1_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 v159 v161
  let c48_i32 : BitVec 32 ← k1_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 v202
  let v284 : IVec S256x128x1 32 ← k1_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 c48_i32
  let v324 : FVec F S256x128 .bf16 ← k1_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 v284
  let ⟨v363, v365⟩ : Σ' (v363 : IVec S256x128 32), IVec S256x128 1 ← k1_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 v324
  let v406 : FVec F S256x128 .bf16 ← k1_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 v363 v365
  let c96_i32 : BitVec 32 ← k1_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 v406
  let v488 : IVec S256x128x1 32 ← k1_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 c96_i32
  let v528 : FVec F S256x128 .bf16 ← k1_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 v488
  let ⟨v567, v569⟩ : Σ' (v567 : IVec S256x128 32), IVec S256x128 1 ← k1_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v38 v528
  let v610 : FVec F S256x128 .bf16 ← k1_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v10 v13 v38 v567 v569
  let c48_i32_197 : BitVec 32 ← k1_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v38 v610
  let v692 : IVec S256x128x1 32 ← k1_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v38 c48_i32_197
  let v732 : FVec F S256x128 .bf16 ← k1_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v38 v692
  let ⟨v771, v773⟩ : Σ' (v771 : IVec S256x128 32), IVec S256x128 1 ← k1_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v38 v732
  let v814 : FVec F S256x128 .bf16 ← k1_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v38 v771 v773
  let c96_i32_269 : BitVec 32 ← k1_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v38 v814
  let v896 : IVec S256x128x1 32 ← k1_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v38 c96_i32_269
  let v936 : FVec F S256x128 .bf16 ← k1_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v38 v896
  let ⟨v975, v977⟩ : Σ' (v975 : IVec S256x128 32), IVec S256x128 1 ← k1_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v38 v936
  let ⟨v998, v999, v1000, v1003, v1008, v1010, v1013, v1016⟩ : Σ' (v998 : IVec S512x128 32) (v999 : FVec F S512x128 .f32) (v1000 : FVec F S512x128 .f32) (v1003 : FVec F S512x128 .f32) (v1008 : Vec F S512x128 .f32) (v1010 : IVec S512x1 32) (v1013 : FVec F S512x128 .f32), IVec S512x128 32 ← k1_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v13 v975 v977
  let ⟨v1041, v1042, v1043, v1044, v1045, v1048, v1052⟩ : Σ' (v1041 : IVec S512x1 32) (v1042 : BitVec 32) (v1043 : IVec S512x128 32) (v1044 : FVec F S512x128 .f32) (v1045 : FVec F S512x128 .f32) (v1048 : FVec F S512x128 .f32), FVec F S512x128 .f32 ← k1_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v998 v999 v1000 v1003 v1008 v1010 v1013 v1016
  let ⟨v1086, v1087, v1088, v1089, v1090, v1091⟩ : Σ' (v1086 : IVec S512x1 32) (v1087 : BitVec 32) (v1088 : IVec S512x128 32) (v1089 : FVec F S512x128 .f32) (v1090 : FVec F S512x128 .f32), Vec F S512x128 .f32 ← k1_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v1041 v1042 v1043 v1044 v1045 v1048 v1052
  let v1094 : Vec F S512x128 .f32 ← Prog.lift (.load arg17 (Rect.unit (s := S1536x128) ![1024, 0] S512x128.size inb_S1536x128_S512x128_1024_0).toLoadRect (View.loadsAt_vmem h_S512x128))
  let v1098 : Vec F S512x128 .f32 ← Prog.lift (.load arg18 (Rect.unit (s := S1536x128) ![1024, 0] S512x128.size inb_S1536x128_S512x128_1024_0).toLoadRect (View.loadsAt_vmem h_S512x128))
  let v1117 : Vec F S512x128 .f32 ← Prog.lift (.load arg16 (Rect.unit (s := S1536x128) ![1024, 0] S512x128.size inb_S1536x128_S512x128_1024_0).toLoadRect (View.loadsAt_vmem h_S512x128))
  Prog.lift (.store arg16 (Rect.unit (s := S1536x128) ![1024, 0] S512x128.size inb_S1536x128_S512x128_1024_0) (k1_pay190 v1089 v1090 v1091) Finset.univ (View.stores_vmem_bits_univ h_S512x128 rfl) (.inl rfl))
  let v1120 : Vec F S512x128 .f32 ← Prog.lift (.load arg17 (Rect.unit (s := S1536x128) ![1024, 0] S512x128.size inb_S1536x128_S512x128_1024_0).toLoadRect (View.loadsAt_vmem h_S512x128))
  Prog.lift (.store arg17 (Rect.unit (s := S1536x128) ![1024, 0] S512x128.size inb_S1536x128_S512x128_1024_0) (k1_pay191 v1089 v1090 v1091 v1094) Finset.univ (View.stores_vmem_bits_univ h_S512x128 rfl) (.inl rfl))
  let v1123 : Vec F S512x128 .f32 ← Prog.lift (.load arg18 (Rect.unit (s := S1536x128) ![1024, 0] S512x128.size inb_S1536x128_S512x128_1024_0).toLoadRect (View.loadsAt_vmem h_S512x128))
  Prog.lift (.store arg18 (Rect.unit (s := S1536x128) ![1024, 0] S512x128.size inb_S1536x128_S512x128_1024_0) (k1_pay192 v1086 v1087 v1088 v1089 v1090 v1098) Finset.univ (View.stores_vmem_bits_univ h_S512x128 rfl) (.inl rfl))
  pure ⟨⟩

/-- Last vocabulary tile of a token tile: the tile's row of results. -/
def pFin : Prog (TpuEff nD τ sig (Elt F) Λ₀ .tc) PUnit := do
  let arg0 : BitVec 32 := BitVec.ofNat 32 (i 0).val
  if k1_h3 : k1_cond3 i = 1#1 then do
    let ⟨v1134, v1136, v1155, v1166, c1024_i32_400, v1167, v1172, c0_i32_403⟩ : Σ' (v1134 : IVec S6x128 32) (v1136 : BitVec 32) (v1155 : FVec F S1x128 .f32) (v1166 : BitVec 32) (c1024_i32_400 : BitVec 32) (v1167 : BitVec 32) (v1172 : BitVec 32), BitVec 32 ← k1_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0
    let ⟨v1195, v1214, c1024_i32_420⟩ : Σ' (v1195 : BitVec 32) (v1214 : FVec F S1x128 .f32), BitVec 32 ← k1_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1134 v1136 v1155 v1166 c1024_i32_400 v1167 v1172 c0_i32_403
    let ⟨v1254, v1255⟩ : Σ' (v1254 : BitVec 32), Vec F S128x128 .f32 ← k1_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1134 v1195 v1214 c1024_i32_420
    let ⟨v1273, v1284, v1285, v1296, v1297⟩ : Σ' (v1273 : FVec F S1x128 .f32) (v1284 : BitVec 32) (v1285 : BitVec 32) (v1296 : BitVec 1), BitVec 32 ← k1_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1254 v1255
    let ⟨v1313, v1332, v1334, v1335, v1336, c0_i32_475⟩ : Σ' (v1313 : BitVec 32) (v1332 : FVec F S1x128 .f32) (v1334 : BitVec 32) (v1335 : BitVec 32) (v1336 : BitVec 1), BitVec 32 ← k1_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1134 v1273 v1284 v1285 v1296 v1297
    let ⟨v1372, v1374, v1376, v1377⟩ : Σ' (v1372 : BitVec 32) (v1374 : FVec F S128x128 .f32) (v1376 : FVec F S128x128 .f32), Vec F S128x128 .f32 ← k1_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1134 v1313 v1332 v1334 v1335 v1336 c0_i32_475
    let ⟨v1391, v1402, v1421⟩ : Σ' (v1391 : FVec F S1x128 .f32) (v1402 : BitVec 32), IVec S6x128 1 ← k1_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1134 v1372 v1374 v1376 v1377
    let ⟨v1431, v1450, v1461⟩ : Σ' (v1431 : BitVec 32) (v1450 : FVec F S1x128 .f32), BitVec 32 ← k1_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1391 v1402 v1421
    let ⟨v1490, v1496, v1498, v1502⟩ : Σ' (v1490 : BitVec 32) (v1496 : FVec F S128x128 .f32) (v1498 : FVec F S1x128 .f32), FVec F S128x128 .f32 ← k1_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1134 v1431 v1450 v1461
    let ⟨v1520, v1545⟩ : Σ' (v1520 : BitVec 32), FVec F S6x128 .f32 ← k1_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k1_h3 v1134 v1490 v1496 v1498 v1502
    let ⟨v1549, v1568, v1579, c1024_i32_577, v1580, v1582, v1584⟩ : Σ' (v1549 : BitVec 32) (v1568 : FVec F S1x128 .f32) (v1579 : BitVec 32) (c1024_i32_577 : BitVec 32) (v1580 : BitVec 32) (v1582 : BitVec 32), BitVec 32 ← k1_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1520 v1545
    let ⟨v1608, v1624, v1626⟩ : Σ' (v1608 : BitVec 32) (v1624 : FVec F S1x128 .f32), FVec F S1x128 .f32 ← k1_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1134 v1549 v1568 v1579 c1024_i32_577 v1580 v1582 v1584
    let v1667 : BitVec 32 ← k1_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1134 v1608 v1624 v1626
    let ⟨v1686, v1697, c1024_i32_628, v1698, v1703, v1708⟩ : Σ' (v1686 : FVec F S1x128 .f32) (v1697 : BitVec 32) (c1024_i32_628 : BitVec 32) (v1698 : BitVec 32) (v1703 : BitVec 32), BitVec 32 ← k1_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1667
    let ⟨v1726, v1745, v1747, v1748, c0_i32_650⟩ : Σ' (v1726 : BitVec 32) (v1745 : FVec F S1x128 .f32) (v1747 : BitVec 32) (v1748 : BitVec 32), BitVec 32 ← k1_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1134 v1667 v1686 v1697 c1024_i32_628 v1698 v1703 v1708
    let ⟨v1785, v1787, v1789⟩ : Σ' (v1785 : BitVec 32) (v1787 : FVec F S128x128 .f32), FVec F S128x128 .f32 ← k1_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k1_h3 v1134 v1726 v1745 v1747 v1748 c0_i32_650
    let ⟨v1804, v1815, v1832⟩ : Σ' (v1804 : FVec F S1x128 .f32) (v1815 : BitVec 32), BitVec 32 ← k1_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1785 v1787 v1789
    let v1836 : Vec F S6x128 .f32 ← Prog.lift (.load arg11 (Rect.unit (s := S6x1024) (k1_off1 i 1408#32) S6x128.size (k1_off1_inb i k1_h3 11)).toLoadRect (View.loadsAt_vmem h_S6x128))
    let v1842 : Vec F S6x128 .f32 ← Prog.lift (.load arg11 (Rect.unit (s := S6x1024) (k1_off1 i 1408#32) S6x128.size (k1_off1_inb i k1_h3 11)).toLoadRect (View.loadsAt_vmem h_S6x128))
    Prog.lift (.store arg11 (Rect.unit (s := S6x1024) (k1_off1 i 1408#32) S6x128.size (k1_off1_inb i k1_h3 11)) (k1_pay193 v1134 v1804 v1832 v1836) Finset.univ (View.stores_vmem_bits_univ h_S6x128 rfl) (.inl rfl))
    pure ⟨⟩
  else do
    pure ⟨⟩

/-- Last point of the grid: the loss. -/
def pDpo : Prog (TpuEff nD τ sig (Elt F) Λ₀ .tc) PUnit := do
  if k1_h4 : k1_cond4 i = 1#1 then do
    let v1847 : FVec F S1x12 .f32 ← k1_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    Prog.lift (.store arg14 (Rect.unit (s := S1x12) ![0, 0] S1x12.size inb_S1x12_S1x12_0_0) v1847 Finset.univ (View.stores_vmem_bits_univ h_S1x12 rfl) (.inl rfl))
    pure ⟨⟩
  else do
    pure ⟨⟩
  pure ⟨⟩

end Programs

theorem dite_bind' {E : Type → Type _} {α β : Type} {p : Prop} [Decidable p] (t : p → Prog E α) (e : ¬p → Prog E α)
    (k : α → Prog E β) : (dite p t e >>= k) = dite p (fun h => t h >>= k) (fun h => e h >>= k) := by
  split <;> rfl

set_option maxHeartbeats 4000000 in
set_option pp.maxSteps 400 in
/-- The body is those five programs in order. -/
theorem body_eq (i : grid1.Coords) (arg2 : Memref sig .tc .vmem S1536x7168 .bf16) (harg2 : arg2.IsWhole) (arg3 : Memref sig .tc .vmem S256x7168 .fp8e4m3) (harg3 : arg3.IsWhole) (arg4 : Memref sig .tc .vmem S256x224 .f32) (harg4 : arg4.IsWhole) (arg5 : Memref sig .tc .vmem S1536x1 .i32) (harg5 : arg5.IsWhole) (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole) (arg12 : Memref sig .tc .vmem S1x24 .f32) (harg12 : arg12.IsWhole) (arg13 : Memref sig .tc .vmem S1x12 .f32) (harg13 : arg13.IsWhole) (arg14 : Memref sig .tc .vmem S1x12 .f32) (harg14 : arg14.IsWhole) (arg15 : Memref sig .tc .vmem S256x7168 .bf16) (harg15 : arg15.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) :
    cc1_lm_head_dpo (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = (do
      pInit i arg16 arg17 arg18
      pZero i arg11
      pMid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      pFin i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      pDpo i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) := by
  rw [cc1_lm_head_dpo_eq_skeleton]
  unfold cc1_lm_head_dpo_skel pInit pZero pMid pFin pDpo
  rw [k1_part34_eq_skeleton, k1_part61_eq_skeleton]
  unfold k1_part34_skel k1_part61_skel
  simp only [dite_bind', bind_assoc, pure_bind]

end Cert.Kernel.Hand

end
-- ==== Proof.KRunMid.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Ring
public import Idealize.ShloMosaic.Lib.VecWindow
public import Idealize.ShloMosaic.Lib.Tactic
public import Idealize.ShloMosaic.Lib.WordCmp
public import proofs.«01_k».proof.Proof.KSegs

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2264000 in
/-- What the update leaves in the running maximum, sum and target, as the pieces that its stores write. -/
noncomputable def midRun (c : Dev nD) (i : grid1.Coords) (arg2 : Memref sig .tc .vmem S1536x7168 .bf16) (harg2 : arg2.IsWhole) (arg3 : Memref sig .tc .vmem S256x7168 .fp8e4m3) (harg3 : arg3.IsWhole) (arg4 : Memref sig .tc .vmem S256x224 .f32) (harg4 : arg4.IsWhole) (arg5 : Memref sig .tc .vmem S1536x1 .i32) (harg5 : arg5.IsWhole) (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole) (arg12 : Memref sig .tc .vmem S1x24 .f32) (harg12 : arg12.IsWhole) (arg13 : Memref sig .tc .vmem S1x12 .f32) (harg13 : arg13.IsWhole) (arg14 : Memref sig .tc .vmem S1x12 .f32) (harg14 : arg14.IsWhole) (arg15 : Memref sig .tc .vmem S256x7168 .bf16) (harg15 : arg15.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole)
    (x0 : Vec F S1536x7168 .bf16) (x1 : Vec F S256x7168 .fp8e4m3) (x2 : Vec F S256x224 .f32) (x3 : Vec F S1536x1 .i32) (xm : Vec F S1536x128 .f32) (xl : Vec F S1536x128 .f32) (xt : Vec F S1536x128 .f32) :
    Σ' (L16 : List (View.Piece (Elt F) S1536x128 .f32)), Σ' (L17 : List (View.Piece (Elt F) S1536x128 .f32)), { L18 : List (View.Piece (Elt F) S1536x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg15 fullShare d) ∗ owns (c : Thread nD τ) arg16 fullShare xm ∗ owns (c : Thread nD τ) arg17 fullShare xl ∗ owns (c : Thread nD τ) arg18 fullShare xt
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg15.view.loc (c : Thread nD τ) ↦[arg15.view.set]{fullShare} f) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18)) -∗ K ⟨⟩))
          ⊢ wp frame (wpE (defs₀ (F := F)) Variants.none c none) E (pMid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    unfold pMid
    simp only [k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton]
    unfold owns
    iintro ⟨⟨%f2, %hf2, H2⟩, ⟨%f3, %hf3, H3⟩, ⟨%f4, %hf4, H4⟩, ⟨%f5, %hf5, H5⟩, ⟨%d15, %f15, -, H15⟩, ⟨%f16, %hf16, H16⟩, ⟨%f17, %hf17, H17⟩, ⟨%f18, %hf18, H18⟩, Hk⟩
    obtain rfl := harg2.eq_unread hf2; obtain rfl := harg3.eq_unread hf3; obtain rfl := harg4.eq_unread hf4; obtain rfl := harg5.eq_unread hf5; obtain rfl := harg16.eq_unread hf16; obtain rfl := harg17.eq_unread hf17; obtain rfl := harg18.eq_unread hf18
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H15]; · iexists _; iexact H15
    isplitl [H16]; · iexists _; iexact H16
    isplitl [H17]; · iexists _; iexact H17
    iexists _; iexact H18

end Cert.Kernel.Hand

end
-- ==== Proof.KRunFin.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Ring
public import Idealize.ShloMosaic.Lib.VecWindow
public import Idealize.ShloMosaic.Lib.Tactic
public import Idealize.ShloMosaic.Lib.WordCmp
public import proofs.«01_k».proof.Proof.KSegs

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2264000 in
/-- What the row of results leaves in the per-token output when the token tile starts at column 0, as the pieces that its stores write. -/
noncomputable def finRun0 (c : Dev nD) (i : grid1.Coords) (arg2 : Memref sig .tc .vmem S1536x7168 .bf16) (harg2 : arg2.IsWhole) (arg3 : Memref sig .tc .vmem S256x7168 .fp8e4m3) (harg3 : arg3.IsWhole) (arg4 : Memref sig .tc .vmem S256x224 .f32) (harg4 : arg4.IsWhole) (arg5 : Memref sig .tc .vmem S1536x1 .i32) (harg5 : arg5.IsWhole) (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole) (arg12 : Memref sig .tc .vmem S1x24 .f32) (harg12 : arg12.IsWhole) (arg13 : Memref sig .tc .vmem S1x12 .f32) (harg13 : arg13.IsWhole) (arg14 : Memref sig .tc .vmem S1x12 .f32) (harg14 : arg14.IsWhole) (arg15 : Memref sig .tc .vmem S256x7168 .bf16) (harg15 : arg15.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) (hc : k1_cond3 i = 1#1)
    (ho0 : k1_off1 i 0#32 = ![0, 0]) (ho1 : k1_off1 i 128#32 = ![0, 128]) (ho2 : k1_off1 i 256#32 = ![0, 256]) (ho3 : k1_off1 i 384#32 = ![0, 384]) (ho4 : k1_off1 i 512#32 = ![0, 512]) (ho5 : k1_off1 i 640#32 = ![0, 640]) (ho6 : k1_off1 i 768#32 = ![0, 768]) (ho7 : k1_off1 i 896#32 = ![0, 896]) (ho8 : k1_off1 i 1024#32 = ![0, 0]) (ho9 : k1_off1 i 1152#32 = ![0, 128]) (ho10 : k1_off1 i 1280#32 = ![0, 256]) (ho11 : k1_off1 i 1408#32 = ![0, 384])
    (xk : Vec F S6x1024 .f32) (xm : Vec F S1536x128 .f32) (xl : Vec F S1536x128 .f32) (xt : Vec F S1536x128 .f32) :
    { L11 : List (View.Piece (Elt F) S6x1024 .f32) //
      ∀ (E : Set ℕ) (K : PUnit → sProp 𝕄),
        iprop(owns (c : Thread nD τ) arg11 fullShare xk ∗ owns (c : Thread nD τ) arg16 fullShare xm ∗ owns (c : Thread nD τ) arg17 fullShare xl ∗ owns (c : Thread nD τ) arg18 fullShare xt
            ∗ (iprop((arg11.view.loc (c : Thread nD τ) ↦[arg11.view.set]{fullShare} arg11.view.writes (Elt F) (harg11.unread xk) L11) ∗ owns (c : Thread nD τ) arg16 fullShare xm ∗ owns (c : Thread nD τ) arg17 fullShare xl ∗ owns (c : Thread nD τ) arg18 fullShare xt) -∗ K ⟨⟩))
          ⊢ wp frame (wpE (defs₀ (F := F)) Variants.none c none) E (pFin i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    unfold pFin
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
    unfold owns
    iintro ⟨⟨%f11, %hf11, H11⟩, ⟨%f16, %hf16, H16⟩, ⟨%f17, %hf17, H17⟩, ⟨%f18, %hf18, H18⟩, Hk⟩
    obtain rfl := harg11.eq_unread hf11; obtain rfl := harg16.eq_unread hf16; obtain rfl := harg17.eq_unread hf17; obtain rfl := harg18.eq_unread hf18
    letI : ClosedOff (k1_off1 i 0#32) := ⟨![0, 0], ho0⟩
    letI : ClosedOff (k1_off1 i 128#32) := ⟨![0, 128], ho1⟩
    letI : ClosedOff (k1_off1 i 256#32) := ⟨![0, 256], ho2⟩
    letI : ClosedOff (k1_off1 i 384#32) := ⟨![0, 384], ho3⟩
    letI : ClosedOff (k1_off1 i 512#32) := ⟨![0, 512], ho4⟩
    letI : ClosedOff (k1_off1 i 640#32) := ⟨![0, 640], ho5⟩
    letI : ClosedOff (k1_off1 i 768#32) := ⟨![0, 768], ho6⟩
    letI : ClosedOff (k1_off1 i 896#32) := ⟨![0, 896], ho7⟩
    letI : ClosedOff (k1_off1 i 1024#32) := ⟨![0, 0], ho8⟩
    letI : ClosedOff (k1_off1 i 1152#32) := ⟨![0, 128], ho9⟩
    letI : ClosedOff (k1_off1 i 1280#32) := ⟨![0, 256], ho10⟩
    letI : ClosedOff (k1_off1 i 1408#32) := ⟨![0, 384], ho11⟩
    sl_exec (disch := sl_exact hc)
    sl_step
    iapply Hk
    isplitl [H11]; · iexact H11
    isplitl [H16]
    · iexists _; isplitr; · ipureintro; exact harg16.read_unread _
      iexact H16
    isplitl [H17]
    · iexists _; isplitr; · ipureintro; exact harg17.read_unread _
      iexact H17
    iexists _; isplitr; · ipureintro; exact harg18.read_unread _
    iexact H18

set_option maxHeartbeats 2264000 in
/-- What the row of results leaves in the per-token output when the token tile starts at column 512, as the pieces that its stores write. -/
noncomputable def finRun1 (c : Dev nD) (i : grid1.Coords) (arg2 : Memref sig .tc .vmem S1536x7168 .bf16) (harg2 : arg2.IsWhole) (arg3 : Memref sig .tc .vmem S256x7168 .fp8e4m3) (harg3 : arg3.IsWhole) (arg4 : Memref sig .tc .vmem S256x224 .f32) (harg4 : arg4.IsWhole) (arg5 : Memref sig .tc .vmem S1536x1 .i32) (harg5 : arg5.IsWhole) (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole) (arg12 : Memref sig .tc .vmem S1x24 .f32) (harg12 : arg12.IsWhole) (arg13 : Memref sig .tc .vmem S1x12 .f32) (harg13 : arg13.IsWhole) (arg14 : Memref sig .tc .vmem S1x12 .f32) (harg14 : arg14.IsWhole) (arg15 : Memref sig .tc .vmem S256x7168 .bf16) (harg15 : arg15.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) (hc : k1_cond3 i = 1#1)
    (ho0 : k1_off1 i 0#32 = ![0, 512]) (ho1 : k1_off1 i 128#32 = ![0, 640]) (ho2 : k1_off1 i 256#32 = ![0, 768]) (ho3 : k1_off1 i 384#32 = ![0, 896]) (ho4 : k1_off1 i 512#32 = ![0, 0]) (ho5 : k1_off1 i 640#32 = ![0, 128]) (ho6 : k1_off1 i 768#32 = ![0, 256]) (ho7 : k1_off1 i 896#32 = ![0, 384]) (ho8 : k1_off1 i 1024#32 = ![0, 512]) (ho9 : k1_off1 i 1152#32 = ![0, 640]) (ho10 : k1_off1 i 1280#32 = ![0, 768]) (ho11 : k1_off1 i 1408#32 = ![0, 896])
    (xk : Vec F S6x1024 .f32) (xm : Vec F S1536x128 .f32) (xl : Vec F S1536x128 .f32) (xt : Vec F S1536x128 .f32) :
    { L11 : List (View.Piece (Elt F) S6x1024 .f32) //
      ∀ (E : Set ℕ) (K : PUnit → sProp 𝕄),
        iprop(owns (c : Thread nD τ) arg11 fullShare xk ∗ owns (c : Thread nD τ) arg16 fullShare xm ∗ owns (c : Thread nD τ) arg17 fullShare xl ∗ owns (c : Thread nD τ) arg18 fullShare xt
            ∗ (iprop((arg11.view.loc (c : Thread nD τ) ↦[arg11.view.set]{fullShare} arg11.view.writes (Elt F) (harg11.unread xk) L11) ∗ owns (c : Thread nD τ) arg16 fullShare xm ∗ owns (c : Thread nD τ) arg17 fullShare xl ∗ owns (c : Thread nD τ) arg18 fullShare xt) -∗ K ⟨⟩))
          ⊢ wp frame (wpE (defs₀ (F := F)) Variants.none c none) E (pFin i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    unfold pFin
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
    unfold owns
    iintro ⟨⟨%f11, %hf11, H11⟩, ⟨%f16, %hf16, H16⟩, ⟨%f17, %hf17, H17⟩, ⟨%f18, %hf18, H18⟩, Hk⟩
    obtain rfl := harg11.eq_unread hf11; obtain rfl := harg16.eq_unread hf16; obtain rfl := harg17.eq_unread hf17; obtain rfl := harg18.eq_unread hf18
    letI : ClosedOff (k1_off1 i 0#32) := ⟨![0, 512], ho0⟩
    letI : ClosedOff (k1_off1 i 128#32) := ⟨![0, 640], ho1⟩
    letI : ClosedOff (k1_off1 i 256#32) := ⟨![0, 768], ho2⟩
    letI : ClosedOff (k1_off1 i 384#32) := ⟨![0, 896], ho3⟩
    letI : ClosedOff (k1_off1 i 512#32) := ⟨![0, 0], ho4⟩
    letI : ClosedOff (k1_off1 i 640#32) := ⟨![0, 128], ho5⟩
    letI : ClosedOff (k1_off1 i 768#32) := ⟨![0, 256], ho6⟩
    letI : ClosedOff (k1_off1 i 896#32) := ⟨![0, 384], ho7⟩
    letI : ClosedOff (k1_off1 i 1024#32) := ⟨![0, 512], ho8⟩
    letI : ClosedOff (k1_off1 i 1152#32) := ⟨![0, 640], ho9⟩
    letI : ClosedOff (k1_off1 i 1280#32) := ⟨![0, 768], ho10⟩
    letI : ClosedOff (k1_off1 i 1408#32) := ⟨![0, 896], ho11⟩
    sl_exec (disch := sl_exact hc)
    sl_step
    iapply Hk
    isplitl [H11]; · iexact H11
    isplitl [H16]
    · iexists _; isplitr; · ipureintro; exact harg16.read_unread _
      iexact H16
    isplitl [H17]
    · iexists _; isplitr; · ipureintro; exact harg17.read_unread _
      iexact H17
    iexists _; isplitr; · ipureintro; exact harg18.read_unread _
    iexact H18

end Cert.Kernel.Hand

end
-- ==== Proof.KRunDpo.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Ring
public import Idealize.ShloMosaic.Lib.VecWindow
public import Idealize.ShloMosaic.Lib.Tactic
public import Idealize.ShloMosaic.Lib.WordCmp
public import proofs.«01_k».proof.Proof.KSegs

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2264000 in
/-- What the loss leaves in the last three outputs, as the pieces that its stores write. -/
noncomputable def dpoRun (c : Dev nD) (i : grid1.Coords) (arg2 : Memref sig .tc .vmem S1536x7168 .bf16) (harg2 : arg2.IsWhole) (arg3 : Memref sig .tc .vmem S256x7168 .fp8e4m3) (harg3 : arg3.IsWhole) (arg4 : Memref sig .tc .vmem S256x224 .f32) (harg4 : arg4.IsWhole) (arg5 : Memref sig .tc .vmem S1536x1 .i32) (harg5 : arg5.IsWhole) (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole) (arg12 : Memref sig .tc .vmem S1x24 .f32) (harg12 : arg12.IsWhole) (arg13 : Memref sig .tc .vmem S1x12 .f32) (harg13 : arg13.IsWhole) (arg14 : Memref sig .tc .vmem S1x12 .f32) (harg14 : arg14.IsWhole) (arg15 : Memref sig .tc .vmem S256x7168 .bf16) (harg15 : arg15.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) (hc : k1_cond4 i = 1#1)
    (x4 : Vec F S6x1024 .i32) (x5 : Vec F S6x1024 .i32) (x6 : Vec F S1x24 .f32) (x7 : Vec F S1x12 .i32) (x8 : Vec F S1x12 .i32) (xk : Vec F S6x1024 .f32) :
    Σ' (L12 : List (View.Piece (Elt F) S1x24 .f32)), Σ' (L13 : List (View.Piece (Elt F) S1x12 .f32)), { L14 : List (View.Piece (Elt F) S1x12 .f32) //
      ∀ (E : Set ℕ) (K : PUnit → sProp 𝕄),
        iprop(owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xk ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xk ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
          ⊢ wp frame (wpE (defs₀ (F := F)) Variants.none c none) E (pDpo i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    unfold pDpo
    simp only [k1_part33_eq_skeleton]
    unfold k1_part33_skel
    simp only [k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton]
    unfold owns
    iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, Hk⟩
    obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := sl_exact hc)
    sl_step
    iapply Hk
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [H13]; · iexists _; iexact H13
    iexists _; iexact H14

end Cert.Kernel.Hand

end
-- ==== Proof.KStep.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Ring
public import Idealize.ShloMosaic.Lib.VecWindow
public import Idealize.ShloMosaic.Lib.Tactic
public import Idealize.ShloMosaic.Lib.WordCmp
public import proofs.«01_k».proof.Proof.KSegs
public import proofs.«01_k».proof.Proof.KRunMid
public import proofs.«01_k».proof.Proof.KRunFin
public import proofs.«01_k».proof.Proof.KRunDpo

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The vocabulary tile is the first one: the running maximum, sum and target start afresh. -/
def cIni (i : grid1.Coords) : Prop := Scalar.cmpi .ne (Scalar.extui (Scalar.cmpi .eq (BitVec.ofNat 32 (i 1).val) 0#32)) 0#32 = 1#1

theorem initT (c : Dev nD) (i : grid1.Coords) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole) (hc : cIni i) (E : Set ℕ) (K : PUnit → sProp 𝕄) :
    iprop((∃ d, owns (c : Thread nD τ) arg16 fullShare d) ∗ (∃ d, owns (c : Thread nD τ) arg17 fullShare d) ∗ (∃ d, owns (c : Thread nD τ) arg18 fullShare d) ∗ (iprop(owns (c : Thread nD τ) arg16 fullShare (k1_pay79 (F := F)) ∗ owns (c : Thread nD τ) arg17 fullShare (k1_pay80 (F := F)) ∗ owns (c : Thread nD τ) arg18 fullShare (k1_pay81 (F := F))) -∗ K ⟨⟩))
      ⊢ wp frame (wpE (defs₀ (F := F)) Variants.none c none) E (pInit i arg16 arg17 arg18) K := by
  unfold cIni at hc
  unfold pInit owns
  iintro ⟨⟨%d16, %f16, -, H16⟩, ⟨%d17, %f17, -, H17⟩, ⟨%d18, %f18, -, H18⟩, Hk⟩
  sl_exec (disch := sl_exact hc)
  sl_step
  iapply Hk
  isplitl [H16]
  · iexists _; isplitr
    swap; · iexact H16
    ipureintro; exact View.read_writes_full _ _ _ _ _
  isplitl [H17]
  · iexists _; isplitr
    swap; · iexact H17
    ipureintro; exact View.read_writes_full _ _ _ _ _
  iexists _; isplitr
  swap; · iexact H18
  ipureintro; exact View.read_writes_full _ _ _ _ _

theorem initF (c : Dev nD) (i : grid1.Coords) (arg16 : Memref sig .tc .vmem S1536x128 .f32) (arg17 : Memref sig .tc .vmem S1536x128 .f32) (arg18 : Memref sig .tc .vmem S1536x128 .f32) (hc : ¬ cIni i) (E : Set ℕ) (K : PUnit → sProp 𝕄) :
    K ⟨⟩ ⊢ wp frame (wpE (defs₀ (F := F)) Variants.none c none) E (pInit i arg16 arg17 arg18) K := by
  unfold cIni at hc
  unfold pInit
  iintro Hk
  sl_exec (disch := sl_exact hc)
  sl_step
  iexact Hk

theorem zeroT (c : Dev nD) (i : grid1.Coords) (arg11 : Memref sig .tc .vmem S6x1024 .f32) (harg11 : arg11.IsWhole) (hc : k1_cond2 i = 1#1) (E : Set ℕ) (K : PUnit → sProp 𝕄) :
    iprop((∃ d, owns (c : Thread nD τ) arg11 fullShare d) ∗ (iprop(owns (c : Thread nD τ) arg11 fullShare (k1_pay82 (F := F))) -∗ K ⟨⟩))
      ⊢ wp frame (wpE (defs₀ (F := F)) Variants.none c none) E (pZero i arg11) K := by
  unfold pZero owns
  iintro ⟨⟨%d11, %f11, -, H11⟩, Hk⟩
  sl_exec (disch := sl_exact hc)
  sl_step
  iapply Hk
  iexists _; isplitr
  swap; · iexact H11
  ipureintro; exact View.read_writes_full _ _ _ _ _

theorem zeroF (c : Dev nD) (i : grid1.Coords) (arg11 : Memref sig .tc .vmem S6x1024 .f32) (hc : ¬ k1_cond2 i = 1#1) (E : Set ℕ) (K : PUnit → sProp 𝕄) :
    K ⟨⟩ ⊢ wp frame (wpE (defs₀ (F := F)) Variants.none c none) E (pZero i arg11) K := by
  unfold pZero
  iintro Hk
  sl_exec (disch := sl_exact hc)
  sl_step
  iexact Hk

section Body
variable (c : Dev nD) (i : grid1.Coords) (arg2 : Memref sig .tc .vmem S1536x7168 .bf16) (harg2 : arg2.IsWhole) (arg3 : Memref sig .tc .vmem S256x7168 .fp8e4m3) (harg3 : arg3.IsWhole) (arg4 : Memref sig .tc .vmem S256x224 .f32) (harg4 : arg4.IsWhole) (arg5 : Memref sig .tc .vmem S1536x1 .i32) (harg5 : arg5.IsWhole) (arg6 : Memref sig .tc .vmem S6x1024 .i32) (harg6 : arg6.IsWhole) (arg7 : Memref sig .tc .vmem S6x1024 .i32) (harg7 : arg7.IsWhole) (arg8 : Memref sig .tc .vmem S1x24 .f32) (harg8 : arg8.IsWhole) (arg9 : Memref sig .tc .vmem S1x12 .i32) (harg9 : arg9.IsWhole) (arg10 : Memref sig .tc .vmem S1x12 .i32) (harg10 : arg10.IsWhole) (arg11 : Memref sig .tc .vmem S6x1024 .f32) (harg11 : arg11.IsWhole) (arg12 : Memref sig .tc .vmem S1x24 .f32) (harg12 : arg12.IsWhole) (arg13 : Memref sig .tc .vmem S1x12 .f32) (harg13 : arg13.IsWhole) (arg14 : Memref sig .tc .vmem S1x12 .f32) (harg14 : arg14.IsWhole) (arg15 : Memref sig .tc .vmem S256x7168 .bf16) (harg15 : arg15.IsWhole) (arg16 : Memref sig .tc .vmem S1536x128 .f32) (harg16 : arg16.IsWhole) (arg17 : Memref sig .tc .vmem S1536x128 .f32) (harg17 : arg17.IsWhole) (arg18 : Memref sig .tc .vmem S1536x128 .f32) (harg18 : arg18.IsWhole)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18

theorem finF (hc : ¬ k1_cond3 i = 1#1) (E : Set ℕ) (K : PUnit → sProp 𝕄) :
    K ⟨⟩ ⊢ wp frame (wpE (defs₀ (F := F)) Variants.none c none) E (pFin i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold pFin
  iintro Hk
  sl_exec (disch := sl_exact hc)
  sl_step
  iexact Hk

theorem dpoF (hc : ¬ k1_cond4 i = 1#1) (E : Set ℕ) (K : PUnit → sProp 𝕄) :
    K ⟨⟩ ⊢ wp frame (wpE (defs₀ (F := F)) Variants.none c none) E (pDpo i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold pDpo
  iintro Hk
  sl_exec (disch := sl_exact hc)
  sl_step
  iexact Hk

/-! ## The update -/

/-- What the update leaves in scratch 1. -/
def midM (x0 : Vec F S1536x7168 .bf16) (x1 : Vec F S256x7168 .fp8e4m3) (x2 : Vec F S256x224 .f32) (x3 : Vec F S1536x1 .i32) (xm : Vec F S1536x128 .f32) (xl : Vec F S1536x128 .f32) (xt : Vec F S1536x128 .f32) : Vec F S1536x128 .f32 :=
  View.canon (midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt).1

theorem midM_cover (x0 : Vec F S1536x7168 .bf16) (x1 : Vec F S256x7168 .fp8e4m3) (x2 : Vec F S256x224 .f32) (x3 : Vec F S1536x1 .i32) (xm : Vec F S1536x128 .f32) (xl : Vec F S1536x128 .f32) (xt : Vec F S1536x128 .f32) (y : S1536x128.Idx) :
    ∃ pc ∈ (midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt).1, y ∈ pc.1.set := by
  unfold midRun
  exact View.cover_of_tiledL (s := S1536x128) _ ![512, 128] (by sl_kernel_rfl) y

/-- What the update leaves in scratch 2. -/
def midL (x0 : Vec F S1536x7168 .bf16) (x1 : Vec F S256x7168 .fp8e4m3) (x2 : Vec F S256x224 .f32) (x3 : Vec F S1536x1 .i32) (xm : Vec F S1536x128 .f32) (xl : Vec F S1536x128 .f32) (xt : Vec F S1536x128 .f32) : Vec F S1536x128 .f32 :=
  View.canon (midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt).2.1

theorem midL_cover (x0 : Vec F S1536x7168 .bf16) (x1 : Vec F S256x7168 .fp8e4m3) (x2 : Vec F S256x224 .f32) (x3 : Vec F S1536x1 .i32) (xm : Vec F S1536x128 .f32) (xl : Vec F S1536x128 .f32) (xt : Vec F S1536x128 .f32) (y : S1536x128.Idx) :
    ∃ pc ∈ (midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt).2.1, y ∈ pc.1.set := by
  unfold midRun
  exact View.cover_of_tiledL (s := S1536x128) _ ![512, 128] (by sl_kernel_rfl) y

/-- What the update leaves in scratch 3. -/
def midT (x0 : Vec F S1536x7168 .bf16) (x1 : Vec F S256x7168 .fp8e4m3) (x2 : Vec F S256x224 .f32) (x3 : Vec F S1536x1 .i32) (xm : Vec F S1536x128 .f32) (xl : Vec F S1536x128 .f32) (xt : Vec F S1536x128 .f32) : Vec F S1536x128 .f32 :=
  View.canon (midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt).2.2.1

theorem midT_cover (x0 : Vec F S1536x7168 .bf16) (x1 : Vec F S256x7168 .fp8e4m3) (x2 : Vec F S256x224 .f32) (x3 : Vec F S1536x1 .i32) (xm : Vec F S1536x128 .f32) (xl : Vec F S1536x128 .f32) (xt : Vec F S1536x128 .f32) (y : S1536x128.Idx) :
    ∃ pc ∈ (midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt).2.2.1, y ∈ pc.1.set := by
  unfold midRun
  exact View.cover_of_tiledL (s := S1536x128) _ ![512, 128] (by sl_kernel_rfl) y

theorem midT' (x0 : Vec F S1536x7168 .bf16) (x1 : Vec F S256x7168 .fp8e4m3) (x2 : Vec F S256x224 .f32) (x3 : Vec F S1536x1 .i32) (xm : Vec F S1536x128 .f32) (xl : Vec F S1536x128 .f32) (xt : Vec F S1536x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg15 fullShare d) ∗ owns (c : Thread nD τ) arg16 fullShare xm ∗ owns (c : Thread nD τ) arg17 fullShare xl ∗ owns (c : Thread nD τ) arg18 fullShare xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg15 fullShare d) ∗ owns (c : Thread nD τ) arg16 fullShare (midM c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt) ∗ owns (c : Thread nD τ) arg17 fullShare (midL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt) ∗ owns (c : Thread nD τ) arg18 fullShare (midT c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt)) -∗ K ⟨⟩))
      ⊢ wp frame (wpE (defs₀ (F := F)) Variants.none c none) E (pMid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H2, H3, H4, H5, H15, H16, H17, H18, Hk⟩
  iapply ((midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt).2.2.2 E K)
  isplitl [H2]; · iexact H2
  isplitl [H3]; · iexact H3
  isplitl [H4]; · iexact H4
  isplitl [H5]; · iexact H5
  isplitl [H15]; · iexact H15
  isplitl [H16]; · iexact H16
  isplitl [H17]; · iexact H17
  isplitl [H18]; · iexact H18
  iintro ⟨H2, H3, H4, H5, ⟨%f15, H15⟩, ⟨%f16, H16⟩, ⟨%f17, H17⟩, ⟨%f18, H18⟩⟩
  iapply Hk
  isplitl [H2]; · iexact H2
  isplitl [H3]; · iexact H3
  isplitl [H4]; · iexact H4
  isplitl [H5]; · iexact H5
  isplitl [H15]
  · iexists _; unfold owns; iexists _; isplitr
    swap; · iexact H15
    ipureintro; rfl
  isplitl [H16]
  · unfold owns
    iexists _; isplitr
    swap; · iexact H16
    ipureintro
    exact View.read_writes_eq_canon _ _ _ (midM_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt)
  isplitl [H17]
  · unfold owns
    iexists _; isplitr
    swap; · iexact H17
    ipureintro
    exact View.read_writes_eq_canon _ _ _ (midL_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt)
  unfold owns
  iexists _; isplitr
  swap; · iexact H18
  ipureintro
  exact View.read_writes_eq_canon _ _ _ (midT_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt)

/-! ## The rows of results -/

/-- The per-token output after a token tile's rows, the tile starting at column 0. -/
def fin0 (hc : k1_cond3 i = 1#1) (ho0 : k1_off1 i 0#32 = ![0, 0]) (ho1 : k1_off1 i 128#32 = ![0, 128]) (ho2 : k1_off1 i 256#32 = ![0, 256]) (ho3 : k1_off1 i 384#32 = ![0, 384]) (ho4 : k1_off1 i 512#32 = ![0, 512]) (ho5 : k1_off1 i 640#32 = ![0, 640]) (ho6 : k1_off1 i 768#32 = ![0, 768]) (ho7 : k1_off1 i 896#32 = ![0, 896]) (ho8 : k1_off1 i 1024#32 = ![0, 0]) (ho9 : k1_off1 i 1152#32 = ![0, 128]) (ho10 : k1_off1 i 1280#32 = ![0, 256]) (ho11 : k1_off1 i 1408#32 = ![0, 384]) (xk : Vec F S6x1024 .f32) (xm : Vec F S1536x128 .f32) (xl : Vec F S1536x128 .f32) (xt : Vec F S1536x128 .f32) : Vec F S6x1024 .f32 :=
  arg11.view.read (Elt F) (arg11.view.writes (Elt F) (harg11.unread xk) (finRun0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc ho0 ho1 ho2 ho3 ho4 ho5 ho6 ho7 ho8 ho9 ho10 ho11 xk xm xl xt).1)

theorem fin0T (hc : k1_cond3 i = 1#1) (ho0 : k1_off1 i 0#32 = ![0, 0]) (ho1 : k1_off1 i 128#32 = ![0, 128]) (ho2 : k1_off1 i 256#32 = ![0, 256]) (ho3 : k1_off1 i 384#32 = ![0, 384]) (ho4 : k1_off1 i 512#32 = ![0, 512]) (ho5 : k1_off1 i 640#32 = ![0, 640]) (ho6 : k1_off1 i 768#32 = ![0, 768]) (ho7 : k1_off1 i 896#32 = ![0, 896]) (ho8 : k1_off1 i 1024#32 = ![0, 0]) (ho9 : k1_off1 i 1152#32 = ![0, 128]) (ho10 : k1_off1 i 1280#32 = ![0, 256]) (ho11 : k1_off1 i 1408#32 = ![0, 384]) (xk : Vec F S6x1024 .f32) (xm : Vec F S1536x128 .f32) (xl : Vec F S1536x128 .f32) (xt : Vec F S1536x128 .f32) (E : Set ℕ) (K : PUnit → sProp 𝕄) :
    iprop(owns (c : Thread nD τ) arg11 fullShare xk ∗ owns (c : Thread nD τ) arg16 fullShare xm ∗ owns (c : Thread nD τ) arg17 fullShare xl ∗ owns (c : Thread nD τ) arg18 fullShare xt
        ∗ (iprop(owns (c : Thread nD τ) arg11 fullShare (fin0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc ho0 ho1 ho2 ho3 ho4 ho5 ho6 ho7 ho8 ho9 ho10 ho11 xk xm xl xt) ∗ owns (c : Thread nD τ) arg16 fullShare xm ∗ owns (c : Thread nD τ) arg17 fullShare xl ∗ owns (c : Thread nD τ) arg18 fullShare xt) -∗ K ⟨⟩))
      ⊢ wp frame (wpE (defs₀ (F := F)) Variants.none c none) E (pFin i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H11, H16, H17, H18, Hk⟩
  iapply ((finRun0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc ho0 ho1 ho2 ho3 ho4 ho5 ho6 ho7 ho8 ho9 ho10 ho11 xk xm xl xt).2 E K)
  isplitl [H11]; · iexact H11
  isplitl [H16]; · iexact H16
  isplitl [H17]; · iexact H17
  isplitl [H18]; · iexact H18
  iintro ⟨H11, H16, H17, H18⟩
  iapply Hk
  isplitl [H11]
  · unfold owns
    iexists _; isplitr
    swap; · iexact H11
    ipureintro; rfl
  isplitl [H16]; · iexact H16
  isplitl [H17]; · iexact H17
  iexact H18

/-- The per-token output after a token tile's rows, the tile starting at column 512. -/
def fin1 (hc : k1_cond3 i = 1#1) (ho0 : k1_off1 i 0#32 = ![0, 512]) (ho1 : k1_off1 i 128#32 = ![0, 640]) (ho2 : k1_off1 i 256#32 = ![0, 768]) (ho3 : k1_off1 i 384#32 = ![0, 896]) (ho4 : k1_off1 i 512#32 = ![0, 0]) (ho5 : k1_off1 i 640#32 = ![0, 128]) (ho6 : k1_off1 i 768#32 = ![0, 256]) (ho7 : k1_off1 i 896#32 = ![0, 384]) (ho8 : k1_off1 i 1024#32 = ![0, 512]) (ho9 : k1_off1 i 1152#32 = ![0, 640]) (ho10 : k1_off1 i 1280#32 = ![0, 768]) (ho11 : k1_off1 i 1408#32 = ![0, 896]) (xk : Vec F S6x1024 .f32) (xm : Vec F S1536x128 .f32) (xl : Vec F S1536x128 .f32) (xt : Vec F S1536x128 .f32) : Vec F S6x1024 .f32 :=
  arg11.view.read (Elt F) (arg11.view.writes (Elt F) (harg11.unread xk) (finRun1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc ho0 ho1 ho2 ho3 ho4 ho5 ho6 ho7 ho8 ho9 ho10 ho11 xk xm xl xt).1)

theorem fin1T (hc : k1_cond3 i = 1#1) (ho0 : k1_off1 i 0#32 = ![0, 512]) (ho1 : k1_off1 i 128#32 = ![0, 640]) (ho2 : k1_off1 i 256#32 = ![0, 768]) (ho3 : k1_off1 i 384#32 = ![0, 896]) (ho4 : k1_off1 i 512#32 = ![0, 0]) (ho5 : k1_off1 i 640#32 = ![0, 128]) (ho6 : k1_off1 i 768#32 = ![0, 256]) (ho7 : k1_off1 i 896#32 = ![0, 384]) (ho8 : k1_off1 i 1024#32 = ![0, 512]) (ho9 : k1_off1 i 1152#32 = ![0, 640]) (ho10 : k1_off1 i 1280#32 = ![0, 768]) (ho11 : k1_off1 i 1408#32 = ![0, 896]) (xk : Vec F S6x1024 .f32) (xm : Vec F S1536x128 .f32) (xl : Vec F S1536x128 .f32) (xt : Vec F S1536x128 .f32) (E : Set ℕ) (K : PUnit → sProp 𝕄) :
    iprop(owns (c : Thread nD τ) arg11 fullShare xk ∗ owns (c : Thread nD τ) arg16 fullShare xm ∗ owns (c : Thread nD τ) arg17 fullShare xl ∗ owns (c : Thread nD τ) arg18 fullShare xt
        ∗ (iprop(owns (c : Thread nD τ) arg11 fullShare (fin1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc ho0 ho1 ho2 ho3 ho4 ho5 ho6 ho7 ho8 ho9 ho10 ho11 xk xm xl xt) ∗ owns (c : Thread nD τ) arg16 fullShare xm ∗ owns (c : Thread nD τ) arg17 fullShare xl ∗ owns (c : Thread nD τ) arg18 fullShare xt) -∗ K ⟨⟩))
      ⊢ wp frame (wpE (defs₀ (F := F)) Variants.none c none) E (pFin i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H11, H16, H17, H18, Hk⟩
  iapply ((finRun1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc ho0 ho1 ho2 ho3 ho4 ho5 ho6 ho7 ho8 ho9 ho10 ho11 xk xm xl xt).2 E K)
  isplitl [H11]; · iexact H11
  isplitl [H16]; · iexact H16
  isplitl [H17]; · iexact H17
  isplitl [H18]; · iexact H18
  iintro ⟨H11, H16, H17, H18⟩
  iapply Hk
  isplitl [H11]
  · unfold owns
    iexists _; isplitr
    swap; · iexact H11
    ipureintro; rfl
  isplitl [H16]; · iexact H16
  isplitl [H17]; · iexact H17
  iexact H18

/-! ## The loss -/

/-- What the loss leaves in output 1. -/
def dpoP (hc : k1_cond4 i = 1#1) (x4 : Vec F S6x1024 .i32) (x5 : Vec F S6x1024 .i32) (x6 : Vec F S1x24 .f32) (x7 : Vec F S1x12 .i32) (x8 : Vec F S1x12 .i32) (xk : Vec F S6x1024 .f32) : Vec F S1x24 .f32 :=
  View.canon (dpoRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk).1

theorem dpoP_cover (hc : k1_cond4 i = 1#1) (x4 : Vec F S6x1024 .i32) (x5 : Vec F S6x1024 .i32) (x6 : Vec F S1x24 .f32) (x7 : Vec F S1x12 .i32) (x8 : Vec F S1x12 .i32) (xk : Vec F S6x1024 .f32) (y : S1x24.Idx) :
    ∃ pc ∈ (dpoRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk).1, y ∈ pc.1.set := by
  unfold dpoRun
  exact View.cover_of_tiledL (s := S1x24) _ S1x24.size (by sl_kernel_rfl) y

/-- What the loss leaves in output 2. -/
def dpoL (hc : k1_cond4 i = 1#1) (x4 : Vec F S6x1024 .i32) (x5 : Vec F S6x1024 .i32) (x6 : Vec F S1x24 .f32) (x7 : Vec F S1x12 .i32) (x8 : Vec F S1x12 .i32) (xk : Vec F S6x1024 .f32) : Vec F S1x12 .f32 :=
  View.canon (dpoRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk).2.1

theorem dpoL_cover (hc : k1_cond4 i = 1#1) (x4 : Vec F S6x1024 .i32) (x5 : Vec F S6x1024 .i32) (x6 : Vec F S1x24 .f32) (x7 : Vec F S1x12 .i32) (x8 : Vec F S1x12 .i32) (xk : Vec F S6x1024 .f32) (y : S1x12.Idx) :
    ∃ pc ∈ (dpoRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk).2.1, y ∈ pc.1.set := by
  unfold dpoRun
  exact View.cover_of_tiledL (s := S1x12) _ S1x12.size (by sl_kernel_rfl) y

/-- What the loss leaves in output 3. -/
def dpoM (hc : k1_cond4 i = 1#1) (x4 : Vec F S6x1024 .i32) (x5 : Vec F S6x1024 .i32) (x6 : Vec F S1x24 .f32) (x7 : Vec F S1x12 .i32) (x8 : Vec F S1x12 .i32) (xk : Vec F S6x1024 .f32) : Vec F S1x12 .f32 :=
  View.canon (dpoRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk).2.2.1

theorem dpoM_cover (hc : k1_cond4 i = 1#1) (x4 : Vec F S6x1024 .i32) (x5 : Vec F S6x1024 .i32) (x6 : Vec F S1x24 .f32) (x7 : Vec F S1x12 .i32) (x8 : Vec F S1x12 .i32) (xk : Vec F S6x1024 .f32) (y : S1x12.Idx) :
    ∃ pc ∈ (dpoRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk).2.2.1, y ∈ pc.1.set := by
  unfold dpoRun
  exact View.cover_of_tiledL (s := S1x12) _ S1x12.size (by sl_kernel_rfl) y

theorem dpoT (hc : k1_cond4 i = 1#1) (x4 : Vec F S6x1024 .i32) (x5 : Vec F S6x1024 .i32) (x6 : Vec F S1x24 .f32) (x7 : Vec F S1x12 .i32) (x8 : Vec F S1x12 .i32) (xk : Vec F S6x1024 .f32) (E : Set ℕ) (K : PUnit → sProp 𝕄) :
    iprop(owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xk ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xk ∗ owns (c : Thread nD τ) arg12 fullShare (dpoP c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk) ∗ owns (c : Thread nD τ) arg13 fullShare (dpoL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk) ∗ owns (c : Thread nD τ) arg14 fullShare (dpoM c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk)) -∗ K ⟨⟩))
      ⊢ wp frame (wpE (defs₀ (F := F)) Variants.none c none) E (pDpo i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H6, H7, H8, H9, H10, H11, H12, H13, H14, Hk⟩
  iapply ((dpoRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk).2.2.2 E K)
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H6, H7, H8, H9, H10, H11, ⟨%f12, H12⟩, ⟨%f13, H13⟩, ⟨%f14, H14⟩⟩
  iapply Hk
  isplitl [H6]; · iexact H6
  isplitl [H7]; · iexact H7
  isplitl [H8]; · iexact H8
  isplitl [H9]; · iexact H9
  isplitl [H10]; · iexact H10
  isplitl [H11]; · iexact H11
  isplitl [H12]
  · unfold owns
    iexists _; isplitr
    swap; · iexact H12
    ipureintro
    exact View.read_writes_eq_canon _ _ _ (dpoP_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk)
  isplitl [H13]
  · unfold owns
    iexists _; isplitr
    swap; · iexact H13
    ipureintro
    exact View.read_writes_eq_canon _ _ _ (dpoL_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk)
  unfold owns
  iexists _; isplitr
  swap; · iexact H14
  ipureintro
  exact View.read_writes_eq_canon _ _ _ (dpoM_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x4 x5 x6 x7 x8 xk)

/-! ## The whole body from its parts -/

/-- The body's run from the runs of its five parts: `P1`, `P2`, `P4` are what the conditional parts take of the scratch, the per-token output and the last three outputs. -/
theorem bodyT (x0 : Vec F S1536x7168 .bf16) (x1 : Vec F S256x7168 .fp8e4m3) (x2 : Vec F S256x224 .f32) (x3 : Vec F S1536x1 .i32) (xm : Vec F S1536x128 .f32) (xl : Vec F S1536x128 .f32) (xt : Vec F S1536x128 .f32) (P1 P2 Q2 P4 Q3 R Q4 : sProp 𝕄) (E : Set ℕ) (K : PUnit → sProp 𝕄)
    (h1 : ∀ K : PUnit → sProp 𝕄, iprop(P1 ∗ (iprop(owns (c : Thread nD τ) arg16 fullShare xm ∗ owns (c : Thread nD τ) arg17 fullShare xl ∗ owns (c : Thread nD τ) arg18 fullShare xt) -∗ K ⟨⟩)) ⊢ wp frame (wpE (defs₀ (F := F)) Variants.none c none) E (pInit i arg16 arg17 arg18) K)
    (h2 : ∀ K : PUnit → sProp 𝕄, iprop(P2 ∗ (Q2 -∗ K ⟨⟩)) ⊢ wp frame (wpE (defs₀ (F := F)) Variants.none c none) E (pZero i arg11) K)
    (h3 : ∀ K : PUnit → sProp 𝕄, iprop(Q2 ∗ owns (c : Thread nD τ) arg16 fullShare (midM c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt) ∗ owns (c : Thread nD τ) arg17 fullShare (midL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt) ∗ owns (c : Thread nD τ) arg18 fullShare (midT c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt) ∗ (iprop(Q3 ∗ owns (c : Thread nD τ) arg16 fullShare (midM c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt) ∗ owns (c : Thread nD τ) arg17 fullShare (midL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt) ∗ owns (c : Thread nD τ) arg18 fullShare (midT c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt)) -∗ K ⟨⟩)) ⊢ wp frame (wpE (defs₀ (F := F)) Variants.none c none) E (pFin i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K)
    (h4 : ∀ K : PUnit → sProp 𝕄, iprop(Q3 ∗ R ∗ P4 ∗ (iprop(R ∗ Q4) -∗ K ⟨⟩)) ⊢ wp frame (wpE (defs₀ (F := F)) Variants.none c none) E (pDpo i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K) :
    iprop(P1 ∗ P2 ∗ P4 ∗ R ∗ owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg15 fullShare d)
        ∗ (iprop(owns (c : Thread nD τ) arg16 fullShare (midM c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt) ∗ owns (c : Thread nD τ) arg17 fullShare (midL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt) ∗ owns (c : Thread nD τ) arg18 fullShare (midT c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt) ∗ Q4 ∗ R ∗ owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg15 fullShare d)) -∗ K ⟨⟩))
      ⊢ wp frame (wpE (defs₀ (F := F)) Variants.none c none) E (cc1_lm_head_dpo (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [body_eq]
  simp only [wp_bind]
  iintro ⟨HP1, HP2, HP4, HR, H2, H3, H4, H5, H15, Hk⟩
  iapply (h1 _)
  isplitl [HP1]; · iexact HP1
  iintro ⟨H16, H17, H18⟩
  iapply (h2 _)
  isplitl [HP2]; · iexact HP2
  iintro HQ2
  iapply (midT' c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 xm xl xt E _)
  isplitl [H2]; · iexact H2
  isplitl [H3]; · iexact H3
  isplitl [H4]; · iexact H4
  isplitl [H5]; · iexact H5
  isplitl [H15]; · iexact H15
  isplitl [H16]; · iexact H16
  isplitl [H17]; · iexact H17
  isplitl [H18]; · iexact H18
  iintro ⟨H2, H3, H4, H5, H15, H16, H17, H18⟩
  iapply (h3 _)
  isplitl [HQ2]; · iexact HQ2
  isplitl [H16]; · iexact H16
  isplitl [H17]; · iexact H17
  isplitl [H18]; · iexact H18
  iintro ⟨HQ3, H16, H17, H18⟩
  iapply (h4 _)
  isplitl [HQ3]; · iexact HQ3
  isplitl [HR]; · iexact HR
  isplitl [HP4]; · iexact HP4
  iintro ⟨HR, HQ4⟩
  iapply Hk
  isplitl [H16]; · iexact H16
  isplitl [H17]; · iexact H17
  isplitl [H18]; · iexact H18
  isplitl [HQ4]; · iexact HQ4
  isplitl [HR]; · iexact HR
  isplitl [H2]; · iexact H2
  isplitl [H3]; · iexact H3
  isplitl [H4]; · iexact H4
  isplitl [H5]; · iexact H5
  iexact H15

end Body

end Cert.Kernel.Hand

end
-- ==== Proof.KRegion1.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Ring
public import Idealize.ShloMosaic.Lib.VecWindow
public import Idealize.ShloMosaic.Lib.Tactic
public import Idealize.ShloMosaic.Lib.WordCmp
public import proofs.«01_k».proof.Proof.KStep

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each staging buffer is a whole buffer -/

theorem hst0 (t : Fin cfg1.N) : (win1_0.stage (cfg1.slots t 0)).IsWhole := hstage1_0 ((cfg1.slots t 0).cast nbuf1_0)
theorem hst1 (t : Fin cfg1.N) : (win1_1.stage (cfg1.slots t 1)).IsWhole := hstage1_1 ((cfg1.slots t 1).cast nbuf1_1)
theorem hst2 (t : Fin cfg1.N) : (win1_2.stage (cfg1.slots t 2)).IsWhole := hstage1_2 ((cfg1.slots t 2).cast nbuf1_2)
theorem hst3 (t : Fin cfg1.N) : (win1_3.stage (cfg1.slots t 3)).IsWhole := hstage1_3 ((cfg1.slots t 3).cast nbuf1_3)
theorem hst4 (t : Fin cfg1.N) : (win1_4.stage (cfg1.slots t 4)).IsWhole := hstage1_4 ((cfg1.slots t 4).cast nbuf1_4)
theorem hst5 (t : Fin cfg1.N) : (win1_5.stage (cfg1.slots t 5)).IsWhole := hstage1_5 ((cfg1.slots t 5).cast nbuf1_5)
theorem hst6 (t : Fin cfg1.N) : (win1_6.stage (cfg1.slots t 6)).IsWhole := hstage1_6 ((cfg1.slots t 6).cast nbuf1_6)
theorem hst7 (t : Fin cfg1.N) : (win1_7.stage (cfg1.slots t 7)).IsWhole := hstage1_7 ((cfg1.slots t 7).cast nbuf1_7)
theorem hst8 (t : Fin cfg1.N) : (win1_8.stage (cfg1.slots t 8)).IsWhole := hstage1_8 ((cfg1.slots t 8).cast nbuf1_8)
theorem hst9 (t : Fin cfg1.N) : (win1_9.stage (cfg1.slots t 9)).IsWhole := hstage1_9 ((cfg1.slots t 9).cast nbuf1_9)
theorem hst10 (t : Fin cfg1.N) : (win1_10.stage (cfg1.slots t 10)).IsWhole := hstage1_10 ((cfg1.slots t 10).cast nbuf1_10)
theorem hst11 (t : Fin cfg1.N) : (win1_11.stage (cfg1.slots t 11)).IsWhole := hstage1_11 ((cfg1.slots t 11).cast nbuf1_11)
theorem hst12 (t : Fin cfg1.N) : (win1_12.stage (cfg1.slots t 12)).IsWhole := hstage1_12 ((cfg1.slots t 12).cast nbuf1_12)

/-! ## When each conditional part of the body runs -/

theorem hcond_ini : ∀ t : Fin cfg1.N, cIni (grid1.coords t) ↔ t.val % 125 = 0 :=
  (fun t => by
    have ht : t.val < 500 := Nat.lt_of_lt_of_eq t.isLt N_1
    have e0 : (grid1.coords t 0).val = t.val / 125 % 4 := Pipeline.Grid.coords_val t 0 (by decide) rfl
    have e1 : (grid1.coords t 1).val = t.val / 1 % 125 := Pipeline.Grid.coords_val t 1 (by decide) rfl
    simp only [cIni, e0, e1]
    word_cmp : ∀ t : Fin grid1.N, cIni (grid1.coords t) ↔ t.val % 125 = 0)
theorem hcond2 : ∀ t : Fin cfg1.N, k1_cond2 (grid1.coords t) = 1#1 ↔ t.val % 500 = 0 :=
  (fun t => by
    have ht : t.val < 500 := Nat.lt_of_lt_of_eq t.isLt N_1
    have e0 : (grid1.coords t 0).val = t.val / 125 % 4 := Pipeline.Grid.coords_val t 0 (by decide) rfl
    have e1 : (grid1.coords t 1).val = t.val / 1 % 125 := Pipeline.Grid.coords_val t 1 (by decide) rfl
    simp only [k1_cond2, e0, e1]
    word_cmp : ∀ t : Fin grid1.N, k1_cond2 (grid1.coords t) = 1#1 ↔ t.val % 500 = 0)
theorem hcond3 : ∀ t : Fin cfg1.N, k1_cond3 (grid1.coords t) = 1#1 ↔ t.val % 125 = 124 :=
  (fun t => by
    have ht : t.val < 500 := Nat.lt_of_lt_of_eq t.isLt N_1
    have e0 : (grid1.coords t 0).val = t.val / 125 % 4 := Pipeline.Grid.coords_val t 0 (by decide) rfl
    have e1 : (grid1.coords t 1).val = t.val / 1 % 125 := Pipeline.Grid.coords_val t 1 (by decide) rfl
    simp only [k1_cond3, e0, e1]
    word_cmp : ∀ t : Fin grid1.N, k1_cond3 (grid1.coords t) = 1#1 ↔ t.val % 125 = 124)
theorem hcond4 : ∀ t : Fin cfg1.N, k1_cond4 (grid1.coords t) = 1#1 ↔ t.val % 500 = 499 :=
  (fun t => by
    have ht : t.val < 500 := Nat.lt_of_lt_of_eq t.isLt N_1
    have e0 : (grid1.coords t 0).val = t.val / 125 % 4 := Pipeline.Grid.coords_val t 0 (by decide) rfl
    have e1 : (grid1.coords t 1).val = t.val / 1 % 125 := Pipeline.Grid.coords_val t 1 (by decide) rfl
    simp only [k1_cond4, e0, e1]
    word_cmp : ∀ t : Fin grid1.N, k1_cond4 (grid1.coords t) = 1#1 ↔ t.val % 500 = 499)
/-! Where each row of results goes: the token tile is even or odd. -/

theorem off0_0 : ∀ t : Fin cfg1.N, t.val / 125 % 2 = 0 → k1_off1 (grid1.coords t) 0#32 = ![0, 0] := by decide +kernel
theorem off0_1 : ∀ t : Fin cfg1.N, t.val / 125 % 2 = 0 → k1_off1 (grid1.coords t) 128#32 = ![0, 128] := by decide +kernel
theorem off0_2 : ∀ t : Fin cfg1.N, t.val / 125 % 2 = 0 → k1_off1 (grid1.coords t) 256#32 = ![0, 256] := by decide +kernel
theorem off0_3 : ∀ t : Fin cfg1.N, t.val / 125 % 2 = 0 → k1_off1 (grid1.coords t) 384#32 = ![0, 384] := by decide +kernel
theorem off0_4 : ∀ t : Fin cfg1.N, t.val / 125 % 2 = 0 → k1_off1 (grid1.coords t) 512#32 = ![0, 512] := by decide +kernel
theorem off0_5 : ∀ t : Fin cfg1.N, t.val / 125 % 2 = 0 → k1_off1 (grid1.coords t) 640#32 = ![0, 640] := by decide +kernel
theorem off0_6 : ∀ t : Fin cfg1.N, t.val / 125 % 2 = 0 → k1_off1 (grid1.coords t) 768#32 = ![0, 768] := by decide +kernel
theorem off0_7 : ∀ t : Fin cfg1.N, t.val / 125 % 2 = 0 → k1_off1 (grid1.coords t) 896#32 = ![0, 896] := by decide +kernel
theorem off0_8 : ∀ t : Fin cfg1.N, t.val / 125 % 2 = 0 → k1_off1 (grid1.coords t) 1024#32 = ![0, 0] := by decide +kernel
theorem off0_9 : ∀ t : Fin cfg1.N, t.val / 125 % 2 = 0 → k1_off1 (grid1.coords t) 1152#32 = ![0, 128] := by decide +kernel
theorem off0_10 : ∀ t : Fin cfg1.N, t.val / 125 % 2 = 0 → k1_off1 (grid1.coords t) 1280#32 = ![0, 256] := by decide +kernel
theorem off0_11 : ∀ t : Fin cfg1.N, t.val / 125 % 2 = 0 → k1_off1 (grid1.coords t) 1408#32 = ![0, 384] := by decide +kernel
theorem off1_0 : ∀ t : Fin cfg1.N, t.val / 125 % 2 = 1 → k1_off1 (grid1.coords t) 0#32 = ![0, 512] := by decide +kernel
theorem off1_1 : ∀ t : Fin cfg1.N, t.val / 125 % 2 = 1 → k1_off1 (grid1.coords t) 128#32 = ![0, 640] := by decide +kernel
theorem off1_2 : ∀ t : Fin cfg1.N, t.val / 125 % 2 = 1 → k1_off1 (grid1.coords t) 256#32 = ![0, 768] := by decide +kernel
theorem off1_3 : ∀ t : Fin cfg1.N, t.val / 125 % 2 = 1 → k1_off1 (grid1.coords t) 384#32 = ![0, 896] := by decide +kernel
theorem off1_4 : ∀ t : Fin cfg1.N, t.val / 125 % 2 = 1 → k1_off1 (grid1.coords t) 512#32 = ![0, 0] := by decide +kernel
theorem off1_5 : ∀ t : Fin cfg1.N, t.val / 125 % 2 = 1 → k1_off1 (grid1.coords t) 640#32 = ![0, 128] := by decide +kernel
theorem off1_6 : ∀ t : Fin cfg1.N, t.val / 125 % 2 = 1 → k1_off1 (grid1.coords t) 768#32 = ![0, 256] := by decide +kernel
theorem off1_7 : ∀ t : Fin cfg1.N, t.val / 125 % 2 = 1 → k1_off1 (grid1.coords t) 896#32 = ![0, 384] := by decide +kernel
theorem off1_8 : ∀ t : Fin cfg1.N, t.val / 125 % 2 = 1 → k1_off1 (grid1.coords t) 1024#32 = ![0, 512] := by decide +kernel
theorem off1_9 : ∀ t : Fin cfg1.N, t.val / 125 % 2 = 1 → k1_off1 (grid1.coords t) 1152#32 = ![0, 640] := by decide +kernel
theorem off1_10 : ∀ t : Fin cfg1.N, t.val / 125 % 2 = 1 → k1_off1 (grid1.coords t) 1280#32 = ![0, 768] := by decide +kernel
theorem off1_11 : ∀ t : Fin cfg1.N, t.val / 125 % 2 = 1 → k1_off1 (grid1.coords t) 1408#32 = ![0, 896] := by decide +kernel

/-! ## Which points store into the outputs -/

theorem idle9 : ∀ t : Fin cfg1.N, cfg1.idle 9 (grid1.coords t) = (!(k1_cond2 (grid1.coords t) == 1#1) && !(k1_cond3 (grid1.coords t) == 1#1)) := fun _ => rfl
theorem idle10 : ∀ t : Fin cfg1.N, cfg1.idle 10 (grid1.coords t) = !(k1_cond4 (grid1.coords t) == 1#1) := fun _ => rfl
theorem idle11 : ∀ t : Fin cfg1.N, cfg1.idle 11 (grid1.coords t) = !(k1_cond4 (grid1.coords t) == 1#1) := fun _ => rfl
theorem idle12 : ∀ t : Fin cfg1.N, cfg1.idle 12 (grid1.coords t) = !(k1_cond4 (grid1.coords t) == 1#1) := fun _ => rfl

theorem fresh9_step : ∀ t : Fin cfg1.N,
    decide ((t.val + 1) % 500 = 0) = ((cfg1.win 9).flush t || (cfg1.idle 9 (cfg1.grid.coords t) && decide (t.val % 500 = 0))) := by
  intro t
  have ht : t.val < 500 := Nat.lt_of_lt_of_eq t.isLt N_1
  rw [show cfg1.grid.coords t = grid1.coords t from rfl, idle9 t]
  by_cases h : t.val % 500 = 499
  · rw [(flush1_9 t).mpr h]; simp; omega
  · rw [Bool.eq_false_iff.mpr (fun hf => h ((flush1_9 t).mp hf))]
    by_cases h0 : t.val % 500 = 0
    · rw [(hcond2 t).mpr h0]; simp; omega
    · simp [h0]; omega
/-- The per-token output's buffer holds nothing that was stored only before the first point. -/
theorem fresh9 (t : Fin cfg1.N) : cfg1.fresh 9 t.val = decide (t.val % 500 = 0) :=
  Pipeline.Cfg.fresh_tab cfg1 9 (fun n => decide (n % 500 = 0)) rfl fresh9_step t.val (Nat.le_of_lt t.isLt)

section Regions
-- the buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## What is carried from point to point -/

/-- The running maximum, sum and target of the token tile, and the per-token output. -/
structure St (F : FTy → Type) where
  mx : Vec F S1536x128 .f32
  sm : Vec F S1536x128 .f32
  tg : Vec F S1536x128 .f32
  tok : Vec F S6x1024 .f32

/-- All of it as the first stores leave it. -/
def st0 : St F := ⟨k1_pay79, k1_pay80, k1_pay81, k1_pay82⟩

/-- The scratch as the update finds it: fresh at a token tile's first point. -/
def ini (t : Fin cfg1.N) (s : St F) : St F := if t.val % 125 = 0 then ⟨k1_pay79, k1_pay80, k1_pay81, s.tok⟩ else s

def mMx (c : Dev nD) (t : Fin cfg1.N) (s : St F) : Vec F S1536x128 .f32 :=
  midM c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) (iblk1 V c 0 t) (iblk1 V c 1 t) (iblk1 V c 2 t) (iblk1 V c 3 t) (ini t s).mx (ini t s).sm (ini t s).tg
def mSm (c : Dev nD) (t : Fin cfg1.N) (s : St F) : Vec F S1536x128 .f32 :=
  midL c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) (iblk1 V c 0 t) (iblk1 V c 1 t) (iblk1 V c 2 t) (iblk1 V c 3 t) (ini t s).mx (ini t s).sm (ini t s).tg
def mTg (c : Dev nD) (t : Fin cfg1.N) (s : St F) : Vec F S1536x128 .f32 :=
  midT c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) (iblk1 V c 0 t) (iblk1 V c 1 t) (iblk1 V c 2 t) (iblk1 V c 3 t) (ini t s).mx (ini t s).sm (ini t s).tg

/-- The per-token output after a point. -/
def mTok (c : Dev nD) (t : Fin cfg1.N) (s : St F) : Vec F S6x1024 .f32 :=
  if t.val % 500 = 0 then k1_pay82
  else if h : t.val % 125 = 124 then
    if hp : t.val / 125 % 2 = 0 then
      fin0 c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) ((hcond3 t).mpr h) (off0_0 t hp) (off0_1 t hp) (off0_2 t hp) (off0_3 t hp) (off0_4 t hp) (off0_5 t hp) (off0_6 t hp) (off0_7 t hp) (off0_8 t hp) (off0_9 t hp) (off0_10 t hp) (off0_11 t hp) s.tok (mMx V c t s) (mSm V c t s) (mTg V c t s)
    else have hp : t.val / 125 % 2 = 1 := by omega
      fin1 c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) ((hcond3 t).mpr h) (off1_0 t hp) (off1_1 t hp) (off1_2 t hp) (off1_3 t hp) (off1_4 t hp) (off1_5 t hp) (off1_6 t hp) (off1_7 t hp) (off1_8 t hp) (off1_9 t hp) (off1_10 t hp) (off1_11 t hp) s.tok (mMx V c t s) (mSm V c t s) (mTg V c t s)
  else s.tok

/-- One point. -/
def stepSt (c : Dev nD) (t : Fin cfg1.N) (s : St F) : St F := ⟨mMx V c t s, mSm V c t s, mTg V c t s, mTok V c t s⟩

/-- What is held after point `n`. -/
def st (c : Dev nD) : (n : ℕ) → n < cfg1.N → St F
  | 0, h => stepSt V c ⟨0, h⟩ st0
  | n + 1, h => stepSt V c ⟨n + 1, h⟩ (st c n (Nat.lt_of_succ_lt h))

/-- What is held before point `n`. -/
def prevSt (c : Dev nD) (n : ℕ) (h : n < cfg1.N) : St F := if hz : n = 0 then st0 else st V c (n - 1) (by omega)

theorem st_eq (c : Dev nD) (t : Fin cfg1.N) : st V c t.val t.isLt = stepSt V c t (prevSt V c t.val t.isLt) := by
  obtain ⟨n, hn⟩ := t
  cases n with
  | zero => rfl
  | succ n => rfl

/-- One of the last three outputs after a point: stored at the last point only. -/
def aPol (c : Dev nD) (t : Fin cfg1.N) : Vec F S1x24 .f32 :=
  if h : t.val % 500 = 499 then
    dpoP c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) ((hcond4 t).mpr h) (iblk1 V c 4 t) (iblk1 V c 5 t) (iblk1 V c 6 t) (iblk1 V c 7 t) (iblk1 V c 8 t) (st V c t.val t.isLt).tok
  else View.canon []
/-- One of the last three outputs after a point: stored at the last point only. -/
def aLoss (c : Dev nD) (t : Fin cfg1.N) : Vec F S1x12 .f32 :=
  if h : t.val % 500 = 499 then
    dpoL c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) ((hcond4 t).mpr h) (iblk1 V c 4 t) (iblk1 V c 5 t) (iblk1 V c 6 t) (iblk1 V c 7 t) (iblk1 V c 8 t) (st V c t.val t.isLt).tok
  else View.canon []
/-- One of the last three outputs after a point: stored at the last point only. -/
def aMar (c : Dev nD) (t : Fin cfg1.N) : Vec F S1x12 .f32 :=
  if h : t.val % 500 = 499 then
    dpoM c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) ((hcond4 t).mpr h) (iblk1 V c 4 t) (iblk1 V c 5 t) (iblk1 V c 6 t) (iblk1 V c 7 t) (iblk1 V c 8 t) (st V c t.val t.isLt).tok
  else View.canon []

/-! ## The pipeline's proof data -/

/-- The scratch the region leaves alone, and the generator register. -/
def restS (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
    ∗ (∃ r, prngReg c r))

/-- Before the first point every scratch at anything; afterwards the running values at what the point before left. -/
def PhiS (c : Dev nD) : (n : ℕ) → n ≤ cfg1.N → sProp 𝕄
  | 0, _ => iprop((∃ d, owns (c : Thread nD τ) (Memref.whole cc1_scratch0) fullShare d) ∗ ((∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d)) ∗ restS (F := F) c)
  | n + 1, hn => iprop((∃ d, owns (c : Thread nD τ) (Memref.whole cc1_scratch0) fullShare d) ∗ (owns (c : Thread nD τ) (Memref.whole cc1_scratch1) fullShare (st V c n hn).mx ∗ owns (c : Thread nD τ) (Memref.whole cc1_scratch2) fullShare (st V c n hn).sm ∗ owns (c : Thread nD τ) (Memref.whole cc1_scratch3) fullShare (st V c n hn).tg) ∗ restS (F := F) c)

/-- The proof data of the main call: the arrays as the region finds them, each input's buffer at its block, the outputs at what the points leave. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (st V c t.val t.isLt).tok
    | ⟨10, _⟩ => aPol V c t
    | ⟨11, _⟩ => aLoss V c t
    | ⟨12, _⟩ => aMar V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (st V c t.val t.isLt).tok := by dsimp only [dat1]
theorem after1_10 (c : Dev nD) (t : Fin cfg1.N) : (dat1 V c).after 10 t = aPol V c t := by dsimp only [dat1]
theorem after1_11 (c : Dev nD) (t : Fin cfg1.N) : (dat1 V c).after 11 t = aLoss V c t := by dsimp only [dat1]
theorem after1_12 (c : Dev nD) (t : Fin cfg1.N) : (dat1 V c).after 12 t = aMar V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

theorem hcarry9 (c : Dev nD) : ∀ (t : Fin cfg1.N) (_ : t.val ≠ 0), cfg1.idle 9 (grid1.coords t) = true → cfg1.fresh 9 t.val = false →
    (dat1 V c).after 9 t = (dat1 V c).after 9 ⟨t.val - 1, by omega⟩ := by
  intro t hz hi _
  rw [idle9 t] at hi
  simp only [Bool.and_eq_true, Bool.not_eq_true', beq_eq_false_iff_ne, ne_eq] at hi
  have h2 : ¬ t.val % 500 = 0 := fun h => hi.1 ((hcond2 t).mpr h)
  have h3 : ¬ t.val % 125 = 124 := fun h => hi.2 ((hcond3 t).mpr h)
  rw [after1_9, after1_9, st_eq]
  unfold stepSt mTok prevSt
  simp only [h2, h3, hz, if_false, dif_neg, not_false_eq_true, dite_false]

/-- Away from the first point the per-token output's buffer holds what the point before left. -/
theorem before1_9 (c : Dev nD) (t : Fin cfg1.N) (h : ¬ t.val % 500 = 0) (d) :
    (dat1 V c).before 9 t d = (prevSt V c t.val t.isLt).tok := by
  have hz : t.val ≠ 0 := fun e => h (by rw [e])
  rw [Dat.before_out_traj _ 9 rfl (fun _ _ => rfl) (hcarry9 V c) t.val t rfl d,
    if_neg (by rw [fresh9 t]; simpa using h), after1_9]
  unfold prevSt
  rw [dif_neg hz]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ (dat1 V c).leavesExact 9 t
    ∗ (dat1 V c).leavesExact 10 t
    ∗ (dat1 V c).leavesExact 11 t
    ∗ (dat1 V c).leavesExact 12 t)

theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- The running values as a point is handed them: at anything at the first point, else at what the point before left. -/
def scrP (c : Dev nD) (t : Fin cfg1.N) : sProp 𝕄 :=
  if t.val = 0 then iprop((∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d))
  else iprop(owns (c : Thread nD τ) (Memref.whole cc1_scratch1) fullShare (prevSt V c t.val t.isLt).mx ∗ owns (c : Thread nD τ) (Memref.whole cc1_scratch2) fullShare (prevSt V c t.val t.isLt).sm ∗ owns (c : Thread nD τ) (Memref.whole cc1_scratch3) fullShare (prevSt V c t.val t.isLt).tg)

theorem PhiS_scrP (c : Dev nD) (t : Fin cfg1.N) (h) :
    PhiS V c t.val h = iprop((∃ d, owns (c : Thread nD τ) (Memref.whole cc1_scratch0) fullShare d) ∗ scrP V c t ∗ restS (F := F) c) := by
  obtain ⟨n, hn⟩ := t
  cases n with
  | zero => rfl
  | succ n => rfl

theorem ini1 (c : Dev nD) (t : Fin cfg1.N) (K : PUnit → sProp 𝕄) :
    iprop(scrP V c t ∗ (iprop(owns (c : Thread nD τ) (Memref.whole cc1_scratch1) fullShare (ini t (prevSt V c t.val t.isLt)).mx ∗ owns (c : Thread nD τ) (Memref.whole cc1_scratch2) fullShare (ini t (prevSt V c t.val t.isLt)).sm ∗ owns (c : Thread nD τ) (Memref.whole cc1_scratch3) fullShare (ini t (prevSt V c t.val t.isLt)).tg) -∗ K ⟨⟩))
      ⊢ wp frame (wpE (defs₀ (F := F)) Variants.none c none) Set.univ (pInit (grid1.coords t) (Memref.whole cc1_scratch1) (Memref.whole cc1_scratch2) (Memref.whole cc1_scratch3)) K := by
  unfold scrP
  by_cases h : t.val % 125 = 0
  · have e : (ini t (prevSt V c t.val t.isLt)) = ⟨k1_pay79, k1_pay80, k1_pay81, (prevSt V c t.val t.isLt).tok⟩ := by unfold ini; rw [if_pos h]
    rw [e]
    dsimp only
    by_cases hz : t.val = 0
    · rw [if_pos hz]
      iintro ⟨⟨H16, H17, H18⟩, Hk⟩
      iapply (initT c (grid1.coords t) _ (Memref.isWhole_whole _) _ (Memref.isWhole_whole _) _ (Memref.isWhole_whole _) ((hcond_ini t).mpr h) Set.univ K)
      isplitl [H16]; · iexact H16
      isplitl [H17]; · iexact H17
      isplitl [H18]; · iexact H18
      iexact Hk
    · rw [if_neg hz]
      iintro ⟨⟨H16, H17, H18⟩, Hk⟩
      iapply (initT c (grid1.coords t) _ (Memref.isWhole_whole _) _ (Memref.isWhole_whole _) _ (Memref.isWhole_whole _) ((hcond_ini t).mpr h) Set.univ K)
      isplitl [H16]; · iexists _; iexact H16
      isplitl [H17]; · iexists _; iexact H17
      isplitl [H18]; · iexists _; iexact H18
      iexact Hk
  · have e : (ini t (prevSt V c t.val t.isLt)) = (prevSt V c t.val t.isLt) := by unfold ini; rw [if_neg h]
    rw [e, if_neg (fun hz : t.val = 0 => h (by rw [hz]))]
    iintro ⟨HP, Hk⟩
    iapply (initF c (grid1.coords t) _ _ _ (fun hh => h ((hcond_ini t).mp hh)) Set.univ K)
    iapply Hk
    iexact HP

theorem leaves9_live (c : Dev nD) (t : Fin cfg1.N) (h : t.val % 500 = 0 ∨ t.val % 125 = 124) :
    (dat1 V c).leavesExact 9 t = owns (c : Thread nD τ) (st1_9 t) fullShare (st V c t.val t.isLt).tok := by
  have hl : cfg1.idle 9 (grid1.coords t) = false := by
    rw [idle9 t]
    rcases h with h | h
    · rw [(hcond2 t).mpr h]; rfl
    · rw [(hcond3 t).mpr h]; simp
  unfold Dat.leavesExact; rw [hl, after1_9]
theorem leaves9_idle (c : Dev nD) (t : Fin cfg1.N) (h : ¬ (t.val % 500 = 0 ∨ t.val % 125 = 124)) :
    (dat1 V c).leavesExact 9 t = iprop(∃ d, owns (c : Thread nD τ) (st1_9 t) fullShare ((dat1 V c).before 9 t d)) := by
  have hl : cfg1.idle 9 (grid1.coords t) = true := by
    rw [idle9 t]
    simp only [Bool.and_eq_true, Bool.not_eq_true', beq_eq_false_iff_ne, ne_eq]
    exact ⟨fun hh => h (.inl ((hcond2 t).mp hh)), fun hh => h (.inr ((hcond3 t).mp hh))⟩
  have hf : (cfg1.win 9).flush t = false := Bool.eq_false_iff.mpr fun hf => h (.inr (by have := (flush1_9 t).mp hf; omega))
  exact Dat.leavesExact_idle _ 9 t hl hf

theorem leaves10_live (c : Dev nD) (t : Fin cfg1.N) (h : t.val % 500 = 499) :
    (dat1 V c).leavesExact 10 t = owns (c : Thread nD τ) (st1_10 t) fullShare (aPol V c t) := by
  have hl : cfg1.idle 10 (grid1.coords t) = false := by
    rw [idle10 t]
    rw [(hcond4 t).mpr h]; rfl
  unfold Dat.leavesExact; rw [hl, after1_10]
theorem leaves10_idle (c : Dev nD) (t : Fin cfg1.N) (h : ¬ (t.val % 500 = 499)) :
    (dat1 V c).leavesExact 10 t = iprop(∃ d, owns (c : Thread nD τ) (st1_10 t) fullShare ((dat1 V c).before 10 t d)) := by
  have hl : cfg1.idle 10 (grid1.coords t) = true := by
    rw [idle10 t]
    simp only [Bool.not_eq_true', beq_eq_false_iff_ne, ne_eq]
    exact fun hh => h ((hcond4 t).mp hh)
  have hf : (cfg1.win 10).flush t = false := Bool.eq_false_iff.mpr fun hf => h ((flush1_10 t).mp hf)
  exact Dat.leavesExact_idle _ 10 t hl hf

theorem leaves11_live (c : Dev nD) (t : Fin cfg1.N) (h : t.val % 500 = 499) :
    (dat1 V c).leavesExact 11 t = owns (c : Thread nD τ) (st1_11 t) fullShare (aLoss V c t) := by
  have hl : cfg1.idle 11 (grid1.coords t) = false := by
    rw [idle11 t]
    rw [(hcond4 t).mpr h]; rfl
  unfold Dat.leavesExact; rw [hl, after1_11]
theorem leaves11_idle (c : Dev nD) (t : Fin cfg1.N) (h : ¬ (t.val % 500 = 499)) :
    (dat1 V c).leavesExact 11 t = iprop(∃ d, owns (c : Thread nD τ) (st1_11 t) fullShare ((dat1 V c).before 11 t d)) := by
  have hl : cfg1.idle 11 (grid1.coords t) = true := by
    rw [idle11 t]
    simp only [Bool.not_eq_true', beq_eq_false_iff_ne, ne_eq]
    exact fun hh => h ((hcond4 t).mp hh)
  have hf : (cfg1.win 11).flush t = false := Bool.eq_false_iff.mpr fun hf => h ((flush1_11 t).mp hf)
  exact Dat.leavesExact_idle _ 11 t hl hf

theorem leaves12_live (c : Dev nD) (t : Fin cfg1.N) (h : t.val % 500 = 499) :
    (dat1 V c).leavesExact 12 t = owns (c : Thread nD τ) (st1_12 t) fullShare (aMar V c t) := by
  have hl : cfg1.idle 12 (grid1.coords t) = false := by
    rw [idle12 t]
    rw [(hcond4 t).mpr h]; rfl
  unfold Dat.leavesExact; rw [hl, after1_12]
theorem leaves12_idle (c : Dev nD) (t : Fin cfg1.N) (h : ¬ (t.val % 500 = 499)) :
    (dat1 V c).leavesExact 12 t = iprop(∃ d, owns (c : Thread nD τ) (st1_12 t) fullShare ((dat1 V c).before 12 t d)) := by
  have hl : cfg1.idle 12 (grid1.coords t) = true := by
    rw [idle12 t]
    simp only [Bool.not_eq_true', beq_eq_false_iff_ne, ne_eq]
    exact fun hh => h ((hcond4 t).mp hh)
  have hf : (cfg1.win 12).flush t = false := Bool.eq_false_iff.mpr fun hf => h ((flush1_12 t).mp hf)
  exact Dat.leavesExact_idle _ 12 t hl hf

/-- The body at a point, the parts that differ from point to point left open. -/
theorem run_at (c : Dev nD) (t : Fin cfg1.N) (P2 Q2 P4 Q3 Q4 : sProp 𝕄) (K : PUnit → sProp 𝕄)
    (h2 : ∀ K : PUnit → sProp 𝕄, iprop(P2 ∗ (Q2 -∗ K ⟨⟩)) ⊢ wp frame (wpE (defs₀ (F := F)) Variants.none c none) Set.univ (pZero (grid1.coords t) (st1_9 t)) K)
    (h3 : ∀ K : PUnit → sProp 𝕄, iprop(Q2 ∗ owns (c : Thread nD τ) (Memref.whole cc1_scratch1) fullShare (mMx V c t (prevSt V c t.val t.isLt)) ∗ owns (c : Thread nD τ) (Memref.whole cc1_scratch2) fullShare (mSm V c t (prevSt V c t.val t.isLt)) ∗ owns (c : Thread nD τ) (Memref.whole cc1_scratch3) fullShare (mTg V c t (prevSt V c t.val t.isLt)) ∗ (iprop(Q3 ∗ owns (c : Thread nD τ) (Memref.whole cc1_scratch1) fullShare (mMx V c t (prevSt V c t.val t.isLt)) ∗ owns (c : Thread nD τ) (Memref.whole cc1_scratch2) fullShare (mSm V c t (prevSt V c t.val t.isLt)) ∗ owns (c : Thread nD τ) (Memref.whole cc1_scratch3) fullShare (mTg V c t (prevSt V c t.val t.isLt))) -∗ K ⟨⟩)) ⊢ wp frame (wpE (defs₀ (F := F)) Variants.none c none) Set.univ (pFin (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _)) K)
    (h4 : ∀ K : PUnit → sProp 𝕄, iprop(Q3 ∗ iprop(owns (c : Thread nD τ) (st1_4 t) fullShare (iblk1 V c 4 t) ∗ owns (c : Thread nD τ) (st1_5 t) fullShare (iblk1 V c 5 t) ∗ owns (c : Thread nD τ) (st1_6 t) fullShare (iblk1 V c 6 t) ∗ owns (c : Thread nD τ) (st1_7 t) fullShare (iblk1 V c 7 t) ∗ owns (c : Thread nD τ) (st1_8 t) fullShare (iblk1 V c 8 t)) ∗ P4 ∗ (iprop(iprop(owns (c : Thread nD τ) (st1_4 t) fullShare (iblk1 V c 4 t) ∗ owns (c : Thread nD τ) (st1_5 t) fullShare (iblk1 V c 5 t) ∗ owns (c : Thread nD τ) (st1_6 t) fullShare (iblk1 V c 6 t) ∗ owns (c : Thread nD τ) (st1_7 t) fullShare (iblk1 V c 7 t) ∗ owns (c : Thread nD τ) (st1_8 t) fullShare (iblk1 V c 8 t)) ∗ Q4) -∗ K ⟨⟩)) ⊢ wp frame (wpE (defs₀ (F := F)) Variants.none c none) Set.univ (pDpo (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _)) K) :
    iprop(scrP V c t ∗ P2 ∗ P4 ∗ iprop(owns (c : Thread nD τ) (st1_4 t) fullShare (iblk1 V c 4 t) ∗ owns (c : Thread nD τ) (st1_5 t) fullShare (iblk1 V c 5 t) ∗ owns (c : Thread nD τ) (st1_6 t) fullShare (iblk1 V c 6 t) ∗ owns (c : Thread nD τ) (st1_7 t) fullShare (iblk1 V c 7 t) ∗ owns (c : Thread nD τ) (st1_8 t) fullShare (iblk1 V c 8 t)) ∗ owns (c : Thread nD τ) (st1_0 t) fullShare (iblk1 V c 0 t) ∗ owns (c : Thread nD τ) (st1_1 t) fullShare (iblk1 V c 1 t) ∗ owns (c : Thread nD τ) (st1_2 t) fullShare (iblk1 V c 2 t) ∗ owns (c : Thread nD τ) (st1_3 t) fullShare (iblk1 V c 3 t) ∗ (∃ d, owns (c : Thread nD τ) (Memref.whole cc1_scratch0) fullShare d)
        ∗ (iprop(owns (c : Thread nD τ) (Memref.whole cc1_scratch1) fullShare (mMx V c t (prevSt V c t.val t.isLt)) ∗ owns (c : Thread nD τ) (Memref.whole cc1_scratch2) fullShare (mSm V c t (prevSt V c t.val t.isLt)) ∗ owns (c : Thread nD τ) (Memref.whole cc1_scratch3) fullShare (mTg V c t (prevSt V c t.val t.isLt)) ∗ Q4 ∗ iprop(owns (c : Thread nD τ) (st1_4 t) fullShare (iblk1 V c 4 t) ∗ owns (c : Thread nD τ) (st1_5 t) fullShare (iblk1 V c 5 t) ∗ owns (c : Thread nD τ) (st1_6 t) fullShare (iblk1 V c 6 t) ∗ owns (c : Thread nD τ) (st1_7 t) fullShare (iblk1 V c 7 t) ∗ owns (c : Thread nD τ) (st1_8 t) fullShare (iblk1 V c 8 t)) ∗ owns (c : Thread nD τ) (st1_0 t) fullShare (iblk1 V c 0 t) ∗ owns (c : Thread nD τ) (st1_1 t) fullShare (iblk1 V c 1 t) ∗ owns (c : Thread nD τ) (st1_2 t) fullShare (iblk1 V c 2 t) ∗ owns (c : Thread nD τ) (st1_3 t) fullShare (iblk1 V c 3 t) ∗ (∃ d, owns (c : Thread nD τ) (Memref.whole cc1_scratch0) fullShare d)) -∗ K ⟨⟩))
      ⊢ wp frame (wpE (defs₀ (F := F)) Variants.none c none) Set.univ (bodyAt1 t) K :=
  bodyT c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) (iblk1 V c 0 t) (iblk1 V c 1 t) (iblk1 V c 2 t) (iblk1 V c 3 t) _ _ _ (scrP V c t) P2 Q2 P4 Q3 (iprop(owns (c : Thread nD τ) (st1_4 t) fullShare (iblk1 V c 4 t) ∗ owns (c : Thread nD τ) (st1_5 t) fullShare (iblk1 V c 5 t) ∗ owns (c : Thread nD τ) (st1_6 t) fullShare (iblk1 V c 6 t) ∗ owns (c : Thread nD τ) (st1_7 t) fullShare (iblk1 V c 7 t) ∗ owns (c : Thread nD τ) (st1_8 t) fullShare (iblk1 V c 8 t))) Q4 Set.univ K (ini1 V c t) h2 h3 h4

set_option maxHeartbeats 4000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [before1_0, before1_1, before1_2, before1_3, before1_4, before1_5, before1_6, before1_7, before1_8]
  rw [show (dat1 V c).owesAt () t.succ = (dat1 V c).owesAt () t.castSucc from rfl, PhiS_castSucc, PhiS_scrP,
    show (dat1 V c).Φ t.succ = PhiS V c (t.val + 1) t.isLt from rfl, after1_0, after1_1, after1_2, after1_3, after1_4, after1_5, after1_6, after1_7, after1_8]
  have hst : (st V c t.val t.isLt).tok = mTok V c t (prevSt V c t.val t.isLt) := by rw [st_eq]; rfl
  rw [show PhiS V c (t.val + 1) t.isLt = iprop((∃ d, owns (c : Thread nD τ) (Memref.whole cc1_scratch0) fullShare d) ∗ iprop(owns (c : Thread nD τ) (Memref.whole cc1_scratch1) fullShare (mMx V c t (prevSt V c t.val t.isLt)) ∗ owns (c : Thread nD τ) (Memref.whole cc1_scratch2) fullShare (mSm V c t (prevSt V c t.val t.isLt)) ∗ owns (c : Thread nD τ) (Memref.whole cc1_scratch3) fullShare (mTg V c t (prevSt V c t.val t.isLt))) ∗ restS (F := F) c) from by
    show iprop((∃ d, owns (c : Thread nD τ) (Memref.whole cc1_scratch0) fullShare d) ∗ (owns (c : Thread nD τ) (Memref.whole cc1_scratch1) fullShare (st V c t.val t.isLt).mx ∗ owns (c : Thread nD τ) (Memref.whole cc1_scratch2) fullShare (st V c t.val t.isLt).sm ∗ owns (c : Thread nD τ) (Memref.whole cc1_scratch3) fullShare (st V c t.val t.isLt).tg) ∗ restS (F := F) c) = _
    rw [st_eq]; rfl]
  by_cases h0 : t.val % 500 = 0
  · have h1 : ¬ t.val % 125 = 124 := by omega
    have h3 : ¬ t.val % 500 = 499 := by omega
    have e : (st V c t.val t.isLt).tok = k1_pay82 := by rw [hst]; unfold mTok; rw [if_pos h0]

    rw [leaves9_live V c t (.inl h0), e, leaves10_idle V c t h3, leaves11_idle V c t h3, leaves12_idle V c t h3]
    iintro ⟨⟨H15, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
    iapply (run_at V c t iprop(∃ d, owns (c : Thread nD τ) (st1_9 t) fullShare d) iprop(owns (c : Thread nD τ) (st1_9 t) fullShare k1_pay82) iprop((∃ d, owns (c : Thread nD τ) (st1_10 t) fullShare ((dat1 V c).before 10 t d)) ∗ (∃ d, owns (c : Thread nD τ) (st1_11 t) fullShare ((dat1 V c).before 11 t d)) ∗ (∃ d, owns (c : Thread nD τ) (st1_12 t) fullShare ((dat1 V c).before 12 t d))) iprop(owns (c : Thread nD τ) (st1_9 t) fullShare k1_pay82) iprop(owns (c : Thread nD τ) (st1_9 t) fullShare k1_pay82 ∗ (∃ d, owns (c : Thread nD τ) (st1_10 t) fullShare ((dat1 V c).before 10 t d)) ∗ (∃ d, owns (c : Thread nD τ) (st1_11 t) fullShare ((dat1 V c).before 11 t d)) ∗ (∃ d, owns (c : Thread nD τ) (st1_12 t) fullShare ((dat1 V c).before 12 t d))) _
      (fun K => zeroT c (grid1.coords t) _ (hst9 t) ((hcond2 t).mpr h0) Set.univ K)
      (fun K => by
        iintro ⟨HQ, H16, H17, H18, Hk⟩
        iapply (finF c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) (fun hh => h1 ((hcond3 t).mp hh)) Set.univ K)
        iapply Hk
        isplitl [HQ]; · iexact HQ
        isplitl [H16]; · iexact H16
        isplitl [H17]; · iexact H17
        iexact H18)
      (fun K => by
        iintro ⟨HQ, HR, HP, Hk⟩
        iapply (dpoF c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) (fun hh => h3 ((hcond4 t).mp hh)) Set.univ K)
        iapply Hk
        isplitl [HR]; · iexact HR
        isplitl [HQ]; · iexact HQ
        iexact HP))
    isplitl [HS]; · iexact HS
    isplitl [H9]; · icases H9 with ⟨%d9, H9⟩; iexists _; iexact H9
    isplitl [H10 H11 H12]
    · isplitl [H10]; · iexact H10
      isplitl [H11]; · iexact H11
      iexact H12
    isplitl [H4 H5 H6 H7 H8]
    · isplitl [H4]; · iexact H4
      isplitl [H5]; · iexact H5
      isplitl [H6]; · iexact H6
      isplitl [H7]; · iexact H7
      iexact H8
    isplitl [H0]; · iexact H0
    isplitl [H1]; · iexact H1
    isplitl [H2]; · iexact H2
    isplitl [H3]; · iexact H3
    isplitl [H15]; · iexact H15
    iintro ⟨H16, H17, H18, ⟨H9, H10, H11, H12⟩, ⟨H4, H5, H6, H7, H8⟩, H0, H1, H2, H3, H15⟩
    isplitl [H15 H16 H17 H18 HR]
    · isplitl [H15]; · iexact H15
      isplitl [H16 H17 H18]
      · isplitl [H16]; · iexact H16
        isplitl [H17]; · iexact H17
        iexact H18
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

  · by_cases h1 : t.val % 125 = 124
    · by_cases h3 : t.val % 500 = 499
      · simp only [before1_9 V c t h0]

        rw [leaves9_live V c t (.inr h1), leaves10_live V c t h3, leaves11_live V c t h3, leaves12_live V c t h3]
        iintro ⟨⟨H15, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
        iapply (run_at V c t iprop(owns (c : Thread nD τ) (st1_9 t) fullShare (prevSt V c t.val t.isLt).tok) iprop(owns (c : Thread nD τ) (st1_9 t) fullShare (prevSt V c t.val t.isLt).tok) iprop((∃ d, owns (c : Thread nD τ) (st1_10 t) fullShare ((dat1 V c).before 10 t d)) ∗ (∃ d, owns (c : Thread nD τ) (st1_11 t) fullShare ((dat1 V c).before 11 t d)) ∗ (∃ d, owns (c : Thread nD τ) (st1_12 t) fullShare ((dat1 V c).before 12 t d))) iprop(owns (c : Thread nD τ) (st1_9 t) fullShare (st V c t.val t.isLt).tok) iprop(owns (c : Thread nD τ) (st1_9 t) fullShare (st V c t.val t.isLt).tok ∗ owns (c : Thread nD τ) (st1_10 t) fullShare (aPol V c t) ∗ owns (c : Thread nD τ) (st1_11 t) fullShare (aLoss V c t) ∗ owns (c : Thread nD τ) (st1_12 t) fullShare (aMar V c t)) _
          (fun K => by
            iintro ⟨HP, Hk⟩
            iapply (zeroF c (grid1.coords t) _ (fun hh => h0 ((hcond2 t).mp hh)) Set.univ K)
            iapply Hk
            iexact HP)
          (fun K => by
            rw [hst]
            unfold mTok
            rw [if_neg h0, dif_pos h1]
            by_cases hp : t.val / 125 % 2 = 0
            · rw [dif_pos hp]
              iintro ⟨HQ, H16, H17, H18, Hk⟩
              iapply (fin0T c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) ((hcond3 t).mpr h1) (off0_0 t hp) (off0_1 t hp) (off0_2 t hp) (off0_3 t hp) (off0_4 t hp) (off0_5 t hp) (off0_6 t hp) (off0_7 t hp) (off0_8 t hp) (off0_9 t hp) (off0_10 t hp) (off0_11 t hp) _ _ _ _ Set.univ K)
              isplitl [HQ]; · iexact HQ
              isplitl [H16]; · iexact H16
              isplitl [H17]; · iexact H17
              isplitl [H18]; · iexact H18
              iintro ⟨HQ, H16, H17, H18⟩
              iapply Hk
              isplitl [HQ]; · iexact HQ
              isplitl [H16]; · iexact H16
              isplitl [H17]; · iexact H17
              iexact H18
            · rw [dif_neg hp]
              have hp : t.val / 125 % 2 = 1 := by omega
              iintro ⟨HQ, H16, H17, H18, Hk⟩
              iapply (fin1T c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) ((hcond3 t).mpr h1) (off1_0 t hp) (off1_1 t hp) (off1_2 t hp) (off1_3 t hp) (off1_4 t hp) (off1_5 t hp) (off1_6 t hp) (off1_7 t hp) (off1_8 t hp) (off1_9 t hp) (off1_10 t hp) (off1_11 t hp) _ _ _ _ Set.univ K)
              isplitl [HQ]; · iexact HQ
              isplitl [H16]; · iexact H16
              isplitl [H17]; · iexact H17
              isplitl [H18]; · iexact H18
              iintro ⟨HQ, H16, H17, H18⟩
              iapply Hk
              isplitl [HQ]; · iexact HQ
              isplitl [H16]; · iexact H16
              isplitl [H17]; · iexact H17
              iexact H18)
          (fun K => by
            unfold aPol aLoss aMar
            rw [dif_pos h3, dif_pos h3, dif_pos h3]
            iintro ⟨HQ, ⟨H6, H7, H8, H9, H10⟩, ⟨H12, H13, H14⟩, Hk⟩
            iapply (dpoT c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) ((hcond4 t).mpr h3) (iblk1 V c 4 t) (iblk1 V c 5 t) (iblk1 V c 6 t) (iblk1 V c 7 t) (iblk1 V c 8 t) (st V c t.val t.isLt).tok Set.univ K)
            isplitl [H6]; · iexact H6
            isplitl [H7]; · iexact H7
            isplitl [H8]; · iexact H8
            isplitl [H9]; · iexact H9
            isplitl [H10]; · iexact H10
            isplitl [HQ]; · iexact HQ
            isplitl [H12]; · icases H12 with ⟨%d, H12⟩; iexists _; iexact H12
            isplitl [H13]; · icases H13 with ⟨%d, H13⟩; iexists _; iexact H13
            isplitl [H14]; · icases H14 with ⟨%d, H14⟩; iexists _; iexact H14
            iintro ⟨H6, H7, H8, H9, H10, HQ, H12, H13, H14⟩
            iapply Hk
            isplitl [H6 H7 H8 H9 H10]
            · isplitl [H6]; · iexact H6
              isplitl [H7]; · iexact H7
              isplitl [H8]; · iexact H8
              isplitl [H9]; · iexact H9
              iexact H10
            isplitl [HQ]; · iexact HQ
            isplitl [H12]; · iexact H12
            isplitl [H13]; · iexact H13
            iexact H14))
        isplitl [HS]; · iexact HS
        isplitl [H9]; · icases H9 with ⟨%d9, H9⟩; iexact H9
        isplitl [H10 H11 H12]
        · isplitl [H10]; · iexact H10
          isplitl [H11]; · iexact H11
          iexact H12
        isplitl [H4 H5 H6 H7 H8]
        · isplitl [H4]; · iexact H4
          isplitl [H5]; · iexact H5
          isplitl [H6]; · iexact H6
          isplitl [H7]; · iexact H7
          iexact H8
        isplitl [H0]; · iexact H0
        isplitl [H1]; · iexact H1
        isplitl [H2]; · iexact H2
        isplitl [H3]; · iexact H3
        isplitl [H15]; · iexact H15
        iintro ⟨H16, H17, H18, ⟨H9, H10, H11, H12⟩, ⟨H4, H5, H6, H7, H8⟩, H0, H1, H2, H3, H15⟩
        isplitl [H15 H16 H17 H18 HR]
        · isplitl [H15]; · iexact H15
          isplitl [H16 H17 H18]
          · isplitl [H16]; · iexact H16
            isplitl [H17]; · iexact H17
            iexact H18
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12

      · simp only [before1_9 V c t h0]

        rw [leaves9_live V c t (.inr h1), leaves10_idle V c t h3, leaves11_idle V c t h3, leaves12_idle V c t h3]
        iintro ⟨⟨H15, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
        iapply (run_at V c t iprop(owns (c : Thread nD τ) (st1_9 t) fullShare (prevSt V c t.val t.isLt).tok) iprop(owns (c : Thread nD τ) (st1_9 t) fullShare (prevSt V c t.val t.isLt).tok) iprop((∃ d, owns (c : Thread nD τ) (st1_10 t) fullShare ((dat1 V c).before 10 t d)) ∗ (∃ d, owns (c : Thread nD τ) (st1_11 t) fullShare ((dat1 V c).before 11 t d)) ∗ (∃ d, owns (c : Thread nD τ) (st1_12 t) fullShare ((dat1 V c).before 12 t d))) iprop(owns (c : Thread nD τ) (st1_9 t) fullShare (st V c t.val t.isLt).tok) iprop(owns (c : Thread nD τ) (st1_9 t) fullShare (st V c t.val t.isLt).tok ∗ (∃ d, owns (c : Thread nD τ) (st1_10 t) fullShare ((dat1 V c).before 10 t d)) ∗ (∃ d, owns (c : Thread nD τ) (st1_11 t) fullShare ((dat1 V c).before 11 t d)) ∗ (∃ d, owns (c : Thread nD τ) (st1_12 t) fullShare ((dat1 V c).before 12 t d))) _
          (fun K => by
            iintro ⟨HP, Hk⟩
            iapply (zeroF c (grid1.coords t) _ (fun hh => h0 ((hcond2 t).mp hh)) Set.univ K)
            iapply Hk
            iexact HP)
          (fun K => by
            rw [hst]
            unfold mTok
            rw [if_neg h0, dif_pos h1]
            by_cases hp : t.val / 125 % 2 = 0
            · rw [dif_pos hp]
              iintro ⟨HQ, H16, H17, H18, Hk⟩
              iapply (fin0T c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) ((hcond3 t).mpr h1) (off0_0 t hp) (off0_1 t hp) (off0_2 t hp) (off0_3 t hp) (off0_4 t hp) (off0_5 t hp) (off0_6 t hp) (off0_7 t hp) (off0_8 t hp) (off0_9 t hp) (off0_10 t hp) (off0_11 t hp) _ _ _ _ Set.univ K)
              isplitl [HQ]; · iexact HQ
              isplitl [H16]; · iexact H16
              isplitl [H17]; · iexact H17
              isplitl [H18]; · iexact H18
              iintro ⟨HQ, H16, H17, H18⟩
              iapply Hk
              isplitl [HQ]; · iexact HQ
              isplitl [H16]; · iexact H16
              isplitl [H17]; · iexact H17
              iexact H18
            · rw [dif_neg hp]
              have hp : t.val / 125 % 2 = 1 := by omega
              iintro ⟨HQ, H16, H17, H18, Hk⟩
              iapply (fin1T c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) ((hcond3 t).mpr h1) (off1_0 t hp) (off1_1 t hp) (off1_2 t hp) (off1_3 t hp) (off1_4 t hp) (off1_5 t hp) (off1_6 t hp) (off1_7 t hp) (off1_8 t hp) (off1_9 t hp) (off1_10 t hp) (off1_11 t hp) _ _ _ _ Set.univ K)
              isplitl [HQ]; · iexact HQ
              isplitl [H16]; · iexact H16
              isplitl [H17]; · iexact H17
              isplitl [H18]; · iexact H18
              iintro ⟨HQ, H16, H17, H18⟩
              iapply Hk
              isplitl [HQ]; · iexact HQ
              isplitl [H16]; · iexact H16
              isplitl [H17]; · iexact H17
              iexact H18)
          (fun K => by
            iintro ⟨HQ, HR, HP, Hk⟩
            iapply (dpoF c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) (fun hh => h3 ((hcond4 t).mp hh)) Set.univ K)
            iapply Hk
            isplitl [HR]; · iexact HR
            isplitl [HQ]; · iexact HQ
            iexact HP))
        isplitl [HS]; · iexact HS
        isplitl [H9]; · icases H9 with ⟨%d9, H9⟩; iexact H9
        isplitl [H10 H11 H12]
        · isplitl [H10]; · iexact H10
          isplitl [H11]; · iexact H11
          iexact H12
        isplitl [H4 H5 H6 H7 H8]
        · isplitl [H4]; · iexact H4
          isplitl [H5]; · iexact H5
          isplitl [H6]; · iexact H6
          isplitl [H7]; · iexact H7
          iexact H8
        isplitl [H0]; · iexact H0
        isplitl [H1]; · iexact H1
        isplitl [H2]; · iexact H2
        isplitl [H3]; · iexact H3
        isplitl [H15]; · iexact H15
        iintro ⟨H16, H17, H18, ⟨H9, H10, H11, H12⟩, ⟨H4, H5, H6, H7, H8⟩, H0, H1, H2, H3, H15⟩
        isplitl [H15 H16 H17 H18 HR]
        · isplitl [H15]; · iexact H15
          isplitl [H16 H17 H18]
          · isplitl [H16]; · iexact H16
            isplitl [H17]; · iexact H17
            iexact H18
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12

    · have h3 : ¬ t.val % 500 = 499 := by omega

      rw [leaves9_idle V c t (by omega), leaves10_idle V c t h3, leaves11_idle V c t h3, leaves12_idle V c t h3]
      iintro ⟨⟨H15, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
      iapply (run_at V c t iprop((∃ d, owns (c : Thread nD τ) (st1_9 t) fullShare ((dat1 V c).before 9 t d))) iprop((∃ d, owns (c : Thread nD τ) (st1_9 t) fullShare ((dat1 V c).before 9 t d))) iprop((∃ d, owns (c : Thread nD τ) (st1_10 t) fullShare ((dat1 V c).before 10 t d)) ∗ (∃ d, owns (c : Thread nD τ) (st1_11 t) fullShare ((dat1 V c).before 11 t d)) ∗ (∃ d, owns (c : Thread nD τ) (st1_12 t) fullShare ((dat1 V c).before 12 t d))) iprop((∃ d, owns (c : Thread nD τ) (st1_9 t) fullShare ((dat1 V c).before 9 t d))) iprop((∃ d, owns (c : Thread nD τ) (st1_9 t) fullShare ((dat1 V c).before 9 t d)) ∗ (∃ d, owns (c : Thread nD τ) (st1_10 t) fullShare ((dat1 V c).before 10 t d)) ∗ (∃ d, owns (c : Thread nD τ) (st1_11 t) fullShare ((dat1 V c).before 11 t d)) ∗ (∃ d, owns (c : Thread nD τ) (st1_12 t) fullShare ((dat1 V c).before 12 t d))) _
        (fun K => by
          iintro ⟨HP, Hk⟩
          iapply (zeroF c (grid1.coords t) _ (fun hh => h0 ((hcond2 t).mp hh)) Set.univ K)
          iapply Hk
          iexact HP)
        (fun K => by
          iintro ⟨HQ, H16, H17, H18, Hk⟩
          iapply (finF c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) (fun hh => h1 ((hcond3 t).mp hh)) Set.univ K)
          iapply Hk
          isplitl [HQ]; · iexact HQ
          isplitl [H16]; · iexact H16
          isplitl [H17]; · iexact H17
          iexact H18)
        (fun K => by
          iintro ⟨HQ, HR, HP, Hk⟩
          iapply (dpoF c (grid1.coords t) (win1_0.stage (cfg1.slots t 0)) (hst0 t) (win1_1.stage (cfg1.slots t 1)) (hst1 t) (win1_2.stage (cfg1.slots t 2)) (hst2 t) (win1_3.stage (cfg1.slots t 3)) (hst3 t) (win1_4.stage (cfg1.slots t 4)) (hst4 t) (win1_5.stage (cfg1.slots t 5)) (hst5 t) (win1_6.stage (cfg1.slots t 6)) (hst6 t) (win1_7.stage (cfg1.slots t 7)) (hst7 t) (win1_8.stage (cfg1.slots t 8)) (hst8 t) (win1_9.stage (cfg1.slots t 9)) (hst9 t) (win1_10.stage (cfg1.slots t 10)) (hst10 t) (win1_11.stage (cfg1.slots t 11)) (hst11 t) (win1_12.stage (cfg1.slots t 12)) (hst12 t) (Memref.whole cc1_scratch0) (Memref.isWhole_whole _) (Memref.whole cc1_scratch1) (Memref.isWhole_whole _) (Memref.whole cc1_scratch2) (Memref.isWhole_whole _) (Memref.whole cc1_scratch3) (Memref.isWhole_whole _) (fun hh => h3 ((hcond4 t).mp hh)) Set.univ K)
          iapply Hk
          isplitl [HR]; · iexact HR
          isplitl [HQ]; · iexact HQ
          iexact HP))
      isplitl [HS]; · iexact HS
      isplitl [H9]; · iexact H9
      isplitl [H10 H11 H12]
      · isplitl [H10]; · iexact H10
        isplitl [H11]; · iexact H11
        iexact H12
      isplitl [H4 H5 H6 H7 H8]
      · isplitl [H4]; · iexact H4
        isplitl [H5]; · iexact H5
        isplitl [H6]; · iexact H6
        isplitl [H7]; · iexact H7
        iexact H8
      isplitl [H0]; · iexact H0
      isplitl [H1]; · iexact H1
      isplitl [H2]; · iexact H2
      isplitl [H3]; · iexact H3
      isplitl [H15]; · iexact H15
      iintro ⟨H16, H17, H18, ⟨H9, H10, H11, H12⟩, ⟨H4, H5, H6, H7, H8⟩, H0, H1, H2, H3, H15⟩
      isplitl [H15 H16 H17 H18 HR]
      · isplitl [H15]; · iexact H15
        isplitl [H16 H17 H18]
        · isplitl [H16]; · iexact H16
          isplitl [H17]; · iexact H17
          iexact H18
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! ## Entering and leaving the region -/

theorem PhiA1_eq (c : Dev nD) :
    (Pipeline.ΦA spec1 c : sProp 𝕄) ⊢ PhiS V c 0 (Nat.zero_le _) := by
  unfold Pipeline.ΦA PhiS restS; rw [scopedRest1_eq]; simp only [owns_whole]
  iintro ⟨⟨A, B, C, D, X, Y, S0, S1, S2, S3⟩, G⟩
  isplitl [S0]; · iexact S0
  isplitl [S1 S2 S3]
  · isplitl [S1]; · iexact S1
    isplitl [S2]; · iexact S2
    iexact S3
  isplitl [A]; · iexact A
  isplitl [B]; · iexact B
  isplitl [C]; · iexact C
  isplitl [D]; · iexact D
  isplitl [X]; · iexact X
  isplitl [Y]; · iexact Y
  iexact G

theorem hin1 (c : Dev nD) : (Pipeline.ΦA spec1 c : sProp 𝕄) ⊢ (dat1 V c).Φ 0 := PhiA1_eq V c

theorem hout1 (c : Dev nD) : (dat1 V c).Φ (Fin.last cfg1.N) ⊢ (Pipeline.ΦA spec1 c : sProp 𝕄) := by
  rw [show (dat1 V c).Φ (Fin.last cfg1.N) = PhiS V c (499 + 1) (le_of_eq (show 500 = cfg1.N from N_1.symm)) from rfl]
  unfold Pipeline.ΦA PhiS restS; rw [scopedRest1_eq]; simp only [owns_whole]
  iintro ⟨S0, ⟨S1, S2, S3⟩, A, B, C, D, X, Y, G⟩
  isplitr [G]
  · isplitl [A]; · iexact A
    isplitl [B]; · iexact B
    isplitl [C]; · iexact C
    isplitl [D]; · iexact D
    isplitl [X]; · iexact X
    isplitl [Y]; · iexact Y
    isplitl [S0]; · iexact S0
    isplitl [S1]; · iexists _; iexact S1
    isplitl [S2]; · iexists _; iexact S2
    iexists _; iexact S3
  iexact G

end Regions

end Cert.Kernel.Hand

end
-- ==== Proof.KRunAll.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Ring
public import Idealize.ShloMosaic.Lib.Pipeline.RegionsLoop
public import Idealize.ShloMosaic.Lib.Pipeline.FrameSuffix
public import Idealize.ShloMosaic.Lib.UnfoldOut
public import Idealize.ShloMosaic.Lib.VecWindow
public import Idealize.ShloMosaic.Lib.Tactic
public import Idealize.ShloMosaic.Lib.WordCmp
public import proofs.«01_k».proof.Proof.KWiden
public import proofs.«01_k».proof.Proof.KRegion1

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of the program -/

/-- At the launch. -/
abbrev W0 : Dev nD → Valuation τ sig (Elt F) := fun c b => m (c, b)
/-- After the first host stretch. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the widening call. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch. -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- After the main call. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- At the end. -/
abbrev W5 (c : Dev nD) : Valuation τ sig (Elt F) := StableHlo.after hostOps2 (W4 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (A_eq0 (V1 m) c w))
  · exact W2_of_ne m c r fun w e => hw ⟨w, e⟩
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m c (Proc.devRef .tc r) = W3 m c (Proc.devRef .tc r) := by
  by_cases hw : ∃ w : Fin cfg1.W, Pipeline.arrRef spec1 w = r
  · obtain ⟨w, rfl⟩ := hw
    exact (W4_arr m c w).trans (((dat1 (V3 m) c).arrAt_in w (h w rfl) _).trans (A_eq1 (V3 m) c w))
  · exact W4_of_ne m c r fun w e => hw ⟨w, e⟩
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

theorem ops0_fresh : (hostOps0 : List (HloOp τ sig (Elt F))).Forall fun op => op.fresh = ∅ := by
  simp only [List.Forall]; repeat' constructor
theorem ops0_writes : (hostOps0 : List (HloOp τ sig (Elt F))).Forall fun op => op.writes ⊆ (([main_v0, main_v1] : List (Ref sig .tc)).map (Proc.devRef (τ := τ) .tc)).toFinset :=
  StableHlo.forall_writes_sub_of_map rfl
theorem W1_host (c : Dev nD) (r : Ref sig .tc) (h : r ∉ ([main_v0, main_v1] : List (Ref sig .tc))) : W1 m c r = W0 m c r :=
  StableHlo.after_of_writes_sub hostOps0 _ ops0_writes h

theorem ops1_fresh : (hostOps1 : List (HloOp τ sig (Elt F))).Forall fun op => op.fresh = ∅ := by
  simp only [List.Forall]; repeat' constructor
theorem ops1_writes : (hostOps1 : List (HloOp τ sig (Elt F))).Forall fun op => op.writes ⊆ (([main_v3, main_v4, main_v5, main_v6] : List (Ref sig .tc)).map (Proc.devRef (τ := τ) .tc)).toFinset :=
  StableHlo.forall_writes_sub_of_map rfl
theorem W3_host (c : Dev nD) (r : Ref sig .tc) (h : r ∉ ([main_v3, main_v4, main_v5, main_v6] : List (Ref sig .tc))) : W3 m c r = W2 m c r :=
  StableHlo.after_of_writes_sub hostOps1 _ ops1_writes h

theorem ops2_fresh : (hostOps2 : List (HloOp τ sig (Elt F))).Forall fun op => op.fresh = ∅ := by
  simp only [List.Forall]; repeat' constructor
theorem ops2_writes : (hostOps2 : List (HloOp τ sig (Elt F))).Forall fun op => op.writes ⊆ (([main_v8, main_v9, main_v10] : List (Ref sig .tc)).map (Proc.devRef (τ := τ) .tc)).toFinset :=
  StableHlo.forall_writes_sub_of_map rfl
theorem W5_host (c : Dev nD) (r : Ref sig .tc) (h : r ∉ ([main_v8, main_v9, main_v10] : List (Ref sig .tc))) : W5 m c r = W4 m c r :=
  StableHlo.after_of_writes_sub hostOps2 _ ops2_writes h

/-- The argument arrays. -/
abbrev argRefs : List (Ref sig .tc) := [main_arg0, main_arg1, main_arg2, main_arg3, main_arg4, main_arg5, main_arg6, main_arg7, main_arg8, main_arg9]
theorem argsIn0 : ∀ a ∈ argRefs, ∀ w : Fin cfg0.W, Pipeline.arrRef spec0 w = a → (cfg0.win w).isOut = false :=
  ListAll.forall_mem_of_all_decide (by decide +kernel)
theorem argsIn1 : ∀ a ∈ argRefs, ∀ w : Fin cfg1.W, Pipeline.arrRef spec1 w = a → (cfg1.win w).isOut = false :=
  ListAll.forall_mem_of_all_decide (by decide +kernel)
theorem argsH : ∀ a ∈ argRefs, a ∉ ([main_v0, main_v1] : List (Ref sig .tc)) ∧ a ∉ ([main_v3, main_v4, main_v5, main_v6] : List (Ref sig .tc)) ∧ a ∉ ([main_v8, main_v9, main_v10] : List (Ref sig .tc)) :=
  ListAll.forall_mem_of_all_decide (by decide +kernel)
/-- Every argument ends as launched. -/
theorem W5_args (c : Dev nD) (a : Ref sig .tc) (ha : a ∈ argRefs) : W5 m c (Proc.devRef .tc a) = m ((c : Thread nD τ).loc a) :=
  (W5_host m c a (argsH a ha).2.2).trans <| (W4_of m c a (argsIn1 a ha)).trans <| (W3_host m c a (argsH a ha).2.1).trans <|
    (W2_of m c a (argsIn0 a ha)).trans <| (W1_host m c a (argsH a ha).1).trans rfl

/-! ## The segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers: the generator register and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

-- `iapply` of a library lemma stated over `pin pcs a p` unifies with the pinned configuration only when unification may
-- unfold plain definitions in a metavariable's type
set_option backward.isDefEq.respectTransparency.types false in
/-- The widening call over the thread state. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- The main call over the thread state. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) (A_eq1 (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m 1 c).Φ 0 := hin1 (V3 m) c
    unfold Pipeline.ΦA at h
    iintro ⟨Hp, -, Hr⟩
    iapply h
    isplitl [Hr]; · iexact Hr
    iexact Hp
  hout c := by
    rw [Pipeline.ownSems0_none]
    have h : (pdats m 1 c).Φ (Fin.last (Pipeline.pin pcfgs adm 1).N) ⊢ (Pipeline.ΦA spec1 c : sProp 𝕄) := hout1 (V3 m) c
    unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub ops0_fresh (W0 m)),
    .region (reg0 m),
    .host (hseg hostOps1 hostOps1_sub ops1_fresh (W2 m)),
    .region (reg1 m),
    .host (hseg hostOps2 hostOps2_sub ops2_fresh (W4 m)) ]
theorem main_run (c : Dev nD) : main (F := F) c = Pipeline.Seg.run (segs m) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: every weakly fair execution ends, every unscoped buffer holds what the boundaries above say, and every semaphore counter is zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m c b)
      ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      unfold R
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h hz => ⟨h, funext fun g => hz g (.inr (no_unscoped g.2))⟩)

/-- The arguments end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1 c _ (mem_uc main_arg0 (by decide))).trans (W5_args m c main_arg0 (by decide)),
    (h.1 c _ (mem_uc main_arg1 (by decide))).trans (W5_args m c main_arg1 (by decide)),
    (h.1 c _ (mem_uc main_arg2 (by decide))).trans (W5_args m c main_arg2 (by decide)),
    (h.1 c _ (mem_uc main_arg3 (by decide))).trans (W5_args m c main_arg3 (by decide)),
    (h.1 c _ (mem_uc main_arg4 (by decide))).trans (W5_args m c main_arg4 (by decide)),
    (h.1 c _ (mem_uc main_arg5 (by decide))).trans (W5_args m c main_arg5 (by decide)),
    (h.1 c _ (mem_uc main_arg6 (by decide))).trans (W5_args m c main_arg6 (by decide)),
    (h.1 c _ (mem_uc main_arg7 (by decide))).trans (W5_args m c main_arg7 (by decide)),
    (h.1 c _ (mem_uc main_arg8 (by decide))).trans (W5_args m c main_arg8 (by decide)),
    (h.1 c _ (mem_uc main_arg9 (by decide))).trans (W5_args m c main_arg9 (by decide))⟩, h.2⟩) (run m ρ)

end Cert.Kernel.Hand

end
-- ==== Proof.lean ====
module

public import proofs.«01_k».proof.Proof.Match
public import proofs.«01_k».proof.Proof.Gen.ReferenceIdeal.Frame
public import proofs.«01_k».proof.Proof.Gen.ReferenceIdeal
public import proofs.«01_k».proof.Defs
public import proofs.«01_k».proof.Proof.RunAll
public import proofs.«01_k».proof.Proof.KRunAll

@[expose] public section

noncomputable section

namespace Cert.Proof

open Idealize.ShloMosaic Idealize.SL.Sem

/-- From memories that agree on the arguments the kernel and the reference end with the same four results. -/
theorem algebraic : Cert.algebraic_KernelIdeal_ReferenceIdeal (hKernelIdeal := Cert.KernelIdeal.Gen.facts) (hReferenceIdeal := Cert.ReferenceIdeal.Gen.facts) := by
  intro m g m' g' _ hm
  have hX := fun c : Dev Cert.KernelIdeal.nD => Cert.KernelIdeal.Hand.X_match m c _ _ (Cert.ReferenceIdeal.Value.reg_main_v1_0 m' c) (Cert.ReferenceIdeal.Value.reg_main_v1_1 m' c) (hm c).2.1.symm (hm c).2.2.2.1.symm
    (fun n k => (Cert.RefVal.reg0 m' c n k).trans (congrFun (hm c).1 _)) (fun n k => (Cert.RefVal.reg1 m' c (ix2 n k)).trans (congrFun (hm c).2.2.1 _))
  have hl := fun c : Dev Cert.KernelIdeal.nD => Cert.KernelIdeal.Hand.lab_match m c _ (hm c).2.2.2.2.1.symm
  refine ⟨fun c => Cert.KernelIdeal.Hand.W5 m c (Proc.devRef .tc Cert.KernelIdeal.main_v8), fun c => Cert.KernelIdeal.Hand.W5 m c (Proc.devRef .tc Cert.KernelIdeal.main_v9), fun c => Cert.KernelIdeal.Hand.W5 m c (Proc.devRef .tc Cert.KernelIdeal.main_v10), fun c => Cert.KernelIdeal.Hand.W5 m c (Proc.devRef .tc Cert.KernelIdeal.main_v7_0),
    (θ_run Cert.KernelIdeal.defs _ _).mono (fun r h c => ⟨h.1 c _ (Cert.KernelIdeal.Hand.mem_uc Cert.KernelIdeal.main_v8 (by decide)), h.1 c _ (Cert.KernelIdeal.Hand.mem_uc Cert.KernelIdeal.main_v9 (by decide)), h.1 c _ (Cert.KernelIdeal.Hand.mem_uc Cert.KernelIdeal.main_v10 (by decide)), h.1 c _ (Cert.KernelIdeal.Hand.mem_uc Cert.KernelIdeal.main_v7_0 (by decide)),
      (h.1 c _ (Cert.KernelIdeal.Hand.mem_uc Cert.KernelIdeal.main_arg0 (by decide))).trans (Cert.KernelIdeal.Hand.W5_args m c Cert.KernelIdeal.main_arg0 (by decide)),
      (h.1 c _ (Cert.KernelIdeal.Hand.mem_uc Cert.KernelIdeal.main_arg1 (by decide))).trans (Cert.KernelIdeal.Hand.W5_args m c Cert.KernelIdeal.main_arg1 (by decide)),
      (h.1 c _ (Cert.KernelIdeal.Hand.mem_uc Cert.KernelIdeal.main_arg2 (by decide))).trans (Cert.KernelIdeal.Hand.W5_args m c Cert.KernelIdeal.main_arg2 (by decide)),
      (h.1 c _ (Cert.KernelIdeal.Hand.mem_uc Cert.KernelIdeal.main_arg3 (by decide))).trans (Cert.KernelIdeal.Hand.W5_args m c Cert.KernelIdeal.main_arg3 (by decide)),
      (h.1 c _ (Cert.KernelIdeal.Hand.mem_uc Cert.KernelIdeal.main_arg4 (by decide))).trans (Cert.KernelIdeal.Hand.W5_args m c Cert.KernelIdeal.main_arg4 (by decide)),
      (h.1 c _ (Cert.KernelIdeal.Hand.mem_uc Cert.KernelIdeal.main_arg5 (by decide))).trans (Cert.KernelIdeal.Hand.W5_args m c Cert.KernelIdeal.main_arg5 (by decide)),
      (h.1 c _ (Cert.KernelIdeal.Hand.mem_uc Cert.KernelIdeal.main_arg6 (by decide))).trans (Cert.KernelIdeal.Hand.W5_args m c Cert.KernelIdeal.main_arg6 (by decide)),
      (h.1 c _ (Cert.KernelIdeal.Hand.mem_uc Cert.KernelIdeal.main_arg7 (by decide))).trans (Cert.KernelIdeal.Hand.W5_args m c Cert.KernelIdeal.main_arg7 (by decide)),
      (h.1 c _ (Cert.KernelIdeal.Hand.mem_uc Cert.KernelIdeal.main_arg8 (by decide))).trans (Cert.KernelIdeal.Hand.W5_args m c Cert.KernelIdeal.main_arg8 (by decide)),
      (h.1 c _ (Cert.KernelIdeal.Hand.mem_uc Cert.KernelIdeal.main_arg9 (by decide))).trans (Cert.KernelIdeal.Hand.W5_args m c Cert.KernelIdeal.main_arg9 (by decide))⟩) (Cert.KernelIdeal.Hand.run m g),
    (θ_run Cert.ReferenceIdeal.defs _ _).mono (fun r h c => ?_) (Cert.RefVal.run m' g')⟩
  obtain ⟨a0, a1, a2, a3, a4, a5, a6, a7, a8, a9⟩ := hm c
  obtain ⟨h0, h1, h2, h3, ha⟩ := h c
  exact ⟨h0.trans (Cert.KernelIdeal.Hand.out_pol m c _ _ _ _ _ _ _ (hX c) (hl c) a5.symm a6.symm).symm,
    h1.trans (Cert.KernelIdeal.Hand.out_loss m c _ _ _ _ _ _ _ _ _ _ (hX c) (hl c) a5.symm a6.symm a7.symm a8.symm a9.symm).symm,
    h2.trans (Cert.KernelIdeal.Hand.out_mar m c _ _ _ _ _ _ _ _ _ _ (hX c) (hl c) a5.symm a6.symm a7.symm a8.symm a9.symm).symm,
    h3.trans (Cert.KernelIdeal.Hand.out_tok m c _ _ _ _ _ (hX c) (hl c)).symm, ha⟩

/-- The frames of both kernel programs and of the reference, and the equality of their results. -/
theorem claim : Cert.Claim :=
  ⟨Cert.Kernel.Gen.facts, Cert.KernelIdeal.Gen.facts, Cert.ReferenceIdeal.Gen.facts,
    fun m g _ => Cert.Kernel.Hand.frame m g, fun m g _ => Cert.KernelIdeal.Hand.frame m g, fun m g _ => Cert.ReferenceIdeal.Gen.frame m g, trivial, algebraic⟩

end Cert.Proof

end
